-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_finite11 [hPre_finite11 : Cert.Pre_finite11.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_finite11.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_finite11 [hPre_finite11 : Cert.Pre_finite11.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_finite11.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_finite11 [hKernel11Ideal : Cert.Kernel11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_finite11 m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_finite11 [hReference11Ideal : Cert.Reference11Ideal.Facts] [hPre_finite11 : Cert.Pre_finite11.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_finite11 m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  IdealRules.named_const.Statement Cert.KernelIdeal.κ "qs" .f32 0x3E0293EE#32 (((Real.sqrt 128)⁻¹ * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v29)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v29) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v31) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v29)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v29) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v30) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v29)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v29) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v28) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  IdealRules.named_const.Statement Cert.Kernel10Ideal.κ "qs" .f32 0x3E0293EE#32 (((Real.sqrt 128)⁻¹ * (Real.log 2)⁻¹ : ℝ) : EReal)

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v72) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  IdealRules.named_const.Statement Cert.Kernel11Ideal.κ "qs" .f32 0x3E0293EE#32 (((Real.sqrt 128)⁻¹ * (Real.log 2)⁻¹ : ℝ) : EReal)

def algebraic_Kernel11Ideal_Reference11Ideal_pre_finite11 [hKernel11Ideal : Cert.Kernel11Ideal.Facts] [hReference11Ideal : Cert.Reference11Ideal.Facts] [hPre_finite11 : Cert.Pre_finite11.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_finite11 m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v36) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_finite : Cert.Pre_finite.Facts) (hPre_finite10 : Cert.Pre_finite10.Facts) (hPre_finite11 : Cert.Pre_finite11.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Kernel11Ideal_pre_finite11 (hKernel11Ideal := hKernel11Ideal) (hPre_finite11 := hPre_finite11)
    ∧ quiescent_Reference11Ideal (hReference11Ideal := hReference11Ideal)
    ∧ quiescent_Reference11Ideal_pre_finite11 (hReference11Ideal := hReference11Ideal) (hPre_finite11 := hPre_finite11)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal_pre_finite11 (hKernel11Ideal := hKernel11Ideal) (hReference11Ideal := hReference11Ideal) (hPre_finite11 := hPre_finite11)
-- ==== Pre_finite.lean ====
abbrev S8704x4096 : Shape := ⟨2, ![8704, 4096]⟩
abbrev S4x128 : Shape := ⟨2, ![4, 128]⟩
abbrev S256 : Shape := ⟨1, ![256]⟩
abbrev S_ : Shape := ⟨0, ![]⟩

class Facts : Prop where
  bitsLt_bf16_f32 : FTy.bits .bf16 < FTy.bits .f32
  bcast_S_S8704x4096 : S_.BroadcastsInDim S8704x4096 (![] : Fin 0 → Fin S8704x4096.rank)
  reducesTo_S8704x4096_S_d0_1 : S8704x4096.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v15 : IVec S_ 1) (main_v16 : FVec F S4x128 .f32) (main_cst_4 : FVec F S_ .f32) : IVec S_ 1 :=
  let main_v17 : FVec F S4x128 .f32 := broadcastInDim S4x128 ![] bcast_S_S4x128 main_cst_4
  let main_v18 : IVec S4x128 1 := cmpf .olt main_v16 main_v17
  let main_c_5 : IVec S_ 1 := constantI S_ 1 1#1
  let main_v19 : IVec S_ 1 := (fun x v => Host.reduce IntOp.andi x v reducesTo_S4x128_S_d0_1 h_S_) main_v18 main_c_5
  let main_v20 : IVec S_ 1 := andi main_v15 main_v19
  let main_v21 : FVec F S256 .f32 := Host.absf main_arg4
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_c_7 : IVec S_ 1 := constantI S_ 1 1#1
  let main_v24 : IVec S_ 1 := (fun x v => Host.reduce IntOp.andi x v reducesTo_S256_S_d0 h_S_) main_v23 main_c_7
  let main_v25 : IVec S_ 1 := andi main_v20 main_v24
  main_v25

def fn {F : FTy → Type} [FloatOps F] (main_arg0 : FVec F S8704x4096 .f32) (main_arg1 : FVec F S8704x4096 .bf16) (main_arg2 : FVec F S8704x4096 .bf16) (main_arg3 : FVec F S4x128 .f32) (main_arg4 : FVec F S256 .f32) : IVec S_ 1 :=
  let main_v0 : FVec F S8704x4096 .f32 := (extf .f32 · bitsLt_bf16_f32) main_arg1
  let main_v1 : FVec F S8704x4096 .f32 := (extf .f32 · bitsLt_bf16_f32) main_arg2
  let main_v2 : FVec F S8704x4096 .f32 := Host.absf main_arg0
  let main_cst : FVec F S_ .f32 := constant S_ .f32 0x7F800000#32
  let main_v3 : FVec F S8704x4096 .f32 := broadcastInDim S8704x4096 ![] bcast_S_S8704x4096 main_cst
  let main_v4 : IVec S8704x4096 1 := cmpf .olt main_v2 main_v3
  let main_c : IVec S_ 1 := constantI S_ 1 1#1
  let main_v5 : IVec S_ 1 := (fun x v => Host.reduce IntOp.andi x v reducesTo_S8704x4096_S_d0_1 h_S_) main_v4 main_c
  let main_v6 : FVec F S8704x4096 .f32 := Host.absf main_v0
  let main_cst_0 : FVec F S_ .f32 := constant S_ .f32 0x7F800000#32
  let main_v7 : FVec F S8704x4096 .f32 := broadcastInDim S8704x4096 ![] bcast_S_S8704x4096 main_cst_0
  let main_v8 : IVec S8704x4096 1 := cmpf .olt main_v6 main_v7
  let main_c_1 : IVec S_ 1 := constantI S_ 1 1#1
  let main_v9 : IVec S_ 1 := (fun x v => Host.reduce IntOp.andi x v reducesTo_S8704x4096_S_d0_1 h_S_) main_v8 main_c_1
  let main_v10 : IVec S_ 1 := andi main_v5 main_v9
  let main_v11 : FVec F S8704x4096 .f32 := Host.absf main_v1
  let main_cst_2 : FVec F S_ .f32 := constant S_ .f32 0x7F800000#32
  let main_v12 : FVec F S8704x4096 .f32 := broadcastInDim S8704x4096 ![] bcast_S_S8704x4096 main_cst_2
  let main_v13 : IVec S8704x4096 1 := cmpf .olt main_v11 main_v12
  let main_c_3 : IVec S_ 1 := constantI S_ 1 1#1
  let main_v14 : IVec S_ 1 := (fun x v => Host.reduce IntOp.andi x v reducesTo_S8704x4096_S_d0_1 h_S_) main_v13 main_c_3
  let main_v15 : IVec S_ 1 := andi main_v10 main_v14
  let main_v16 : FVec F S4x128 .f32 := Host.absf main_arg3
  let main_cst_4 : FVec F S_ .f32 := constant S_ .f32 0x7F800000#32
  fn_part1 (F := F) main_arg4 main_v15 main_v16 main_cst_4
-- ==== Pre_finite10.lean ====
abbrev S8192x4096 : Shape := ⟨2, ![8192, 4096]⟩
abbrev S8704x4096 : Shape := ⟨2, ![8704, 4096]⟩
abbrev S4x128 : Shape := ⟨2, ![4, 128]⟩
abbrev S256 : Shape := ⟨1, ![256]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8704x4096 : S_.BroadcastsInDim S8704x4096 (![] : Fin 0 → Fin S8704x4096.rank)
  reducesTo_S8704x4096_S_d0_1 : S8704x4096.ReducesTo [0, 1] S_
  bcast_S_S4x128 : S_.BroadcastsInDim S4x128 (![] : Fin 0 → Fin S4x128.rank)
  reducesTo_S4x128_S_d0_1 : S4x128.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256 .f32) (main_v15 : IVec S_ 1) (main_v16 : FVec F S4x128 .f32) (main_cst_4 : FVec F S_ .f32) : IVec S_ 1 :=
  let main_v17 : FVec F S4x128 .f32 := broadcastInDim S4x128 ![] bcast_S_S4x128 main_cst_4
  let main_v18 : IVec S4x128 1 := cmpf .olt main_v16 main_v17
  let main_c_5 : IVec S_ 1 := constantI S_ 1 1#1
  let main_v19 : IVec S_ 1 := (fun x v => Host.reduce IntOp.andi x v reducesTo_S4x128_S_d0_1 h_S_) main_v18 main_c_5
  let main_v20 : IVec S_ 1 := andi main_v15 main_v19
  let main_v21 : FVec F S256 .f32 := Host.absf main_arg4
  let main_cst_6 : FVec F S_ .f32 := constant S_ .f32 0x7F800000#32
  let main_v22 : FVec F S256 .f32 := broadcastInDim S256 ![] bcast_S_S256 main_cst_6
  let main_v23 : IVec S256 1 := cmpf .olt main_v21 main_v22
  let main_c_7 : IVec S_ 1 := constantI S_ 1 1#1
  let main_v24 : IVec S_ 1 := (fun x v => Host.reduce IntOp.andi x v reducesTo_S256_S_d0 h_S_) main_v23 main_c_7
  let main_v25 : IVec S_ 1 := andi main_v20 main_v24
  main_v25

def fn {F : FTy → Type} [FloatOps F] (main_arg0 : FVec F S8192x4096 .f32) (main_arg1 : FVec F S8704x4096 .bf16) (main_arg2 : FVec F S8704x4096 .bf16) (main_arg3 : FVec F S4x128 .f32) (main_arg4 : FVec F S256 .f32) : IVec S_ 1 :=
  let main_v0 : FVec F S8704x4096 .f32 := (extf .f32 · bitsLt_bf16_f32) main_arg1
  let main_v1 : FVec F S8704x4096 .f32 := (extf .f32 · bitsLt_bf16_f32) main_arg2
  let main_v2 : FVec F S8192x4096 .f32 := Host.absf main_arg0
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  let main_c : IVec S_ 1 := constantI S_ 1 1#1
  let main_v5 : IVec S_ 1 := (fun x v => Host.reduce IntOp.andi x v reducesTo_S8192x4096_S_d0_1 h_S_) main_v4 main_c
  let main_v6 : FVec F S8704x4096 .f32 := Host.absf main_v0
  let main_cst_0 : FVec F S_ .f32 := constant S_ .f32 0x7F800000#32
  let main_v7 : FVec F S8704x4096 .f32 := broadcastInDim S8704x4096 ![] bcast_S_S8704x4096 main_cst_0
  let main_v8 : IVec S8704x4096 1 := cmpf .olt main_v6 main_v7
  let main_c_1 : IVec S_ 1 := constantI S_ 1 1#1
  let main_v9 : IVec S_ 1 := (fun x v => Host.reduce IntOp.andi x v reducesTo_S8704x4096_S_d0_1 h_S_) main_v8 main_c_1
  let main_v10 : IVec S_ 1 := andi main_v5 main_v9
  let main_v11 : FVec F S8704x4096 .f32 := Host.absf main_v1
  let main_cst_2 : FVec F S_ .f32 := constant S_ .f32 0x7F800000#32
  let main_v12 : FVec F S8704x4096 .f32 := broadcastInDim S8704x4096 ![] bcast_S_S8704x4096 main_cst_2
  let main_v13 : IVec S8704x4096 1 := cmpf .olt main_v11 main_v12
  let main_c_3 : IVec S_ 1 := constantI S_ 1 1#1
  let main_v14 : IVec S_ 1 := (fun x v => Host.reduce IntOp.andi x v reducesTo_S8704x4096_S_d0_1 h_S_) main_v13 main_c_3
  let main_v15 : IVec S_ 1 := andi main_v10 main_v14
  let main_v16 : FVec F S4x128 .f32 := Host.absf main_arg3
  let main_cst_4 : FVec F S_ .f32 := constant S_ .f32 0x7F800000#32
  fn_part1 (F := F) main_arg4 main_v15 main_v16 main_cst_4
-- ==== Pre_finite11.lean ====
abbrev S8704x4096 : Shape := ⟨2, ![8704, 4096]⟩
abbrev S8704x1024 : Shape := ⟨2, ![8704, 1024]⟩
abbrev S_ : Shape := ⟨0, ![]⟩

class Facts : Prop where
  bitsLt_bf16_f32 : FTy.bits .bf16 < FTy.bits .f32
  bcast_S_S8704x4096 : S_.BroadcastsInDim S8704x4096 (![] : Fin 0 → Fin S8704x4096.rank)
  reducesTo_S8704x4096_S_d0_1 : S8704x4096.ReducesTo [0, 1] S_
  h_S_ : 0 < S_.numel
  bcast_S_S8704x1024 : S_.BroadcastsInDim S8704x1024 (![] : Fin 0 → Fin S8704x1024.rank)
  reducesTo_S8704x1024_S_d0_1 : S8704x1024.ReducesTo [0, 1] S_

variable [Facts]

def fn {F : FTy → Type} [FloatOps F] (main_arg0 : FVec F S8704x4096 .f32) (main_arg1 : FVec F S8704x1024 .bf16) (main_arg2 : FVec F S8704x1024 .bf16) : IVec S_ 1 :=
  let main_v0 : FVec F S8704x1024 .f32 := (extf .f32 · bitsLt_bf16_f32) main_arg1
  let main_v1 : FVec F S8704x1024 .f32 := (extf .f32 · bitsLt_bf16_f32) main_arg2
  let main_v2 : FVec F S8704x4096 .f32 := Host.absf main_arg0
  let main_cst : FVec F S_ .f32 := constant S_ .f32 0x7F800000#32
  let main_v3 : FVec F S8704x4096 .f32 := broadcastInDim S8704x4096 ![] bcast_S_S8704x4096 main_cst
  let main_v4 : IVec S8704x4096 1 := cmpf .olt main_v2 main_v3
  let main_c : IVec S_ 1 := constantI S_ 1 1#1
  let main_v5 : IVec S_ 1 := (fun x v => Host.reduce IntOp.andi x v reducesTo_S8704x4096_S_d0_1 h_S_) main_v4 main_c
  let main_v6 : FVec F S8704x1024 .f32 := Host.absf main_v0
  let main_cst_0 : FVec F S_ .f32 := constant S_ .f32 0x7F800000#32
  let main_v7 : FVec F S8704x1024 .f32 := broadcastInDim S8704x1024 ![] bcast_S_S8704x1024 main_cst_0
  let main_v8 : IVec S8704x1024 1 := cmpf .olt main_v6 main_v7
  let main_c_1 : IVec S_ 1 := constantI S_ 1 1#1
  let main_v9 : IVec S_ 1 := (fun x v => Host.reduce IntOp.andi x v reducesTo_S8704x1024_S_d0_1 h_S_) main_v8 main_c_1
  let main_v10 : IVec S_ 1 := andi main_v5 main_v9
  let main_v11 : FVec F S8704x1024 .f32 := Host.absf main_v1
  let main_cst_2 : FVec F S_ .f32 := constant S_ .f32 0x7F800000#32
  let main_v12 : FVec F S8704x1024 .f32 := broadcastInDim S8704x1024 ![] bcast_S_S8704x1024 main_cst_2
  let main_v13 : IVec S8704x1024 1 := cmpf .olt main_v11 main_v12
  let main_c_3 : IVec S_ 1 := constantI S_ 1 1#1
  let main_v14 : IVec S_ 1 := (fun x v => Host.reduce IntOp.andi x v reducesTo_S8704x1024_S_d0_1 h_S_) main_v13 main_c_3
  let main_v15 : IVec S_ 1 := andi main_v10 main_v14
  main_v15
-- ==== Kernel.lean ====
abbrev S8704x4096 : Shape := ⟨2, ![8704, 4096]⟩
abbrev S4x128 : Shape := ⟨2, ![4, 128]⟩
abbrev S256 : Shape := ⟨1, ![256]⟩
abbrev S1x256 : Shape := ⟨2, ![1, 256]⟩
abbrev S8192x4096 : Shape := ⟨2, ![8192, 4096]⟩
abbrev S512x256 : Shape := ⟨2, ![512, 256]⟩
abbrev S4096x256 : Shape := ⟨2, ![4096, 256]⟩
abbrev S256x256 : Shape := ⟨2, ![256, 256]⟩
abbrev S256x4352 : Shape := ⟨2, ![256, 4352]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S512x128 : Shape := ⟨2, ![512, 128]⟩
abbrev S256x512 : Shape := ⟨2, ![256, 512]⟩
abbrev S256x1 : Shape := ⟨2, ![256, 1]⟩

abbrev nBuf : Space → Nat
  | .hbm => 7
  | .vmem => 18
  | .smem => 0
  | _ => 0

abbrev bufTy : (tb : Table) → Fin (tcTables nBuf tb) → BufTy
  | .hbm, ⟨0, _⟩ => ⟨S8704x4096, .f32⟩
  | .hbm, ⟨1, _⟩ => ⟨S8704x4096, .bf16⟩
  | .hbm, ⟨2, _⟩ => ⟨S8704x4096, .bf16⟩
  | .hbm, ⟨3, _⟩ => ⟨S4x128, .f32⟩
  | .hbm, ⟨4, _⟩ => ⟨S256, .f32⟩
  | .hbm, ⟨5, _⟩ => ⟨S1x256, .f32⟩
  | .hbm, ⟨6, _⟩ => ⟨S8192x4096, .bf16⟩
  | .local _ .vmem, ⟨0, _⟩ => ⟨S512x256, .f32⟩
  | .local _ .vmem, ⟨1, _⟩ => ⟨S512x256, .f32⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4096x256, .bf16⟩
  | .local _ .vmem, ⟨7, _⟩ => ⟨S4096x256, .bf16⟩
  | .local _ .vmem, ⟨8, _⟩ => ⟨S256x256, .bf16⟩
  | .local _ .vmem, ⟨9, _⟩ => ⟨S256x256, .bf16⟩
  | .local _ .vmem, ⟨10, _⟩ => ⟨S4x128, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S256x4352, .f32⟩
  | .local _ .vmem, ⟨15, _⟩ => ⟨S256x4352, .f32⟩
  | .local _ .vmem, ⟨16, _⟩ => ⟨S256x4352, .f32⟩
  | .local _ .vmem, ⟨17, _⟩ => ⟨S256x4352, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "qs" => some (((Real.sqrt 128)⁻¹ * (Real.log 2)⁻¹ : ℝ) : EReal)
  | _ => none
-- ==== ReferenceIdeal.lean ====
abbrev S8704x4096 : Shape := ⟨2, ![8704, 4096]⟩
abbrev S4x128 : Shape := ⟨2, ![4, 128]⟩
abbrev S256 : Shape := ⟨1, ![256]⟩
abbrev S1x128 : Shape := ⟨2, ![1, 128]⟩
abbrev S128 : Shape := ⟨1, ![128]⟩
abbrev S_ : Shape := ⟨0, ![]⟩
abbrev S8192x4096 : Shape := ⟨2, ![8192, 4096]⟩
abbrev S2x4096x4096 : Shape := ⟨3, ![2, 4096, 4096]⟩
abbrev S2x4096x16x2x128 : Shape := ⟨5, ![2, 4096, 16, 2, 128]⟩
abbrev S512x4096 : Shape := ⟨2, ![512, 4096]⟩
abbrev S2x256x4096 : Shape := ⟨3, ![2, 256, 4096]⟩
abbrev S2x4352x4096 : Shape := ⟨3, ![2, 4352, 4096]⟩
abbrev S2x4352x16x2x128 : Shape := ⟨5, ![2, 4352, 16, 2, 128]⟩
abbrev S2x4352x16x256 : Shape := ⟨4, ![2, 4352, 16, 256]⟩
abbrev S2x16x2x4096x4352 : Shape := ⟨5, ![2, 16, 2, 4096, 4352]⟩
abbrev S2x16x2x4096 : Shape := ⟨4, ![2, 16, 2, 4096]⟩
abbrev S2x16x2x4096x1 : Shape := ⟨5, ![2, 16, 2, 4096, 1]⟩
abbrev S2x16x1x4096x4352 : Shape := ⟨5, ![2, 16, 1, 4096, 4352]⟩
abbrev S2x16x4096x4352 : Shape := ⟨4, ![2, 16, 4096, 4352]⟩
abbrev S2x16x256x4096 : Shape := ⟨4, ![2, 16, 256, 4096]⟩
abbrev S2x4096x16x256 : Shape := ⟨4, ![2, 4096, 16, 256]⟩
abbrev S2x4096x16 : Shape := ⟨3, ![2, 4096, 16]⟩
abbrev S2x4096x16x1 : Shape := ⟨4, ![2, 4096, 16, 1]⟩
abbrev S1x1x1x256 : Shape := ⟨4, ![1, 1, 1, 256]⟩

abbrev nBuf : Space → Nat
  | .hbm => 90
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .bf16⟩
  | .hbm, ⟨2, _⟩ => ⟨S8704x4096, .bf16⟩
  | .hbm, ⟨3, _⟩ => ⟨S4x128, .f32⟩
  | .hbm, ⟨4, _⟩ => ⟨S256, .f32⟩
  | .hbm, ⟨5, _⟩ => ⟨S8704x4096, .f32⟩
  | .hbm, ⟨6, _⟩ => ⟨S8704x4096, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8192x4096, .f32⟩
  | .hbm, ⟨27, _⟩ => ⟨S2x4096x4096, .f32⟩
  | .hbm, ⟨28, _⟩ => ⟨S2x4096x16x2x128, .f32⟩
  | .hbm, ⟨29, _⟩ => ⟨S_, .f32⟩
  | .hbm, ⟨30, _⟩ => ⟨S_, .f32⟩
  | .hbm, ⟨31, _⟩ => ⟨S2x4096x16x2x128, .f32⟩
  | .hbm, ⟨32, _⟩ => ⟨S2x4096x16x2x128, .f32⟩
  | .hbm, ⟨33, _⟩ => ⟨S8192x4096, .f32⟩
  | .hbm, ⟨34, _⟩ => ⟨S2x4096x4096, .f32⟩
  | .hbm, ⟨35, _⟩ => ⟨S512x4096, .f32⟩
  | .hbm, ⟨36, _⟩ => ⟨S2x256x4096, .f32⟩
  | .hbm, ⟨37, _⟩ => ⟨S2x4352x4096, .f32⟩
  | .hbm, ⟨38, _⟩ => ⟨S2x4352x16x2x128, .f32⟩
  | .hbm, ⟨39, _⟩ => ⟨S8192x4096, .f32⟩
  | .hbm, ⟨40, _⟩ => ⟨S2x4096x4096, .f32⟩
  | .hbm, ⟨41, _⟩ => ⟨S512x4096, .f32⟩
  | .hbm, ⟨42, _⟩ => ⟨S2x256x4096, .f32⟩
  | .hbm, ⟨43, _⟩ => ⟨S2x4352x4096, .f32⟩
  | .hbm, ⟨44, _⟩ => ⟨S2x4352x16x256, .f32⟩
  | .hbm, ⟨45, _⟩ => ⟨S2x16x2x4096x4352, .f32⟩
  | .hbm, ⟨46, _⟩ => ⟨S_, .f32⟩
  | .hbm, ⟨47, _⟩ => ⟨S2x16x2x4096, .f32⟩
  | .hbm, ⟨48, _⟩ => ⟨S_, .f32⟩
  | .hbm, ⟨49, _⟩ => ⟨S2x16x2x4096, .f32⟩
  | .hbm, ⟨50, _⟩ => ⟨S2x16x2x4096, .f32⟩
  | .hbm, ⟨51, _⟩ => ⟨S2x16x2x4096x1, .f32⟩
  | .hbm, ⟨52, _⟩ => ⟨S2x16x2x4096x4352, .f32⟩
  | .hbm, ⟨53, _⟩ => ⟨S2x16x2x4096x4352, .f32⟩
  | .hbm, ⟨54, _⟩ => ⟨S2x16x2x4096x4352, .f32⟩
  | .hbm, ⟨55, _⟩ => ⟨S_, .f32⟩
  | .hbm, ⟨56, _⟩ => ⟨S2x16x2x4096, .f32⟩
  | .hbm, ⟨57, _⟩ => ⟨S2x16x2x4096x1, .f32⟩
  | .hbm, ⟨58, _⟩ => ⟨S2x16x2x4096x4352, .f32⟩
  | .hbm, ⟨59, _⟩ => ⟨S2x16x2x4096x4352, .f32⟩
  | .hbm, ⟨60, _⟩ => ⟨S2x16x1x4096x4352, .f32⟩
  | .hbm, ⟨61, _⟩ => ⟨S2x16x4096x4352, .f32⟩
  | .hbm, ⟨62, _⟩ => ⟨S2x16x1x4096x4352, .f32⟩
  | .hbm, ⟨63, _⟩ => ⟨S2x16x4096x4352, .f32⟩
  | .hbm, ⟨64, _⟩ => ⟨S2x16x4096x4352, .f32⟩
  | .hbm, ⟨65, _⟩ => ⟨S2x16x4096x4352, .f32⟩
  | .hbm, ⟨66, _⟩ => ⟨S2x16x4096x4352, .f32⟩
  | .hbm, ⟨67, _⟩ => ⟨S2x16x256x4096, .f32⟩
  | .hbm, ⟨68, _⟩ => ⟨S2x4096x16x256, .f32⟩
  | .hbm, ⟨69, _⟩ => ⟨S2x4096x16x256, .f32⟩
  | .hbm, ⟨70, _⟩ => ⟨S_, .f32⟩
  | .hbm, ⟨71, _⟩ => ⟨S2x4096x16, .f32⟩
  | .hbm, ⟨72, _⟩ => ⟨S2x4096x16x1, .f32⟩
  | .hbm, ⟨73, _⟩ => ⟨S_, .f32⟩
  | .hbm, ⟨74, _⟩ => ⟨S2x4096x16x1, .f32⟩
  | .hbm, ⟨75, _⟩ => ⟨S2x4096x16x1, .f32⟩
  | .hbm, ⟨76, _⟩ => ⟨S_, .f32⟩
  | .hbm, ⟨77, _⟩ => ⟨S2x4096x16x1, .f32⟩
  | .hbm, ⟨78, _⟩ => ⟨S2x4096x16x1, .f32⟩
  | .hbm, ⟨79, _⟩ => ⟨S2x4096x16x1, .f32⟩
  | .hbm, ⟨80, _⟩ => ⟨S2x4096x16x256, .f32⟩
  | .hbm, ⟨81, _⟩ => ⟨S2x4096x16x256, .f32⟩
  | .hbm, ⟨82, _⟩ => ⟨S1x1x1x256, .f32⟩
  | .hbm, ⟨83, _⟩ => ⟨S2x4096x16x256, .f32⟩
  | .hbm, ⟨84, _⟩ => ⟨S2x4096x16x256, .f32⟩
  | .hbm, ⟨85, _⟩ => ⟨S_, .f32⟩
  | .hbm, ⟨86, _⟩ => ⟨S2x4096x16x256, .f32⟩
  | .hbm, ⟨87, _⟩ => ⟨S2x4096x16x256, .f32⟩
  | .hbm, ⟨88, _⟩ => ⟨S8192x4096, .f32⟩
  | .hbm, ⟨89, _⟩ => ⟨S8192x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_6 : Ref sig .tc := ⟨.hbm, 70, rfl⟩
abbrev main_v58 : Ref sig .tc := ⟨.hbm, 71, rfl⟩
abbrev main_v59 : Ref sig .tc := ⟨.hbm, 72, rfl⟩
abbrev main_cst_7 : Ref sig .tc := ⟨.hbm, 73, rfl⟩
abbrev main_v60 : Ref sig .tc := ⟨.hbm, 74, rfl⟩
abbrev main_v61 : Ref sig .tc := ⟨.hbm, 75, rfl⟩
abbrev main_cst_8 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_cst_9 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩

abbrev nD : Nat := 1
abbrev τ : Topo := Topo.v7x

variable {F : FTy → Type} [FloatOps F]
-- ==== Kernel2.lean ====
abbrev S8704x4096 : Shape := ⟨2, ![8704, 4096]⟩
abbrev S2x4096x11264 : Shape := ⟨3, ![2, 4096, 11264]⟩
abbrev S8704x5632 : Shape := ⟨2, ![8704, 5632]⟩
abbrev S256x4096 : Shape := ⟨2, ![256, 4096]⟩
abbrev S1x4096x512 : Shape := ⟨3, ![1, 4096, 512]⟩
abbrev S256x512 : Shape := ⟨2, ![256, 512]⟩
abbrev S4096x512 : Shape := ⟨2, ![4096, 512]⟩

abbrev nBuf : Space → Nat
  | .hbm => 3
  | .vmem => 10
  | .smem => 0
  | _ => 0

abbrev bufTy : (tb : Table) → Fin (tcTables nBuf tb) → BufTy
  | .hbm, ⟨0, _⟩ => ⟨S8704x4096, .bf16⟩
  | .hbm, ⟨1, _⟩ => ⟨S2x4096x11264, .f32⟩
  | .hbm, ⟨2, _⟩ => ⟨S8704x5632, .bf16⟩
  | .local _ .vmem, ⟨0, _⟩ => ⟨S256x4096, .bf16⟩
  | .local _ .vmem, ⟨1, _⟩ => ⟨S256x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S256x512, .bf16⟩
  | .local _ .vmem, ⟨7, _⟩ => ⟨S256x512, .bf16⟩
  | .local _ .vmem, ⟨8, _⟩ => ⟨S4096x512, .bf16⟩
  | .local _ .vmem, ⟨9, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![11, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c11_i32_5 : BitVec 32 := 11#32
  let c0_i32_6 : BitVec 32 := 0#32
  let v18 : BitVec 1 := Scalar.cmpi .eq c11_i32_5 c0_i32_6
  let c1_i32_7 : BitVec 32 := 1#32
  let v19 : BitVec 32 := Scalar.select v18 c1_i32_7 c11_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.addi c0_i32_11 v27
  let c0_i32_12 : BitVec 32 := 0#32
  let c0_i32_13 : BitVec 32 := 0#32
  ![v17.toNat, c0_i32_12.toNat, v28.toNat]

def cc0_transform_2 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.divsi arg0 c11_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg0 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c11_i32_5 : BitVec 32 := 11#32
  let c0_i32_6 : BitVec 32 := 0#32
  let v18 : BitVec 1 := Scalar.cmpi .eq c11_i32_5 c0_i32_6
  let c1_i32_7 : BitVec 32 := 1#32
  let v19 : BitVec 32 := Scalar.select v18 c1_i32_7 c11_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c11_i32_11 : BitVec 32 := 11#32
  let v28 : BitVec 32 := Scalar.addi c11_i32_11 v27
  let c0_i32_12 : BitVec 32 := 0#32
  let c0_i32_13 : BitVec 32 := 0#32
  ![v17.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8704x4096 : Shape := ⟨2, ![8704, 4096]⟩
abbrev S2x4096x11264 : Shape := ⟨3, ![2, 4096, 11264]⟩
abbrev S1x4096x11264 : Shape := ⟨3, ![1, 4096, 11264]⟩
abbrev S4096x11264 : Shape := ⟨2, ![4096, 11264]⟩
abbrev S8704x11264 : Shape := ⟨2, ![8704, 11264]⟩
abbrev S8704x5632 : Shape := ⟨2, ![8704, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x11264, .f32⟩
  | .hbm, ⟨2, _⟩ => ⟨S8704x4096, .f32⟩
  | .hbm, ⟨3, _⟩ => ⟨S1x4096x11264, .f32⟩
  | .hbm, ⟨4, _⟩ => ⟨S4096x11264, .f32⟩
  | .hbm, ⟨5, _⟩ => ⟨S8704x11264, .f32⟩
  | .hbm, ⟨6, _⟩ => ⟨S8704x5632, .f32⟩
  | .hbm, ⟨7, _⟩ => ⟨S8704x5632, .f32⟩
  | .hbm, ⟨8, _⟩ => ⟨S8704x5632, .f32⟩
  | .hbm, ⟨9, _⟩ => ⟨S8704x5632, .f32⟩
  | .hbm, ⟨10, _⟩ => ⟨S_, .f32⟩
  | .hbm, ⟨11, _⟩ => ⟨S8704x5632, .f32⟩
  | .hbm, ⟨12, _⟩ => ⟨S8704x5632, .f32⟩
  | .hbm, ⟨13, _⟩ => ⟨S_, .f32⟩
  | .hbm, ⟨14, _⟩ => ⟨S8704x5632, .f32⟩
  | .hbm, ⟨15, _⟩ => ⟨S8704x5632, .f32⟩
  | .hbm, ⟨16, _⟩ => ⟨S8704x5632, .f32⟩
  | .hbm, ⟨17, _⟩ => ⟨S8704x5632, .f32⟩
  | .hbm, ⟨18, _⟩ => ⟨S8704x5632, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩

abbrev nD : Nat := 1
abbrev τ : Topo := Topo.v7x

variable {F : FTy → Type} [FloatOps F]
-- ==== Kernel3.lean ====
abbrev S8704x5632 : Shape := ⟨2, ![8704, 5632]⟩
abbrev S2x5632x4096 : Shape := ⟨3, ![2, 5632, 4096]⟩
abbrev S8704x4096 : Shape := ⟨2, ![8704, 4096]⟩
abbrev S3x6x4096 : Shape := ⟨3, ![3, 6, 4096]⟩
abbrev S512x5632 : Shape := ⟨2, ![512, 5632]⟩
abbrev S1x5632x512 : Shape := ⟨3, ![1, 5632, 512]⟩
abbrev S512x512 : Shape := ⟨2, ![512, 512]⟩
abbrev S1x6x512 : Shape := ⟨3, ![1, 6, 512]⟩
abbrev S5632x512 : Shape := ⟨2, ![5632, 512]⟩
abbrev S1x1x512 : Shape := ⟨3, ![1, 1, 512]⟩
abbrev S1x512 : Shape := ⟨2, ![1, 512]⟩

abbrev nBuf : Space → Nat
  | .hbm => 5
  | .vmem => 11
  | .smem => 0
  | _ => 0

abbrev bufTy : (tb : Table) → Fin (tcTables nBuf tb) → BufTy
  | .hbm, ⟨0, _⟩ => ⟨S8704x5632, .bf16⟩
  | .hbm, ⟨1, _⟩ => ⟨S2x5632x4096, .f32⟩
  | .hbm, ⟨2, _⟩ => ⟨S8704x4096, .f32⟩
  | .hbm, ⟨3, _⟩ => ⟨S3x6x4096, .f32⟩
  | .hbm, ⟨4, _⟩ => ⟨S8704x4096, .f32⟩
  | .local _ .vmem, ⟨0, _⟩ => ⟨S512x5632, .bf16⟩
  | .local _ .vmem, ⟨1, _⟩ => ⟨S512x5632, .bf16⟩
  | .local _ .vmem, ⟨2, _⟩ => ⟨S1x5632x512, .f32⟩
  | .local _ .vmem, ⟨3, _⟩ => ⟨S1x5632x512, .f32⟩
  | .local _ .vmem, ⟨4, _⟩ => ⟨S512x512, .f32⟩
  | .local _ .vmem, ⟨5, _⟩ => ⟨S512x512, .f32⟩
  | .local _ .vmem, ⟨6, _⟩ => ⟨S1x6x512, .f32⟩
  | .local _ .vmem, ⟨7, _⟩ => ⟨S1x6x512, .f32⟩
  | .local _ .vmem, ⟨8, _⟩ => ⟨S512x512, .f32⟩
  | .local _ .vmem, ⟨9, _⟩ => ⟨S512x512, .f32⟩
  | .local _ .vmem, ⟨10, _⟩ => ⟨S5632x512, .bf16⟩
  | _, _ => ⟨S8704x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 17], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c8_i32_5 : BitVec 32 := 8#32
  let c0_i32_6 : BitVec 32 := 0#32
  let v18 : BitVec 1 := Scalar.cmpi .eq c8_i32_5 c0_i32_6
  let c1_i32_7 : BitVec 32 := 1#32
  let v19 : BitVec 32 := Scalar.select v18 c1_i32_7 c8_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.addi c0_i32_11 v27
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c8192_i32 : BitVec 32 := 8192#32
  let v1 : BitVec 1 := Scalar.cmpi .slt v0 c8192_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.select v1 v18 c2_i32
  let c0_i32_4 : BitVec 32 := 0#32
  let c0_i32_5 : BitVec 32 := 0#32
  ![v19.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x5632x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference3Ideal.lean ====
abbrev S8704x5632 : Shape := ⟨2, ![8704, 5632]⟩
abbrev S2x5632x4096 : Shape := ⟨3, ![2, 5632, 4096]⟩
abbrev S8704x4096 : Shape := ⟨2, ![8704, 4096]⟩
abbrev S3x6x4096 : Shape := ⟨3, ![3, 6, 4096]⟩
abbrev S1x5632x4096 : Shape := ⟨3, ![1, 5632, 4096]⟩
abbrev S5632x4096 : Shape := ⟨2, ![5632, 4096]⟩
abbrev S3x1x4096 : Shape := ⟨3, ![3, 1, 4096]⟩
abbrev S3x4096 : Shape := ⟨2, ![3, 4096]⟩
abbrev S8192x4096 : Shape := ⟨2, ![8192, 4096]⟩
abbrev S2x4096x4096 : Shape := ⟨3, ![2, 4096, 4096]⟩
abbrev S2x4096 : Shape := ⟨2, ![2, 4096]⟩
abbrev S2x1x4096 : Shape := ⟨3, ![2, 1, 4096]⟩
abbrev S512x4096 : Shape := ⟨2, ![512, 4096]⟩
abbrev S1x4096 : Shape := ⟨2, ![1, 4096]⟩
abbrev S4096 : Shape := ⟨1, ![4096]⟩

abbrev nBuf : Space → Nat
  | .hbm => 29
  | .vmem => 0
  | .smem => 0
  | _ => 0

abbrev bufTy : (tb : Table) → Fin (tcTables nBuf tb) → BufTy
  | .hbm, ⟨0, _⟩ => ⟨S8704x5632, .bf16⟩
  | .hbm, ⟨1, _⟩ => ⟨S2x5632x4096, .f32⟩
  | .hbm, ⟨2, _⟩ => ⟨S8704x4096, .f32⟩
  | .hbm, ⟨3, _⟩ => ⟨S3x6x4096, .f32⟩
  | .hbm, ⟨4, _⟩ => ⟨S8704x5632, .f32⟩
  | .hbm, ⟨5, _⟩ => ⟨S1x5632x4096, .f32⟩
  | .hbm, ⟨6, _⟩ => ⟨S5632x4096, .f32⟩
  | .hbm, ⟨7, _⟩ => ⟨S8704x4096, .f32⟩
  | .hbm, ⟨8, _⟩ => ⟨S3x1x4096, .f32⟩
  | .hbm, ⟨9, _⟩ => ⟨S3x4096, .f32⟩
  | .hbm, ⟨10, _⟩ => ⟨S8192x4096, .f32⟩
  | .hbm, ⟨11, _⟩ => ⟨S2x4096x4096, .f32⟩
  | .hbm, ⟨12, _⟩ => ⟨S2x4096, .f32⟩
  | .hbm, ⟨13, _⟩ => ⟨S2x1x4096, .f32⟩
  | .hbm, ⟨14, _⟩ => ⟨S8192x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S2x4096x4096, .f32⟩
  | .hbm, ⟨19, _⟩ => ⟨S512x4096, .f32⟩
  | .hbm, ⟨20, _⟩ => ⟨S1x4096, .f32⟩
  | .hbm, ⟨21, _⟩ => ⟨S4096, .f32⟩
  | .hbm, ⟨22, _⟩ => ⟨S512x4096, .f32⟩
  | .hbm, ⟨23, _⟩ => ⟨S1x4096, .f32⟩
  | .hbm, ⟨24, _⟩ => ⟨S512x4096, .f32⟩
  | .hbm, ⟨25, _⟩ => ⟨S512x4096, .f32⟩
  | .hbm, ⟨26, _⟩ => ⟨S512x4096, .f32⟩
  | .hbm, ⟨27, _⟩ => ⟨S8192x4096, .f32⟩
  | .hbm, ⟨28, _⟩ => ⟨S8704x4096, .f32⟩
  | _, _ => ⟨S8704x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩

abbrev nD : Nat := 1
abbrev τ : Topo := Topo.v7x

variable {F : FTy → Type} [FloatOps F]
-- ==== Kernel4.lean ====
abbrev S8704x4096 : Shape := ⟨2, ![8704, 4096]⟩
abbrev S2x4096x12288 : Shape := ⟨3, ![2, 4096, 12288]⟩
abbrev S256x4096 : Shape := ⟨2, ![256, 4096]⟩
abbrev S1x4096x1024 : Shape := ⟨3, ![1, 4096, 1024]⟩
abbrev S256x1024 : Shape := ⟨2, ![256, 1024]⟩
abbrev S4096x1024 : Shape := ⟨2, ![4096, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S8704x4096, .bf16⟩
  | .local _ .vmem, ⟨0, _⟩ => ⟨S256x4096, .bf16⟩
  | .local _ .vmem, ⟨1, _⟩ => ⟨S256x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S256x1024, .bf16⟩
  | .local _ .vmem, ⟨5, _⟩ => ⟨S256x1024, .bf16⟩
  | .local _ .vmem, ⟨6, _⟩ => ⟨S4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c8_i32 : BitVec 32 := 8#32
  let v28 : BitVec 32 := Scalar.addi c8_i32 v27
  let c0_i32_11 : BitVec 32 := 0#32
  let c0_i32_12 : BitVec 32 := 0#32
  ![v17.toNat, c0_i32_11.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8704x4096 : Shape := ⟨2, ![8704, 4096]⟩
abbrev S2x4096x12288 : Shape := ⟨3, ![2, 4096, 12288]⟩
abbrev S1x4096x12288 : Shape := ⟨3, ![1, 4096, 12288]⟩
abbrev S4096x12288 : Shape := ⟨2, ![4096, 12288]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S8704x4096, .f32⟩
  | .hbm, ⟨3, _⟩ => ⟨S1x4096x12288, .f32⟩
  | .hbm, ⟨4, _⟩ => ⟨S4096x12288, .f32⟩
  | .hbm, ⟨5, _⟩ => ⟨S4096x4096, .f32⟩
  | .hbm, ⟨6, _⟩ => ⟨S8704x4096, .f32⟩
  | .hbm, ⟨7, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel5.lean ====
abbrev S8192x4096 : Shape := ⟨2, ![8192, 4096]⟩
abbrev S512x4096 : Shape := ⟨2, ![512, 4096]⟩
abbrev S1x4096x4096 : Shape := ⟨3, ![1, 4096, 4096]⟩
abbrev S8704x4096 : Shape := ⟨2, ![8704, 4096]⟩
abbrev S3x6x4096 : Shape := ⟨3, ![3, 6, 4096]⟩
abbrev S256x4096 : Shape := ⟨2, ![256, 4096]⟩
abbrev S1x4096x1024 : Shape := ⟨3, ![1, 4096, 1024]⟩
abbrev S256x1024 : Shape := ⟨2, ![256, 1024]⟩
abbrev S1x6x1024 : Shape := ⟨3, ![1, 6, 1024]⟩
abbrev S4096x1024 : Shape := ⟨2, ![4096, 1024]⟩
abbrev S1x1x1024 : Shape := ⟨3, ![1, 1, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S1x4096x4096, .f32⟩
  | .hbm, ⟨3, _⟩ => ⟨S8704x4096, .f32⟩
  | .hbm, ⟨4, _⟩ => ⟨S3x6x4096, .f32⟩
  | .hbm, ⟨5, _⟩ => ⟨S8704x4096, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096x1024, .f32⟩
  | .local _ .vmem, ⟨5, _⟩ => ⟨S1x4096x1024, .f32⟩
  | .local _ .vmem, ⟨6, _⟩ => ⟨S256x1024, .f32⟩
  | .local _ .vmem, ⟨7, _⟩ => ⟨S256x1024, .f32⟩
  | .local _ .vmem, ⟨8, _⟩ => ⟨S1x6x1024, .f32⟩
  | .local _ .vmem, ⟨9, _⟩ => ⟨S1x6x1024, .f32⟩
  | .local _ .vmem, ⟨10, _⟩ => ⟨S256x1024, .f32⟩
  | .local _ .vmem, ⟨11, _⟩ => ⟨S256x1024, .f32⟩
  | .local _ .vmem, ⟨12, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 34], ![false, false]⟩

def k0_cond2 (i : grid0.Coords) : BitVec 1 :=
  let arg1 : BitVec 32 := BitVec.ofNat 32 (i 1).val
  let c32_i32 : BitVec 32 := 32#32
  let v3 : BitVec 1 := Scalar.cmpi .slt arg1 c32_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c32_i32_2 : BitVec 32 := 32#32
  let v6 : BitVec 1 := Scalar.cmpi .sge arg1 c32_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg1 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.addi c0_i32_11 v27
  let c0_i32_12 : BitVec 32 := 0#32
  let c0_i32_13 : BitVec 32 := 0#32
  ![v17.toNat, c0_i32_12.toNat, v28.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .slt v0 c8192_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.select v1 v18 c2_i32
  let c0_i32_4 : BitVec 32 := 0#32
  let c0_i32_5 : BitVec 32 := 0#32
  ![v19.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S8192x4096 : Shape := ⟨2, ![8192, 4096]⟩
abbrev S512x4096 : Shape := ⟨2, ![512, 4096]⟩
abbrev S1x4096x4096 : Shape := ⟨3, ![1, 4096, 4096]⟩
abbrev S8704x4096 : Shape := ⟨2, ![8704, 4096]⟩
abbrev S3x6x4096 : Shape := ⟨3, ![3, 6, 4096]⟩
abbrev S3x1x4096 : Shape := ⟨3, ![3, 1, 4096]⟩
abbrev S3x4096 : Shape := ⟨2, ![3, 4096]⟩
abbrev S2x4096x4096 : Shape := ⟨3, ![2, 4096, 4096]⟩
abbrev S2x4096 : Shape := ⟨2, ![2, 4096]⟩
abbrev S2x1x4096 : Shape := ⟨3, ![2, 1, 4096]⟩
abbrev S4096x4096 : Shape := ⟨2, ![4096, 4096]⟩
abbrev S1x4096 : Shape := ⟨2, ![1, 4096]⟩
abbrev S4096 : Shape := ⟨1, ![4096]⟩

abbrev nBuf : Space → Nat
  | .hbm => 30
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S512x4096, .bf16⟩
  | .hbm, ⟨2, _⟩ => ⟨S1x4096x4096, .f32⟩
  | .hbm, ⟨3, _⟩ => ⟨S8704x4096, .f32⟩
  | .hbm, ⟨4, _⟩ => ⟨S3x6x4096, .f32⟩
  | .hbm, ⟨5, _⟩ => ⟨S3x1x4096, .f32⟩
  | .hbm, ⟨6, _⟩ => ⟨S3x4096, .f32⟩
  | .hbm, ⟨7, _⟩ => ⟨S8192x4096, .f32⟩
  | .hbm, ⟨8, _⟩ => ⟨S2x4096x4096, .f32⟩
  | .hbm, ⟨9, _⟩ => ⟨S2x4096, .f32⟩
  | .hbm, ⟨10, _⟩ => ⟨S2x1x4096, .f32⟩
  | .hbm, ⟨11, _⟩ => ⟨S8192x4096, .f32⟩
  | .hbm, ⟨12, _⟩ => ⟨S4096x4096, .f32⟩
  | .hbm, ⟨13, _⟩ => ⟨S8192x4096, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S512x4096, .f32⟩
  | .hbm, ⟨19, _⟩ => ⟨S1x4096, .f32⟩
  | .hbm, ⟨20, _⟩ => ⟨S4096, .f32⟩
  | .hbm, ⟨21, _⟩ => ⟨S512x4096, .f32⟩
  | .hbm, ⟨22, _⟩ => ⟨S4096x4096, .f32⟩
  | .hbm, ⟨23, _⟩ => ⟨S512x4096, .f32⟩
  | .hbm, ⟨24, _⟩ => ⟨S1x4096, .f32⟩
  | .hbm, ⟨25, _⟩ => ⟨S512x4096, .f32⟩
  | .hbm, ⟨26, _⟩ => ⟨S512x4096, .f32⟩
  | .hbm, ⟨27, _⟩ => ⟨S512x4096, .f32⟩
  | .hbm, ⟨28, _⟩ => ⟨S8192x4096, .f32⟩
  | .hbm, ⟨29, _⟩ => ⟨S8704x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== Kernel6.lean ====
abbrev S8704x4096 : Shape := ⟨2, ![8704, 4096]⟩
abbrev S2x4096x12288 : Shape := ⟨3, ![2, 4096, 12288]⟩
abbrev S4096x2x32 : Shape := ⟨3, ![4096, 2, 32]⟩
abbrev S_ : Shape := ⟨0, ![]⟩
abbrev S4096x2x1x32 : Shape := ⟨4, ![4096, 2, 1, 32]⟩
abbrev S4096x2x2x32 : Shape := ⟨4, ![4096, 2, 2, 32]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S512x128 : Shape := ⟨2, ![512, 128]⟩
abbrev S8704x128 : Shape := ⟨2, ![8704, 128]⟩
abbrev S256x4096 : Shape := ⟨2, ![256, 4096]⟩
abbrev S1x4096x1024 : Shape := ⟨3, ![1, 4096, 1024]⟩
abbrev S256x128 : Shape := ⟨2, ![256, 128]⟩
abbrev S256x1024 : Shape := ⟨2, ![256, 1024]⟩
abbrev S4096x1024 : Shape := ⟨2, ![4096, 1024]⟩

abbrev nBuf : Space → Nat
  | .hbm => 38
  | .vmem => 13
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S4096x2x32, .f32⟩
  | .hbm, ⟨3, _⟩ => ⟨S4096x2x32, .f32⟩
  | .hbm, ⟨4, _⟩ => ⟨S_, .f32⟩
  | .hbm, ⟨5, _⟩ => ⟨S4096x2x32, .f32⟩
  | .hbm, ⟨6, _⟩ => ⟨S4096x2x1x32, .f32⟩
  | .hbm, ⟨7, _⟩ => ⟨S4096x2x1x32, .f32⟩
  | .hbm, ⟨8, _⟩ => ⟨S4096x2x2x32, .f32⟩
  | .hbm, ⟨9, _⟩ => ⟨S4096x128, .f32⟩
  | .hbm, ⟨10, _⟩ => ⟨S4096x2x32, .f32⟩
  | .hbm, ⟨11, _⟩ => ⟨S4096x2x1x32, .f32⟩
  | .hbm, ⟨12, _⟩ => ⟨S4096x2x1x32, .f32⟩
  | .hbm, ⟨13, _⟩ => ⟨S4096x2x2x32, .f32⟩
  | .hbm, ⟨14, _⟩ => ⟨S4096x128, .f32⟩
  | .hbm, ⟨15, _⟩ => ⟨S4096x2x1x32, .f32⟩
  | .hbm, ⟨16, _⟩ => ⟨S4096x2x1x32, .f32⟩
  | .hbm, ⟨17, _⟩ => ⟨S4096x2x2x32, .f32⟩
  | .hbm, ⟨18, _⟩ => ⟨S4096x128, .f32⟩
  | .hbm, ⟨19, _⟩ => ⟨S1x4096x1x128, .f32⟩
  | .hbm, ⟨20, _⟩ => ⟨S2x4096x1x128, .f32⟩
  | .hbm, ⟨21, _⟩ => ⟨S8192x128, .f32⟩
  | .hbm, ⟨22, _⟩ => ⟨S_, .f32⟩
  | .hbm, ⟨23, _⟩ => ⟨S512x128, .f32⟩
  | .hbm, ⟨24, _⟩ => ⟨S8704x128, .f32⟩
  | .hbm, ⟨25, _⟩ => ⟨S1x4096x1x128, .f32⟩
  | .hbm, ⟨26, _⟩ => ⟨S2x4096x1x128, .f32⟩
  | .hbm, ⟨27, _⟩ => ⟨S8192x128, .f32⟩
  | .hbm, ⟨28, _⟩ => ⟨S_, .f32⟩
  | .hbm, ⟨29, _⟩ => ⟨S512x128, .f32⟩
  | .hbm, ⟨30, _⟩ => ⟨S8704x128, .f32⟩
  | .hbm, ⟨31, _⟩ => ⟨S1x4096x1x128, .f32⟩
  | .hbm, ⟨32, _⟩ => ⟨S2x4096x1x128, .f32⟩
  | .hbm, ⟨33, _⟩ => ⟨S8192x128, .f32⟩
  | .hbm, ⟨34, _⟩ => ⟨S_, .f32⟩
  | .hbm, ⟨35, _⟩ => ⟨S512x128, .f32⟩
  | .hbm, ⟨36, _⟩ => ⟨S8704x128, .f32⟩
  | .hbm, ⟨37, _⟩ => ⟨S8704x4096, .bf16⟩
  | .local _ .vmem, ⟨0, _⟩ => ⟨S256x4096, .bf16⟩
  | .local _ .vmem, ⟨1, _⟩ => ⟨S256x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .bf16⟩
  | .local _ .vmem, ⟨11, _⟩ => ⟨S256x1024, .bf16⟩
  | .local _ .vmem, ⟨12, _⟩ => ⟨S4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c4_i32_11 : BitVec 32 := 4#32
  let v28 : BitVec 32 := Scalar.addi c4_i32_11 v27
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8704x4096 : Shape := ⟨2, ![8704, 4096]⟩
abbrev S2x4096x12288 : Shape := ⟨3, ![2, 4096, 12288]⟩
abbrev S4096x2x32 : Shape := ⟨3, ![4096, 2, 32]⟩
abbrev S1x4096x12288 : Shape := ⟨3, ![1, 4096, 12288]⟩
abbrev S4096x12288 : Shape := ⟨2, ![4096, 12288]⟩
abbrev S4096x4096 : Shape := ⟨2, ![4096, 4096]⟩
abbrev S8192x4096 : Shape := ⟨2, ![8192, 4096]⟩
abbrev S8192x32x2x2x32 : Shape := ⟨5, ![8192, 32, 2, 2, 32]⟩
abbrev S8192x32x2x1x32 : Shape := ⟨5, ![8192, 32, 2, 1, 32]⟩
abbrev S8192x32x2x32 : Shape := ⟨4, ![8192, 32, 2, 32]⟩
abbrev S2x4096x2x32 : Shape := ⟨4, ![2, 4096, 2, 32]⟩
abbrev S8192x1x2x32 : Shape := ⟨4, ![8192, 1, 2, 32]⟩
abbrev S512x4096 : Shape := ⟨2, ![512, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S4096x2x32, .f32⟩
  | .hbm, ⟨3, _⟩ => ⟨S4096x2x32, .f32⟩
  | .hbm, ⟨4, _⟩ => ⟨S8704x4096, .f32⟩
  | .hbm, ⟨5, _⟩ => ⟨S1x4096x12288, .f32⟩
  | .hbm, ⟨6, _⟩ => ⟨S4096x12288, .f32⟩
  | .hbm, ⟨7, _⟩ => ⟨S4096x4096, .f32⟩
  | .hbm, ⟨8, _⟩ => ⟨S8704x4096, .f32⟩
  | .hbm, ⟨9, _⟩ => ⟨S8192x4096, .f32⟩
  | .hbm, ⟨10, _⟩ => ⟨S8192x32x2x2x32, .f32⟩
  | .hbm, ⟨11, _⟩ => ⟨S8192x32x2x1x32, .f32⟩
  | .hbm, ⟨12, _⟩ => ⟨S8192x32x2x32, .f32⟩
  | .hbm, ⟨13, _⟩ => ⟨S8192x32x2x1x32, .f32⟩
  | .hbm, ⟨14, _⟩ => ⟨S8192x32x2x32, .f32⟩
  | .hbm, ⟨15, _⟩ => ⟨S2x4096x2x32, .f32⟩
  | .hbm, ⟨16, _⟩ => ⟨S8192x1x2x32, .f32⟩
  | .hbm, ⟨17, _⟩ => ⟨S2x4096x2x32, .f32⟩
  | .hbm, ⟨18, _⟩ => ⟨S8192x1x2x32, .f32⟩
  | .hbm, ⟨19, _⟩ => ⟨S8192x32x2x32, .f32⟩
  | .hbm, ⟨20, _⟩ => ⟨S8192x32x2x32, .f32⟩
  | .hbm, ⟨21, _⟩ => ⟨S8192x32x2x32, .f32⟩
  | .hbm, ⟨22, _⟩ => ⟨S8192x32x2x32, .f32⟩
  | .hbm, ⟨23, _⟩ => ⟨S8192x32x2x32, .f32⟩
  | .hbm, ⟨24, _⟩ => ⟨S8192x32x2x32, .f32⟩
  | .hbm, ⟨25, _⟩ => ⟨S8192x32x2x32, .f32⟩
  | .hbm, ⟨26, _⟩ => ⟨S8192x32x2x32, .f32⟩
  | .hbm, ⟨27, _⟩ => ⟨S8192x32x2x32, .f32⟩
  | .hbm, ⟨28, _⟩ => ⟨S8192x32x2x32, .f32⟩
  | .hbm, ⟨29, _⟩ => ⟨S8192x32x2x1x32, .f32⟩
  | .hbm, ⟨30, _⟩ => ⟨S8192x32x2x1x32, .f32⟩
  | .hbm, ⟨31, _⟩ => ⟨S8192x32x2x2x32, .f32⟩
  | .hbm, ⟨32, _⟩ => ⟨S8192x4096, .f32⟩
  | .hbm, ⟨33, _⟩ => ⟨S512x4096, .f32⟩
  | .hbm, ⟨34, _⟩ => ⟨S8704x4096, .f32⟩
  | .hbm, ⟨35, _⟩ => ⟨S8704x4096, .bf16⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== Kernel7.lean ====
abbrev S8704x4096 : Shape := ⟨2, ![8704, 4096]⟩
abbrev S2x4096x12288 : Shape := ⟨3, ![2, 4096, 12288]⟩
abbrev S4096x2x32 : Shape := ⟨3, ![4096, 2, 32]⟩
abbrev S_ : Shape := ⟨0, ![]⟩
abbrev S4096x2x1x32 : Shape := ⟨4, ![4096, 2, 1, 32]⟩
abbrev S4096x2x2x32 : Shape := ⟨4, ![4096, 2, 2, 32]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S512x128 : Shape := ⟨2, ![512, 128]⟩
abbrev S8704x128 : Shape := ⟨2, ![8704, 128]⟩
abbrev S256x4096 : Shape := ⟨2, ![256, 4096]⟩
abbrev S1x4096x1024 : Shape := ⟨3, ![1, 4096, 1024]⟩
abbrev S256x128 : Shape := ⟨2, ![256, 128]⟩
abbrev S256x1024 : Shape := ⟨2, ![256, 1024]⟩
abbrev S4096x1024 : Shape := ⟨2, ![4096, 1024]⟩

abbrev nBuf : Space → Nat
  | .hbm => 38
  | .vmem => 13
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S4096x2x32, .f32⟩
  | .hbm, ⟨3, _⟩ => ⟨S4096x2x32, .f32⟩
  | .hbm, ⟨4, _⟩ => ⟨S_, .f32⟩
  | .hbm, ⟨5, _⟩ => ⟨S4096x2x32, .f32⟩
  | .hbm, ⟨6, _⟩ => ⟨S4096x2x1x32, .f32⟩
  | .hbm, ⟨7, _⟩ => ⟨S4096x2x1x32, .f32⟩
  | .hbm, ⟨8, _⟩ => ⟨S4096x2x2x32, .f32⟩
  | .hbm, ⟨9, _⟩ => ⟨S4096x128, .f32⟩
  | .hbm, ⟨10, _⟩ => ⟨S4096x2x32, .f32⟩
  | .hbm, ⟨11, _⟩ => ⟨S4096x2x1x32, .f32⟩
  | .hbm, ⟨12, _⟩ => ⟨S4096x2x1x32, .f32⟩
  | .hbm, ⟨13, _⟩ => ⟨S4096x2x2x32, .f32⟩
  | .hbm, ⟨14, _⟩ => ⟨S4096x128, .f32⟩
  | .hbm, ⟨15, _⟩ => ⟨S4096x2x1x32, .f32⟩
  | .hbm, ⟨16, _⟩ => ⟨S4096x2x1x32, .f32⟩
  | .hbm, ⟨17, _⟩ => ⟨S4096x2x2x32, .f32⟩
  | .hbm, ⟨18, _⟩ => ⟨S4096x128, .f32⟩
  | .hbm, ⟨19, _⟩ => ⟨S1x4096x1x128, .f32⟩
  | .hbm, ⟨20, _⟩ => ⟨S2x4096x1x128, .f32⟩
  | .hbm, ⟨21, _⟩ => ⟨S8192x128, .f32⟩
  | .hbm, ⟨22, _⟩ => ⟨S_, .f32⟩
  | .hbm, ⟨23, _⟩ => ⟨S512x128, .f32⟩
  | .hbm, ⟨24, _⟩ => ⟨S8704x128, .f32⟩
  | .hbm, ⟨25, _⟩ => ⟨S1x4096x1x128, .f32⟩
  | .hbm, ⟨26, _⟩ => ⟨S2x4096x1x128, .f32⟩
  | .hbm, ⟨27, _⟩ => ⟨S8192x128, .f32⟩
  | .hbm, ⟨28, _⟩ => ⟨S_, .f32⟩
  | .hbm, ⟨29, _⟩ => ⟨S512x128, .f32⟩
  | .hbm, ⟨30, _⟩ => ⟨S8704x128, .f32⟩
  | .hbm, ⟨31, _⟩ => ⟨S1x4096x1x128, .f32⟩
  | .hbm, ⟨32, _⟩ => ⟨S2x4096x1x128, .f32⟩
  | .hbm, ⟨33, _⟩ => ⟨S8192x128, .f32⟩
  | .hbm, ⟨34, _⟩ => ⟨S_, .f32⟩
  | .hbm, ⟨35, _⟩ => ⟨S512x128, .f32⟩
  | .hbm, ⟨36, _⟩ => ⟨S8704x128, .f32⟩
  | .hbm, ⟨37, _⟩ => ⟨S8704x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 34], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.addi c0_i32_11 v27
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8704x4096 : Shape := ⟨2, ![8704, 4096]⟩
abbrev S2x4096x12288 : Shape := ⟨3, ![2, 4096, 12288]⟩
abbrev S4096x2x32 : Shape := ⟨3, ![4096, 2, 32]⟩
abbrev S1x4096x12288 : Shape := ⟨3, ![1, 4096, 12288]⟩
abbrev S4096x12288 : Shape := ⟨2, ![4096, 12288]⟩
abbrev S4096x4096 : Shape := ⟨2, ![4096, 4096]⟩
abbrev S8192x4096 : Shape := ⟨2, ![8192, 4096]⟩
abbrev S8192x32x2x2x32 : Shape := ⟨5, ![8192, 32, 2, 2, 32]⟩
abbrev S8192x32x2x1x32 : Shape := ⟨5, ![8192, 32, 2, 1, 32]⟩
abbrev S8192x32x2x32 : Shape := ⟨4, ![8192, 32, 2, 32]⟩
abbrev S2x4096x2x32 : Shape := ⟨4, ![2, 4096, 2, 32]⟩
abbrev S8192x1x2x32 : Shape := ⟨4, ![8192, 1, 2, 32]⟩
abbrev S512x4096 : Shape := ⟨2, ![512, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S4096x2x32, .f32⟩
  | .hbm, ⟨3, _⟩ => ⟨S4096x2x32, .f32⟩
  | .hbm, ⟨4, _⟩ => ⟨S8704x4096, .f32⟩
  | .hbm, ⟨5, _⟩ => ⟨S1x4096x12288, .f32⟩
  | .hbm, ⟨6, _⟩ => ⟨S4096x12288, .f32⟩
  | .hbm, ⟨7, _⟩ => ⟨S4096x4096, .f32⟩
  | .hbm, ⟨8, _⟩ => ⟨S8704x4096, .f32⟩
  | .hbm, ⟨9, _⟩ => ⟨S8192x4096, .f32⟩
  | .hbm, ⟨10, _⟩ => ⟨S8192x32x2x2x32, .f32⟩
  | .hbm, ⟨11, _⟩ => ⟨S8192x32x2x1x32, .f32⟩
  | .hbm, ⟨12, _⟩ => ⟨S8192x32x2x32, .f32⟩
  | .hbm, ⟨13, _⟩ => ⟨S8192x32x2x1x32, .f32⟩
  | .hbm, ⟨14, _⟩ => ⟨S8192x32x2x32, .f32⟩
  | .hbm, ⟨15, _⟩ => ⟨S2x4096x2x32, .f32⟩
  | .hbm, ⟨16, _⟩ => ⟨S8192x1x2x32, .f32⟩
  | .hbm, ⟨17, _⟩ => ⟨S2x4096x2x32, .f32⟩
  | .hbm, ⟨18, _⟩ => ⟨S8192x1x2x32, .f32⟩
  | .hbm, ⟨19, _⟩ => ⟨S8192x32x2x32, .f32⟩
  | .hbm, ⟨20, _⟩ => ⟨S8192x32x2x32, .f32⟩
  | .hbm, ⟨21, _⟩ => ⟨S8192x32x2x32, .f32⟩
  | .hbm, ⟨22, _⟩ => ⟨S8192x32x2x32, .f32⟩
  | .hbm, ⟨23, _⟩ => ⟨S8192x32x2x32, .f32⟩
  | .hbm, ⟨24, _⟩ => ⟨S8192x32x2x32, .f32⟩
  | .hbm, ⟨25, _⟩ => ⟨S8192x32x2x32, .f32⟩
  | .hbm, ⟨26, _⟩ => ⟨S8192x32x2x32, .f32⟩
  | .hbm, ⟨27, _⟩ => ⟨S8192x32x2x32, .f32⟩
  | .hbm, ⟨28, _⟩ => ⟨S8192x32x2x32, .f32⟩
  | .hbm, ⟨29, _⟩ => ⟨S8192x32x2x1x32, .f32⟩
  | .hbm, ⟨30, _⟩ => ⟨S8192x32x2x1x32, .f32⟩
  | .hbm, ⟨31, _⟩ => ⟨S8192x32x2x2x32, .f32⟩
  | .hbm, ⟨32, _⟩ => ⟨S8192x4096, .f32⟩
  | .hbm, ⟨33, _⟩ => ⟨S512x4096, .f32⟩
  | .hbm, ⟨34, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩

abbrev nD : Nat := 1
abbrev τ : Topo := Topo.v7x

variable {F : FTy → Type} [FloatOps F]
-- ==== Kernel8.lean ====
abbrev S8704x4096 : Shape := ⟨2, ![8704, 4096]⟩
abbrev S2x4096x12288 : Shape := ⟨3, ![2, 4096, 12288]⟩
abbrev S4096x2x32 : Shape := ⟨3, ![4096, 2, 32]⟩
abbrev S_ : Shape := ⟨0, ![]⟩
abbrev S4096x2x1x32 : Shape := ⟨4, ![4096, 2, 1, 32]⟩
abbrev S4096x2x2x32 : Shape := ⟨4, ![4096, 2, 2, 32]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S512x128 : Shape := ⟨2, ![512, 128]⟩
abbrev S8704x128 : Shape := ⟨2, ![8704, 128]⟩
abbrev S8192x4096 : Shape := ⟨2, ![8192, 4096]⟩
abbrev S256x4096 : Shape := ⟨2, ![256, 4096]⟩
abbrev S1x4096x1024 : Shape := ⟨3, ![1, 4096, 1024]⟩
abbrev S256x128 : Shape := ⟨2, ![256, 128]⟩
abbrev S256x1024 : Shape := ⟨2, ![256, 1024]⟩
abbrev S4096x1024 : Shape := ⟨2, ![4096, 1024]⟩

abbrev nBuf : Space → Nat
  | .hbm => 38
  | .vmem => 13
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S4096x2x32, .f32⟩
  | .hbm, ⟨3, _⟩ => ⟨S4096x2x32, .f32⟩
  | .hbm, ⟨4, _⟩ => ⟨S_, .f32⟩
  | .hbm, ⟨5, _⟩ => ⟨S4096x2x32, .f32⟩
  | .hbm, ⟨6, _⟩ => ⟨S4096x2x1x32, .f32⟩
  | .hbm, ⟨7, _⟩ => ⟨S4096x2x1x32, .f32⟩
  | .hbm, ⟨8, _⟩ => ⟨S4096x2x2x32, .f32⟩
  | .hbm, ⟨9, _⟩ => ⟨S4096x128, .f32⟩
  | .hbm, ⟨10, _⟩ => ⟨S4096x2x32, .f32⟩
  | .hbm, ⟨11, _⟩ => ⟨S4096x2x1x32, .f32⟩
  | .hbm, ⟨12, _⟩ => ⟨S4096x2x1x32, .f32⟩
  | .hbm, ⟨13, _⟩ => ⟨S4096x2x2x32, .f32⟩
  | .hbm, ⟨14, _⟩ => ⟨S4096x128, .f32⟩
  | .hbm, ⟨15, _⟩ => ⟨S4096x2x1x32, .f32⟩
  | .hbm, ⟨16, _⟩ => ⟨S4096x2x1x32, .f32⟩
  | .hbm, ⟨17, _⟩ => ⟨S4096x2x2x32, .f32⟩
  | .hbm, ⟨18, _⟩ => ⟨S4096x128, .f32⟩
  | .hbm, ⟨19, _⟩ => ⟨S1x4096x1x128, .f32⟩
  | .hbm, ⟨20, _⟩ => ⟨S2x4096x1x128, .f32⟩
  | .hbm, ⟨21, _⟩ => ⟨S8192x128, .f32⟩
  | .hbm, ⟨22, _⟩ => ⟨S_, .f32⟩
  | .hbm, ⟨23, _⟩ => ⟨S512x128, .f32⟩
  | .hbm, ⟨24, _⟩ => ⟨S8704x128, .f32⟩
  | .hbm, ⟨25, _⟩ => ⟨S1x4096x1x128, .f32⟩
  | .hbm, ⟨26, _⟩ => ⟨S2x4096x1x128, .f32⟩
  | .hbm, ⟨27, _⟩ => ⟨S8192x128, .f32⟩
  | .hbm, ⟨28, _⟩ => ⟨S_, .f32⟩
  | .hbm, ⟨29, _⟩ => ⟨S512x128, .f32⟩
  | .hbm, ⟨30, _⟩ => ⟨S8704x128, .f32⟩
  | .hbm, ⟨31, _⟩ => ⟨S1x4096x1x128, .f32⟩
  | .hbm, ⟨32, _⟩ => ⟨S2x4096x1x128, .f32⟩
  | .hbm, ⟨33, _⟩ => ⟨S8192x128, .f32⟩
  | .hbm, ⟨34, _⟩ => ⟨S_, .f32⟩
  | .hbm, ⟨35, _⟩ => ⟨S512x128, .f32⟩
  | .hbm, ⟨36, _⟩ => ⟨S8704x128, .f32⟩
  | .hbm, ⟨37, _⟩ => ⟨S8192x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x1024, .f32⟩
  | .local _ .vmem, ⟨11, _⟩ => ⟨S256x1024, .f32⟩
  | .local _ .vmem, ⟨12, _⟩ => ⟨S4096x1024, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_1 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.addi c0_i32_11 v27
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference8Ideal.lean ====
abbrev S8704x4096 : Shape := ⟨2, ![8704, 4096]⟩
abbrev S2x4096x12288 : Shape := ⟨3, ![2, 4096, 12288]⟩
abbrev S4096x2x32 : Shape := ⟨3, ![4096, 2, 32]⟩
abbrev S1x4096x12288 : Shape := ⟨3, ![1, 4096, 12288]⟩
abbrev S4096x12288 : Shape := ⟨2, ![4096, 12288]⟩
abbrev S4096x4096 : Shape := ⟨2, ![4096, 4096]⟩
abbrev S8192x4096 : Shape := ⟨2, ![8192, 4096]⟩
abbrev S8192x32x2x2x32 : Shape := ⟨5, ![8192, 32, 2, 2, 32]⟩
abbrev S8192x32x2x1x32 : Shape := ⟨5, ![8192, 32, 2, 1, 32]⟩
abbrev S8192x32x2x32 : Shape := ⟨4, ![8192, 32, 2, 32]⟩
abbrev S2x4096x2x32 : Shape := ⟨4, ![2, 4096, 2, 32]⟩
abbrev S8192x1x2x32 : Shape := ⟨4, ![8192, 1, 2, 32]⟩

abbrev nBuf : Space → Nat
  | .hbm => 33
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x12288, .f32⟩
  | .hbm, ⟨2, _⟩ => ⟨S4096x2x32, .f32⟩
  | .hbm, ⟨3, _⟩ => ⟨S4096x2x32, .f32⟩
  | .hbm, ⟨4, _⟩ => ⟨S8704x4096, .f32⟩
  | .hbm, ⟨5, _⟩ => ⟨S1x4096x12288, .f32⟩
  | .hbm, ⟨6, _⟩ => ⟨S4096x12288, .f32⟩
  | .hbm, ⟨7, _⟩ => ⟨S4096x4096, .f32⟩
  | .hbm, ⟨8, _⟩ => ⟨S8704x4096, .f32⟩
  | .hbm, ⟨9, _⟩ => ⟨S8192x4096, .f32⟩
  | .hbm, ⟨10, _⟩ => ⟨S8192x32x2x2x32, .f32⟩
  | .hbm, ⟨11, _⟩ => ⟨S8192x32x2x1x32, .f32⟩
  | .hbm, ⟨12, _⟩ => ⟨S8192x32x2x32, .f32⟩
  | .hbm, ⟨13, _⟩ => ⟨S8192x32x2x1x32, .f32⟩
  | .hbm, ⟨14, _⟩ => ⟨S8192x32x2x32, .f32⟩
  | .hbm, ⟨15, _⟩ => ⟨S2x4096x2x32, .f32⟩
  | .hbm, ⟨16, _⟩ => ⟨S8192x1x2x32, .f32⟩
  | .hbm, ⟨17, _⟩ => ⟨S2x4096x2x32, .f32⟩
  | .hbm, ⟨18, _⟩ => ⟨S8192x1x2x32, .f32⟩
  | .hbm, ⟨19, _⟩ => ⟨S8192x32x2x32, .f32⟩
  | .hbm, ⟨20, _⟩ => ⟨S8192x32x2x32, .f32⟩
  | .hbm, ⟨21, _⟩ => ⟨S8192x32x2x32, .f32⟩
  | .hbm, ⟨22, _⟩ => ⟨S8192x32x2x32, .f32⟩
  | .hbm, ⟨23, _⟩ => ⟨S8192x32x2x32, .f32⟩
  | .hbm, ⟨24, _⟩ => ⟨S8192x32x2x32, .f32⟩
  | .hbm, ⟨25, _⟩ => ⟨S8192x32x2x32, .f32⟩
  | .hbm, ⟨26, _⟩ => ⟨S8192x32x2x32, .f32⟩
  | .hbm, ⟨27, _⟩ => ⟨S8192x32x2x32, .f32⟩
  | .hbm, ⟨28, _⟩ => ⟨S8192x32x2x32, .f32⟩
  | .hbm, ⟨29, _⟩ => ⟨S8192x32x2x1x32, .f32⟩
  | .hbm, ⟨30, _⟩ => ⟨S8192x32x2x1x32, .f32⟩
  | .hbm, ⟨31, _⟩ => ⟨S8192x32x2x2x32, .f32⟩
  | .hbm, ⟨32, _⟩ => ⟨S8192x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Kernel9.lean ====
abbrev S8192x4096 : Shape := ⟨2, ![8192, 4096]⟩
abbrev S2x4096x4096 : Shape := ⟨3, ![2, 4096, 4096]⟩
abbrev S8704x4096 : Shape := ⟨2, ![8704, 4096]⟩
abbrev S3x6x4096 : Shape := ⟨3, ![3, 6, 4096]⟩
abbrev S256x4096 : Shape := ⟨2, ![256, 4096]⟩
abbrev S1x4096x1024 : Shape := ⟨3, ![1, 4096, 1024]⟩
abbrev S256x1024 : Shape := ⟨2, ![256, 1024]⟩
abbrev S1x6x1024 : Shape := ⟨3, ![1, 6, 1024]⟩
abbrev S4096x1024 : Shape := ⟨2, ![4096, 1024]⟩
abbrev S1x1x1024 : Shape := ⟨3, ![1, 1, 1024]⟩
abbrev S1x1024 : Shape := ⟨2, ![1, 1024]⟩

abbrev nBuf : Space → Nat
  | .hbm => 5
  | .vmem => 11
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8704x4096, .f32⟩
  | .hbm, ⟨3, _⟩ => ⟨S3x6x4096, .f32⟩
  | .hbm, ⟨4, _⟩ => ⟨S8192x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x1024, .f32⟩
  | .local _ .vmem, ⟨3, _⟩ => ⟨S1x4096x1024, .f32⟩
  | .local _ .vmem, ⟨4, _⟩ => ⟨S256x1024, .f32⟩
  | .local _ .vmem, ⟨5, _⟩ => ⟨S256x1024, .f32⟩
  | .local _ .vmem, ⟨6, _⟩ => ⟨S1x6x1024, .f32⟩
  | .local _ .vmem, ⟨7, _⟩ => ⟨S1x6x1024, .f32⟩
  | .local _ .vmem, ⟨8, _⟩ => ⟨S256x1024, .f32⟩
  | .local _ .vmem, ⟨9, _⟩ => ⟨S256x1024, .f32⟩
  | .local _ .vmem, ⟨10, _⟩ => ⟨S4096x1024, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let v28 : BitVec 32 := Scalar.addi c0_i32_11 v27
  let c0_i32_12 : BitVec 32 := 0#32
  let c0_i32_13 : BitVec 32 := 0#32
  ![v17.toNat, c0_i32_12.toNat, v28.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c8192_i32 : BitVec 32 := 8192#32
  let v1 : BitVec 1 := Scalar.cmpi .slt v0 c8192_i32
  let c4096_i32 : BitVec 32 := 4096#32
  let v2 : BitVec 32 := Scalar.divsi v0 c4096_i32
  let c0_i32 : BitVec 32 := 0#32
  let v3 : BitVec 1 := Scalar.cmpi .sgt v0 c0_i32
  let v4 : BitVec 32 := Scalar.extui v3
  let c0_i32_0 : BitVec 32 := 0#32
  let v5 : BitVec 1 := Scalar.cmpi .slt v0 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v0 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c2_i32 : BitVec 32 := 2#32
  let v19 : BitVec 32 := Scalar.select v1 v18 c2_i32
  let c0_i32_4 : BitVec 32 := 0#32
  let c0_i32_5 : BitVec 32 := 0#32
  ![v19.toNat, c0_i32_4.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x4096 : Shape := ⟨2, ![8192, 4096]⟩
abbrev S2x4096x4096 : Shape := ⟨3, ![2, 4096, 4096]⟩
abbrev S8704x4096 : Shape := ⟨2, ![8704, 4096]⟩
abbrev S3x6x4096 : Shape := ⟨3, ![3, 6, 4096]⟩
abbrev S3x1x4096 : Shape := ⟨3, ![3, 1, 4096]⟩
abbrev S3x4096 : Shape := ⟨2, ![3, 4096]⟩
abbrev S2x4096 : Shape := ⟨2, ![2, 4096]⟩
abbrev S2x1x4096 : Shape := ⟨3, ![2, 1, 4096]⟩
abbrev S1x4096x4096 : Shape := ⟨3, ![1, 4096, 4096]⟩
abbrev S4096x4096 : Shape := ⟨2, ![4096, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8704x4096, .f32⟩
  | .hbm, ⟨3, _⟩ => ⟨S3x6x4096, .f32⟩
  | .hbm, ⟨4, _⟩ => ⟨S3x1x4096, .f32⟩
  | .hbm, ⟨5, _⟩ => ⟨S3x4096, .f32⟩
  | .hbm, ⟨6, _⟩ => ⟨S8192x4096, .f32⟩
  | .hbm, ⟨7, _⟩ => ⟨S2x4096x4096, .f32⟩
  | .hbm, ⟨8, _⟩ => ⟨S2x4096, .f32⟩
  | .hbm, ⟨9, _⟩ => ⟨S2x1x4096, .f32⟩
  | .hbm, ⟨10, _⟩ => ⟨S8192x4096, .f32⟩
  | .hbm, ⟨11, _⟩ => ⟨S1x4096x4096, .f32⟩
  | .hbm, ⟨12, _⟩ => ⟨S4096x4096, .f32⟩
  | .hbm, ⟨13, _⟩ => ⟨S8192x4096, .f32⟩
  | .hbm, ⟨14, _⟩ => ⟨S2x4096x4096, .f32⟩
  | .hbm, ⟨15, _⟩ => ⟨S2x4096x4096, .f32⟩
  | .hbm, ⟨16, _⟩ => ⟨S2x4096x4096, .f32⟩
  | .hbm, ⟨17, _⟩ => ⟨S2x4096x4096, .f32⟩
  | .hbm, ⟨18, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Kernel10.lean ====
abbrev S8192x4096 : Shape := ⟨2, ![8192, 4096]⟩
abbrev S8704x4096 : Shape := ⟨2, ![8704, 4096]⟩
abbrev S4x128 : Shape := ⟨2, ![4, 128]⟩
abbrev S256 : Shape := ⟨1, ![256]⟩
abbrev S1x256 : Shape := ⟨2, ![1, 256]⟩
abbrev S512x256 : Shape := ⟨2, ![512, 256]⟩
abbrev S4096x256 : Shape := ⟨2, ![4096, 256]⟩
abbrev S256x256 : Shape := ⟨2, ![256, 256]⟩
abbrev S256x4352 : Shape := ⟨2, ![256, 4352]⟩
abbrev S1x128 : Shape := ⟨2, ![1, 128]⟩
abbrev S1 : Shape := ⟨1, ![1]⟩
abbrev S1x1 : Shape := ⟨2, ![1, 1]⟩
abbrev S256x128 : Shape := ⟨2, ![256, 128]⟩
abbrev S512x128 : Shape := ⟨2, ![512, 128]⟩
abbrev S256x512 : Shape := ⟨2, ![256, 512]⟩
abbrev S256x1 : Shape := ⟨2, ![256, 1]⟩

abbrev nBuf : Space → Nat
  | .hbm => 7
  | .vmem => 18
  | .smem => 0
  | _ => 0

abbrev bufTy : (tb : Table) → Fin (tcTables nBuf tb) → BufTy
  | .hbm, ⟨0, _⟩ => ⟨S8192x4096, .f32⟩
  | .hbm, ⟨1, _⟩ => ⟨S8704x4096, .bf16⟩
  | .hbm, ⟨2, _⟩ => ⟨S8704x4096, .bf16⟩
  | .hbm, ⟨3, _⟩ => ⟨S4x128, .f32⟩
  | .hbm, ⟨4, _⟩ => ⟨S256, .f32⟩
  | .hbm, ⟨5, _⟩ => ⟨S1x256, .f32⟩
  | .hbm, ⟨6, _⟩ => ⟨S8192x4096, .bf16⟩
  | .local _ .vmem, ⟨0, _⟩ => ⟨S512x256, .f32⟩
  | .local _ .vmem, ⟨1, _⟩ => ⟨S512x256, .f32⟩
  | .local _ .vmem, ⟨2, _⟩ => ⟨S4096x256, .bf16⟩
  | .local _ .vmem, ⟨3, _⟩ => ⟨S4096x256, .bf16⟩
  | .local _ .vmem, ⟨4, _⟩ => ⟨S256x256, .bf16⟩
  | .local _ .vmem, ⟨5, _⟩ => ⟨S256x256, .bf16⟩
  | .local _ .vmem, ⟨6, _⟩ => ⟨S4096x256, .bf16⟩
  | .local _ .vmem, ⟨7, _⟩ => ⟨S4096x256, .bf16⟩
  | .local _ .vmem, ⟨8, _⟩ => ⟨S256x256, .bf16⟩
  | .local _ .vmem, ⟨9, _⟩ => ⟨S256x256, .bf16⟩
  | .local _ .vmem, ⟨10, _⟩ => ⟨S4x128, .f32⟩
  | .local _ .vmem, ⟨11, _⟩ => ⟨S1x256, .f32⟩
  | .local _ .vmem, ⟨12, _⟩ => ⟨S512x256, .bf16⟩
  | .local _ .vmem, ⟨13, _⟩ => ⟨S512x256, .bf16⟩
  | .local _ .vmem, ⟨14, _⟩ => ⟨S256x4352, .f32⟩
  | .local _ .vmem, ⟨15, _⟩ => ⟨S256x4352, .f32⟩
  | .local _ .vmem, ⟨16, _⟩ => ⟨S256x4352, .f32⟩
  | .local _ .vmem, ⟨17, _⟩ => ⟨S256x4352, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![2, 16, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel10Ideal.lean ====
variable {F : FTy → Type} [FloatOps F] [Named F]
def κ : String → Option EReal := fun
  | "qs" => some (((Real.sqrt 128)⁻¹ * (Real.log 2)⁻¹ : ℝ) : EReal)
  | _ => none
-- ==== Reference10Ideal.lean ====
abbrev S8192x4096 : Shape := ⟨2, ![8192, 4096]⟩
abbrev S8704x4096 : Shape := ⟨2, ![8704, 4096]⟩
abbrev S4x128 : Shape := ⟨2, ![4, 128]⟩
abbrev S256 : Shape := ⟨1, ![256]⟩
abbrev S1x128 : Shape := ⟨2, ![1, 128]⟩
abbrev S128 : Shape := ⟨1, ![128]⟩
abbrev S_ : Shape := ⟨0, ![]⟩
abbrev S2x4096x4096 : Shape := ⟨3, ![2, 4096, 4096]⟩
abbrev S2x4096x16x2x128 : Shape := ⟨5, ![2, 4096, 16, 2, 128]⟩
abbrev S512x4096 : Shape := ⟨2, ![512, 4096]⟩
abbrev S2x256x4096 : Shape := ⟨3, ![2, 256, 4096]⟩
abbrev S2x4352x4096 : Shape := ⟨3, ![2, 4352, 4096]⟩
abbrev S2x4352x16x2x128 : Shape := ⟨5, ![2, 4352, 16, 2, 128]⟩
abbrev S2x4352x16x256 : Shape := ⟨4, ![2, 4352, 16, 256]⟩
abbrev S2x16x2x4096x4352 : Shape := ⟨5, ![2, 16, 2, 4096, 4352]⟩
abbrev S2x16x2x4096 : Shape := ⟨4, ![2, 16, 2, 4096]⟩
abbrev S2x16x2x4096x1 : Shape := ⟨5, ![2, 16, 2, 4096, 1]⟩
abbrev S2x16x1x4096x4352 : Shape := ⟨5, ![2, 16, 1, 4096, 4352]⟩
abbrev S2x16x4096x4352 : Shape := ⟨4, ![2, 16, 4096, 4352]⟩
abbrev S2x16x256x4096 : Shape := ⟨4, ![2, 16, 256, 4096]⟩
abbrev S2x4096x16x256 : Shape := ⟨4, ![2, 4096, 16, 256]⟩
abbrev S2x4096x16 : Shape := ⟨3, ![2, 4096, 16]⟩
abbrev S2x4096x16x1 : Shape := ⟨4, ![2, 4096, 16, 1]⟩
abbrev S1x1x1x256 : Shape := ⟨4, ![1, 1, 1, 256]⟩

abbrev nBuf : Space → Nat
  | .hbm => 89
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8704x4096, .bf16⟩
  | .hbm, ⟨2, _⟩ => ⟨S8704x4096, .bf16⟩
  | .hbm, ⟨3, _⟩ => ⟨S4x128, .f32⟩
  | .hbm, ⟨4, _⟩ => ⟨S256, .f32⟩
  | .hbm, ⟨5, _⟩ => ⟨S8704x4096, .f32⟩
  | .hbm, ⟨6, _⟩ => ⟨S8704x4096, .f32⟩
  | .hbm, ⟨7, _⟩ => ⟨S1x128, .f32⟩
  | .hbm, ⟨8, _⟩ => ⟨S128, .f32⟩
  | .hbm, ⟨9, _⟩ => ⟨S1x128, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x128, .f32⟩
  | .hbm, ⟨16, _⟩ => ⟨S128, .f32⟩
  | .hbm, ⟨17, _⟩ => ⟨S1x128, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S2x4096x4096, .f32⟩
  | .hbm, ⟨27, _⟩ => ⟨S2x4096x16x2x128, .f32⟩
  | .hbm, ⟨28, _⟩ => ⟨S_, .f32⟩
  | .hbm, ⟨29, _⟩ => ⟨S_, .f32⟩
  | .hbm, ⟨30, _⟩ => ⟨S2x4096x16x2x128, .f32⟩
  | .hbm, ⟨31, _⟩ => ⟨S2x4096x16x2x128, .f32⟩
  | .hbm, ⟨32, _⟩ => ⟨S8192x4096, .f32⟩
  | .hbm, ⟨33, _⟩ => ⟨S2x4096x4096, .f32⟩
  | .hbm, ⟨34, _⟩ => ⟨S512x4096, .f32⟩
  | .hbm, ⟨35, _⟩ => ⟨S2x256x4096, .f32⟩
  | .hbm, ⟨36, _⟩ => ⟨S2x4352x4096, .f32⟩
  | .hbm, ⟨37, _⟩ => ⟨S2x4352x16x2x128, .f32⟩
  | .hbm, ⟨38, _⟩ => ⟨S8192x4096, .f32⟩
  | .hbm, ⟨39, _⟩ => ⟨S2x4096x4096, .f32⟩
  | .hbm, ⟨40, _⟩ => ⟨S512x4096, .f32⟩
  | .hbm, ⟨41, _⟩ => ⟨S2x256x4096, .f32⟩
  | .hbm, ⟨42, _⟩ => ⟨S2x4352x4096, .f32⟩
  | .hbm, ⟨43, _⟩ => ⟨S2x4352x16x256, .f32⟩
  | .hbm, ⟨44, _⟩ => ⟨S2x16x2x4096x4352, .f32⟩
  | .hbm, ⟨45, _⟩ => ⟨S_, .f32⟩
  | .hbm, ⟨46, _⟩ => ⟨S2x16x2x4096, .f32⟩
  | .hbm, ⟨47, _⟩ => ⟨S_, .f32⟩
  | .hbm, ⟨48, _⟩ => ⟨S2x16x2x4096, .f32⟩
  | .hbm, ⟨49, _⟩ => ⟨S2x16x2x4096, .f32⟩
  | .hbm, ⟨50, _⟩ => ⟨S2x16x2x4096x1, .f32⟩
  | .hbm, ⟨51, _⟩ => ⟨S2x16x2x4096x4352, .f32⟩
  | .hbm, ⟨52, _⟩ => ⟨S2x16x2x4096x4352, .f32⟩
  | .hbm, ⟨53, _⟩ => ⟨S2x16x2x4096x4352, .f32⟩
  | .hbm, ⟨54, _⟩ => ⟨S_, .f32⟩
  | .hbm, ⟨55, _⟩ => ⟨S2x16x2x4096, .f32⟩
  | .hbm, ⟨56, _⟩ => ⟨S2x16x2x4096x1, .f32⟩
  | .hbm, ⟨57, _⟩ => ⟨S2x16x2x4096x4352, .f32⟩
  | .hbm, ⟨58, _⟩ => ⟨S2x16x2x4096x4352, .f32⟩
  | .hbm, ⟨59, _⟩ => ⟨S2x16x1x4096x4352, .f32⟩
  | .hbm, ⟨60, _⟩ => ⟨S2x16x4096x4352, .f32⟩
  | .hbm, ⟨61, _⟩ => ⟨S2x16x1x4096x4352, .f32⟩
  | .hbm, ⟨62, _⟩ => ⟨S2x16x4096x4352, .f32⟩
  | .hbm, ⟨63, _⟩ => ⟨S2x16x4096x4352, .f32⟩
  | .hbm, ⟨64, _⟩ => ⟨S2x16x4096x4352, .f32⟩
  | .hbm, ⟨65, _⟩ => ⟨S2x16x4096x4352, .f32⟩
  | .hbm, ⟨66, _⟩ => ⟨S2x16x256x4096, .f32⟩
  | .hbm, ⟨67, _⟩ => ⟨S2x4096x16x256, .f32⟩
  | .hbm, ⟨68, _⟩ => ⟨S2x4096x16x256, .f32⟩
  | .hbm, ⟨69, _⟩ => ⟨S_, .f32⟩
  | .hbm, ⟨70, _⟩ => ⟨S2x4096x16, .f32⟩
  | .hbm, ⟨71, _⟩ => ⟨S2x4096x16x1, .f32⟩
  | .hbm, ⟨72, _⟩ => ⟨S_, .f32⟩
  | .hbm, ⟨73, _⟩ => ⟨S2x4096x16x1, .f32⟩
  | .hbm, ⟨74, _⟩ => ⟨S2x4096x16x1, .f32⟩
  | .hbm, ⟨75, _⟩ => ⟨S_, .f32⟩
  | .hbm, ⟨76, _⟩ => ⟨S2x4096x16x1, .f32⟩
  | .hbm, ⟨77, _⟩ => ⟨S2x4096x16x1, .f32⟩
  | .hbm, ⟨78, _⟩ => ⟨S2x4096x16x1, .f32⟩
  | .hbm, ⟨79, _⟩ => ⟨S2x4096x16x256, .f32⟩
  | .hbm, ⟨80, _⟩ => ⟨S2x4096x16x256, .f32⟩
  | .hbm, ⟨81, _⟩ => ⟨S1x1x1x256, .f32⟩
  | .hbm, ⟨82, _⟩ => ⟨S2x4096x16x256, .f32⟩
  | .hbm, ⟨83, _⟩ => ⟨S2x4096x16x256, .f32⟩
  | .hbm, ⟨84, _⟩ => ⟨S_, .f32⟩
  | .hbm, ⟨85, _⟩ => ⟨S2x4096x16x256, .f32⟩
  | .hbm, ⟨86, _⟩ => ⟨S2x4096x16x256, .f32⟩
  | .hbm, ⟨87, _⟩ => ⟨S8192x4096, .f32⟩
  | .hbm, ⟨88, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_v57 : Ref sig .tc := ⟨.hbm, 70, rfl⟩
abbrev main_v58 : Ref sig .tc := ⟨.hbm, 71, rfl⟩
abbrev main_cst_7 : Ref sig .tc := ⟨.hbm, 72, rfl⟩
abbrev main_v59 : Ref sig .tc := ⟨.hbm, 73, rfl⟩
abbrev main_v60 : Ref sig .tc := ⟨.hbm, 74, rfl⟩
abbrev main_cst_8 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩

abbrev nD : Nat := 1
abbrev τ : Topo := Topo.v7x

variable {F : FTy → Type} [FloatOps F]
-- ==== Kernel11.lean ====
abbrev S8704x4096 : Shape := ⟨2, ![8704, 4096]⟩
abbrev S8704x1024 : Shape := ⟨2, ![8704, 1024]⟩
abbrev S8192x4096 : Shape := ⟨2, ![8192, 4096]⟩
abbrev S256x512 : Shape := ⟨2, ![256, 512]⟩
abbrev S4096x128 : Shape := ⟨2, ![4096, 128]⟩
abbrev S256x128 : Shape := ⟨2, ![256, 128]⟩
abbrev S256x4352 : Shape := ⟨2, ![256, 4352]⟩
abbrev S512x128 : Shape := ⟨2, ![512, 128]⟩
abbrev S256x256 : Shape := ⟨2, ![256, 256]⟩
abbrev S256 : Shape := ⟨1, ![256]⟩
abbrev S256x1 : Shape := ⟨2, ![256, 1]⟩

abbrev nBuf : Space → Nat
  | .hbm => 4
  | .vmem => 16
  | .smem => 0
  | _ => 0

abbrev bufTy : (tb : Table) → Fin (tcTables nBuf tb) → BufTy
  | .hbm, ⟨0, _⟩ => ⟨S8704x4096, .f32⟩
  | .hbm, ⟨1, _⟩ => ⟨S8704x1024, .bf16⟩
  | .hbm, ⟨2, _⟩ => ⟨S8704x1024, .bf16⟩
  | .hbm, ⟨3, _⟩ => ⟨S8192x4096, .bf16⟩
  | .local _ .vmem, ⟨0, _⟩ => ⟨S256x512, .f32⟩
  | .local _ .vmem, ⟨1, _⟩ => ⟨S256x512, .f32⟩
  | .local _ .vmem, ⟨2, _⟩ => ⟨S4096x128, .bf16⟩
  | .local _ .vmem, ⟨3, _⟩ => ⟨S4096x128, .bf16⟩
  | .local _ .vmem, ⟨4, _⟩ => ⟨S256x128, .bf16⟩
  | .local _ .vmem, ⟨5, _⟩ => ⟨S256x128, .bf16⟩
  | .local _ .vmem, ⟨6, _⟩ => ⟨S4096x128, .bf16⟩
  | .local _ .vmem, ⟨7, _⟩ => ⟨S4096x128, .bf16⟩
  | .local _ .vmem, ⟨8, _⟩ => ⟨S256x128, .bf16⟩
  | .local _ .vmem, ⟨9, _⟩ => ⟨S256x128, .bf16⟩
  | .local _ .vmem, ⟨10, _⟩ => ⟨S256x512, .bf16⟩
  | .local _ .vmem, ⟨11, _⟩ => ⟨S256x512, .bf16⟩
  | .local _ .vmem, ⟨12, _⟩ => ⟨S256x4352, .f32⟩
  | .local _ .vmem, ⟨13, _⟩ => ⟨S256x4352, .f32⟩
  | .local _ .vmem, ⟨14, _⟩ => ⟨S256x4352, .f32⟩
  | .local _ .vmem, ⟨15, _⟩ => ⟨S256x4352, .f32⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 8, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg2
  let c0_i32_0 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c32_i32 : BitVec 32 := 32#32
  let v0 : BitVec 32 := Scalar.addi c32_i32 arg0
  let c0_i32 : BitVec 32 := 0#32
  ![v0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Kernel11Ideal.lean ====
variable {F : FTy → Type} [FloatOps F] [Named F]
def κ : String → Option EReal := fun
  | "qs" => some (((Real.sqrt 128)⁻¹ * (Real.log 2)⁻¹ : ℝ) : EReal)
  | _ => none
-- ==== Reference11Ideal.lean ====
abbrev S8704x4096 : Shape := ⟨2, ![8704, 4096]⟩
abbrev S8704x1024 : Shape := ⟨2, ![8704, 1024]⟩
abbrev S8192x4096 : Shape := ⟨2, ![8192, 4096]⟩
abbrev S2x4096x4096 : Shape := ⟨3, ![2, 4096, 4096]⟩
abbrev S2x4096x8x4x128 : Shape := ⟨5, ![2, 4096, 8, 4, 128]⟩
abbrev S_ : Shape := ⟨0, ![]⟩
abbrev S8192x1024 : Shape := ⟨2, ![8192, 1024]⟩
abbrev S2x4096x1024 : Shape := ⟨3, ![2, 4096, 1024]⟩
abbrev S512x1024 : Shape := ⟨2, ![512, 1024]⟩
abbrev S2x256x1024 : Shape := ⟨3, ![2, 256, 1024]⟩
abbrev S2x4352x1024 : Shape := ⟨3, ![2, 4352, 1024]⟩
abbrev S2x4352x8x128 : Shape := ⟨4, ![2, 4352, 8, 128]⟩
abbrev S2x8x4352x4096x4 : Shape := ⟨5, ![2, 8, 4352, 4096, 4]⟩
abbrev S2x8x4x4096x4352 : Shape := ⟨5, ![2, 8, 4, 4096, 4352]⟩
abbrev S2x8x4x4096 : Shape := ⟨4, ![2, 8, 4, 4096]⟩
abbrev S2x8x4x4096x1 : Shape := ⟨5, ![2, 8, 4, 4096, 1]⟩
abbrev S2x8x128x4x4096 : Shape := ⟨5, ![2, 8, 128, 4, 4096]⟩

abbrev nBuf : Space → Nat
  | .hbm => 44
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x1024, .bf16⟩
  | .hbm, ⟨2, _⟩ => ⟨S8704x1024, .bf16⟩
  | .hbm, ⟨3, _⟩ => ⟨S8704x1024, .f32⟩
  | .hbm, ⟨4, _⟩ => ⟨S8704x1024, .f32⟩
  | .hbm, ⟨5, _⟩ => ⟨S8192x4096, .f32⟩
  | .hbm, ⟨6, _⟩ => ⟨S2x4096x4096, .f32⟩
  | .hbm, ⟨7, _⟩ => ⟨S2x4096x8x4x128, .f32⟩
  | .hbm, ⟨8, _⟩ => ⟨S_, .f32⟩
  | .hbm, ⟨9, _⟩ => ⟨S_, .f32⟩
  | .hbm, ⟨10, _⟩ => ⟨S2x4096x8x4x128, .f32⟩
  | .hbm, ⟨11, _⟩ => ⟨S2x4096x8x4x128, .f32⟩
  | .hbm, ⟨12, _⟩ => ⟨S8192x1024, .f32⟩
  | .hbm, ⟨13, _⟩ => ⟨S2x4096x1024, .f32⟩
  | .hbm, ⟨14, _⟩ => ⟨S512x1024, .f32⟩
  | .hbm, ⟨15, _⟩ => ⟨S2x256x1024, .f32⟩
  | .hbm, ⟨16, _⟩ => ⟨S2x4352x1024, .f32⟩
  | .hbm, ⟨17, _⟩ => ⟨S2x4352x8x128, .f32⟩
  | .hbm, ⟨18, _⟩ => ⟨S8192x1024, .f32⟩
  | .hbm, ⟨19, _⟩ => ⟨S2x4096x1024, .f32⟩
  | .hbm, ⟨20, _⟩ => ⟨S512x1024, .f32⟩
  | .hbm, ⟨21, _⟩ => ⟨S2x256x1024, .f32⟩
  | .hbm, ⟨22, _⟩ => ⟨S2x4352x1024, .f32⟩
  | .hbm, ⟨23, _⟩ => ⟨S2x4352x8x128, .f32⟩
  | .hbm, ⟨24, _⟩ => ⟨S2x8x4352x4096x4, .f32⟩
  | .hbm, ⟨25, _⟩ => ⟨S2x8x4x4096x4352, .f32⟩
  | .hbm, ⟨26, _⟩ => ⟨S_, .f32⟩
  | .hbm, ⟨27, _⟩ => ⟨S2x8x4x4096, .f32⟩
  | .hbm, ⟨28, _⟩ => ⟨S_, .f32⟩
  | .hbm, ⟨29, _⟩ => ⟨S2x8x4x4096, .f32⟩
  | .hbm, ⟨30, _⟩ => ⟨S2x8x4x4096, .f32⟩
  | .hbm, ⟨31, _⟩ => ⟨S2x8x4x4096x1, .f32⟩
  | .hbm, ⟨32, _⟩ => ⟨S2x8x4x4096x4352, .f32⟩
  | .hbm, ⟨33, _⟩ => ⟨S2x8x4x4096x4352, .f32⟩
  | .hbm, ⟨34, _⟩ => ⟨S2x8x4x4096x4352, .f32⟩
  | .hbm, ⟨35, _⟩ => ⟨S_, .f32⟩
  | .hbm, ⟨36, _⟩ => ⟨S2x8x4x4096, .f32⟩
  | .hbm, ⟨37, _⟩ => ⟨S2x8x4x4096x1, .f32⟩
  | .hbm, ⟨38, _⟩ => ⟨S2x8x4x4096x4352, .f32⟩
  | .hbm, ⟨39, _⟩ => ⟨S2x8x4x4096x4352, .f32⟩
  | .hbm, ⟨40, _⟩ => ⟨S2x8x128x4x4096, .f32⟩
  | .hbm, ⟨41, _⟩ => ⟨S2x4096x8x4x128, .f32⟩
  | .hbm, ⟨42, _⟩ => ⟨S8192x4096, .f32⟩
  | .hbm, ⟨43, _⟩ => ⟨S8192x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_v22 : Ref sig .tc := ⟨.hbm, 27, rfl⟩
abbrev main_cst_1 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]
-- ==== Proof.Chain.lean ====
module

public import Idealize.ShloMosaic.Lib.Pointwise
public import Idealize.ShloMosaic.PureOps.Ideal.Laws
public import Idealize.ShloMosaic.Lib.MatmulPlain

/-! One softmax chain of the attention kernel, as functions of the vectors it loads, and what each is over the reals. -/

@[expose] public section

set_option maxRecDepth 16384

noncomputable section

namespace Cert.Chain

open Idealize.ShloMosaic

/-- A rank-2 shape. -/
abbrev T (a b : ℕ) : Shape := ⟨2, ![a, b]⟩
/-- A rank-1 shape. -/
abbrev T1 (a : ℕ) : Shape := ⟨1, ![a]⟩

section Vocabulary
variable {F : FTy → Type} [FloatOps F]

/-- The scores of 256 query rows against 512 keys. -/
def SC (q : FVec F (T 256 128) .bf16) (k : FVec F (T 512 128) .bf16) : FVec F (T 256 512) .f32 :=
  matmul (DotDims.transposedRhs 256 128 512) none q k (constant (T 256 512) .f32 0x00000000#32)

/-- The scores of 256 query rows against 256 keys. -/
def SCc (q : FVec F (T 256 128) .bf16) (k : FVec F (T 256 128) .bf16) : FVec F (T 256 256) .f32 :=
  matmul (DotDims.transposedRhs 256 128 256) none q k (constant (T 256 256) .f32 0x00000000#32)

/-- The four lane groups of a 512-wide chunk. -/
def S0 (s : FVec F (T 256 512) .f32) : FVec F (T 256 128) .f32 := extractStridedSlice (T 256 128) ![0, 0] s (by decide)
/-- Lanes 128 to 255. -/
def S1 (s : FVec F (T 256 512) .f32) : FVec F (T 256 128) .f32 := extractStridedSlice (T 256 128) ![0, 128] s (by decide)
/-- Lanes 256 to 383. -/
def S2 (s : FVec F (T 256 512) .f32) : FVec F (T 256 128) .f32 := extractStridedSlice (T 256 128) ![0, 256] s (by decide)
/-- Lanes 384 to 511. -/
def S3 (s : FVec F (T 256 512) .f32) : FVec F (T 256 128) .f32 := extractStridedSlice (T 256 128) ![0, 384] s (by decide)
/-- Lanes 0 to 127 of a 256-wide chunk. -/
def C0 (s : FVec F (T 256 256) .f32) : FVec F (T 256 128) .f32 := extractStridedSlice (T 256 128) ![0, 0] s (by decide)
/-- Lanes 128 to 255 of a 256-wide chunk. -/
def C1 (s : FVec F (T 256 256) .f32) : FVec F (T 256 128) .f32 := extractStridedSlice (T 256 128) ![0, 128] s (by decide)

/-- A 512-wide chunk folded into a running maximum, lane by lane. -/
def FM (a : FVec F (T 256 128) .f32) (s : FVec F (T 256 512) .f32) : FVec F (T 256 128) .f32 :=
  maximumf (maximumf (maximumf (maximumf a (S0 s)) (S1 s)) (S2 s)) (S3 s)
/-- The first chunk's own maximum, lane by lane. -/
def FM0 (s : FVec F (T 256 512) .f32) : FVec F (T 256 128) .f32 :=
  maximumf (maximumf (maximumf (S0 s) (S1 s)) (S2 s)) (S3 s)
/-- The 256-wide last chunk folded in. -/
def FMc (a : FVec F (T 256 128) .f32) (s : FVec F (T 256 256) .f32) : FVec F (T 256 128) .f32 :=
  maximumf (maximumf a (C0 s)) (C1 s)
/-- The maximum over lanes, as a column. -/
def MXL (a : FVec F (T 256 128) .f32) : FVec F (T 256 1) .f32 :=
  shapeCast (T 256 1) (multiReduction .maximumf [1] (T1 256) a 0xFF800000#32 (by decide) (.inl rfl) rfl) (by decide)
/-- The row maximum of the nine score chunks. -/
def MX (s0 s1 s2 s3 s4 s5 s6 s7 : FVec F (T 256 512) .f32) (s8 : FVec F (T 256 256) .f32) : FVec F (T 256 1) .f32 :=
  MXL (FMc (FM (FM (FM (FM (FM (FM (FM (FM0 s0) s1) s2) s3) s4) s5) s6) s7) s8)

/-- The powers of two of a chunk's shifted scores. -/
def E (m : FVec F (T 256 1) .f32) (s : FVec F (T 256 512) .f32) : FVec F (T 256 512) .f32 :=
  exp2 (subf s (broadcastTo (T 256 512) m (by decide)))
/-- The same for the last chunk. -/
def Ec (m : FVec F (T 256 1) .f32) (s : FVec F (T 256 256) .f32) : FVec F (T 256 256) .f32 :=
  exp2 (subf s (broadcastTo (T 256 256) m (by decide)))
/-- A 512-wide chunk folded into a running sum, lane by lane. -/
def FA (a : FVec F (T 256 128) .f32) (s : FVec F (T 256 512) .f32) : FVec F (T 256 128) .f32 :=
  addf (addf (addf (addf a (S0 s)) (S1 s)) (S2 s)) (S3 s)
/-- The first chunk's own sum, lane by lane. -/
def FA0 (s : FVec F (T 256 512) .f32) : FVec F (T 256 128) .f32 :=
  addf (addf (addf (S0 s) (S1 s)) (S2 s)) (S3 s)
/-- The last chunk folded in. -/
def FAc (a : FVec F (T 256 128) .f32) (s : FVec F (T 256 256) .f32) : FVec F (T 256 128) .f32 :=
  addf (addf a (C0 s)) (C1 s)
/-- The lane sums of the nine chunks' powers. -/
def LS (e0 e1 e2 e3 e4 e5 e6 e7 : FVec F (T 256 512) .f32) (e8 : FVec F (T 256 256) .f32) : FVec F (T 256 128) .f32 :=
  FAc (FA (FA (FA (FA (FA (FA (FA (FA0 e0) e1) e2) e3) e4) e5) e6) e7) e8
/-- One over the row sum, as a column. -/
def RCP (l : FVec F (T 256 128) .f32) : FVec F (T 256 1) .f32 :=
  divf (broadcast (T 256 1) (Scalar.ofBits .f32 0x3F800000#32))
    (shapeCast (T 256 1) (multiReduction .add [1] (T1 256) l 0x00000000#32 (by decide) (.inl rfl) rfl) (by decide))

/-- The powers of a chunk against its values. -/
def PV {N : ℕ} (e : FVec F (T 256 512) .f32) (v : FVec F (T 512 N) .bf16) : FVec F (T 256 N) .f32 :=
  matmul (DotDims.plain 256 512 N) none (truncf .bf16 e (by decide)) v (constant (T 256 N) .f32 0x00000000#32)
/-- The same for the last chunk. -/
def PVc {N : ℕ} (e : FVec F (T 256 256) .f32) (v : FVec F (T 256 N) .bf16) : FVec F (T 256 N) .f32 :=
  matmul (DotDims.plain 256 256 N) none (truncf .bf16 e (by decide)) v (constant (T 256 N) .f32 0x00000000#32)
/-- The sum over the nine chunks of the powers against the values. -/
def AC {N : ℕ} (e0 e1 e2 e3 e4 e5 e6 e7 : FVec F (T 256 512) .f32) (e8 : FVec F (T 256 256) .f32)
    (v0 v1 v2 v3 v4 v5 v6 v7 : FVec F (T 512 N) .bf16) (v8 : FVec F (T 256 N) .bf16) : FVec F (T 256 N) .f32 :=
  addf (addf (addf (addf (addf (addf (addf (addf (PV e0 v0) (PV e1 v1)) (PV e2 v2)) (PV e3 v3)) (PV e4 v4)) (PV e5 v5)) (PV e6 v6)) (PV e7 v7)) (PVc e8 v8)
/-- The chain's output from its powers: the weighted sum of the values over the sum of the weights. -/
def OUTE {N : ℕ} (h : (T 256 1).Broadcasts (T 256 N)) (e0 e1 e2 e3 e4 e5 e6 e7 : FVec F (T 256 512) .f32) (e8 : FVec F (T 256 256) .f32)
    (v0 v1 v2 v3 v4 v5 v6 v7 : FVec F (T 512 N) .bf16) (v8 : FVec F (T 256 N) .bf16) : FVec F (T 256 N) .f32 :=
  mulf (AC e0 e1 e2 e3 e4 e5 e6 e7 e8 v0 v1 v2 v3 v4 v5 v6 v7 v8)
    (broadcastTo (T 256 N) (RCP (LS e0 e1 e2 e3 e4 e5 e6 e7 e8)) h)
/-- The chain's output from its scores and their row maximum. -/
def OUT {N : ℕ} (h : (T 256 1).Broadcasts (T 256 N)) (m : FVec F (T 256 1) .f32) (s0 s1 s2 s3 s4 s5 s6 s7 : FVec F (T 256 512) .f32) (s8 : FVec F (T 256 256) .f32)
    (v0 v1 v2 v3 v4 v5 v6 v7 : FVec F (T 512 N) .bf16) (v8 : FVec F (T 256 N) .bf16) : FVec F (T 256 N) .f32 :=
  OUTE h (E m s0) (E m s1) (E m s2) (E m s3) (E m s4) (E m s5) (E m s6) (E m s7) (Ec m s8) v0 v1 v2 v3 v4 v5 v6 v7 v8

end Vocabulary

/-! ## Over the reals -/

/-- Every element is a real number. -/
def IsR {s : Shape} (v : s.Idx → EReal) : Prop := ∀ i, ∃ x : ℝ, v i = (x : EReal)

theorem isR_max {s : Shape} {a b : FVec Ideal s .f32} (ha : IsR a) (hb : IsR b) : IsR (maximumf a b) := by
  intro i
  obtain ⟨x, hx⟩ := ha i
  obtain ⟨y, hy⟩ := hb i
  refine ⟨Max.max x y, ?_⟩
  pointwise
  rw [hx, hy]
  exact (EReal.coe_strictMono.monotone.map_max).symm

theorem isR_FM {a : FVec Ideal (T 256 128) .f32} {s : FVec Ideal (T 256 512) .f32} (ha : IsR a) (hs : IsR s) : IsR (FM a s) :=
  isR_max (isR_max (isR_max (isR_max ha fun _ => hs _) fun _ => hs _) fun _ => hs _) fun _ => hs _

theorem isR_FM0 {s : FVec Ideal (T 256 512) .f32} (hs : IsR s) : IsR (FM0 s) :=
  isR_max (isR_max (isR_max (fun _ => hs _) fun _ => hs _) fun _ => hs _) fun _ => hs _

theorem isR_FMc {a : FVec Ideal (T 256 128) .f32} {s : FVec Ideal (T 256 256) .f32} (ha : IsR a) (hs : IsR s) : IsR (FMc a s) :=
  isR_max (isR_max ha fun _ => hs _) fun _ => hs _

/-- The maximum from minus infinity over a nonempty finite set of real numbers is a real number. -/
theorem fold_max_real {ι : Type*} [DecidableEq ι] (S : Finset ι) (f : ι → EReal) (hf : ∀ i ∈ S, ∃ x : ℝ, f i = (x : EReal)) (hS : S.Nonempty) :
    ∃ x : ℝ, S.fold max (⊥ : EReal) f = (x : EReal) := by
  induction hS using Finset.Nonempty.cons_induction with
  | singleton a =>
    obtain ⟨x, hx⟩ := hf a (by simp)
    exact ⟨x, by simp [hx]⟩
  | cons a s h hs ih =>
    obtain ⟨x, hx⟩ := hf a (by simp)
    obtain ⟨y, hy⟩ := ih fun i hi => hf i (by simp [hi])
    refine ⟨max x y, ?_⟩
    rw [Finset.fold_cons, hx, hy]
    exact (EReal.coe_strictMono.monotone.map_max).symm

theorem isR_MXL {a : FVec Ideal (T 256 128) .f32} (ha : IsR a) : IsR (MXL a) := by
  intro i
  have h := fun j => Ideal.multiReduction_maximumf_single (s := T 256 128) (t := T1 256) (a := 1) a 0xFF800000#32 (by decide) (.inl rfl) rfl j
  unfold MXL
  show ∃ x : ℝ, multiReduction .maximumf [1] (T1 256) a 0xFF800000#32 _ (.inl rfl) rfl _ = (x : EReal)
  rw [h]
  have hb : (FloatOps.ofBits (F := Ideal) .f32 0xFF800000#32 : EReal) = ⊥ := by
    show Ideal.ofBits .f32 0xFF800000#32 = ⊥
    simp [Ideal.ofBits, Ideal.ieee]
  have hb' : (FloatOps.ofBits (F := Ideal) .f32 0xFF800000#32) = (⊥ : EReal) := hb
  rw [hb']
  exact fold_max_real _ _ (fun k _ => ha _) ⟨⟨0, by decide⟩, Finset.mem_univ _⟩

/-- The row maximum of real scores is real. -/
theorem isR_MX {s0 s1 s2 s3 s4 s5 s6 s7 : FVec Ideal (T 256 512) .f32} {s8 : FVec Ideal (T 256 256) .f32} (h0 : IsR s0) (h1 : IsR s1) (h2 : IsR s2)
    (h3 : IsR s3) (h4 : IsR s4) (h5 : IsR s5) (h6 : IsR s6) (h7 : IsR s7) (h8 : IsR s8) : IsR (MX s0 s1 s2 s3 s4 s5 s6 s7 s8) :=
  isR_MXL (isR_FMc (isR_FM (isR_FM (isR_FM (isR_FM (isR_FM (isR_FM (isR_FM (isR_FM0 h0) h1) h2) h3) h4) h5) h6) h7) h8)

/-- A chunk of 256 rows agrees with the real table `f` from column `o` on. -/
def At {n : ℕ} (v : (T 256 n).Idx → EReal) (f : ℕ → ℕ → ℝ) (o : ℕ) : Prop :=
  ∀ i : (T 256 n).Idx, v i = ((f (i 0).val (o + (i 1).val) : ℝ) : EReal)

theorem At.isR {n : ℕ} {v : (T 256 n).Idx → EReal} {f : ℕ → ℕ → ℝ} {o : ℕ} (h : At v f o) : IsR v := fun i => ⟨_, h i⟩

/-- The powers of a chunk of real scores. -/
theorem E_at {m : FVec Ideal (T 256 1) .f32} {s : FVec Ideal (T 256 512) .f32} {S : ℕ → ℕ → ℝ} {M : ℕ → ℝ} {o : ℕ}
    (hm : ∀ i : (T 256 1).Idx, m i = ((M (i 0).val : ℝ) : EReal)) (hs : At s S o) :
    At (E m s) (fun r j => Real.rpow 2 (S r j - M r)) o := by
  intro i
  show Ideal.exp2 (s i - m _) = _
  rw [hs i, hm, ← EReal.coe_sub, Ideal.exp2_coe]
  rfl

theorem Ec_at {m : FVec Ideal (T 256 1) .f32} {s : FVec Ideal (T 256 256) .f32} {S : ℕ → ℕ → ℝ} {M : ℕ → ℝ} {o : ℕ}
    (hm : ∀ i : (T 256 1).Idx, m i = ((M (i 0).val : ℝ) : EReal)) (hs : At s S o) :
    At (Ec m s) (fun r j => Real.rpow 2 (S r j - M r)) o := by
  intro i
  show Ideal.exp2 (s i - m _) = _
  rw [hs i, hm, ← EReal.coe_sub, Ideal.exp2_coe]
  rfl

/-- Lane sums: the running sum of lane `l` after `n` groups of 128 columns. -/
def lsum (f : ℕ → ℕ → ℝ) (n : ℕ) : ℕ → ℕ → ℝ := fun r l => ∑ i ∈ Finset.range n, f r (128 * i + l)

theorem lsum_succ (f : ℕ → ℕ → ℝ) (n r l : ℕ) : lsum f (n + 1) r l = lsum f n r l + f r (128 * n + l) := Finset.sum_range_succ _ _

theorem S_at {n k : ℕ} {e : (T 256 n).Idx → EReal} {f : ℕ → ℕ → ℝ} {o : ℕ} (he : At e f o) (h) (i : (T 256 128).Idx) :
    extractStridedSlice (T 256 128) ![0, k] e h i = ((f (i 0).val (o + k + (i 1).val) : ℝ) : EReal) := by
  refine (he _).trans ?_
  show ((f (0 + (i 0).val) (o + (k + (i 1).val)) : ℝ) : EReal) = _
  rw [zero_add, add_assoc]

theorem FA_at {a : FVec Ideal (T 256 128) .f32} {e : FVec Ideal (T 256 512) .f32} {f : ℕ → ℕ → ℝ} (n : ℕ)
    (ha : At a (lsum f (4 * n)) 0) (he : At e f (512 * n)) : At (FA a e) (lsum f (4 * (n + 1))) 0 := by
  intro i
  show a i + S0 e i + S1 e i + S2 e i + S3 e i = _
  rw [ha i, show S0 e i = _ from S_at he _ i, show S1 e i = _ from S_at he _ i, show S2 e i = _ from S_at he _ i, show S3 e i = _ from S_at he _ i]
  simp only [← EReal.coe_add, zero_add]
  rw [show 4 * (n + 1) = 4 * n + 1 + 1 + 1 + 1 by ring, lsum_succ, lsum_succ, lsum_succ, lsum_succ]
  rw [show 512 * n + 0 + (i 1).val = 128 * (4 * n) + (i 1).val by ring, show 512 * n + 128 + (i 1).val = 128 * (4 * n + 1) + (i 1).val by ring,
    show 512 * n + 256 + (i 1).val = 128 * (4 * n + 1 + 1) + (i 1).val by ring, show 512 * n + 384 + (i 1).val = 128 * (4 * n + 1 + 1 + 1) + (i 1).val by ring]

theorem FA0_at {e : FVec Ideal (T 256 512) .f32} {f : ℕ → ℕ → ℝ} (he : At e f 0) : At (FA0 e) (lsum f 4) 0 := by
  intro i
  show S0 e i + S1 e i + S2 e i + S3 e i = _
  rw [show S0 e i = _ from S_at he _ i, show S1 e i = _ from S_at he _ i, show S2 e i = _ from S_at he _ i, show S3 e i = _ from S_at he _ i]
  simp only [← EReal.coe_add, zero_add]
  rw [lsum_succ, lsum_succ, lsum_succ, lsum_succ]
  simp [lsum]

theorem FAc_at {a : FVec Ideal (T 256 128) .f32} {e : FVec Ideal (T 256 256) .f32} {f : ℕ → ℕ → ℝ}
    (ha : At a (lsum f 32) 0) (he : At e f 4096) : At (FAc a e) (lsum f 34) 0 := by
  intro i
  show a i + C0 e i + C1 e i = _
  rw [ha i, show C0 e i = _ from S_at he _ i, show C1 e i = _ from S_at he _ i]
  simp only [← EReal.coe_add, zero_add]
  rw [show (34 : ℕ) = 32 + 1 + 1 from rfl, lsum_succ f (32 + 1), lsum_succ f 32]

/-- The nine chunks' powers, each the real table `f` at its place. -/
structure Chunks (e0 e1 e2 e3 e4 e5 e6 e7 : (T 256 512).Idx → EReal) (e8 : (T 256 256).Idx → EReal) (f : ℕ → ℕ → ℝ) : Prop where
  h0 : At e0 f 0
  h1 : At e1 f 512
  h2 : At e2 f 1024
  h3 : At e3 f 1536
  h4 : At e4 f 2048
  h5 : At e5 f 2560
  h6 : At e6 f 3072
  h7 : At e7 f 3584
  h8 : At e8 f 4096

theorem LS_at {e0 e1 e2 e3 e4 e5 e6 e7 : FVec Ideal (T 256 512) .f32} {e8 : FVec Ideal (T 256 256) .f32} {f : ℕ → ℕ → ℝ}
    (h : Chunks e0 e1 e2 e3 e4 e5 e6 e7 e8 f) : At (LS e0 e1 e2 e3 e4 e5 e6 e7 e8) (lsum f 34) 0 :=
  FAc_at (FA_at 7 (FA_at 6 (FA_at 5 (FA_at 4 (FA_at 3 (FA_at 2 (FA_at 1 (FA0_at h.h0) h.h1) h.h2) h.h3) h.h4) h.h5) h.h6) h.h7) h.h8

/-- The lane sums add up to the sum over all columns. -/
theorem sum_lsum (f : ℕ → ℕ → ℝ) (n r : ℕ) : ∑ l ∈ Finset.range 128, lsum f n r l = ∑ j ∈ Finset.range (128 * n), f r j := by
  induction n with
  | zero => simp [lsum]
  | succ n ih =>
    simp only [lsum_succ]
    rw [Finset.sum_add_distrib, ih, show 128 * (n + 1) = 128 * n + 128 by ring, Finset.sum_range_add]

/-- A sum of real numbers, as extended reals. -/
theorem coe_sum {ι : Type*} (S : Finset ι) (f : ι → ℝ) : ∑ i ∈ S, (f i : EReal) = ((∑ i ∈ S, f i : ℝ) : EReal) := by
  classical
  induction S using Finset.induction_on with
  | empty => simp
  | insert a s h ih => rw [Finset.sum_insert h, Finset.sum_insert h, ih, EReal.coe_add]

/-- One over a positive row sum. -/
theorem RCP_at {l : FVec Ideal (T 256 128) .f32} {f : ℕ → ℕ → ℝ} (hl : At l (lsum f 34) 0) (hp : ∀ r, ∑ j ∈ Finset.range 4352, f r j ≠ 0)
    (i : (T 256 1).Idx) : RCP l i = (((∑ j ∈ Finset.range 4352, f (i 0).val j)⁻¹ : ℝ) : EReal) := by
  have h := fun j => Ideal.multiReduction_add_single (s := T 256 128) (t := T1 256) (a := 1) l 0x00000000#32 (by decide) (.inl rfl) rfl j
  idx_vars i
  unfold RCP
  have e1 : (broadcast (T 256 1) (Scalar.ofBits .f32 0x3F800000#32) : FVec Ideal (T 256 1) .f32) (ix2 i0 i1) = ((1 : ℝ) : EReal) := by
    pointwise
    simp
  have e2 : shapeCast (T 256 1) (multiReduction .add [1] (T1 256) l 0x00000000#32 (by decide) (.inl rfl) rfl) (by decide) (ix2 i0 i1)
      = ((∑ j ∈ Finset.range 4352, f i0.val j : ℝ) : EReal) := by
    pointwise
    rw [show (4352 : ℕ) = 128 * 34 by norm_num, ← sum_lsum, Finset.sum_range, ← coe_sum]
    refine Finset.sum_congr rfl fun k _ => ?_
    rw [hl (ix2 i0 k)]
    show ((lsum f 34 i0.val (0 + k.val) : ℝ) : EReal) = _
    rw [zero_add]
  show Ideal.div _ _ = _
  rw [e1, e2, Ideal.div_coe (hp _), ← EReal.coe_mul, one_mul, one_div]

/-- A plain product of real matrices at an index. -/
theorem mm_plain {M K N : ℕ} {φ₁ φ₂ : FTy} (prec) (l : FVec Ideal (T M K) φ₁) (r : FVec Ideal (T K N) φ₂) (i : (T M N).Idx) (a b : ℕ → ℝ)
    (hl : ∀ x : Fin K, l (ValueIdx.ix2 (i 0) x) = (a x.val : EReal)) (hr : ∀ x : Fin K, r (ValueIdx.ix2 x (i 1)) = (b x.val : EReal)) :
    matmul (DotDims.plain M K N) prec l r (constant (T M N) .f32 0x00000000#32) i = ((∑ x ∈ Finset.range K, a x * b x : ℝ) : EReal) := by
  obtain ⟨p, c, rfl⟩ : ∃ p c, i = ValueIdx.ix2 p c := ⟨i 0, i 1, ValueIdx.eq_ix2 i⟩
  refine (Ideal.matmul_plain_apply prec l r _ p c).trans ?_
  have e0 : (constant (T M N) .f32 0x00000000#32 : FVec Ideal (T M N) .f32) (ValueIdx.ix2 p c) = 0 := Ideal.ofBits_zero_f32
  rw [e0, zero_add, Finset.sum_range, ← coe_sum]
  refine Finset.sum_congr rfl fun x _ => ?_
  rw [EReal.coe_mul, ← hl x, ← hr x]
  rfl

/-- A product with the second matrix transposed, of real matrices, at an index. -/
theorem mm_trans {M K N : ℕ} {φ₁ φ₂ : FTy} (prec) (l : FVec Ideal (T M K) φ₁) (r : FVec Ideal (T N K) φ₂) (i : (T M N).Idx) (a b : ℕ → ℝ)
    (hl : ∀ x : Fin K, l (ValueIdx.ix2 (i 0) x) = (a x.val : EReal)) (hr : ∀ x : Fin K, r (ValueIdx.ix2 (i 1) x) = (b x.val : EReal)) :
    matmul (DotDims.transposedRhs M K N) prec l r (constant (T M N) .f32 0x00000000#32) i = ((∑ x ∈ Finset.range K, a x * b x : ℝ) : EReal) := by
  obtain ⟨p, c, rfl⟩ : ∃ p c, i = ValueIdx.ix2 p c := ⟨i 0, i 1, ValueIdx.eq_ix2 i⟩
  refine (Ideal.matmul_transposedRhs_apply prec l r _ p c).trans ?_
  have e0 : (constant (T M N) .f32 0x00000000#32 : FVec Ideal (T M N) .f32) (ValueIdx.ix2 p c) = 0 := Ideal.ofBits_zero_f32
  rw [e0, zero_add, Finset.sum_range, ← coe_sum]
  refine Finset.sum_congr rfl fun x _ => ?_
  rw [EReal.coe_mul, ← hl x, ← hr x]
  rfl

/-- A block of values agrees with the real table `V` from row `o` on. -/
def Dn {n N : ℕ} (v : (T n N).Idx → EReal) (V : ℕ → ℕ → ℝ) (o : ℕ) : Prop :=
  ∀ i : (T n N).Idx, v i = ((V (o + (i 0).val) (i 1).val : ℝ) : EReal)

theorem PV_at {N : ℕ} {e : FVec Ideal (T 256 512) .f32} {v : FVec Ideal (T 512 N) .bf16} {f : ℕ → ℕ → ℝ} {V : ℕ → ℕ → ℝ} {o : ℕ} (he : At e f o)
    (hv : Dn v V o) (i : (T 256 N).Idx) :
    PV e v i = ((∑ x ∈ Finset.range 512, f (i 0).val (o + x) * V (o + x) (i 1).val : ℝ) : EReal) :=
  mm_plain none _ v i (fun x => f (i 0).val (o + x)) (fun x => V (o + x) (i 1).val) (fun x => he _) (fun x => hv _)

theorem PVc_at {N : ℕ} {e : FVec Ideal (T 256 256) .f32} {v : FVec Ideal (T 256 N) .bf16} {f : ℕ → ℕ → ℝ} {V : ℕ → ℕ → ℝ} {o : ℕ} (he : At e f o)
    (hv : Dn v V o) (i : (T 256 N).Idx) :
    PVc e v i = ((∑ x ∈ Finset.range 256, f (i 0).val (o + x) * V (o + x) (i 1).val : ℝ) : EReal) :=
  mm_plain none _ v i (fun x => f (i 0).val (o + x)) (fun x => V (o + x) (i 1).val) (fun x => he _) (fun x => hv _)

/-- The scores of real queries and keys. -/
theorem SC_at {q : FVec Ideal (T 256 128) .bf16} {k : FVec Ideal (T 512 128) .bf16} {Q K : ℕ → ℕ → ℝ} {o : ℕ} (hq : At q Q 0) (hk : Dn k K o) :
    At (SC q k) (fun r j => ∑ d ∈ Finset.range 128, Q r d * K j d) o := by
  intro i
  refine mm_trans none q k i (fun x => Q (i 0).val x) (fun x => K (o + (i 1).val) x) (fun x => ?_) (fun x => hk _)
  refine (hq _).trans ?_
  show ((Q (i 0).val (0 + x.val) : ℝ) : EReal) = _
  rw [zero_add]

theorem SCc_at {q : FVec Ideal (T 256 128) .bf16} {k : FVec Ideal (T 256 128) .bf16} {Q K : ℕ → ℕ → ℝ} {o : ℕ} (hq : At q Q 0) (hk : Dn k K o) :
    At (SCc q k) (fun r j => ∑ d ∈ Finset.range 128, Q r d * K j d) o := by
  intro i
  refine mm_trans none q k i (fun x => Q (i 0).val x) (fun x => K (o + (i 1).val) x) (fun x => ?_) (fun x => hk _)
  refine (hq _).trans ?_
  show ((Q (i 0).val (0 + x.val) : ℝ) : EReal) = _
  rw [zero_add]

/-- The nine blocks of values, each the real table `V` at its place. -/
structure Vals {N : ℕ} (v0 v1 v2 v3 v4 v5 v6 v7 : (T 512 N).Idx → EReal) (v8 : (T 256 N).Idx → EReal) (V : ℕ → ℕ → ℝ) : Prop where
  h0 : Dn v0 V 0
  h1 : Dn v1 V 512
  h2 : Dn v2 V 1024
  h3 : Dn v3 V 1536
  h4 : Dn v4 V 2048
  h5 : Dn v5 V 2560
  h6 : Dn v6 V 3072
  h7 : Dn v7 V 3584
  h8 : Dn v8 V 4096

/-- A sum over 4352 places, chunk by chunk. -/
theorem sum_chunks (g : ℕ → ℝ) : ∑ j ∈ Finset.range 4352, g j = ∑ x ∈ Finset.range 512, g (0 + x) + ∑ x ∈ Finset.range 512, g (512 + x)
    + ∑ x ∈ Finset.range 512, g (1024 + x) + ∑ x ∈ Finset.range 512, g (1536 + x) + ∑ x ∈ Finset.range 512, g (2048 + x)
    + ∑ x ∈ Finset.range 512, g (2560 + x) + ∑ x ∈ Finset.range 512, g (3072 + x) + ∑ x ∈ Finset.range 512, g (3584 + x)
    + ∑ x ∈ Finset.range 256, g (4096 + x) := by
  rw [(Finset.sum_range_add g 4096 256 : ∑ j ∈ Finset.range 4352, g j = _), (Finset.sum_range_add g 3584 512 : ∑ j ∈ Finset.range 4096, g j = _),
    (Finset.sum_range_add g 3072 512 : ∑ j ∈ Finset.range 3584, g j = _), (Finset.sum_range_add g 2560 512 : ∑ j ∈ Finset.range 3072, g j = _),
    (Finset.sum_range_add g 2048 512 : ∑ j ∈ Finset.range 2560, g j = _), (Finset.sum_range_add g 1536 512 : ∑ j ∈ Finset.range 2048, g j = _),
    (Finset.sum_range_add g 1024 512 : ∑ j ∈ Finset.range 1536, g j = _), (Finset.sum_range_add g 512 512 : ∑ j ∈ Finset.range 1024, g j = _)]
  simp only [zero_add]

theorem AC_at {N : ℕ} {e0 e1 e2 e3 e4 e5 e6 e7 : FVec Ideal (T 256 512) .f32} {e8 : FVec Ideal (T 256 256) .f32} {f : ℕ → ℕ → ℝ}
    (h : Chunks e0 e1 e2 e3 e4 e5 e6 e7 e8 f) {v0 v1 v2 v3 v4 v5 v6 v7 : FVec Ideal (T 512 N) .bf16} {v8 : FVec Ideal (T 256 N) .bf16} {V : ℕ → ℕ → ℝ}
    (hv : Vals v0 v1 v2 v3 v4 v5 v6 v7 v8 V) (i : (T 256 N).Idx) :
    AC e0 e1 e2 e3 e4 e5 e6 e7 e8 v0 v1 v2 v3 v4 v5 v6 v7 v8 i = ((∑ j ∈ Finset.range 4352, f (i 0).val j * V j (i 1).val : ℝ) : EReal) := by
  rw [sum_chunks fun j => f (i 0).val j * V j (i 1).val]
  show PV e0 v0 i + PV e1 v1 i + PV e2 v2 i + PV e3 v3 i + PV e4 v4 i + PV e5 v5 i + PV e6 v6 i + PV e7 v7 i + PVc e8 v8 i = _
  rw [PV_at h.h0 hv.h0, PV_at h.h1 hv.h1, PV_at h.h2 hv.h2, PV_at h.h3 hv.h3, PV_at h.h4 hv.h4, PV_at h.h5 hv.h5, PV_at h.h6 hv.h6, PV_at h.h7 hv.h7,
    PVc_at h.h8 hv.h8]
  simp only [← EReal.coe_add]

/-- A column of real numbers, as a function of the row. -/
theorem col_of_isR {m : FVec Ideal (T 256 1) .f32} (hm : IsR m) : ∃ M : ℕ → ℝ, ∀ i : (T 256 1).Idx, m i = ((M (i 0).val : ℝ) : EReal) := by
  refine ⟨fun r => if hr : r < 256 then (m (ValueIdx.ix2 ⟨r, hr⟩ 0)).toReal else 0, fun i => ?_⟩
  obtain ⟨r, c, rfl⟩ : ∃ r c, i = ValueIdx.ix2 r c := ⟨i 0, i 1, ValueIdx.eq_ix2 i⟩
  obtain ⟨x, hx⟩ := hm (ValueIdx.ix2 r 0)
  have hc : c = 0 := Subsingleton.elim c 0
  subst hc
  show m _ = ((if hr : r.val < 256 then (m (ValueIdx.ix2 ⟨r.val, hr⟩ 0)).toReal else 0 : ℝ) : EReal)
  rw [dif_pos r.isLt, show (⟨r.val, r.isLt⟩ : Fin 256) = r from rfl, hx, EReal.toReal_coe]

theorem OUTE_at {N : ℕ} (hb : (T 256 1).Broadcasts (T 256 N)) {e0 e1 e2 e3 e4 e5 e6 e7 : FVec Ideal (T 256 512) .f32} {e8 : FVec Ideal (T 256 256) .f32}
    {f : ℕ → ℕ → ℝ} (h : Chunks e0 e1 e2 e3 e4 e5 e6 e7 e8 f) (hp : ∀ r, ∑ j ∈ Finset.range 4352, f r j ≠ 0)
    {v0 v1 v2 v3 v4 v5 v6 v7 : FVec Ideal (T 512 N) .bf16} {v8 : FVec Ideal (T 256 N) .bf16} {V : ℕ → ℕ → ℝ}
    (hv : Vals v0 v1 v2 v3 v4 v5 v6 v7 v8 V) (i : (T 256 N).Idx) :
    OUTE hb e0 e1 e2 e3 e4 e5 e6 e7 e8 v0 v1 v2 v3 v4 v5 v6 v7 v8 i
      = (((∑ j ∈ Finset.range 4352, f (i 0).val j * V j (i 1).val) * (∑ j ∈ Finset.range 4352, f (i 0).val j)⁻¹ : ℝ) : EReal) := by
  unfold OUTE
  rw [EReal.coe_mul, ← AC_at h hv i]
  have hr := RCP_at (LS_at h) hp
  generalize RCP (LS e0 e1 e2 e3 e4 e5 e6 e7 e8) = R at hr ⊢
  generalize AC e0 e1 e2 e3 e4 e5 e6 e7 e8 v0 v1 v2 v3 v4 v5 v6 v7 v8 = A
  obtain ⟨r, c, rfl⟩ : ∃ r c, i = ix2 r c := ⟨i 0, i 1, ValueIdx.eq_ix2 i⟩
  show A _ * broadcastTo (T 256 N) R hb _ = _
  congr 1
  pointwise
  exact hr _

/-- The softmax-weighted mean of the values `V`, with the scores `S` in base two. -/
def mean (S V : ℕ → ℕ → ℝ) (r c : ℕ) : ℝ :=
  (∑ j ∈ Finset.range 4352, Real.exp (Real.log 2 * S r j) * V j c) / ∑ j ∈ Finset.range 4352, Real.exp (Real.log 2 * S r j)

theorem rpow_two_sub (x m : ℝ) : Real.rpow 2 (x - m) = Real.exp (Real.log 2 * x) * Real.exp (-(Real.log 2 * m)) := by
  show (2 : ℝ) ^ (x - m) = _
  rw [Real.rpow_def_of_pos (by norm_num), ← Real.exp_add]
  congr 1
  ring

/-- A sum of positive numbers over a row is positive. -/
theorem sum_pos_of (f : ℕ → ℝ) (h : ∀ j, 0 < f j) : 0 < ∑ j ∈ Finset.range 4352, f j :=
  Finset.sum_pos (fun j _ => h j) (Finset.nonempty_range_iff.mpr (by norm_num))

/-- The subtracted maximum cancels. -/
theorem mean_shift (S V : ℕ → ℕ → ℝ) (M : ℕ → ℝ) (r c : ℕ) :
    (∑ j ∈ Finset.range 4352, (fun r j => Real.rpow 2 (S r j - M r)) r j * V j c) * (∑ j ∈ Finset.range 4352, (fun r j => Real.rpow 2 (S r j - M r)) r j)⁻¹
      = mean S V r c := by
  have hx : Real.exp (-(Real.log 2 * M r)) ≠ 0 := (Real.exp_pos _).ne'
  have e1 : ∑ j ∈ Finset.range 4352, (fun r j => Real.rpow 2 (S r j - M r)) r j * V j c
      = (∑ j ∈ Finset.range 4352, Real.exp (Real.log 2 * S r j) * V j c) * Real.exp (-(Real.log 2 * M r)) := by
    rw [Finset.sum_mul]
    refine Finset.sum_congr rfl fun j _ => ?_
    show Real.rpow 2 (S r j - M r) * V j c = _
    rw [rpow_two_sub]
    ring
  have e2 : ∑ j ∈ Finset.range 4352, (fun r j => Real.rpow 2 (S r j - M r)) r j
      = (∑ j ∈ Finset.range 4352, Real.exp (Real.log 2 * S r j)) * Real.exp (-(Real.log 2 * M r)) := by
    rw [Finset.sum_mul]
    refine Finset.sum_congr rfl fun j _ => ?_
    exact rpow_two_sub _ _
  rw [e1, e2, ← div_eq_mul_inv, mul_div_mul_right _ _ hx, mean]

/-- The chain's output is the softmax-weighted mean of the values, whatever real row maximum was subtracted. -/
theorem OUT_at {N : ℕ} (hb : (T 256 1).Broadcasts (T 256 N)) {m : FVec Ideal (T 256 1) .f32} (hm : IsR m)
    {s0 s1 s2 s3 s4 s5 s6 s7 : FVec Ideal (T 256 512) .f32} {s8 : FVec Ideal (T 256 256) .f32} {S : ℕ → ℕ → ℝ}
    (h : Chunks s0 s1 s2 s3 s4 s5 s6 s7 s8 S) {v0 v1 v2 v3 v4 v5 v6 v7 : FVec Ideal (T 512 N) .bf16} {v8 : FVec Ideal (T 256 N) .bf16} {V : ℕ → ℕ → ℝ}
    (hv : Vals v0 v1 v2 v3 v4 v5 v6 v7 v8 V) (i : (T 256 N).Idx) :
    OUT hb m s0 s1 s2 s3 s4 s5 s6 s7 s8 v0 v1 v2 v3 v4 v5 v6 v7 v8 i = ((mean S V (i 0).val (i 1).val : ℝ) : EReal) := by
  obtain ⟨M, hM⟩ := col_of_isR hm
  have hE : Chunks (E m s0) (E m s1) (E m s2) (E m s3) (E m s4) (E m s5) (E m s6) (E m s7) (Ec m s8) (fun r j => Real.rpow 2 (S r j - M r)) :=
    ⟨E_at hM h.h0, E_at hM h.h1, E_at hM h.h2, E_at hM h.h3, E_at hM h.h4, E_at hM h.h5, E_at hM h.h6, E_at hM h.h7, Ec_at hM h.h8⟩
  have hp : ∀ r, ∑ j ∈ Finset.range 4352, (fun r j => Real.rpow 2 (S r j - M r)) r j ≠ 0 := fun r =>
    (sum_pos_of ((fun r j => Real.rpow 2 (S r j - M r)) r) fun j => Real.rpow_pos_of_pos (by norm_num) _).ne'
  exact (OUTE_at hb hE hp hv i).trans (congrArg Real.toEReal (mean_shift S V M _ _))

end Cert.Chain
-- ==== Proof.Load.lean ====
module

public import proofs.«01_k».proof.Proof.Chain
public import Idealize.ShloMosaic.Lib.Pipeline.Value

/-! The loads of one softmax chain: blocks of the windows, and the scores back from the scratch buffer. -/

@[expose] public section

set_option maxRecDepth 16384

noncomputable section

namespace Cert.Chain

open Idealize.ShloMosaic Idealize.SL.Sem

/-- A matrix that is the real table `X`. -/
def Tb {a b : ℕ} (x : (T a b).Idx → EReal) (X : ℕ → ℕ → ℝ) : Prop := ∀ i, x i = ((X (i 0).val (i 1).val : ℝ) : EReal)

/-- What a unit-stride load of a matrix reads: the block's row and column shifted by its corner. -/
theorem ld_tb {a b n N r c : ℕ} {x : (T a b).Idx → EReal} {X : ℕ → ℕ → ℝ} (hx : Tb x X)
    (inb : ∀ d, (![r, c] : Fin 2 → ℕ) d + (T n N).size d ≤ (T a b).size d) (i : (T n N).Idx) :
    x ((Rect.unit (s := T a b) ![r, c] (T n N).size inb).toLoadRect.idx i) = ((X (r + (i 0).val) (c + (i 1).val) : ℝ) : EReal) := by
  refine (hx _).trans ?_
  show ((X (r + 1 * (i 0).val) (c + 1 * (i 1).val) : ℝ) : EReal) = _
  rw [one_mul, one_mul]

section Loads
variable {sig : RefSig} {κ : Kind} {sp : Space}

/-- A load of a whole buffer that holds `x`. -/
theorem load_at {a b n N r c : ℕ} {m : Memref sig κ sp (T a b) .bf16} (h : m.IsWhole) {x : FVec Ideal (T a b) .bf16} {X : ℕ → ℕ → ℝ} (hx : Tb x X)
    (inb : ∀ d, (![r, c] : Fin 2 → ℕ) d + (T n N).size d ≤ (T a b).size d) (i : (T n N).Idx) :
    View.readAt (Elt Ideal) m.view (Rect.unit (s := T a b) ![r, c] (T n N).size inb).toLoadRect (h.unread x) i = ((X (r + (i 0).val) (c + (i 1).val) : ℝ) : EReal) := by
  rw [View.readAt_eq_ld]
  show m.view.read (Elt Ideal) (h.unread x) ((Rect.unit (s := T a b) ![r, c] (T n N).size inb).toLoadRect.idx i) = _
  exact (congrFun (h.read_unread (Val := Elt Ideal) x) _).trans (ld_tb hx inb i)

/-- A load of a whole buffer of single-precision floats that holds `x`. -/
theorem load32_at {a b n N r c : ℕ} {m : Memref sig κ sp (T a b) .f32} (h : m.IsWhole) {x : FVec Ideal (T a b) .f32} {X : ℕ → ℕ → ℝ} (hx : Tb x X)
    (inb : ∀ d, (![r, c] : Fin 2 → ℕ) d + (T n N).size d ≤ (T a b).size d) (i : (T n N).Idx) :
    View.readAt (Elt Ideal) m.view (Rect.unit (s := T a b) ![r, c] (T n N).size inb).toLoadRect (h.unread x) i = ((X (r + (i 0).val) (c + (i 1).val) : ℝ) : EReal) := by
  rw [View.readAt_eq_ld]
  show m.view.read (Elt Ideal) (h.unread x) ((Rect.unit (s := T a b) ![r, c] (T n N).size inb).toLoadRect.idx i) = _
  exact (congrFun (h.read_unread (Val := Elt Ideal) x) _).trans (ld_tb hx inb i)

end Loads

/-- Two tables one above the other, the first with 4096 rows. -/
def jn (A B : ℕ → ℕ → ℝ) (j d : ℕ) : ℝ := if j < 4096 then A j d else B (j - 4096) d

/-- A 512-row block of the upper table. -/
theorem Dn_lat {N o c : ℕ} {v : (T 512 N).Idx → EReal} {A B : ℕ → ℕ → ℝ} (ho : o + 512 ≤ 4096)
    (hv : ∀ i, v i = ((A (o + (i 0).val) (c + (i 1).val) : ℝ) : EReal)) : Dn v (fun j d => jn A B j (c + d)) o := by
  intro i
  rw [hv i]
  have h0 : (i 0).val < 512 := (i 0).isLt
  show _ = ((if o + (i 0).val < 4096 then _ else _ : ℝ) : EReal)
  rw [if_pos (by omega)]

/-- The lower table's 256 rows. -/
theorem Dn_ctx {N c : ℕ} {v : (T 256 N).Idx → EReal} {A B : ℕ → ℕ → ℝ}
    (hv : ∀ i, v i = ((B (0 + (i 0).val) (c + (i 1).val) : ℝ) : EReal)) : Dn v (fun j d => jn A B j (c + d)) 4096 := by
  intro i
  rw [hv i]
  show _ = ((if 4096 + (i 0).val < 4096 then _ else _ : ℝ) : EReal)
  rw [if_neg (by omega), zero_add, Nat.add_sub_cancel_left]

section Pieces
variable {F : FTy → Type} [FloatOps F]

/-- A 512-wide piece of the score buffer. -/
def pc (s : FVec F (T 256 512) .f32) (o : ℕ) (inb : ∀ d, (![0, o] : Fin 2 → ℕ) d + (T 256 512).size d ≤ (T 256 4352).size d) :
    View.Piece (Elt F) (T 256 4352) .f32 :=
  ⟨Rect.unit (s := T 256 4352) ![0, o] (T 256 512).size inb, shapeCast (T 256 512) s (by decide)⟩
/-- The last, 256-wide piece. -/
def pcc (s : FVec F (T 256 256) .f32) (o : ℕ) (inb : ∀ d, (![0, o] : Fin 2 → ℕ) d + (T 256 256).size d ≤ (T 256 4352).size d) :
    View.Piece (Elt F) (T 256 4352) .f32 :=
  ⟨Rect.unit (s := T 256 4352) ![0, o] (T 256 256).size inb, shapeCast (T 256 256) s (by decide)⟩
/-- The nine score pieces of a chain, last written first. -/
def pcs (s0 s1 s2 s3 s4 s5 s6 s7 : FVec F (T 256 512) .f32) (s8 : FVec F (T 256 256) .f32) : List (View.Piece (Elt F) (T 256 4352) .f32) :=
  [pcc s8 4096 (by decide), pc s7 3584 (by decide), pc s6 3072 (by decide), pc s5 2560 (by decide), pc s4 2048 (by decide), pc s3 1536 (by decide),
    pc s2 1024 (by decide), pc s1 512 (by decide), pc s0 0 (by decide)]

end Pieces

theorem pc_at {s : FVec Ideal (T 256 512) .f32} {S : ℕ → ℕ → ℝ} {o : ℕ} (h : At s S o) (inb) (x : (pc s o inb).1.shape.Idx) :
    (pc s o inb).2 x = (fun y : (T 256 4352).Idx => ((S (y 0).val (y 1).val : ℝ) : EReal)) ((pc s o inb).1.emb x) := by
  show shapeCast (T 256 512) s _ x = ((S (0 + 1 * (x 0).val) (o + 1 * (x 1).val) : ℝ) : EReal)
  rw [shapeCast_self, zero_add, one_mul, one_mul]
  exact h x

theorem pcc_at {s : FVec Ideal (T 256 256) .f32} {S : ℕ → ℕ → ℝ} {o : ℕ} (h : At s S o) (inb) (x : (pcc s o inb).1.shape.Idx) :
    (pcc s o inb).2 x = (fun y : (T 256 4352).Idx => ((S (y 0).val (y 1).val : ℝ) : EReal)) ((pcc s o inb).1.emb x) := by
  show shapeCast (T 256 256) s _ x = ((S (0 + 1 * (x 0).val) (o + 1 * (x 1).val) : ℝ) : EReal)
  rw [shapeCast_self, zero_add, one_mul, one_mul]
  exact h x

section Back
variable {s0 s1 s2 s3 s4 s5 s6 s7 : FVec Ideal (T 256 512) .f32} {s8 : FVec Ideal (T 256 256) .f32} {S : ℕ → ℕ → ℝ}

theorem pcs_at (h : Chunks s0 s1 s2 s3 s4 s5 s6 s7 s8 S) : ∀ p ∈ pcs (F := Ideal) s0 s1 s2 s3 s4 s5 s6 s7 s8, ∀ x : p.1.shape.Idx,
    p.2 x = (fun y : (T 256 4352).Idx => ((S (y 0).val (y 1).val : ℝ) : EReal)) (p.1.emb x) := by
  intro p hp
  simp only [pcs, List.mem_cons, List.not_mem_nil, or_false] at hp
  rcases hp with rfl | rfl | rfl | rfl | rfl | rfl | rfl | rfl | rfl
  exacts [pcc_at h.h8 _, pc_at h.h7 _, pc_at h.h6 _, pc_at h.h5 _, pc_at h.h4 _, pc_at h.h3 _, pc_at h.h2 _, pc_at h.h1 _, pc_at h.h0 _]

/-- Reading a 512-wide chunk of the scores back from the buffer. -/
theorem back_at {sig : RefSig} {κ : Kind} {sp : Space} (v : View sig κ sp (T 256 4352) .f32) (h : Chunks s0 s1 s2 s3 s4 s5 s6 s7 s8 S) {o : ℕ} (inb)
    (hm : ∃ s : FVec Ideal (T 256 512) .f32, pc (F := Ideal) s o inb ∈ pcs (F := Ideal) s0 s1 s2 s3 s4 s5 s6 s7 s8) :
    At (v.readCov (Val := Elt Ideal) (pcs (F := Ideal) s0 s1 s2 s3 s4 s5 s6 s7 s8) (Rect.unit (s := T 256 4352) ![0, o] (T 256 512).size inb).toLoadRect) S o := by
  intro i
  rw [View.readCov_eq_canon']
  obtain ⟨s, hs⟩ := hm
  refine (View.canon_apply_of_pieces (fun y : (T 256 4352).Idx => ((S (y 0).val (y 1).val : ℝ) : EReal)) _ (pcs_at h) _ ⟨_, hs, ?_⟩).trans ?_
  · exact LoadRect.idx_mem _ _
  · show ((S (0 + 1 * (i 0).val) (o + 1 * (i 1).val) : ℝ) : EReal) = _
    rw [zero_add, one_mul, one_mul]

/-- Reading the last chunk back. -/
theorem backc_at {sig : RefSig} {κ : Kind} {sp : Space} (v : View sig κ sp (T 256 4352) .f32) (h : Chunks s0 s1 s2 s3 s4 s5 s6 s7 s8 S) {o : ℕ} (inb)
    (hm : ∃ s : FVec Ideal (T 256 256) .f32, pcc (F := Ideal) s o inb ∈ pcs (F := Ideal) s0 s1 s2 s3 s4 s5 s6 s7 s8) :
    At (v.readCov (Val := Elt Ideal) (pcs (F := Ideal) s0 s1 s2 s3 s4 s5 s6 s7 s8) (Rect.unit (s := T 256 4352) ![0, o] (T 256 256).size inb).toLoadRect) S o := by
  intro i
  rw [View.readCov_eq_canon']
  obtain ⟨s, hs⟩ := hm
  refine (View.canon_apply_of_pieces (fun y : (T 256 4352).Idx => ((S (y 0).val (y 1).val : ℝ) : EReal)) _ (pcs_at h) _ ⟨_, hs, ?_⟩).trans ?_
  · exact LoadRect.idx_mem _ _
  · show ((S (0 + 1 * (i 0).val) (o + 1 * (i 1).val) : ℝ) : EReal) = _
    rw [zero_add, one_mul, one_mul]

/-- All nine chunks read back. -/
theorem back_chunks {sig : RefSig} {κ : Kind} {sp : Space} (v : View sig κ sp (T 256 4352) .f32) (h : Chunks s0 s1 s2 s3 s4 s5 s6 s7 s8 S)
    (i0 i1 i2 i3 i4 i5 i6 i7 i8) :
    Chunks (v.readCov (Val := Elt Ideal) (pcs (F := Ideal) s0 s1 s2 s3 s4 s5 s6 s7 s8) (Rect.unit (s := T 256 4352) ![0, 0] (T 256 512).size i0).toLoadRect)
      (v.readCov (Val := Elt Ideal) (pcs (F := Ideal) s0 s1 s2 s3 s4 s5 s6 s7 s8) (Rect.unit (s := T 256 4352) ![0, 512] (T 256 512).size i1).toLoadRect)
      (v.readCov (Val := Elt Ideal) (pcs (F := Ideal) s0 s1 s2 s3 s4 s5 s6 s7 s8) (Rect.unit (s := T 256 4352) ![0, 1024] (T 256 512).size i2).toLoadRect)
      (v.readCov (Val := Elt Ideal) (pcs (F := Ideal) s0 s1 s2 s3 s4 s5 s6 s7 s8) (Rect.unit (s := T 256 4352) ![0, 1536] (T 256 512).size i3).toLoadRect)
      (v.readCov (Val := Elt Ideal) (pcs (F := Ideal) s0 s1 s2 s3 s4 s5 s6 s7 s8) (Rect.unit (s := T 256 4352) ![0, 2048] (T 256 512).size i4).toLoadRect)
      (v.readCov (Val := Elt Ideal) (pcs (F := Ideal) s0 s1 s2 s3 s4 s5 s6 s7 s8) (Rect.unit (s := T 256 4352) ![0, 2560] (T 256 512).size i5).toLoadRect)
      (v.readCov (Val := Elt Ideal) (pcs (F := Ideal) s0 s1 s2 s3 s4 s5 s6 s7 s8) (Rect.unit (s := T 256 4352) ![0, 3072] (T 256 512).size i6).toLoadRect)
      (v.readCov (Val := Elt Ideal) (pcs (F := Ideal) s0 s1 s2 s3 s4 s5 s6 s7 s8) (Rect.unit (s := T 256 4352) ![0, 3584] (T 256 512).size i7).toLoadRect)
      (v.readCov (Val := Elt Ideal) (pcs (F := Ideal) s0 s1 s2 s3 s4 s5 s6 s7 s8) (Rect.unit (s := T 256 4352) ![0, 4096] (T 256 256).size i8).toLoadRect) S := by
  constructor
  · exact back_at v h _ ⟨s0, by simp [pcs]⟩
  · exact back_at v h _ ⟨s1, by simp [pcs]⟩
  · exact back_at v h _ ⟨s2, by simp [pcs]⟩
  · exact back_at v h _ ⟨s3, by simp [pcs]⟩
  · exact back_at v h _ ⟨s4, by simp [pcs]⟩
  · exact back_at v h _ ⟨s5, by simp [pcs]⟩
  · exact back_at v h _ ⟨s6, by simp [pcs]⟩
  · exact back_at v h _ ⟨s7, by simp [pcs]⟩
  · exact backc_at v h _ ⟨s8, by simp [pcs]⟩

end Back

/-- The scores of a chain: query row `r` of `Q` against row `j` of `K`. -/
def scr (Q K : ℕ → ℕ → ℝ) (r j : ℕ) : ℝ := ∑ d ∈ Finset.range 128, Q r d * K j d

/-- The nine score chunks of real queries and keys. -/
theorem SC_chunks {q : FVec Ideal (T 256 128) .bf16} {k0 k1 k2 k3 k4 k5 k6 k7 : FVec Ideal (T 512 128) .bf16} {k8 : FVec Ideal (T 256 128) .bf16}
    {Q K : ℕ → ℕ → ℝ} (hq : At q Q 0) (hk : Vals k0 k1 k2 k3 k4 k5 k6 k7 k8 K) :
    Chunks (SC q k0) (SC q k1) (SC q k2) (SC q k3) (SC q k4) (SC q k5) (SC q k6) (SC q k7) (SCc q k8) (scr Q K) :=
  ⟨SC_at hq hk.h0, SC_at hq hk.h1, SC_at hq hk.h2, SC_at hq hk.h3, SC_at hq hk.h4, SC_at hq hk.h5, SC_at hq hk.h6, SC_at hq hk.h7, SCc_at hq hk.h8⟩

/-- The row maximum of real scores is real, from the chunks. -/
theorem isR_MX' {s0 s1 s2 s3 s4 s5 s6 s7 : FVec Ideal (T 256 512) .f32} {s8 : FVec Ideal (T 256 256) .f32} {S : ℕ → ℕ → ℝ}
    (h : Chunks s0 s1 s2 s3 s4 s5 s6 s7 s8 S) : IsR (MX s0 s1 s2 s3 s4 s5 s6 s7 s8) :=
  isR_MX h.h0.isR h.h1.isR h.h2.isR h.h3.isR h.h4.isR h.h5.isR h.h6.isR h.h7.isR h.h8.isR

section Whole
variable {sig : RefSig} {κ : Kind} {sp : Space}

/-- A whole chain: the scores of the queries against the keys, stored in the buffer `v` and read back, and the values they weight. -/
def CO {N : ℕ} (hb : (T 256 1).Broadcasts (T 256 N)) (v : View sig κ sp (T 256 4352) .f32) (q : FVec Ideal (T 256 128) .bf16) (k0 k1 k2 k3 k4 k5 k6 k7 : FVec Ideal (T 512 128) .bf16)
    (k8 : FVec Ideal (T 256 128) .bf16) (v0 v1 v2 v3 v4 v5 v6 v7 : FVec Ideal (T 512 N) .bf16) (v8 : FVec Ideal (T 256 N) .bf16) : FVec Ideal (T 256 N) .f32 :=
  let p := pcs (F := Ideal) (SC q k0) (SC q k1) (SC q k2) (SC q k3) (SC q k4) (SC q k5) (SC q k6) (SC q k7) (SCc q k8)
  OUT hb (MX (SC q k0) (SC q k1) (SC q k2) (SC q k3) (SC q k4) (SC q k5) (SC q k6) (SC q k7) (SCc q k8))
    (v.readCov (Val := Elt Ideal) p (Rect.unit (s := T 256 4352) ![0, 0] (T 256 512).size (by decide)).toLoadRect)
    (v.readCov (Val := Elt Ideal) p (Rect.unit (s := T 256 4352) ![0, 512] (T 256 512).size (by decide)).toLoadRect)
    (v.readCov (Val := Elt Ideal) p (Rect.unit (s := T 256 4352) ![0, 1024] (T 256 512).size (by decide)).toLoadRect)
    (v.readCov (Val := Elt Ideal) p (Rect.unit (s := T 256 4352) ![0, 1536] (T 256 512).size (by decide)).toLoadRect)
    (v.readCov (Val := Elt Ideal) p (Rect.unit (s := T 256 4352) ![0, 2048] (T 256 512).size (by decide)).toLoadRect)
    (v.readCov (Val := Elt Ideal) p (Rect.unit (s := T 256 4352) ![0, 2560] (T 256 512).size (by decide)).toLoadRect)
    (v.readCov (Val := Elt Ideal) p (Rect.unit (s := T 256 4352) ![0, 3072] (T 256 512).size (by decide)).toLoadRect)
    (v.readCov (Val := Elt Ideal) p (Rect.unit (s := T 256 4352) ![0, 3584] (T 256 512).size (by decide)).toLoadRect)
    (v.readCov (Val := Elt Ideal) p (Rect.unit (s := T 256 4352) ![0, 4096] (T 256 256).size (by decide)).toLoadRect)
    v0 v1 v2 v3 v4 v5 v6 v7 v8

/-- A whole chain over the reals is the softmax-weighted mean of the values. -/
theorem CO_at {N : ℕ} (hb : (T 256 1).Broadcasts (T 256 N)) (v : View sig κ sp (T 256 4352) .f32) {q : FVec Ideal (T 256 128) .bf16} {k0 k1 k2 k3 k4 k5 k6 k7 : FVec Ideal (T 512 128) .bf16}
    {k8 : FVec Ideal (T 256 128) .bf16} {v0 v1 v2 v3 v4 v5 v6 v7 : FVec Ideal (T 512 N) .bf16} {v8 : FVec Ideal (T 256 N) .bf16} {Q K V : ℕ → ℕ → ℝ}
    (hq : At q Q 0) (hk : Vals k0 k1 k2 k3 k4 k5 k6 k7 k8 K) (hv : Vals v0 v1 v2 v3 v4 v5 v6 v7 v8 V) (i : (T 256 N).Idx) :
    CO hb v q k0 k1 k2 k3 k4 k5 k6 k7 k8 v0 v1 v2 v3 v4 v5 v6 v7 v8 i = ((mean (scr Q K) V (i 0).val (i 1).val : ℝ) : EReal) := by
  have hs := SC_chunks hq hk
  exact OUT_at hb (isR_MX' hs) (back_chunks v hs _ _ _ _ _ _ _ _ _) hv i

end Whole

end Cert.Chain
-- ==== Proof.Bridge.lean ====
module

public import proofs.«01_k».proof.Proof.Load
public import proofs.«01_k».proof.Proof.Gen.KernelIdeal.Value

/-! The four softmax chains of the kernel's body: what each leaves, over the reals, from what the windows hold. -/

@[expose] public section

set_option maxRecDepth 16384

noncomputable section

namespace Cert.Bridge

open Cert.KernelIdeal Cert.KernelIdeal.Gen Cert.Chain Idealize.ShloMosaic Idealize.ShloMosaic.TcCoe Idealize.SL.Sem
open Cert.KernelIdeal.Gen.kernelRun0_A

section
variable {sg : RefSig} {kd : Kind} {sp : Space}

/-- The scale of the queries: one over the root of 128, over the logarithm of two. -/
def qs : ℝ := (Real.sqrt 128)⁻¹ * (Real.log 2)⁻¹

theorem qs_val : Named.named (F := Ideal) (φ := .f32) Cert.KernelIdeal.κ "qs" 0x3E0293EE#32 = ((qs : ℝ) : EReal) :=
  IdealRules.named_const.ideal_named_scalar _ _ _ _ rfl

/-- The queries of a chain: 256 rows from row `R`, 128 columns from column `C`, scaled. -/
theorem q_at {A B : ℕ} {q : Memref sg kd sp (T A B) .f32} {hq : q.IsWhole} {x : Vec Ideal (T A B) .f32} {X : ℕ → ℕ → ℝ} (hx : Tb x X) {R C : ℕ} (inb) : At (n := 128)
    (k0_pay3 (F := Ideal) (View.readAt (Elt Ideal) q.view (Rect.unit (s := T A B) ![R, C] S256x128.size inb).toLoadRect (hq.unread x)))
    (fun r d => X (R + r) (C + d) * qs) 0 := by
  intro i
  rw [zero_add]
  have h := load32_at hq hx inb i
  show _ * Named.named (F := Ideal) (φ := .f32) Cert.KernelIdeal.κ "qs" 0x3E0293EE#32 = _
  rw [qs_val, h, ← EReal.coe_mul]

/-- The nine key or value blocks of a chain, `N` columns from column `C`: eight of the latent rows and one of the context rows. -/
theorem kv_at {B N : ℕ} {u : Memref sg kd sp (T 4096 B) .bf16} {hu : u.IsWhole} {w : Memref sg kd sp (T 256 B) .bf16} {hw : w.IsWhole}
    {x : Vec Ideal (T 4096 B) .bf16} {y : Vec Ideal (T 256 B) .bf16} {X Y : ℕ → ℕ → ℝ} (hx : Tb x X) (hy : Tb y Y) {C : ℕ} (i0 i1 i2 i3 i4 i5 i6 i7 i8) : Vals (N := N)
    (View.readAt (Elt Ideal) u.view (Rect.unit (s := T 4096 B) ![0, C] (T 512 N).size i0).toLoadRect (hu.unread x))
    (View.readAt (Elt Ideal) u.view (Rect.unit (s := T 4096 B) ![512, C] (T 512 N).size i1).toLoadRect (hu.unread x))
    (View.readAt (Elt Ideal) u.view (Rect.unit (s := T 4096 B) ![1024, C] (T 512 N).size i2).toLoadRect (hu.unread x))
    (View.readAt (Elt Ideal) u.view (Rect.unit (s := T 4096 B) ![1536, C] (T 512 N).size i3).toLoadRect (hu.unread x))
    (View.readAt (Elt Ideal) u.view (Rect.unit (s := T 4096 B) ![2048, C] (T 512 N).size i4).toLoadRect (hu.unread x))
    (View.readAt (Elt Ideal) u.view (Rect.unit (s := T 4096 B) ![2560, C] (T 512 N).size i5).toLoadRect (hu.unread x))
    (View.readAt (Elt Ideal) u.view (Rect.unit (s := T 4096 B) ![3072, C] (T 512 N).size i6).toLoadRect (hu.unread x))
    (View.readAt (Elt Ideal) u.view (Rect.unit (s := T 4096 B) ![3584, C] (T 512 N).size i7).toLoadRect (hu.unread x))
    (View.readAt (Elt Ideal) w.view (Rect.unit (s := T 256 B) ![0, C] (T 256 N).size i8).toLoadRect (hw.unread y))
    (fun j d => jn X Y j (C + d)) :=
  ⟨Dn_lat (by norm_num) (load_at hu hx i0), Dn_lat (by norm_num) (load_at hu hx i1), Dn_lat (by norm_num) (load_at hu hx i2),
    Dn_lat (by norm_num) (load_at hu hx i3), Dn_lat (by norm_num) (load_at hu hx i4), Dn_lat (by norm_num) (load_at hu hx i5),
    Dn_lat (by norm_num) (load_at hu hx i6), Dn_lat (by norm_num) (load_at hu hx i7), Dn_ctx (load_at hw hy i8)⟩

/-- What a chain leaves: the softmax-weighted mean of the values for the queries at (`R`, `C`). -/
def chain (X0 X1 X2 X3 X4 : ℕ → ℕ → ℝ) (R C : ℕ) (r e : ℕ) : ℝ :=
  mean (scr (fun r d => X0 (R + r) (C + d) * qs) (fun j d => jn X1 X2 j (C + d))) (fun j d => jn X3 X4 j (0 + d)) r e

end

section
variable {c : Dev nD} {arg3 : Memref sig .tc .vmem S512x256 .f32} {harg3 : arg3.IsWhole} {arg4 : Memref sig .tc .vmem S4096x256 .bf16} {harg4 : arg4.IsWhole}
  {arg5 : Memref sig .tc .vmem S256x256 .bf16} {harg5 : arg5.IsWhole} {arg6 : Memref sig .tc .vmem S4096x256 .bf16} {harg6 : arg6.IsWhole}
  {arg7 : Memref sig .tc .vmem S256x256 .bf16} {harg7 : arg7.IsWhole}
  {sc : Memref sig .tc .vmem S256x4352 .f32}
  {x0 : Vec Ideal S512x256 .f32} {x1 : Vec Ideal S4096x256 .bf16} {x2 : Vec Ideal S256x256 .bf16} {x3 : Vec Ideal S4096x256 .bf16} {x4 : Vec Ideal S256x256 .bf16}
  {X0 X1 X2 X3 X4 : ℕ → ℕ → ℝ}

set_option maxHeartbeats 4000000 in
/-- The first chain. -/
theorem v631_at (hx0 : Tb x0 X0) (hx1 : Tb x1 X1) (hx2 : Tb x2 X2) (hx3 : Tb x3 X3) (hx4 : Tb x4 X4) (i : S256x256.Idx) :
    sl.v631 (F := Ideal) c arg3 harg3 arg4 harg4 arg5 harg5 arg6 harg6 arg7 harg7 sc x0 x1 x2 x3 x4 i
      = ((chain X0 X1 X2 X3 X4 0 0 (i 0).val (i 1).val : ℝ) : EReal) :=
  CO_at (N := 256) (by decide) sc.view (q_at (hq := harg3) hx0 (R := 0) (C := 0) (by decide)) (kv_at (N := 128) (hu := harg4) (hw := harg5) hx1 hx2 (C := 0) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide)) i

set_option maxHeartbeats 4000000 in
/-- The second chain. -/
theorem v775_at (hx0 : Tb x0 X0) (hx1 : Tb x1 X1) (hx2 : Tb x2 X2) (hx3 : Tb x3 X3) (hx4 : Tb x4 X4) (i : S256x256.Idx) :
    sl.v775 (F := Ideal) c arg3 harg3 arg4 harg4 arg5 harg5 arg6 harg6 arg7 harg7 sc x0 x1 x2 x3 x4 i
      = ((chain X0 X1 X2 X3 X4 0 128 (i 0).val (i 1).val : ℝ) : EReal) :=
  CO_at (N := 256) (by decide) sc.view (q_at (hq := harg3) hx0 (R := 0) (C := 128) (by decide)) (kv_at (N := 128) (hu := harg4) (hw := harg5) hx1 hx2 (C := 128) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide)) i

set_option maxHeartbeats 4000000 in
/-- The third chain. -/
theorem v919_at (hx0 : Tb x0 X0) (hx1 : Tb x1 X1) (hx2 : Tb x2 X2) (hx3 : Tb x3 X3) (hx4 : Tb x4 X4) (i : S256x256.Idx) :
    sl.v919 (F := Ideal) c arg3 harg3 arg4 harg4 arg5 harg5 arg6 harg6 arg7 harg7 sc x0 x1 x2 x3 x4 i
      = ((chain X0 X1 X2 X3 X4 256 0 (i 0).val (i 1).val : ℝ) : EReal) :=
  CO_at (N := 256) (by decide) sc.view (q_at (hq := harg3) hx0 (R := 256) (C := 0) (by decide)) (kv_at (N := 128) (hu := harg4) (hw := harg5) hx1 hx2 (C := 0) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide)) i

set_option maxHeartbeats 4000000 in
/-- The fourth chain. -/
theorem v1063_at (hx0 : Tb x0 X0) (hx1 : Tb x1 X1) (hx2 : Tb x2 X2) (hx3 : Tb x3 X3) (hx4 : Tb x4 X4) (i : S256x256.Idx) :
    sl.v1063 (F := Ideal) c arg3 harg3 arg4 harg4 arg5 harg5 arg6 harg6 arg7 harg7 sc x0 x1 x2 x3 x4 i
      = ((chain X0 X1 X2 X3 X4 256 128 (i 0).val (i 1).val : ℝ) : EReal) :=
  CO_at (N := 256) (by decide) sc.view (q_at (hq := harg3) hx0 (R := 256) (C := 128) (by decide)) (kv_at (N := 128) (hu := harg4) (hw := harg5) hx1 hx2 (C := 128) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide)) i

end

end Cert.Bridge
-- ==== Proof.Norm.lean ====
module

public import proofs.«01_k».proof.Proof.Bridge

/-! The mixing constant, the difference of the two chains and its normalisation, over the reals. -/

@[expose] public section

set_option maxRecDepth 16384

noncomputable section

namespace Cert.Norm

open Cert.KernelIdeal Cert.KernelIdeal.Gen Cert.Chain Idealize.ShloMosaic Idealize.ShloMosaic.TcCoe Idealize.SL.Sem

/-- The words of the program's constants, as rationals. -/
theorem w256 : Ideal.ofBits .f32 0x43800000#32 = ((256 : ℝ) : EReal) := by
  simp [Ideal.ofBits, Ideal.ieee, -EReal.coe_mul]; norm_num

/-- The word near a millionth. -/
def eps : ℝ := 8796093 / 2 ^ 43
theorem weps : Ideal.ofBits .f32 0x358637BD#32 = ((eps : ℝ) : EReal) := by
  unfold eps
  simp [Ideal.ofBits, Ideal.ieee, -EReal.coe_mul]; norm_num

/-- The word near one fifth. -/
def c02 : ℝ := 13421773 / 2 ^ 26
theorem w02 : Ideal.ofBits .f32 0x3E4CCCCD#32 = ((c02 : ℝ) : EReal) := by
  unfold c02
  simp [Ideal.ofBits, Ideal.ieee, -EReal.coe_mul]; norm_num

/-- The word near four fifths. -/
def c08 : ℝ := 13421773 / 2 ^ 24
theorem w08 : Ideal.ofBits .f32 0x3F4CCCCD#32 = ((c08 : ℝ) : EReal) := by
  unfold c08
  simp [Ideal.ofBits, Ideal.ieee, -EReal.coe_mul]; norm_num

/-- The difference of exponentials in the mixing constant, from its four vectors. -/
def dlam (L : ℕ → ℕ → ℝ) : ℝ :=
  Real.exp (∑ d ∈ Finset.range 128, L 0 d * L 1 d) - Real.exp (∑ d ∈ Finset.range 128, L 2 d * L 3 d)

/-- The mixing constant: the difference plus the layer's own number `a`. -/
def lam (a : ℝ) (L : ℕ → ℕ → ℝ) : ℝ := dlam L + a

/-- A row normalised by its root mean square, times the gains, times the layer's own number `c`. -/
def nrm (c : ℝ) (o g : ℕ → ℝ) (e : ℕ) : ℝ := o e * (Real.sqrt ((∑ x ∈ Finset.range 256, o x * o x) * (1 / 256) + eps))⁻¹ * g e * c

theorem mean_sq_pos (o : ℕ → ℝ) : 0 < (∑ x ∈ Finset.range 256, o x * o x) * (1 / 256) + eps := by
  have h : 0 ≤ ∑ x ∈ Finset.range 256, o x * o x := Finset.sum_nonneg fun x _ => mul_self_nonneg _
  have : 0 < eps := by unfold eps; norm_num
  positivity

/-- The reciprocal root of a positive real. -/
theorem rsqrt_pos {x : ℝ} (h : 0 < x) : Ideal.rsqrt (x : EReal) = (((Real.sqrt x)⁻¹ : ℝ) : EReal) := by
  rw [Ideal.rsqrt_coe, if_neg (not_lt.mpr h.le), if_neg h.ne']

theorem sum_fin (n : ℕ) (f : ℕ → ℝ) : ∑ k : Fin n, ((f k.val : ℝ) : EReal) = ((∑ d ∈ Finset.range n, f d : ℝ) : EReal) := by
  rw [coe_sum, Finset.sum_range]

theorem pay2_at {x : FVec Ideal S4x128 .f32} {L : ℕ → ℕ → ℝ} (hx : Tb x L) (i : S1x1.Idx) : k0_pay2 (F := Ideal) x i = ((lam c02 L : ℝ) : EReal) := by
  idx_vars i
  have hx' : ∀ (a : Fin 4) (b : Fin 128), x (ix2 a b) = ((L a.val b.val : ℝ) : EReal) := fun a b => hx _
  pointwise [k0_pay2]
  simp only [hx', ← EReal.coe_mul, sum_fin 128 fun d => L (0 : Fin 4).val d * L (1 : Fin 4).val d,
    sum_fin 128 fun d => L (2 : Fin 4).val d * L (3 : Fin 4).val d, Ideal.exp_coe, w02, ← EReal.coe_sub, ← EReal.coe_add]
  rfl

/-- A block's store, from the mixing constant, its two chains, the gains and the number `w` it is scaled by. -/
def NRM (w : Ideal .f32) (l : FVec Ideal S1x1 .f32) (o0 o1 : FVec Ideal S256x256 .f32) (g : FVec Ideal S1x256 .f32) : FVec Ideal S256x256 .bf16 :=
  truncf .bf16 (mulf (mulf (mulf (k0_pay166 (F := Ideal) l o0 o1) (broadcastTo S256x256 (rsqrt (k0_pay167 (F := Ideal) l o0 o1)) broadcasts_S256x1_S256x256))
    (broadcastTo S256x256 (shapeCast S1x256 g shapeCasts_S1x256_S1x256) broadcasts_S1x256_S256x256)) (broadcast S256x256 w)) bitsLt_bf16_f32

/-- The store over the reals: the difference of the chains, normalised. -/
theorem NRM_at {l : FVec Ideal S1x1 .f32} {o0 o1 : FVec Ideal S256x256 .f32} {g : FVec Ideal S1x256 .f32} {w : Ideal .f32} {c la : ℝ} {O0 O1 G : ℕ → ℕ → ℝ}
    (hw : w = (c : EReal)) (hl : ∀ i, l i = (la : EReal)) (h0 : Tb o0 O0) (h1 : Tb o1 O1) (hg : Tb g G) (i : S256x256.Idx) :
    NRM w l o0 o1 g i = ((nrm c (fun e => O0 (i 0).val e - la * O1 (i 0).val e) (G 0) (i 1).val : ℝ) : EReal) := by
  idx_vars i
  have h0' : ∀ (a b : Fin 256), o0 (ix2 a b) = ((O0 a.val b.val : ℝ) : EReal) := fun a b => h0 _
  have h1' : ∀ (a b : Fin 256), o1 (ix2 a b) = ((O1 a.val b.val : ℝ) : EReal) := fun a b => h1 _
  have hg' : ∀ (b : Fin 256), g (ix2 0 b) = ((G 0 b.val : ℝ) : EReal) := fun b => hg _
  pointwise [NRM, k0_pay166, k0_pay167]
  simp only [h0', h1', hg', hl, ← EReal.coe_mul, ← EReal.coe_sub]
  rw [sum_fin 256 fun e => (O0 i0.val e - la * O1 i0.val e) * (O0 i0.val e - la * O1 i0.val e), w256, weps, hw, Ideal.div_coe (by norm_num),
    ← EReal.coe_mul, ← EReal.coe_add, rsqrt_pos (mean_sq_pos fun e => O0 i0.val e - la * O1 i0.val e), ← EReal.coe_mul, ← EReal.coe_mul, ← EReal.coe_mul]
  rfl

/-- The later store's payload is this function of its chains. -/
theorem pay1_eq (l : FVec Ideal S1x1 .f32) (o0 o1 : FVec Ideal S256x256 .f32) (g : FVec Ideal S1x256 .f32) :
    k0_pay1 (F := Ideal) (k0_pay166 l o0 o1) (k0_pay167 l o0 o1) g = NRM (FloatOps.ofBits .f32 0x3F4CCCCD#32) l o0 o1 g := rfl

/-- The other store's payload is the same function of its chains. -/
theorem pay165_eq (l : FVec Ideal S1x1 .f32) (o0 o1 : FVec Ideal S256x256 .f32) (g : FVec Ideal S1x256 .f32) :
    k0_pay165 (F := Ideal) (k0_pay166 l o0 o1) (k0_pay164 l o0 o1) (FloatOps.ofBits .f32 0x43800000#32) g = NRM (FloatOps.ofBits .f32 0x3F4CCCCD#32) l o0 o1 g := rfl

end Cert.Norm
-- ==== Proof.Block.lean ====
module

public import proofs.«01_k».proof.Proof.Norm

/-! What one grid point leaves in its output block, over the reals, from what its input windows hold. -/

@[expose] public section

set_option maxRecDepth 16384

noncomputable section

namespace Cert.Block

open Cert.KernelIdeal Cert.KernelIdeal.Gen Cert.Chain Cert.Bridge Cert.Norm Idealize.ShloMosaic Idealize.ShloMosaic.TcCoe Idealize.SL.Sem

/-- The softmax-weighted mean of the values for the query row `r` of a block, the head's half at column `C`. -/
def att (X0 X1 X2 X3 X4 : ℕ → ℕ → ℝ) (C r e : ℕ) : ℝ :=
  mean (scr (fun r d => X0 r (C + d) * qs) (fun j d => jn X1 X2 j (C + d))) (jn X3 X4) r e

theorem chain_eq (X0 X1 X2 X3 X4 : ℕ → ℕ → ℝ) (R C r e : ℕ) : chain X0 X1 X2 X3 X4 R C r e = att X0 X1 X2 X3 X4 C (R + r) e := by
  unfold chain att mean scr
  simp only [zero_add]

/-- One element of the block: the difference of the two halves' means, the second times `la`, normalised and scaled by `c`. -/
def blk (c la : ℝ) (X0 X1 X2 X3 X4 G : ℕ → ℕ → ℝ) (r e : ℕ) : ℝ :=
  nrm c (fun e => att X0 X1 X2 X3 X4 0 r e - la * att X0 X1 X2 X3 X4 128 r e) (G 0) e

section
variable {X0 X1 X2 X3 X4 L G : ℕ → ℕ → ℝ}

/-- The difference of two chains normalised, from row `R` on. -/
theorem half_at {w : Ideal .f32} {cc la : ℝ} {l : FVec Ideal S1x1 .f32} {o0 o1 : FVec Ideal S256x256 .f32} {g : FVec Ideal S1x256 .f32} (R : ℕ) (hw : w = (cc : EReal)) (hl : ∀ i, l i = (la : EReal))
    (h0 : Tb o0 (chain X0 X1 X2 X3 X4 R 0)) (h1 : Tb o1 (chain X0 X1 X2 X3 X4 R 128)) (hg : Tb g G) (i : S256x256.Idx) :
    NRM w l o0 o1 g i = ((blk cc la X0 X1 X2 X3 X4 G (R + (i 0).val) (i 1).val : ℝ) : EReal) := by
  rw [NRM_at hw hl h0 h1 hg i]
  unfold blk
  simp only [chain_eq]

/-- The block of two pieces over the reals. -/
theorem two_pieces (G : S512x256.Idx → EReal) (p1 p2 : FVec Ideal S256x256 .bf16) (i1) (i2)
    (h1 : ∀ x : S256x256.Idx, p1 x = G ((Rect.unit (s := S512x256) ![256, 0] ![256, 256] i1).emb x))
    (h2 : ∀ x : S256x256.Idx, p2 x = G ((Rect.unit (s := S512x256) ![0, 0] ![256, 256] i2).emb x)) (i : S512x256.Idx) :
    View.canon (Val := Elt Ideal) (e := .bf16) [⟨Rect.unit (s := S512x256) ![256, 0] ![256, 256] i1, p1⟩, ⟨Rect.unit (s := S512x256) ![0, 0] ![256, 256] i2, p2⟩] i = G i := by
  refine View.canon_apply_of_pieces (Val := Elt Ideal) (e := .bf16) G _ ?_ i ?_
  · intro p hp
    simp only [List.mem_cons, List.not_mem_nil, or_false] at hp
    rcases hp with rfl | rfl
    · exact h1
    · exact h2
  · have b0 := (i 0).isLt
    have b1 : (i 1).val < 256 := (i 1).isLt
    by_cases h : (i 0).val < 256
    · refine ⟨_, List.mem_cons_of_mem _ (List.mem_cons_self ..), ?_⟩
      show i ∈ (Rect.unit (s := S512x256) ![0, 0] ![256, 256] i2).set
      refine Rect.mem_set_unit.mpr fun a => ?_
      fin_cases a
      · exact ⟨Nat.zero_le _, by simpa using h⟩
      · exact ⟨Nat.zero_le _, by simpa using b1⟩
    · refine ⟨_, List.mem_cons_self .., ?_⟩
      show i ∈ (Rect.unit (s := S512x256) ![256, 0] ![256, 256] i1).set
      refine Rect.mem_set_unit.mpr fun a => ?_
      fin_cases a
      · exact ⟨by simpa using h, by simpa using b0⟩
      · exact ⟨Nat.zero_le _, by simpa using b1⟩

variable (m : (ℓ : Loc nD τ sig) → Buf (Elt Ideal) ℓ) (c : Dev nD) (t : Fin cfg0.N)

/-- What a grid point leaves. -/
theorem outs_at (h0 : Tb (a := 512) (b := 256) (iblk m c 0 t) X0) (h1 : Tb (a := 4096) (b := 256) (X0_1 m c t) X1) (h2 : Tb (a := 256) (b := 256) (iblk m c 2 t) X2)
    (h3 : Tb (a := 4096) (b := 256) (X0_3 m c t) X3) (h4 : Tb (a := 256) (b := 256) (iblk m c 4 t) X4) (h5 : Tb (a := 4) (b := 128) (iblk m c 5 t) L)
    (h6 : Tb (a := 1) (b := 256) (iblk m c 6 t) G) (i : S512x256.Idx) :
    outsAt0 m c t i = ((blk c08 (lam c02 L) X0 X1 X2 X3 X4 G (i 0).val (i 1).val : ℝ) : EReal) := by
  unfold outsAt0 out0_A_7 kernelRun0_A
  dsimp only
  refine (View.read_writes_junk_apply_eq_canon _ _ _).trans ?_
  have hl : ∀ j, k0_pay2 (F := Ideal) (View.readAt (Elt Ideal) (ms0_5 t).view (Rect.unit (s := S4x128) ![0, 0] S4x128.size inb_S4x128_S4x128_0_0).toLoadRect ((hs0_5 t).unread (iblk m c 5 t))) j = ((lam c02 L : ℝ) : EReal) := by
    intro j
    refine pay2_at (fun k => ?_) j
    refine (load32_at (hs0_5 t) h5 inb_S4x128_S4x128_0_0 k).trans ?_
    rw [zero_add, zero_add]
  have hg : Tb (View.readAt (Elt Ideal) (ms0_6 t).view (Rect.unit (s := S1x256) ![0, 0] S1x256.size inb_S1x256_S1x256_0_0).toLoadRect ((hs0_6 t).unread (iblk m c 6 t))) G := by
    intro k
    refine (load32_at (hs0_6 t) h6 inb_S1x256_S1x256_0_0 k).trans ?_
    rw [zero_add, zero_add]
  refine two_pieces (fun i => ((blk c08 (lam c02 L) X0 X1 X2 X3 X4 G (i 0).val (i 1).val : ℝ) : EReal)) _ _ _ _ ?_ ?_ i
  · intro x
    have k0 := fun x => v919_at (c := c) (harg3 := hs0_0 t) (harg4 := hs0_1 t) (harg5 := hs0_2 t) (harg6 := hs0_3 t) (harg7 := hs0_4 t) (sc := scM0_2) h0 h1 h2 h3 h4 x
    have k1 := fun x => v1063_at (c := c) (harg3 := hs0_0 t) (harg4 := hs0_1 t) (harg5 := hs0_2 t) (harg6 := hs0_3 t) (harg7 := hs0_4 t) (sc := scM0_3) h0 h1 h2 h3 h4 x
    have hh := half_at 256 w08 hl k0 k1 hg x
    refine Eq.trans ?_ (hh.trans ?_)
    · rfl
    · show _ = ((blk c08 (lam c02 L) X0 X1 X2 X3 X4 G (256 + 1 * (x 0).val) (0 + 1 * (x 1).val) : ℝ) : EReal)
      simp only [zero_add, one_mul]
  · intro x
    have k0 := fun x => v631_at (c := c) (harg3 := hs0_0 t) (harg4 := hs0_1 t) (harg5 := hs0_2 t) (harg6 := hs0_3 t) (harg7 := hs0_4 t) (sc := scM0_0) h0 h1 h2 h3 h4 x
    have k1 := fun x => v775_at (c := c) (harg3 := hs0_0 t) (harg4 := hs0_1 t) (harg5 := hs0_2 t) (harg6 := hs0_3 t) (harg7 := hs0_4 t) (sc := scM0_1) h0 h1 h2 h3 h4 x
    have hh := half_at 0 w08 hl k0 k1 hg x
    refine Eq.trans ?_ (hh.trans ?_)
    · rfl
    · show _ = ((blk c08 (lam c02 L) X0 X1 X2 X3 X4 G (0 + 1 * (x 0).val) (0 + 1 * (x 1).val) : ℝ) : EReal)
      simp only [zero_add, one_mul]

end

end Cert.Block
-- ==== Proof.Windows.lean ====
module

public import proofs.«01_k».proof.Proof.Block

/-! What each input window holds at a grid point, from the argument arrays, and the whole result array. -/

@[expose] public section

set_option maxRecDepth 16384

noncomputable section

namespace Cert.Windows

open Cert.KernelIdeal Cert.KernelIdeal.Gen Cert.Chain Cert.Bridge Cert.Norm Cert.Block Idealize.ShloMosaic Idealize.ShloMosaic.TcCoe Idealize.SL.Sem
open Idealize.ShloMosaic.Pipeline (Dat)

/-- The row of batch `b`'s key `j`: the latent rows first, then the context rows. -/
def kr (b j : ℕ) : ℕ := if j < 4096 then 4096 * b + j else 8192 + 256 * b + (j - 4096)

/-- One head's half (at column `C`) for the query row `R`. -/
def hatt (Q K V : ℕ → ℕ → ℝ) (b h C R e : ℕ) : ℝ :=
  mean (scr (fun r d => Q r (256 * h + (C + d)) * qs) (fun j d => K (kr b j) (256 * h + (C + d)))) (fun j e => V (kr b j) (256 * h + e)) R e

/-- The result at row `R` and column `E`, with the layer's two numbers `c` and `a`. -/
def res (c a : ℝ) (Q K V L : ℕ → ℕ → ℝ) (g : ℕ → ℝ) (R E : ℕ) : ℝ :=
  nrm c (fun e => hatt Q K V (R / 4096) (E / 256) 0 R e - lam a L * hatt Q K V (R / 4096) (E / 256) 128 R e) g (E % 256)

/-! ## The index maps over the grid -/

/-- Which block of its array each window shows at a grid point. -/
theorem im0 : ∀ t : Fin cfg0.N, win0_0.index t 0 = t.val / 128 * 8 + t.val % 8 ∧ win0_0.index t 1 = t.val / 8 % 16 := by decide +kernel
theorem im1 : ∀ t : Fin cfg0.N, win0_1.index t 0 = t.val / 128 ∧ win0_1.index t 1 = t.val / 8 % 16 := by decide +kernel
theorem im2 : ∀ t : Fin cfg0.N, win0_2.index t 0 = 32 + t.val / 128 ∧ win0_2.index t 1 = t.val / 8 % 16 := by decide +kernel
theorem im3 : ∀ t : Fin cfg0.N, win0_3.index t 0 = t.val / 128 ∧ win0_3.index t 1 = t.val / 8 % 16 := by decide +kernel
theorem im4 : ∀ t : Fin cfg0.N, win0_4.index t 0 = 32 + t.val / 128 ∧ win0_4.index t 1 = t.val / 8 % 16 := by decide +kernel
theorem im5 : ∀ t : Fin cfg0.N, win0_5.index t 0 = 0 ∧ win0_5.index t 1 = 0 := by decide +kernel
theorem im6 : ∀ t : Fin cfg0.N, win0_6.index t 0 = 0 ∧ win0_6.index t 1 = 0 := by decide +kernel
theorem im7 : ∀ t : Fin cfg0.N, win0_7.index t 0 = t.val / 128 * 8 + t.val % 8 ∧ win0_7.index t 1 = t.val / 8 % 16 := by decide +kernel

section
variable (m : (ℓ : Loc nD τ sig) → Buf (Elt Ideal) ℓ) (c : Dev nD) (t : Fin cfg0.N)
variable {Q K V' L : ℕ → ℕ → ℝ} {g : ℕ → ℝ}

theorem at0 (hQ : Tb (a := 8704) (b := 4096) (m ((c : Thread nD τ).loc main_arg0)) Q) :
    Tb (a := 512) (b := 256) (iblk m c 0 t) (fun r d => Q (512 * (t.val / 128 * 8 + t.val % 8) + r) (256 * (t.val / 8 % 16) + d)) := by
  intro i
  unfold iblk
  rw [View.read_apply]
  show V m c main_arg0 _ = _
  rw [V_main_arg0]
  refine (hQ _).trans ?_
  show ((Q (win0_0.index t 0 * 512 + 1 * (i 0).val) (win0_0.index t 1 * 256 + 1 * (i 1).val) : ℝ) : EReal) = _
  rw [(im0 t).1, (im0 t).2, one_mul, one_mul, mul_comm _ 512, mul_comm _ 256]

theorem at1 (hK : Tb (a := 8704) (b := 4096) (m ((c : Thread nD τ).loc main_arg1)) K) :
    Tb (a := 4096) (b := 256) (X0_1 m c t) (fun r d => K (4096 * (t.val / 128) + r) (256 * (t.val / 8 % 16) + d)) := by
  intro i
  unfold X0_1 Pipeline.Window.fill
  rw [dif_pos (moved0_1 t i)]
  unfold iblk
  rw [View.read_apply]
  show V m c main_arg1 _ = _
  rw [V_main_arg1]
  refine (hK _).trans ?_
  show ((K (win0_1.index t 0 * 4096 + 1 * (i 0).val) (win0_1.index t 1 * 256 + 1 * (i 1).val) : ℝ) : EReal) = _
  rw [(im1 t).1, (im1 t).2, one_mul, one_mul, mul_comm _ 4096, mul_comm _ 256]

theorem at2 (hK : Tb (a := 8704) (b := 4096) (m ((c : Thread nD τ).loc main_arg1)) K) :
    Tb (a := 256) (b := 256) (iblk m c 2 t) (fun r d => K (8192 + 256 * (t.val / 128) + r) (256 * (t.val / 8 % 16) + d)) := by
  intro i
  unfold iblk
  rw [View.read_apply]
  show V m c main_arg1 _ = _
  rw [V_main_arg1]
  refine (hK _).trans ?_
  show ((K (win0_2.index t 0 * 256 + 1 * (i 0).val) (win0_2.index t 1 * 256 + 1 * (i 1).val) : ℝ) : EReal) = _
  rw [(im2 t).1, (im2 t).2, one_mul, one_mul, mul_comm _ 256, mul_comm _ 256, mul_add, show 256 * 32 = 8192 from rfl]

theorem at3 (hV : Tb (a := 8704) (b := 4096) (m ((c : Thread nD τ).loc main_arg2)) V') :
    Tb (a := 4096) (b := 256) (X0_3 m c t) (fun r d => V' (4096 * (t.val / 128) + r) (256 * (t.val / 8 % 16) + d)) := by
  intro i
  unfold X0_3 Pipeline.Window.fill
  rw [dif_pos (moved0_3 t i)]
  unfold iblk
  rw [View.read_apply]
  show V m c main_arg2 _ = _
  rw [V_main_arg2]
  refine (hV _).trans ?_
  show ((V' (win0_3.index t 0 * 4096 + 1 * (i 0).val) (win0_3.index t 1 * 256 + 1 * (i 1).val) : ℝ) : EReal) = _
  rw [(im3 t).1, (im3 t).2, one_mul, one_mul, mul_comm _ 4096, mul_comm _ 256]

theorem at4 (hV : Tb (a := 8704) (b := 4096) (m ((c : Thread nD τ).loc main_arg2)) V') :
    Tb (a := 256) (b := 256) (iblk m c 4 t) (fun r d => V' (8192 + 256 * (t.val / 128) + r) (256 * (t.val / 8 % 16) + d)) := by
  intro i
  unfold iblk
  rw [View.read_apply]
  show V m c main_arg2 _ = _
  rw [V_main_arg2]
  refine (hV _).trans ?_
  show ((V' (win0_4.index t 0 * 256 + 1 * (i 0).val) (win0_4.index t 1 * 256 + 1 * (i 1).val) : ℝ) : EReal) = _
  rw [(im4 t).1, (im4 t).2, one_mul, one_mul, mul_comm _ 256, mul_comm _ 256, mul_add, show 256 * 32 = 8192 from rfl]

theorem at5 (hL : Tb (a := 4) (b := 128) (m ((c : Thread nD τ).loc main_arg3)) L) : Tb (a := 4) (b := 128) (iblk m c 5 t) L := by
  intro i
  unfold iblk
  rw [View.read_apply]
  show V m c main_arg3 _ = _
  rw [V_main_arg3]
  refine (hL _).trans ?_
  show ((L (win0_5.index t 0 * 4 + 1 * (i 0).val) (win0_5.index t 1 * 128 + 1 * (i 1).val) : ℝ) : EReal) = _
  rw [(im5 t).1, (im5 t).2, one_mul, one_mul, zero_mul, zero_mul, zero_add, zero_add]

/-- The gains as the kernel's host reshapes them. -/
theorem V_v0 : V m c main_v0 = (shapeCast S1x256 (m ((c : Thread nD τ).loc main_arg4) : Vec Ideal S256 .f32) shapeCasts_S256_S1x256 : Vec Ideal S1x256 .f32) := by
  show StableHlo.after hostOps0 _ (Proc.devRef .tc main_v0) = _
  after_results
  rfl

theorem at6 (hg : ∀ i : S256.Idx, (m ((c : Thread nD τ).loc main_arg4) : Vec Ideal S256 .f32) i = ((g (i 0).val : ℝ) : EReal)) :
    Tb (a := 1) (b := 256) (iblk m c 6 t) (fun _ => g) := by
  intro i
  unfold iblk
  rw [View.read_apply]
  show V m c main_v0 _ = _
  rw [V_v0]
  obtain ⟨j, hj0, hj⟩ : ∃ j : S1x256.Idx, j = ((cfg0.win 6).blk t).view.emb i ∧ (j 1).val = (i 1).val := by
    refine ⟨_, rfl, ?_⟩
    show win0_6.index t 1 * 256 + 1 * (i 1).val = _
    rw [(im6 t).2, one_mul, zero_mul, zero_add]
  refine (congrArg (shapeCast S1x256 (m ((c : Thread nD τ).loc main_arg4) : Vec Ideal S256 .f32) shapeCasts_S256_S1x256) hj0.symm).trans ?_
  rw [← hj]
  idx_vars j
  pointwise
  exact hg _

/-- The two halves' key tables joined are the whole batch's. -/
theorem jn_kr (K : ℕ → ℕ → ℝ) (b o : ℕ) :
    jn (fun r d => K (4096 * b + r) (o + d)) (fun r d => K (8192 + 256 * b + r) (o + d)) = fun j d => K (kr b j) (o + d) := by
  funext j d
  unfold jn kr
  split_ifs <;> rfl

/-- What a point leaves is its block of the result. -/
theorem outs_res (hQ : Tb (a := 8704) (b := 4096) (m ((c : Thread nD τ).loc main_arg0)) Q)
    (hK : Tb (a := 8704) (b := 4096) (m ((c : Thread nD τ).loc main_arg1)) K) (hV : Tb (a := 8704) (b := 4096) (m ((c : Thread nD τ).loc main_arg2)) V')
    (hL : Tb (a := 4) (b := 128) (m ((c : Thread nD τ).loc main_arg3)) L)
    (hg : ∀ i : S256.Idx, (m ((c : Thread nD τ).loc main_arg4) : Vec Ideal S256 .f32) i = ((g (i 0).val : ℝ) : EReal)) (i : S512x256.Idx) :
    outsAt0 m c t i = ((res c08 c02 Q K V' L g (512 * (t.val / 128 * 8 + t.val % 8) + (i 0).val) (256 * (t.val / 8 % 16) + (i 1).val) : ℝ) : EReal) := by
  rw [outs_at m c t (at0 m c t hQ) (at1 m c t hK) (at2 m c t hK) (at3 m c t hV) (at4 m c t hV) (at5 m c t hL) (at6 m c t hg) i]
  have ht : t.val < 256 := t.isLt
  have b0 : (i 0).val < 512 := (i 0).isLt
  have b1 : (i 1).val < 256 := (i 1).isLt
  have e1 : (512 * (t.val / 128 * 8 + t.val % 8) + (i 0).val) / 4096 = t.val / 128 := by omega
  have e2 : (256 * (t.val / 8 % 16) + (i 1).val) / 256 = t.val / 8 % 16 := by omega
  have e3 : (256 * (t.val / 8 % 16) + (i 1).val) % 256 = (i 1).val := by omega
  unfold res blk
  rw [e1, e2, e3]
  unfold att hatt
  rw [jn_kr, jn_kr]
  rfl

/-- The result array, with the layer's two numbers. -/
def G (c a : ℝ) (Q K V L : ℕ → ℕ → ℝ) (g : ℕ → ℝ) : Vec Ideal S8192x4096 .bf16 := fun i => ((res c a Q K V L g (i 0).val (i 1).val : ℝ) : EReal)

/-- The result array after the run. -/
theorem arr_eq (hQ : Tb (a := 8704) (b := 4096) (m ((c : Thread nD τ).loc main_arg0)) Q)
    (hK : Tb (a := 8704) (b := 4096) (m ((c : Thread nD τ).loc main_arg1)) K) (hV : Tb (a := 8704) (b := 4096) (m ((c : Thread nD τ).loc main_arg2)) V')
    (hL : Tb (a := 4) (b := 128) (m ((c : Thread nD τ).loc main_arg3)) L)
    (hg : ∀ i : S256.Idx, (m ((c : Thread nD τ).loc main_arg4) : Vec Ideal S256 .f32) i = ((g (i 0).val : ℝ) : EReal)) :
    (dats m 0 c).arrAt 7 cfg0.N = G c08 c02 Q K V' L g := by
  refine (dats m 0 c).arrAt_eq_of_cover 7 (G c08 c02 Q K V' L g) ?_ ?_
  · intro t _
    rw [Cert.KernelIdeal.Value.flushed7]
    funext y
    rw [View.read_apply]
    refine (outs_res m c t hQ hK hV hL hg y).trans ?_
    show _ = ((res c08 c02 Q K V' L g (win0_7.index t 0 * 512 + 1 * (y 0).val) (win0_7.index t 1 * 256 + 1 * (y 1).val) : ℝ) : EReal)
    rw [(im7 t).1, (im7 t).2, one_mul, one_mul, mul_comm _ 512, mul_comm _ 256]
  · intro i
    have b0 : (i 0).val < 8192 := (i 0).isLt
    have b1 : (i 1).val < 4096 := (i 1).isLt
    have hN : cfg0.N = 256 := N_0
    let t : Fin cfg0.N := ⟨(i 0).val / 4096 * 128 + (i 1).val / 256 * 8 + (i 0).val / 512 % 8, by rw [hN]; omega⟩
    have ht : t.val = (i 0).val / 4096 * 128 + (i 1).val / 256 * 8 + (i 0).val / 512 % 8 := rfl
    refine ⟨t, flush0_7 t, ?_⟩
    let y : S512x256.Idx := ValueIdx.ix2 ⟨(i 0).val % 512, Nat.mod_lt _ (by norm_num)⟩ ⟨(i 1).val % 256, Nat.mod_lt _ (by norm_num)⟩
    have hy : ((cfg0.win 7).blk t).view.emb y = i := by
      funext a
      apply Fin.ext
      match a with
      | ⟨0, _⟩ =>
        show win0_7.index t 0 * 512 + 1 * ((i 0).val % 512) = (i 0).val
        rw [(im7 t).1, ht]; omega
      | ⟨1, _⟩ =>
        show win0_7.index t 1 * 256 + 1 * ((i 1).val % 256) = (i 1).val
        rw [(im7 t).2, ht]; omega
    rw [← hy]
    exact View.emb_mem_set _ _

end

end Cert.Windows
-- ==== Proof.Ref.lean ====
module

public import proofs.«01_k».proof.Proof.Windows
public import proofs.«01_k».proof.Proof.Gen.ReferenceIdeal
public import proofs.«01_k».proof.Proof.Gen.ReferenceIdeal.Read

/-! The reference read at an index, from tables of the arguments: attention with an ordinary softmax, then the normalisation. -/

@[expose] public section

set_option maxRecDepth 16384

noncomputable section

namespace Cert.Ref

open Cert.ReferenceIdeal Cert.ReferenceIdeal.Gen Cert.ReferenceIdeal.Read Idealize.ShloMosaic Idealize.ShloMosaic.TcCoe Idealize.SL.Sem
open Cert.Chain (coe_sum fold_max_real)
open Cert.Norm (dlam lam nrm eps c02 c08 w256 weps w02 w08 rsqrt_pos mean_sq_pos sum_fin)
open Cert.Windows (kr)

/-! ## The reference's own words, over the reals -/

/-- A score: a query's row against a key's row, the query divided by the square root of 128. -/
def sco (Q K : ℕ → ℕ → ℝ) (b h c r s : ℕ) : ℝ :=
  ∑ d ∈ Finset.range 128, (Q (4096 * b + r) (256 * h + (128 * c + d)) * (1 / Real.sqrt 128)) * K (kr b s) (256 * h + (128 * c + d))

/-- A softmax weight. -/
def wgt (Q K : ℕ → ℕ → ℝ) (b h c r s : ℕ) : ℝ :=
  Real.exp (sco Q K b h c r s) / ∑ j ∈ Finset.range 4352, Real.exp (sco Q K b h c r j)

/-- The attention's output before the normalisation. -/
def mix (a : ℝ) (Q K V L : ℕ → ℕ → ℝ) (b h r e : ℕ) : ℝ :=
  ∑ s ∈ Finset.range 4352, V (kr b s) (256 * h + e) * (wgt Q K b h 0 r s - lam a L * wgt Q K b h 1 r s)

variable {x0 : (⟨S8704x4096, .f32⟩ : BufTy).Contents (Elt Ideal)} {x1 x2 : (⟨S8704x4096, .bf16⟩ : BufTy).Contents (Elt Ideal)}
  {x3 : (⟨S4x128, .f32⟩ : BufTy).Contents (Elt Ideal)} {x4 : (⟨S256, .f32⟩ : BufTy).Contents (Elt Ideal)}
  {Q K V L : ℕ → ℕ → ℝ} {g : ℕ → ℝ}

/-- Equal coordinates give equal table entries. -/
theorem tab (X : ℕ → ℕ → ℝ) {a a' b b' : ℕ} (ha : a = a') (hb : b = b') : ((X a b : ℝ) : EReal) = ((X a' b' : ℝ) : EReal) := by
  rw [ha, hb]

/-! ## The arguments laid out by head -/

/-- The queries by batch, row, head, half and column. -/
theorem v20_at (hQ : ∀ i : S8704x4096.Idx, x0 i = ((Q (i 0).val (i 1).val : ℝ) : EReal)) (i : S2x4096x16x2x128.Idx) :
    val_main_v20 (F := Ideal) x0 i = ((Q (4096 * (i 0).val + (i 1).val) (256 * (i 2).val + (128 * (i 3).val + (i 4).val)) : ℝ) : EReal) := by
  have h0 : (i 0).val < 2 := (i 0).isLt
  have h1 : (i 1).val < 4096 := (i 1).isLt
  have h2 : (i 2).val < 16 := (i 2).isLt
  have h3 : (i 3).val < 2 := (i 3).isLt
  have h4 : (i 4).val < 128 := (i 4).isLt
  rw [val_main_v20_apply, val_main_v19_apply, val_main_v18_apply, hQ]
  refine tab Q ?_ ?_
  · show (((((((i 0).val * 4096 + (i 1).val) * 16 + (i 2).val) * 2 + (i 3).val) * 128 + (i 4).val) / 16777216 * 4096 + (((((i 0).val * 4096 + (i 1).val) * 16 + (i 2).val) * 2 + (i 3).val) * 128 + (i 4).val) / 4096 % 4096) * 4096
      + (((((i 0).val * 4096 + (i 1).val) * 16 + (i 2).val) * 2 + (i 3).val) * 128 + (i 4).val) % 4096) / 4096 = _
    omega
  · show (((((((i 0).val * 4096 + (i 1).val) * 16 + (i 2).val) * 2 + (i 3).val) * 128 + (i 4).val) / 16777216 * 4096 + (((((i 0).val * 4096 + (i 1).val) * 16 + (i 2).val) * 2 + (i 3).val) * 128 + (i 4).val) / 4096 % 4096) * 4096
      + (((((i 0).val * 4096 + (i 1).val) * 16 + (i 2).val) * 2 + (i 3).val) * 128 + (i 4).val) % 4096) % 4096 = _
    omega

/-- The keys, latent rows then context rows. -/
theorem v28_at (hK : ∀ i : S8704x4096.Idx, x1 i = ((K (i 0).val (i 1).val : ℝ) : EReal)) (i : S2x4352x4096.Idx) :
    val_main_v28 (F := Ideal) x1 i = ((K (kr (i 0).val (i 1).val) (i 2).val : ℝ) : EReal) := by
  have h0 : (i 0).val < 2 := (i 0).isLt
  have h1 : (i 1).val < 4352 := (i 1).isLt
  have h2 : (i 2).val < 4096 := (i 2).isLt
  unfold val_main_v28 kr
  by_cases hlt : (i 1).val < 4096
  · rw [if_pos hlt]
    let j : S2x4096x4096.Idx := fun a => match a with
      | ⟨0, _⟩ => ⟨(i 0).val, h0⟩
      | ⟨1, _⟩ => ⟨(i 1).val, hlt⟩
      | ⟨2, _⟩ => ⟨(i 2).val, h2⟩
    refine (concatenate_pair_apply_left (1 : Fin 3) (val_main_v25 (F := Ideal) x1) (val_main_v27 (F := Ideal) x1) _ i rfl j fun b => match b with
      | ⟨0, _⟩ => rfl
      | ⟨1, _⟩ => rfl
      | ⟨2, _⟩ => rfl).trans ?_
    rw [val_main_v25_apply, val_main_v24_apply, val_main_v0_apply]
    refine (hK _).trans (tab K ?_ ?_)
    · show (((i 0).val * 4096 + (i 1).val) * 4096 + (i 2).val) / 4096 = _
      omega
    · show (((i 0).val * 4096 + (i 1).val) * 4096 + (i 2).val) % 4096 = _
      omega
  · rw [if_neg hlt]
    let j : S2x256x4096.Idx := fun a => match a with
      | ⟨0, _⟩ => ⟨(i 0).val, h0⟩
      | ⟨1, _⟩ => ⟨(i 1).val - 4096, by show (i 1).val - 4096 < 256; omega⟩
      | ⟨2, _⟩ => ⟨(i 2).val, h2⟩
    refine (concatenate_pair_apply_right (1 : Fin 3) (val_main_v25 (F := Ideal) x1) (val_main_v27 (F := Ideal) x1) _ i rfl rfl j (fun b hb => match b, hb with
      | ⟨0, _⟩, _ => rfl
      | ⟨1, _⟩, hb => absurd rfl hb
      | ⟨2, _⟩, _ => rfl) (by show (i 1).val - 4096 + 4096 = (i 1).val; omega)).trans ?_
    rw [val_main_v27_apply, val_main_v26_apply, val_main_v0_apply]
    refine (hK _).trans (tab K ?_ ?_)
    · show 8192 + (((i 0).val * 256 + ((i 1).val - 4096)) * 4096 + (i 2).val) / 4096 = _
      omega
    · show (((i 0).val * 256 + ((i 1).val - 4096)) * 4096 + (i 2).val) % 4096 = _
      omega

/-- The values, latent rows then context rows. -/
theorem v34_at (hV : ∀ i : S8704x4096.Idx, x2 i = ((V (i 0).val (i 1).val : ℝ) : EReal)) (i : S2x4352x4096.Idx) :
    val_main_v34 (F := Ideal) x2 i = ((V (kr (i 0).val (i 1).val) (i 2).val : ℝ) : EReal) := v28_at hV i

/-- The keys by batch, row, head, half and column. -/
theorem v29_at (hK : ∀ i : S8704x4096.Idx, x1 i = ((K (i 0).val (i 1).val : ℝ) : EReal)) (i : S2x4352x16x2x128.Idx) :
    val_main_v29 (F := Ideal) x1 i = ((K (kr (i 0).val (i 1).val) (256 * (i 2).val + (128 * (i 3).val + (i 4).val)) : ℝ) : EReal) := by
  have h0 : (i 0).val < 2 := (i 0).isLt
  have h1 : (i 1).val < 4352 := (i 1).isLt
  have h2 : (i 2).val < 16 := (i 2).isLt
  have h3 : (i 3).val < 2 := (i 3).isLt
  have h4 : (i 4).val < 128 := (i 4).isLt
  rw [val_main_v29_apply, v28_at hK]
  refine tab K ?_ ?_
  · show kr ((((((i 0).val * 4352 + (i 1).val) * 16 + (i 2).val) * 2 + (i 3).val) * 128 + (i 4).val) / 17825792)
      ((((((i 0).val * 4352 + (i 1).val) * 16 + (i 2).val) * 2 + (i 3).val) * 128 + (i 4).val) / 4096 % 4352) = _
    congr 1 <;> omega
  · show (((((i 0).val * 4352 + (i 1).val) * 16 + (i 2).val) * 2 + (i 3).val) * 128 + (i 4).val) % 4096 = _
    omega

/-- The values by batch, row, head and column. -/
theorem v35_at (hV : ∀ i : S8704x4096.Idx, x2 i = ((V (i 0).val (i 1).val : ℝ) : EReal)) (i : S2x4352x16x256.Idx) :
    val_main_v35 (F := Ideal) x2 i = ((V (kr (i 0).val (i 1).val) (256 * (i 2).val + (i 3).val) : ℝ) : EReal) := by
  have h0 : (i 0).val < 2 := (i 0).isLt
  have h1 : (i 1).val < 4352 := (i 1).isLt
  have h2 : (i 2).val < 16 := (i 2).isLt
  have h3 : (i 3).val < 256 := (i 3).isLt
  rw [val_main_v35_apply, v34_at hV]
  refine tab V ?_ ?_
  · show kr (((((i 0).val * 4352 + (i 1).val) * 16 + (i 2).val) * 256 + (i 3).val) / 17825792)
      (((((i 0).val * 4352 + (i 1).val) * 16 + (i 2).val) * 256 + (i 3).val) / 4096 % 4352) = _
    congr 1 <;> omega
  · show ((((i 0).val * 4352 + (i 1).val) * 16 + (i 2).val) * 256 + (i 3).val) % 4096 = _
    omega

/-! ## The mixing constant -/

theorem w0 : Ideal.ofBits .f32 0x00000000#32 = ((0 : ℝ) : EReal) := by
  simp [Ideal.ofBits, Ideal.ieee, -EReal.coe_mul]

theorem w128 : Ideal.ofBits .f32 0x43000000#32 = ((128 : ℝ) : EReal) := by
  simp [Ideal.ofBits, Ideal.ieee, -EReal.coe_mul]; norm_num

/-- A sum over the indices of a vector of 128 elements. -/
theorem sum128 (f : ℕ → ℝ) : ∑ j : S128.Idx, ((f (j 0).val : ℝ) : EReal) = ((∑ d ∈ Finset.range 128, f d : ℝ) : EReal) := by
  rw [← sum_fin 128 f]
  let e : S128.Idx ≃ Fin 128 :=
    { toFun := fun j => j 0
      invFun := fun k => ValueIdx.ix1 k
      left_inv := fun j => by funext a; match a with | ⟨0, _⟩ => rfl
      right_inv := fun k => rfl }
  exact Equiv.sum_comp e fun k : Fin 128 => ((f k.val : ℝ) : EReal)

/-- The difference of exponentials. -/
theorem v16_at (hL : ∀ i : S4x128.Idx, x3 i = ((L (i 0).val (i 1).val : ℝ) : EReal)) (i : S_.Idx) :
    val_main_v16 (F := Ideal) x3 i = ((dlam L : ℝ) : EReal) := by
  have a6 : ∀ j : S128.Idx, val_main_v6 (F := Ideal) x3 j = ((L 0 (j 0).val * L 1 (j 0).val : ℝ) : EReal) := fun j => by
    have hj : (j 0).val < 128 := (j 0).isLt
    rw [val_main_v6_apply, val_main_v3_apply, val_main_v2_apply, val_main_v5_apply, val_main_v4_apply, hL, hL, EReal.coe_mul]
    refine congrArg₂ _ (tab L ?_ ?_) (tab L ?_ ?_)
    · rfl
    · show (j 0).val % 128 = _; omega
    · rfl
    · show (j 0).val % 128 = _; omega
  have a13 : ∀ j : S128.Idx, val_main_v13 (F := Ideal) x3 j = ((L 2 (j 0).val * L 3 (j 0).val : ℝ) : EReal) := fun j => by
    have hj : (j 0).val < 128 := (j 0).isLt
    rw [val_main_v13_apply, val_main_v10_apply, val_main_v9_apply, val_main_v12_apply, val_main_v11_apply, hL, hL, EReal.coe_mul]
    refine congrArg₂ _ (tab L ?_ ?_) (tab L ?_ ?_)
    · rfl
    · show (j 0).val % 128 = _; omega
    · rfl
    · show (j 0).val % 128 = _; omega
  have a7 : ∀ i : S_.Idx, val_main_v7 (F := Ideal) x3 i = ((∑ d ∈ Finset.range 128, L 0 d * L 1 d : ℝ) : EReal) := fun i => by
    rw [val_main_v7_apply, Finset.sum_congr rfl fun j _ => a6 j, sum128 fun d => L 0 d * L 1 d]
    show Ideal.ofBits .f32 0x00000000#32 + _ = _
    rw [w0, ← EReal.coe_add, zero_add]
  have a14 : ∀ i : S_.Idx, val_main_v14 (F := Ideal) x3 i = ((∑ d ∈ Finset.range 128, L 2 d * L 3 d : ℝ) : EReal) := fun i => by
    rw [val_main_v14_apply, Finset.sum_congr rfl fun j _ => a13 j, sum128 fun d => L 2 d * L 3 d]
    show Ideal.ofBits .f32 0x00000000#32 + _ = _
    rw [w0, ← EReal.coe_add, zero_add]
  rw [val_main_v16_apply, val_main_v8_apply, val_main_v15_apply, a7, a14]
  rw [Ideal.subf_def, Ideal.hostUnary_exp_def, Ideal.hostUnary_exp_def, Ideal.exp_coe, Ideal.exp_coe, ← EReal.coe_sub]
  rfl

/-- The mixing constant. -/
theorem v17_at (hL : ∀ i : S4x128.Idx, x3 i = ((L (i 0).val (i 1).val : ℝ) : EReal)) (i : S_.Idx) :
    val_main_v17 (F := Ideal) x3 i = ((lam c02 L : ℝ) : EReal) := by
  rw [val_main_v17_apply, v16_at hL, Ideal.addf_def, show val_main_cst_1 (F := Ideal) i = ((c02 : ℝ) : EReal) from w02, ← EReal.coe_add]
  rfl

/-! ## The softmax -/

/-- The scores. -/
theorem v36_at (hQ : ∀ i : S8704x4096.Idx, x0 i = ((Q (i 0).val (i 1).val : ℝ) : EReal))
    (hK : ∀ i : S8704x4096.Idx, x1 i = ((K (i 0).val (i 1).val : ℝ) : EReal)) (i : S2x16x2x4096x4352.Idx) :
    val_main_v36 (F := Ideal) x0 x1 i = ((sco Q K (i 0).val (i 1).val (i 2).val (i 3).val (i 4).val : ℝ) : EReal) := by
  rw [val_main_v36_apply]
  unfold sco
  rw [← sum_fin 128 fun d => (Q (4096 * (i 0).val + (i 3).val) (256 * (i 1).val + (128 * (i 2).val + d)) * (1 / Real.sqrt 128))
    * K (kr (i 0).val (i 4).val) (256 * (i 1).val + (128 * (i 2).val + d))]
  refine Finset.sum_congr rfl fun k _ => ?_
  rw [val_main_v23_apply, v20_at hQ, v29_at hK, val_main_v22_apply, val_main_v21_apply, val_main_cst_2_apply, EReal.coe_mul]
  refine congrArg₂ _ ?_ rfl
  show Ideal.div _ (Ideal.sqrt (Ideal.ofBits .f32 0x43000000#32)) = _
  rw [w128, Ideal.sqrt_coe, if_neg (by norm_num), Ideal.div_coe (by positivity), ← EReal.coe_mul]

/-- The row maximum is a real number. -/
theorem v39_real (hQ : ∀ i : S8704x4096.Idx, x0 i = ((Q (i 0).val (i 1).val : ℝ) : EReal))
    (hK : ∀ i : S8704x4096.Idx, x1 i = ((K (i 0).val (i 1).val : ℝ) : EReal)) (i : S2x16x2x4096.Idx) :
    ∃ M : ℝ, val_main_v39 (F := Ideal) x0 x1 i = (M : EReal) := by
  have hb : Ideal.ofBits .f32 0xFF800000#32 = (⊥ : EReal) := by simp [Ideal.ofBits, Ideal.ieee, -EReal.coe_mul]
  rw [val_main_v39_apply, val_main_v38_apply, val_main_cst_4_apply]
  unfold val_main_v37
  have hr := v36_at hQ hK
  generalize val_main_v36 (F := Ideal) x0 x1 = y at hr
  have hf := Host.reduce_eq_fold_single (s := S2x16x2x4096x4352) (t := S2x16x2x4096) (a := 4) (FloatOps.maximumf (F := Ideal) (φ := .f32)) y
    (val_main_cst_3 (F := Ideal)) reducesTo_S2x16x2x4096x4352_S2x16x2x4096_d4 (by decide) h_S_ i
  obtain ⟨M, hM⟩ := fold_max_real (Finset.univ : Finset (Fin (S2x16x2x4096x4352.size 4)))
    (y ∘ Shape.Reduces.lift (s := S2x16x2x4096x4352) (t := S2x16x2x4096) (a := 4) (by decide) i) (fun k _ => ⟨_, hr _⟩) ⟨⟨0, by decide⟩, Finset.mem_univ _⟩
  refine ⟨M, ?_⟩
  rw [hf]
  show max (Ideal.ofBits .f32 0xFF800000#32) (Finset.fold max (Ideal.ofBits .f32 0xFF800000#32) (y ∘ _) Finset.univ) = _
  rw [hb, hM]
  exact bot_sup_eq _

/-- Taking a number off every score leaves the softmax weights as they were. -/
theorem soft_shift (S : ℕ → ℝ) (M : ℝ) (s : ℕ) :
    Real.exp (S s - M) * (1 / ∑ j ∈ Finset.range 4352, Real.exp (S j - M)) = Real.exp (S s) / ∑ j ∈ Finset.range 4352, Real.exp (S j) := by
  have e : ∑ j ∈ Finset.range 4352, Real.exp (S j - M) = (∑ j ∈ Finset.range 4352, Real.exp (S j)) / Real.exp M := by
    rw [Finset.sum_div]
    exact Finset.sum_congr rfl fun j _ => Real.exp_sub _ _
  rw [e, Real.exp_sub]
  have hM' : Real.exp M ≠ 0 := (Real.exp_pos M).ne'
  have hs : (∑ j ∈ Finset.range 4352, Real.exp (S j)) ≠ 0 := (Cert.Chain.sum_pos_of _ fun j => Real.exp_pos _).ne'
  generalize (∑ j ∈ Finset.range 4352, Real.exp (S j)) = t at hs ⊢
  field_simp

/-- The softmax weights. -/
theorem v47_at (hQ : ∀ i : S8704x4096.Idx, x0 i = ((Q (i 0).val (i 1).val : ℝ) : EReal))
    (hK : ∀ i : S8704x4096.Idx, x1 i = ((K (i 0).val (i 1).val : ℝ) : EReal)) (i : S2x16x2x4096x4352.Idx) :
    val_main_v47 (F := Ideal) x0 x1 i = ((wgt Q K (i 0).val (i 1).val (i 2).val (i 3).val (i 4).val : ℝ) : EReal) := by
  obtain ⟨M, hM⟩ := v39_real hQ hK (idx_main_v40 (idx_main_v41 i))
  have a43 : ∀ j : S2x16x2x4096x4352.Idx, idx_main_v40 (idx_main_v41 j) = idx_main_v40 (idx_main_v41 i) → val_main_v43 (F := Ideal) x0 x1 j
      = ((Real.exp (sco Q K (j 0).val (j 1).val (j 2).val (j 3).val (j 4).val - M) : ℝ) : EReal) := fun j hj => by
    rw [val_main_v43_apply, val_main_v42_apply, val_main_v41_apply, val_main_v40_apply, hj, hM, v36_at hQ hK]
    rw [Ideal.subf_def, Ideal.hostUnary_exp_def, ← EReal.coe_sub, Ideal.exp_coe]
  have a44 : val_main_v44 (F := Ideal) x0 x1 (idx_main_v45 (idx_main_v46 i))
      = ((∑ j ∈ Finset.range 4352, Real.exp (sco Q K (i 0).val (i 1).val (i 2).val (i 3).val j - M) : ℝ) : EReal) := by
    rw [val_main_v44_apply, ← sum_fin 4352 fun j => Real.exp (sco Q K (i 0).val (i 1).val (i 2).val (i 3).val j - M)]
    have e : (val_main_cst_5 (F := Ideal)) (Shape.Idx.first h_S_) = (0 : EReal) := w0
    rw [e, zero_add]
    exact Finset.sum_congr rfl fun k _ => a43 _ rfl
  rw [val_main_v47_apply, a43 i rfl, val_main_v46_apply, val_main_v45_apply, a44]
  have hpos : (∑ j ∈ Finset.range 4352, Real.exp (sco Q K (i 0).val (i 1).val (i 2).val (i 3).val j - M)) ≠ 0 :=
    (Cert.Chain.sum_pos_of _ fun j => Real.exp_pos _).ne'
  show Ideal.div _ _ = _
  rw [Ideal.div_coe hpos, ← EReal.coe_mul]
  exact congrArg (fun x : ℝ => (x : EReal)) (soft_shift (fun j => sco Q K (i 0).val (i 1).val (i 2).val (i 3).val j) M (i 4).val)

/-- The first half's weights. -/
theorem v49_at (hQ : ∀ i : S8704x4096.Idx, x0 i = ((Q (i 0).val (i 1).val : ℝ) : EReal))
    (hK : ∀ i : S8704x4096.Idx, x1 i = ((K (i 0).val (i 1).val : ℝ) : EReal)) (i : S2x16x4096x4352.Idx) :
    val_main_v49 (F := Ideal) x0 x1 i = ((wgt Q K (i 0).val (i 1).val 0 (i 2).val (i 3).val : ℝ) : EReal) := by
  have h0 : (i 0).val < 2 := (i 0).isLt
  have h1 : (i 1).val < 16 := (i 1).isLt
  have h2 : (i 2).val < 4096 := (i 2).isLt
  have h3 : (i 3).val < 4352 := (i 3).isLt
  have e0 : ((((i 0).val * 16 + (i 1).val) * 4096 + (i 2).val) * 4352 + (i 3).val) / 285212672 = (i 0).val := by omega
  have e1 : ((((i 0).val * 16 + (i 1).val) * 4096 + (i 2).val) * 4352 + (i 3).val) / 17825792 % 16 = (i 1).val := by omega
  have e2 : ((((i 0).val * 16 + (i 1).val) * 4096 + (i 2).val) * 4352 + (i 3).val) / 4352 % 4096 = (i 2).val := by omega
  have e3 : ((((i 0).val * 16 + (i 1).val) * 4096 + (i 2).val) * 4352 + (i 3).val) % 4352 = (i 3).val := by omega
  rw [val_main_v49_apply, val_main_v48_apply, v47_at hQ hK]
  show ((wgt Q K (((((i 0).val * 16 + (i 1).val) * 4096 + (i 2).val) * 4352 + (i 3).val) / 285212672)
    (((((i 0).val * 16 + (i 1).val) * 4096 + (i 2).val) * 4352 + (i 3).val) / 17825792 % 16) 0
    (((((i 0).val * 16 + (i 1).val) * 4096 + (i 2).val) * 4352 + (i 3).val) / 4352 % 4096)
    (((((i 0).val * 16 + (i 1).val) * 4096 + (i 2).val) * 4352 + (i 3).val) % 4352) : ℝ) : EReal) = _
  rw [e0, e1, e2, e3]

/-- The second half's weights. -/
theorem v51_at (hQ : ∀ i : S8704x4096.Idx, x0 i = ((Q (i 0).val (i 1).val : ℝ) : EReal))
    (hK : ∀ i : S8704x4096.Idx, x1 i = ((K (i 0).val (i 1).val : ℝ) : EReal)) (i : S2x16x4096x4352.Idx) :
    val_main_v51 (F := Ideal) x0 x1 i = ((wgt Q K (i 0).val (i 1).val 1 (i 2).val (i 3).val : ℝ) : EReal) := by
  have h0 : (i 0).val < 2 := (i 0).isLt
  have h1 : (i 1).val < 16 := (i 1).isLt
  have h2 : (i 2).val < 4096 := (i 2).isLt
  have h3 : (i 3).val < 4352 := (i 3).isLt
  have e0 : ((((i 0).val * 16 + (i 1).val) * 4096 + (i 2).val) * 4352 + (i 3).val) / 285212672 = (i 0).val := by omega
  have e1 : ((((i 0).val * 16 + (i 1).val) * 4096 + (i 2).val) * 4352 + (i 3).val) / 17825792 % 16 = (i 1).val := by omega
  have e2 : ((((i 0).val * 16 + (i 1).val) * 4096 + (i 2).val) * 4352 + (i 3).val) / 4352 % 4096 = (i 2).val := by omega
  have e3 : ((((i 0).val * 16 + (i 1).val) * 4096 + (i 2).val) * 4352 + (i 3).val) % 4352 = (i 3).val := by omega
  rw [val_main_v51_apply, val_main_v50_apply, v47_at hQ hK]
  show ((wgt Q K (((((i 0).val * 16 + (i 1).val) * 4096 + (i 2).val) * 4352 + (i 3).val) / 285212672)
    (((((i 0).val * 16 + (i 1).val) * 4096 + (i 2).val) * 4352 + (i 3).val) / 17825792 % 16) (1 + 0)
    (((((i 0).val * 16 + (i 1).val) * 4096 + (i 2).val) * 4352 + (i 3).val) / 4352 % 4096)
    (((((i 0).val * 16 + (i 1).val) * 4096 + (i 2).val) * 4352 + (i 3).val) % 4352) : ℝ) : EReal) = _
  rw [e0, e1, e2, e3]

/-- The difference of the two halves' weights. -/
theorem v54_at (hQ : ∀ i : S8704x4096.Idx, x0 i = ((Q (i 0).val (i 1).val : ℝ) : EReal))
    (hK : ∀ i : S8704x4096.Idx, x1 i = ((K (i 0).val (i 1).val : ℝ) : EReal))
    (hL : ∀ i : S4x128.Idx, x3 i = ((L (i 0).val (i 1).val : ℝ) : EReal)) (i : S2x16x4096x4352.Idx) :
    val_main_v54 (F := Ideal) x0 x1 x3 i = ((wgt Q K (i 0).val (i 1).val 0 (i 2).val (i 3).val
      - lam c02 L * wgt Q K (i 0).val (i 1).val 1 (i 2).val (i 3).val : ℝ) : EReal) := by
  rw [val_main_v54_apply, val_main_v53_apply, val_main_v52_apply, v17_at hL, v49_at hQ hK, v51_at hQ hK]
  show _ - _ * _ = _
  rw [← EReal.coe_mul, ← EReal.coe_sub]

/-- The attention's output before the normalisation. -/
theorem v56_at (hQ : ∀ i : S8704x4096.Idx, x0 i = ((Q (i 0).val (i 1).val : ℝ) : EReal))
    (hK : ∀ i : S8704x4096.Idx, x1 i = ((K (i 0).val (i 1).val : ℝ) : EReal))
    (hV : ∀ i : S8704x4096.Idx, x2 i = ((V (i 0).val (i 1).val : ℝ) : EReal))
    (hL : ∀ i : S4x128.Idx, x3 i = ((L (i 0).val (i 1).val : ℝ) : EReal)) (i : S2x4096x16x256.Idx) :
    val_main_v56 (F := Ideal) x0 x1 x2 x3 i = ((mix c02 Q K V L (i 0).val (i 2).val (i 1).val (i 3).val : ℝ) : EReal) := by
  rw [val_main_v56_apply, val_main_v55_apply]
  unfold mix
  rw [← sum_fin 4352 fun s => V (kr (i 0).val s) (256 * (i 2).val + (i 3).val)
    * (wgt Q K (i 0).val (i 2).val 0 (i 1).val s - lam c02 L * wgt Q K (i 0).val (i 2).val 1 (i 1).val s)]
  refine Finset.sum_congr rfl fun k _ => ?_
  rw [v35_at hV, v54_at hQ hK hL, ← EReal.coe_mul]

/-- The whole result. -/
theorem v73_at (hQ : ∀ i : S8704x4096.Idx, x0 i = ((Q (i 0).val (i 1).val : ℝ) : EReal))
    (hK : ∀ i : S8704x4096.Idx, x1 i = ((K (i 0).val (i 1).val : ℝ) : EReal))
    (hV : ∀ i : S8704x4096.Idx, x2 i = ((V (i 0).val (i 1).val : ℝ) : EReal))
    (hL : ∀ i : S4x128.Idx, x3 i = ((L (i 0).val (i 1).val : ℝ) : EReal))
    (hg : ∀ i : S256.Idx, x4 i = ((g (i 0).val : ℝ) : EReal)) (i : S8192x4096.Idx) :
    val_main_v73 (F := Ideal) x0 x1 x2 x3 x4 i
      = ((nrm c08 (fun e => mix c02 Q K V L ((i 0).val / 4096) ((i 1).val / 256) ((i 0).val % 4096) e) g ((i 1).val % 256) : ℝ) : EReal) := by
  have a58 : ∀ j : S2x4096x16.Idx, val_main_v58 (F := Ideal) x0 x1 x2 x3 j
      = ((∑ x ∈ Finset.range 256, mix c02 Q K V L (j 0).val (j 2).val (j 1).val x * mix c02 Q K V L (j 0).val (j 2).val (j 1).val x : ℝ) : EReal) := fun j => by
    rw [val_main_v58_apply, ← sum_fin 256 fun x => mix c02 Q K V L (j 0).val (j 2).val (j 1).val x * mix c02 Q K V L (j 0).val (j 2).val (j 1).val x]
    have e : (val_main_cst_6 (F := Ideal)) (Shape.Idx.first h_S_) = (0 : EReal) := w0
    rw [e, zero_add]
    refine Finset.sum_congr rfl fun k _ => ?_
    rw [val_main_v57_apply, v56_at hQ hK hV hL, EReal.coe_mul]
    rfl
  have a71 : ∀ j : S2x4096x16x256.Idx, val_main_v71 (F := Ideal) x0 x1 x2 x3 x4 j
      = ((nrm c08 (fun e => mix c02 Q K V L (j 0).val (j 2).val (j 1).val e) g (j 3).val : ℝ) : EReal) := fun j => by
    rw [val_main_v71_apply, val_main_v69_apply, val_main_v70_apply, val_main_cst_9_apply, val_main_v68_apply, val_main_v67_apply, hg,
      val_main_v66_apply, v56_at hQ hK hV hL, val_main_v65_apply, val_main_v64_apply, val_main_v63_apply, val_main_v62_apply, val_main_cst_8_apply,
      val_main_v61_apply, val_main_v59_apply, a58, val_main_v60_apply, val_main_cst_7_apply]
    show _ * Ideal.rsqrt (Ideal.div _ (Ideal.ofBits .f32 0x43800000#32) + Ideal.ofBits .f32 0x358637BD#32) * _ * Ideal.ofBits .f32 0x3F4CCCCD#32 = _
    rw [w256, weps, w08, Ideal.div_coe (by norm_num), ← EReal.coe_mul, ← EReal.coe_add]
    refine Eq.trans (congrArg (fun z => _ * z * _ * _) (rsqrt_pos (mean_sq_pos fun e => mix c02 Q K V L (j 0).val (j 2).val (j 1).val e))) ?_
    rw [← EReal.coe_mul, ← EReal.coe_mul, ← EReal.coe_mul]
    rfl
  have h0 : (i 0).val < 8192 := (i 0).isLt
  have h1 : (i 1).val < 4096 := (i 1).isLt
  have e0 : ((i 0).val * 4096 + (i 1).val) / 16777216 = (i 0).val / 4096 := by omega
  have e1 : ((i 0).val * 4096 + (i 1).val) / 4096 % 4096 = (i 0).val % 4096 := by omega
  have e2 : ((i 0).val * 4096 + (i 1).val) / 256 % 16 = (i 1).val / 256 := by omega
  have e3 : ((i 0).val * 4096 + (i 1).val) % 256 = (i 1).val % 256 := by omega
  rw [val_main_v73_apply]
  show val_main_v72 (F := Ideal) x0 x1 x2 x3 x4 i = _
  rw [val_main_v72_apply, a71]
  show ((nrm c08 (fun e => mix c02 Q K V L (((i 0).val * 4096 + (i 1).val) / 16777216) (((i 0).val * 4096 + (i 1).val) / 256 % 16)
    (((i 0).val * 4096 + (i 1).val) / 4096 % 4096) e) g (((i 0).val * 4096 + (i 1).val) % 256) : ℝ) : EReal) = _
  rw [e0, e1, e2, e3]

end Cert.Ref
-- ==== Proof.Equal.lean ====
module

public import proofs.«01_k».proof.Proof.Ref

/-! The two ways of writing the result agree: powers of two of scores scaled by one constant, and exponentials of scores divided by a root. -/

@[expose] public section

set_option maxRecDepth 16384

noncomputable section

namespace Cert.Equal

open Cert.Chain (mean scr)
open Cert.Bridge (qs)
open Cert.Norm (lam nrm)
open Cert.Windows (kr hatt res)
open Cert.Ref (sco wgt mix)

/-- The named constant undoes the base change and leaves the root. -/
theorem log_qs : Real.log 2 * qs = 1 / Real.sqrt 128 := by
  unfold qs
  have h : Real.log 2 ≠ 0 := (Real.log_pos (by norm_num)).ne'
  field_simp

/-- The scores in the two scalings. -/
theorem log_scr (Q K : ℕ → ℕ → ℝ) (b h c r s : ℕ) :
    Real.log 2 * scr (fun r d => Q r (256 * h + (128 * c + d)) * qs) (fun j d => K (kr b j) (256 * h + (128 * c + d))) (4096 * b + r) s
      = sco Q K b h c r s := by
  unfold scr sco
  rw [Finset.mul_sum]
  refine Finset.sum_congr rfl fun d _ => ?_
  show Real.log 2 * (Q (4096 * b + r) (256 * h + (128 * c + d)) * qs * K (kr b s) (256 * h + (128 * c + d))) = _
  rw [← log_qs]
  ring

/-- A head's half is the values weighted by the softmax. -/
theorem hatt_eq (Q K V : ℕ → ℕ → ℝ) (b h c r e : ℕ) :
    hatt Q K V b h (128 * c) (4096 * b + r) e = ∑ s ∈ Finset.range 4352, V (kr b s) (256 * h + e) * wgt Q K b h c r s := by
  unfold hatt mean
  simp only [log_scr Q K b h c r]
  rw [Finset.sum_div]
  refine Finset.sum_congr rfl fun s _ => ?_
  unfold wgt
  ring

/-- The two results agree. -/
theorem res_eq (k a : ℝ) (Q K V L : ℕ → ℕ → ℝ) (g : ℕ → ℝ) (R E : ℕ) :
    res k a Q K V L g R E = nrm k (fun e => mix a Q K V L (R / 4096) (E / 256) (R % 4096) e) g (E % 256) := by
  unfold res
  congr 1
  funext e
  have hR : R = 4096 * (R / 4096) + R % 4096 := (Nat.div_add_mod R 4096).symm
  have e0 := hatt_eq Q K V (R / 4096) (E / 256) 0 (R % 4096) e
  have e1 := hatt_eq Q K V (R / 4096) (E / 256) 1 (R % 4096) e
  rw [← hR] at e0 e1
  rw [show (0 : ℕ) = 128 * 0 from rfl, e0, show (128 : ℕ) = 128 * 1 from rfl, e1]
  unfold mix
  rw [Finset.mul_sum, ← Finset.sum_sub_distrib]
  refine Finset.sum_congr rfl fun s _ => ?_
  ring

end Cert.Equal
-- ==== Proof.Finite.lean ====
module

public import proofs.«01_k».proof.Defs
public import proofs.«01_k».proof.Proof.Gen.Pre_finite
public import Idealize.ShloMosaic.Lib.ReduceAll
public import Idealize.ShloMosaic.Lib.ValueIdx
public import Idealize.ShloMosaic.PureOps.Ideal.Laws

/-! Arguments that pass the finiteness test are real numbers. -/

@[expose] public section

set_option maxRecDepth 16384

noncomputable section

namespace Cert.Finite

open Cert.Pre_finite Cert.Pre_finite.Gen Idealize.ShloMosaic Idealize.SL.Sem

/-- A number whose absolute value is below infinity is real. -/
theorem real_of_lt {a : EReal} (h : Ideal.cmp .olt (max a (-a)) (Ideal.ofBits .f32 0x7F800000#32) = 1#1) : ∃ r : ℝ, a = (r : EReal) := by
  have ht : Ideal.ofBits .f32 0x7F800000#32 = (⊤ : EReal) := by simp [Ideal.ofBits, Ideal.ieee, -EReal.coe_mul]
  rw [ht] at h
  have hlt : max a (-a) < ⊤ := by
    by_contra hn
    simp [Ideal.cmp, hn] at h
  induction a using EReal.rec with
  | bot => simp at hlt
  | coe r => exact ⟨r, rfl⟩
  | top => simp at hlt

instance : Subsingleton S_.Idx := ⟨fun a b => funext fun k => k.elim0⟩

/-- Every element of every argument is real. -/
theorem reals {x0 : FVec Ideal S8704x4096 .f32} {x1 x2 : FVec Ideal S8704x4096 .bf16} {x3 : FVec Ideal S4x128 .f32} {x4 : FVec Ideal S256 .f32}
    (h : fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have h := congrFun h (Shape.Idx.first h_S_)
  dsimp only [fn, fn_part1] at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun i => real_of_lt (Host.reduce_andi_all _ _ _ _ _ h0 i), fun i => real_of_lt (Host.reduce_andi_all _ _ _ _ _ h1 i),
    fun i => real_of_lt (Host.reduce_andi_all _ _ _ _ _ h2 i), fun i => real_of_lt (Host.reduce_andi_all _ _ _ _ _ h3 i),
    fun i => real_of_lt (Host.reduce_andi_all _ _ _ _ _ h4 i)⟩

/-- A matrix of real numbers has a table. -/
theorem table2 {a b : ℕ} {x : (⟨2, ![a, b]⟩ : Shape).Idx → EReal} (h : ∀ i, ∃ r : ℝ, x i = (r : EReal)) :
    ∃ X : ℕ → ℕ → ℝ, ∀ i : (⟨2, ![a, b]⟩ : Shape).Idx, x i = ((X (i 0).val (i 1).val : ℝ) : EReal) := by
  choose f hf using h
  refine ⟨fun p q => if hp : p < a then if hq : q < b then f (ValueIdx.ix2 ⟨p, hp⟩ ⟨q, hq⟩) else 0 else 0, fun i => ?_⟩
  have h0 : (i 0).val < a := (i 0).isLt
  have h1 : (i 1).val < b := (i 1).isLt
  beta_reduce
  rw [dif_pos h0, dif_pos h1, ← hf]
  exact congrArg x (ValueIdx.eq_ix2 i)

/-- A vector of real numbers has a table. -/
theorem table1 {a : ℕ} {x : (⟨1, ![a]⟩ : Shape).Idx → EReal} (h : ∀ i, ∃ r : ℝ, x i = (r : EReal)) :
    ∃ X : ℕ → ℝ, ∀ i : (⟨1, ![a]⟩ : Shape).Idx, x i = ((X (i 0).val : ℝ) : EReal) := by
  choose f hf using h
  refine ⟨fun p => if hp : p < a then f (ValueIdx.ix1 ⟨p, hp⟩) else 0, fun i => ?_⟩
  have h0 : (i 0).val < a := (i 0).isLt
  beta_reduce
  rw [dif_pos h0, ← hf]
  exact congrArg x (ValueIdx.eq_ix1 i)

end Cert.Finite
-- ==== Proof.Mat.lean ====
module

public import Idealize.ShloMosaic.Lib.Pointwise
public import Idealize.ShloMosaic.PureOps.Ideal.Laws
public import Idealize.ShloMosaic.Lib.MatmulPlain
public import Idealize.ShloMosaic.Lib.ValueIdx

/-! Tables of extended reals behind arrays, the plain product of two of them, and scratch that a kernel carries from point to point. -/

@[expose] public section

set_option maxRecDepth 16384

noncomputable section

namespace Cert.Mat

open Idealize.ShloMosaic

theorem zero2 : (![0, 0] : Fin 2 → Nat) = fun _ => 0 := funext fun a => by fin_cases a <;> rfl
theorem zero3 : (![0, 0, 0] : Fin 3 → Nat) = fun _ => 0 := funext fun a => by fin_cases a <;> rfl

/-- The two-axis array `x` shows the table `X`. -/
def Is2 {a b : ℕ} (x : (⟨2, ![a, b]⟩ : Shape).Idx → EReal) (X : ℕ → ℕ → EReal) : Prop := ∀ i, x i = X (i 0).val (i 1).val

/-- The three-axis array `x` shows the table `X`. -/
def Is3 {a b d : ℕ} (x : (⟨3, ![a, b, d]⟩ : Shape).Idx → EReal) (X : ℕ → ℕ → ℕ → EReal) : Prop := ∀ i, x i = X (i 0).val (i 1).val (i 2).val

/-- Every two-axis array shows some table. -/
theorem is2 {a b : ℕ} (x : (⟨2, ![a, b]⟩ : Shape).Idx → EReal) : ∃ X, Is2 x X := by
  refine ⟨fun r d => if h : r < a ∧ d < b then x (ValueIdx.ix2 ⟨r, h.1⟩ ⟨d, h.2⟩) else 0, fun i => ?_⟩
  have h : (i 0).val < a ∧ (i 1).val < b := ⟨(i 0).isLt, (i 1).isLt⟩
  show _ = dite _ _ _
  rw [dif_pos h]
  exact congrArg x (ValueIdx.eq_ix2 i)

/-- Every three-axis array shows some table. -/
theorem is3 {a b d : ℕ} (x : (⟨3, ![a, b, d]⟩ : Shape).Idx → EReal) : ∃ X, Is3 x X := by
  refine ⟨fun p q r => if h : p < a ∧ q < b ∧ r < d then x (ValueIdx.ix3 ⟨p, h.1⟩ ⟨q, h.2.1⟩ ⟨r, h.2.2⟩) else 0, fun i => ?_⟩
  have h : (i 0).val < a ∧ (i 1).val < b ∧ (i 2).val < d := ⟨(i 0).isLt, (i 1).isLt, (i 2).isLt⟩
  show _ = dite _ _ _
  rw [dif_pos h]
  exact congrArg x (ValueIdx.eq_ix3 i)

/-- Row `p` of the one table times column `q` of the other, over `K` positions. -/
def dot (K : ℕ) (A B : ℕ → ℕ → EReal) (p q : ℕ) : EReal := ∑ k ∈ Finset.range K, A p k * B k q

/-- A plain product, started at zero, shows the product of the tables. -/
theorem prod_is {M K N : ℕ} {φ₁ φ₂ : FTy} (prec) {l : FVec Ideal ⟨2, ![M, K]⟩ φ₁} {r : FVec Ideal ⟨2, ![K, N]⟩ φ₂} {A B : ℕ → ℕ → EReal}
    (hl : Is2 l A) (hr : Is2 r B) :
    Is2 (matmul (DotDims.plain M K N) prec l r (constant ⟨2, ![M, N]⟩ .f32 0x00000000#32)) (dot K A B) := by
  intro i
  obtain ⟨p, c, rfl⟩ : ∃ p c, i = ValueIdx.ix2 p c := ⟨i 0, i 1, ValueIdx.eq_ix2 i⟩
  refine (Ideal.matmul_plain_apply prec l r _ p c).trans ?_
  have e0 : (constant ⟨2, ![M, N]⟩ .f32 0x00000000#32 : FVec Ideal ⟨2, ![M, N]⟩ .f32) (ValueIdx.ix2 p c) = 0 := Ideal.ofBits_zero_f32
  rw [e0, zero_add]
  unfold dot
  rw [Finset.sum_range]
  refine Finset.sum_congr rfl fun k _ => ?_
  rw [hl, hr]
  rfl

/-- A block with a leading axis of one, laid out without it. -/
theorem drop_is {a b : ℕ} {x : (⟨3, ![1, a, b]⟩ : Shape).Idx → EReal} {X : ℕ → ℕ → ℕ → EReal} (hx : Is3 x X)
    (h : (⟨3, ![1, a, b]⟩ : Shape).ShapeCasts ⟨2, ![a, b]⟩) : Is2 (shapeCast ⟨2, ![a, b]⟩ x h) (X 0) := by
  intro i
  have e := shapeCast_apply x h i (ValueIdx.ix3 (0 : Fin 1) (i 0) (i 1)) (by
    rw [Shape.rowMajor_val_three, Shape.rowMajor_val_two]
    show (0 * a + (i 0).val) * b + (i 1).val = (i 0).val * b + (i 1).val
    rw [Nat.zero_mul, Nat.zero_add])
  exact e.trans (hx _)

/-- One row of length `N`, given with two leading axes of one, repeated over `n` rows. -/
theorem row_is {n N : ℕ} {x : (⟨3, ![1, 1, N]⟩ : Shape).Idx → EReal} {X : ℕ → ℕ → ℕ → EReal} (hx : Is3 x X)
    (h : (⟨3, ![1, 1, N]⟩ : Shape).ShapeCasts ⟨2, ![1, N]⟩) (hb : (⟨2, ![1, N]⟩ : Shape).Broadcasts ⟨2, ![n, N]⟩) :
    Is2 (broadcastTo ⟨2, ![n, N]⟩ (shapeCast ⟨2, ![1, N]⟩ x h) hb) (fun _ d => X 0 0 d) := by
  intro i
  have hi : (i 1).val < N := (i 1).isLt
  refine (broadcastTo_apply _ hb i (ValueIdx.ix2 (0 : Fin 1) (i 1)) (fun a => match a with
    | ⟨0, _⟩ => (if_pos rfl).symm
    | ⟨1, _⟩ => by
      by_cases hN : N = 1
      · exact (show (i 1).val = 0 by omega).trans (if_pos hN).symm
      · exact (if_neg hN).symm)).trans ?_
  exact drop_is hx h _

/-- What is stored at every multiple of `P` and kept between is, at each point, what was stored at the last multiple. -/
theorem carried {N P : ℕ} (hP : 0 < P) {α : Type} (s : ∀ n, n < N → α) (Q : ℕ → α → Prop)
    (hA : ∀ n h, n % P = 0 → Q (n / P) (s n h)) (hB : ∀ n (h : n < N), ¬ n % P = 0 → s n h = s (n - 1) (by omega)) :
    ∀ n h, Q (n / P) (s n h) := by
  intro n
  induction n with
  | zero => exact fun h => hA 0 h (Nat.zero_mod P)
  | succ n ih =>
    intro h
    by_cases h0 : (n + 1) % P = 0
    · exact hA _ h h0
    · rw [hB _ h h0]
      have e : (n + 1) / P = n / P := by
        rw [Nat.succ_div, if_neg (fun hd => h0 (Nat.mod_eq_zero_of_dvd hd)), Nat.add_zero]
      rw [e]
      exact ih (by omega)

end Cert.Mat

end
-- ==== Proof.Up.lean ====
module

public import proofs.«01_k».proof.Proof.Mat
public import proofs.«01_k».proof.Proof.Gen.Kernel2Ideal.Value

/-! The gated product of the dense channel mixer: what each grid point leaves and the whole result array. -/

@[expose] public section

set_option maxRecDepth 16384

noncomputable section

namespace Cert.Up

open Cert.Kernel2Ideal Cert.Kernel2Ideal.Gen Cert.Mat Idealize.ShloMosaic Idealize.ShloMosaic.TcCoe Idealize.SL.Sem
open Idealize.ShloMosaic.Pipeline (Dat)

section
variable (c : Dev nD) (i : grid0.Coords) (a2 : Memref sig .tc .vmem S256x4096 .bf16) (h2 : a2.IsWhole)
  (a3 : Memref sig .tc .vmem S1x4096x512 .f32) (h3 : a3.IsWhole) (a4 : Memref sig .tc .vmem S1x4096x512 .f32) (h4 : a4.IsWhole)
  (a5 : Memref sig .tc .vmem S256x512 .bf16) (h5 : a5.IsWhole) (a6 : Memref sig .tc .vmem S4096x512 .bf16) (h6 : a6.IsWhole)
  (a7 : Memref sig .tc .vmem S4096x512 .bf16) (h7 : a7.IsWhole)
  (x0 : Vec Ideal S256x4096 .bf16) (x1 x2 : Vec Ideal S1x4096x512 .f32) (s0 s1 : Vec Ideal S4096x512 .bf16)

/-- At the first row block of a column block the result is computed from the weights just stored. -/
theorem out_A (hc : cond0_0 i) : out0_A_3 c i a2 h2 a3 h3 a4 h4 a5 h5 a6 h6 a7 h7 hc x0 x1 x2 = k0_pay3 x0 (k0_pay1 x1) (k0_pay2 x2) := by
  unfold out0_A_3
  rw [View.read_writes_eq_canon _ _ _ (cover0_A_3 c i a2 h2 a3 h3 a4 h4 a5 h5 a6 h6 a7 h7 hc x0 x1 x2)]
  unfold kernelRun0_A
  dsimp only
  sl_unfold_words
  rw [View.canon_unit_zero zero2]
  simp only [View.readCov_unit_zero (S := S4096x512) _ zero2, View.readAt_eq_ld, h2.read_unread, h3.read_unread, h4.read_unread,
    View.ld_unit_zero (S := S256x4096) zero2, View.ld_unit_zero (S := S1x4096x512) zero3]

/-- At the other row blocks it is computed from the weights kept. -/
theorem out_B (hc : ¬cond0_0 i) : out0_B_3 c i a2 h2 a3 h3 a4 h4 a5 h5 a6 h6 a7 h7 hc x0 x1 x2 s0 s1 = k0_pay3 x0 s0 s1 := by
  unfold out0_B_3
  rw [View.read_writes_eq_canon _ _ _ (cover0_B_3 c i a2 h2 a3 h3 a4 h4 a5 h5 a6 h6 a7 h7 hc x0 x1 x2 s0 s1)]
  unfold kernelRun0_B
  dsimp only
  rw [View.canon_unit_zero zero2]
  simp only [View.readAt_eq_ld, h2.read_unread, h6.read_unread, h7.read_unread,
    View.ld_unit_zero (S := S256x4096) zero2, View.ld_unit_zero (S := S4096x512) zero2]

/-- The first stored weights. -/
theorem kept_A0 (hc : cond0_0 i) : sout0_A_0 c i a2 h2 a3 h3 a4 h4 a5 h5 a6 h6 a7 h7 hc x0 x1 x2 = k0_pay1 x1 := by
  unfold sout0_A_0
  rw [View.read_writes_eq_canon _ _ _ (scover0_A_0 c i a2 h2 a3 h3 a4 h4 a5 h5 a6 h6 a7 h7 hc x0 x1 x2)]
  unfold kernelRun0_A
  dsimp only
  sl_unfold_words
  rw [View.canon_unit_zero zero2]
  simp only [View.readAt_eq_ld, h3.read_unread, View.ld_unit_zero (S := S1x4096x512) zero3]

/-- The second stored weights. -/
theorem kept_A1 (hc : cond0_0 i) : sout0_A_1 c i a2 h2 a3 h3 a4 h4 a5 h5 a6 h6 a7 h7 hc x0 x1 x2 = k0_pay2 x2 := by
  unfold sout0_A_1
  rw [View.read_writes_eq_canon _ _ _ (scover0_A_1 c i a2 h2 a3 h3 a4 h4 a5 h5 a6 h6 a7 h7 hc x0 x1 x2)]
  unfold kernelRun0_A
  dsimp only
  sl_unfold_words
  rw [View.canon_unit_zero zero2]
  simp only [View.readAt_eq_ld, h4.read_unread, View.ld_unit_zero (S := S1x4096x512) zero3]

end

/-- The gated value: the first product through its own logistic, times the second. -/
def gated (g u : EReal) : EReal := Ideal.div g (1 + Ideal.exp (0 - g)) * u

/-- The body's value over tables. -/
theorem pay_is {x0 : Vec Ideal S256x4096 .bf16} {s0 s1 : Vec Ideal S4096x512 .bf16} {Z A B : ℕ → ℕ → EReal}
    (h0 : Is2 (a := 256) (b := 4096) x0 Z) (h1 : Is2 (a := 4096) (b := 512) s0 A) (h2 : Is2 (a := 4096) (b := 512) s1 B) :
    Is2 (a := 256) (b := 512) (k0_pay3 x0 s0 s1) (fun p q => gated (dot 4096 Z A p q) (dot 4096 Z B p q)) := by
  intro i
  have e1 := prod_is (φ₁ := .bf16) (φ₂ := .bf16) none h0 h1 i
  have e2 := prod_is (φ₁ := .bf16) (φ₂ := .bf16) none h0 h2 i
  show Ideal.div _ (Ideal.ofBits .f32 0x3F800000#32 + Ideal.exp (Ideal.ofBits .f32 0x00000000#32 - _)) * _ = _
  rw [Ideal.ofBits_zero_f32, show Ideal.ofBits .f32 0x3F800000#32 = 1 from Ideal.ofBits_one_f32]
  exact congrArg₂ gated e1 e2

/-- The stored weights over tables: a block without its leading axis. -/
theorem w1_is {x : Vec Ideal S1x4096x512 .f32} {X : ℕ → ℕ → ℕ → EReal} (h : Is3 (a := 1) (b := 4096) (d := 512) x X) :
    Is2 (a := 4096) (b := 512) (k0_pay1 x) (X 0) := by
  unfold k0_pay1
  dsimp only
  rw [shapeCast_self]
  exact drop_is h _

/-- The same for the second weights. -/
theorem w2_is {x : Vec Ideal S1x4096x512 .f32} {X : ℕ → ℕ → ℕ → EReal} (h : Is3 (a := 1) (b := 4096) (d := 512) x X) :
    Is2 (a := 4096) (b := 512) (k0_pay2 x) (X 0) := by
  unfold k0_pay2
  dsimp only
  rw [shapeCast_self]
  exact drop_is h _

/-! ## The windows and the kept weights over the grid -/

theorem im0 : ∀ t : Fin cfg0.N, win0_0.index t 0 = t.val % 34 ∧ win0_0.index t 1 = 0 := by decide +kernel
theorem im1 : ∀ t : Fin cfg0.N, win0_1.index t 0 = 0 ∧ win0_1.index t 1 = 0 ∧ win0_1.index t 2 = t.val / 34 := by decide +kernel
theorem im2 : ∀ t : Fin cfg0.N, win0_2.index t 0 = 0 ∧ win0_2.index t 1 = 0 ∧ win0_2.index t 2 = 11 + t.val / 34 := by decide +kernel
theorem im3 : ∀ t : Fin cfg0.N, win0_3.index t 0 = t.val % 34 ∧ win0_3.index t 1 = t.val / 34 := by decide +kernel

section
variable (m : (ℓ : Loc nD τ sig) → Buf (Elt Ideal) ℓ) (c : Dev nD)
variable {Z : ℕ → ℕ → EReal} {W : ℕ → ℕ → ℕ → EReal}

theorem at0 (hZ : Is2 (a := 8704) (b := 4096) (m ((c : Thread nD τ).loc main_arg0)) Z) (t : Fin cfg0.N) :
    Is2 (a := 256) (b := 4096) (iblk m c 0 t) (fun r d => Z (256 * (t.val % 34) + r) d) := by
  intro i
  unfold iblk
  rw [View.read_apply]
  show V m c main_arg0 _ = _
  rw [V_main_arg0]
  refine (hZ _).trans ?_
  show Z (win0_0.index t 0 * 256 + 1 * (i 0).val) (win0_0.index t 1 * 4096 + 1 * (i 1).val) = _
  rw [(im0 t).1, (im0 t).2, one_mul, one_mul, mul_comm _ 256, zero_mul, zero_add]

theorem at1 (hW : Is3 (a := 2) (b := 4096) (d := 11264) (m ((c : Thread nD τ).loc main_arg1)) W) (t : Fin cfg0.N) :
    Is3 (a := 1) (b := 4096) (d := 512) (iblk m c 1 t) (fun p r d => W p r (512 * (t.val / 34) + d)) := by
  intro i
  unfold iblk
  rw [View.read_apply]
  show V m c main_arg1 _ = _
  rw [V_main_arg1]
  refine (hW _).trans ?_
  show W (win0_1.index t 0 * 1 + 1 * (i 0).val) (win0_1.index t 1 * 4096 + 1 * (i 1).val) (win0_1.index t 2 * 512 + 1 * (i 2).val) = _
  rw [(im1 t).1, (im1 t).2.1, (im1 t).2.2, one_mul, one_mul, one_mul, mul_comm _ 512, zero_mul, zero_mul, zero_add, zero_add]

theorem at2 (hW : Is3 (a := 2) (b := 4096) (d := 11264) (m ((c : Thread nD τ).loc main_arg1)) W) (t : Fin cfg0.N) :
    Is3 (a := 1) (b := 4096) (d := 512) (iblk m c 2 t) (fun p r d => W p r (5632 + (512 * (t.val / 34) + d))) := by
  intro i
  unfold iblk
  rw [View.read_apply]
  show V m c main_arg1 _ = _
  rw [V_main_arg1]
  refine (hW _).trans ?_
  show W (win0_2.index t 0 * 1 + 1 * (i 0).val) (win0_2.index t 1 * 4096 + 1 * (i 1).val) (win0_2.index t 2 * 512 + 1 * (i 2).val) = _
  rw [(im2 t).1, (im2 t).2.1, (im2 t).2.2, one_mul, one_mul, one_mul, mul_comm _ 512, zero_mul, zero_mul, zero_add, zero_add, mul_add,
    show 512 * 11 = 5632 from rfl, add_assoc]

/-- The first kept weights after any point. -/
theorem kept0 (hW : Is3 (a := 2) (b := 4096) (d := 11264) (m ((c : Thread nD τ).loc main_arg1)) W) (n : ℕ) (h : n < cfg0.N) :
    Is2 (a := 4096) (b := 512) (outsAt0 m c n h).2.1 (fun r d => W 0 r (512 * (n / 34) + d)) :=
  carried (P := 34) (by norm_num) (fun n h => (outsAt0 m c n h).2.1) (fun j s => Is2 (a := 4096) (b := 512) s (fun r d => W 0 r (512 * j + d)))
    (fun n h h0 => by
      rw [outsAt0_A m c ⟨n, h⟩ h0]
      dsimp only
      rw [kept_A0]
      exact w1_is (at1 m c hW ⟨n, h⟩))
    (fun n h h0 => by
      rw [outsAt0_B m c ⟨n, h⟩ h0]
      rfl) n h

/-- The second kept weights after any point. -/
theorem kept1 (hW : Is3 (a := 2) (b := 4096) (d := 11264) (m ((c : Thread nD τ).loc main_arg1)) W) (n : ℕ) (h : n < cfg0.N) :
    Is2 (a := 4096) (b := 512) (outsAt0 m c n h).2.2 (fun r d => W 0 r (5632 + (512 * (n / 34) + d))) :=
  carried (P := 34) (by norm_num) (fun n h => (outsAt0 m c n h).2.2) (fun j s => Is2 (a := 4096) (b := 512) s (fun r d => W 0 r (5632 + (512 * j + d))))
    (fun n h h0 => by
      rw [outsAt0_A m c ⟨n, h⟩ h0]
      dsimp only
      rw [kept_A1]
      exact w2_is (at2 m c hW ⟨n, h⟩))
    (fun n h h0 => by
      rw [outsAt0_B m c ⟨n, h⟩ h0]
      rfl) n h

/-- The result at row `R` and column `E`. -/
def res (Z : ℕ → ℕ → EReal) (W : ℕ → ℕ → ℕ → EReal) (R E : ℕ) : EReal :=
  gated (dot 4096 Z (W 0) R E) (dot 4096 Z (fun r d => W 0 r (5632 + d)) R E)

/-- What a point leaves is its block of the result. -/
theorem outs_res (hZ : Is2 (a := 8704) (b := 4096) (m ((c : Thread nD τ).loc main_arg0)) Z)
    (hW : Is3 (a := 2) (b := 4096) (d := 11264) (m ((c : Thread nD τ).loc main_arg1)) W) (t : Fin cfg0.N) :
    Is2 (a := 256) (b := 512) (outsAt0 m c t.val t.isLt).1 (fun r d => res Z W (256 * (t.val % 34) + r) (512 * (t.val / 34) + d)) := by
  have e : (outsAt0 m c t.val t.isLt).1 = k0_pay3 (iblk m c 0 t) (outsAt0 m c t.val t.isLt).2.1 (outsAt0 m c t.val t.isLt).2.2 := by
    by_cases h0 : t.val % 34 = 0
    · rw [outsAt0_A m c t h0]
      dsimp only
      rw [out_A, kept_A0, kept_A1]
    · rw [outsAt0_B m c t h0]
      dsimp only
      rw [out_B]
      rfl
  rw [e]
  exact pay_is (at0 m c hZ t) (kept0 m c hW t.val t.isLt) (kept1 m c hW t.val t.isLt)

/-- The result array. -/
def G (Z : ℕ → ℕ → EReal) (W : ℕ → ℕ → ℕ → EReal) : Vec Ideal S8704x5632 .bf16 := fun i => res Z W (i 0).val (i 1).val

/-- The result array after the run. -/
theorem arr_eq (hZ : Is2 (a := 8704) (b := 4096) (m ((c : Thread nD τ).loc main_arg0)) Z)
    (hW : Is3 (a := 2) (b := 4096) (d := 11264) (m ((c : Thread nD τ).loc main_arg1)) W) :
    (dats m 0 c).arrAt 3 cfg0.N = G Z W := by
  refine (dats m 0 c).arrAt_eq_of_cover 3 (G Z W) ?_ ?_
  · intro t _
    rw [Cert.Kernel2Ideal.Value.flushed3]
    funext y
    rw [View.read_apply]
    refine (outs_res m c hZ hW t y).trans ?_
    show _ = res Z W (win0_3.index t 0 * 256 + 1 * (y 0).val) (win0_3.index t 1 * 512 + 1 * (y 1).val)
    rw [(im3 t).1, (im3 t).2, one_mul, one_mul, mul_comm _ 256, mul_comm _ 512]
  · intro i
    have b0 : (i 0).val < 8704 := (i 0).isLt
    have b1 : (i 1).val < 5632 := (i 1).isLt
    exact (Cert.Kernel2Ideal.Value.covered_iff3 i).2 ⟨Nat.zero_le _, b0, Nat.zero_le _, b1⟩

end

end Cert.Up

end
-- ==== Proof.UpRef.lean ====
module

public import proofs.«01_k».proof.Proof.Up
public import proofs.«01_k».proof.Proof.Gen.Reference2Ideal.Read

/-! The reference of the gated product, element by element, and its equality with the kernel's result array. -/

@[expose] public section

set_option maxRecDepth 16384

noncomputable section

namespace Cert.UpRef

open Cert.Reference2Ideal Cert.Reference2Ideal.Read Cert.Mat Cert.Up Idealize.ShloMosaic Idealize.SL.Sem

/-- Dividing by one plus an exponential is multiplying by its inverse, whatever the extended reals are. -/
theorem logistic_form (g u : EReal) : g * Ideal.div 1 (1 + Ideal.exp (-g)) * u = gated g u := by
  unfold gated
  rw [zero_sub]
  have hp : (0 : EReal) ≤ Ideal.exp (-g) := by
    induction g using EReal.rec with
    | bot => rw [EReal.neg_bot, Ideal.exp_top]; exact le_top
    | top => rw [EReal.neg_top, Ideal.exp_bot]
    | coe r => rw [← EReal.coe_neg, Ideal.exp_coe]; exact EReal.coe_nonneg.mpr (Real.exp_pos _).le
  have hn : (1 : EReal) + Ideal.exp (-g) ≠ 0 := by
    have h1 : (1 : EReal) ≤ 1 + Ideal.exp (-g) := le_add_of_nonneg_right hp
    exact (lt_of_lt_of_le zero_lt_one h1).ne'
  unfold Ideal.div
  rw [if_neg hn, if_neg hn, one_mul]

/-- An element of the reference's product with the first layer's weights. -/
theorem prod_at {x0 : (⟨S8704x4096, .bf16⟩ : BufTy).Contents (Elt Ideal)} {x1 : (⟨S2x4096x11264, .f32⟩ : BufTy).Contents (Elt Ideal)}
    {Z : ℕ → ℕ → EReal} {W : ℕ → ℕ → ℕ → EReal} (hZ : Is2 (a := 8704) (b := 4096) x0 Z) (hW : Is3 (a := 2) (b := 4096) (d := 11264) x1 W) :
    Is2 (a := 8704) (b := 11264) (val_main_v3 (F := Ideal) x0 x1) (dot 4096 Z (W 0)) := by
  intro i
  rw [val_main_v3_apply]
  unfold dot
  rw [Finset.sum_range]
  refine Finset.sum_congr rfl fun k _ => ?_
  rw [val_main_v0_apply, val_main_v2_apply, val_main_v1_apply]
  have b1 : (i 1).val < 11264 := (i 1).isLt
  have e0 : (k.val * 11264 + (i 1).val) / 11264 % 4096 = k.val := by have := k.isLt; omega
  have e1 : (k.val * 11264 + (i 1).val) % 11264 = (i 1).val := by omega
  refine congrArg₂ (· * ·) (hZ _) ((hW _).trans ?_)
  show W 0 ((k.val * 11264 + (i 1).val) / 11264 % 4096) ((k.val * 11264 + (i 1).val) % 11264) = _
  rw [e0, e1]

/-- The reference is the kernel's result array. -/
theorem ref_eq {x0 : (⟨S8704x4096, .bf16⟩ : BufTy).Contents (Elt Ideal)} {x1 : (⟨S2x4096x11264, .f32⟩ : BufTy).Contents (Elt Ideal)}
    {Z : ℕ → ℕ → EReal} {W : ℕ → ℕ → ℕ → EReal} (hZ : Is2 (a := 8704) (b := 4096) x0 Z) (hW : Is3 (a := 2) (b := 4096) (d := 11264) x1 W) :
    val_main_v8 (F := Ideal) x0 x1 = G Z W := by
  funext i
  rw [val_main_v8_apply, val_main_v7_apply, val_main_v6_apply, val_main_call0_v5_apply, val_main_call0_v4_apply, val_main_call0_v3_apply,
    val_main_call0_v2_apply, val_main_call0_v1_apply, val_main_call0_v0_apply, val_main_v4_apply, val_main_v5_apply,
    val_main_call0_cst_apply, val_main_call0_cst_0_apply, prod_at hZ hW, prod_at hZ hW]
  rw [Ideal.truncf_def, Ideal.mulf_def, Ideal.mulf_def, Ideal.hostDivf_def, Ideal.addf_def, Ideal.hostUnary_exp_def, Ideal.hostNegf_def]
  rw [show FloatOps.ofBits (F := Ideal) .f32 0x3F800000#32 = (1 : EReal) from Ideal.ofBits_one_f32]
  exact logistic_form _ _

/-- The kernel's result array, from any memory, is the reference of the kernel's arguments. -/
theorem equal (m : (ℓ : Loc Cert.Kernel2Ideal.nD Cert.Kernel2Ideal.τ Cert.Kernel2Ideal.sig) → Buf (Elt Ideal) ℓ) (c : Dev Cert.Kernel2Ideal.nD) :
    val_main_v8 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
      = (Cert.Kernel2Ideal.Gen.dats m 0 c).arrAt 3 Cert.Kernel2Ideal.cfg0.N := by
  obtain ⟨Z, hZ⟩ := is2 (a := 8704) (b := 4096) (m ((c.tc : Thread Cert.Kernel2Ideal.nD Cert.Kernel2Ideal.τ).loc Cert.Kernel2Ideal.main_arg0))
  obtain ⟨W, hW⟩ := is3 (a := 2) (b := 4096) (d := 11264) (m ((c.tc : Thread Cert.Kernel2Ideal.nD Cert.Kernel2Ideal.τ).loc Cert.Kernel2Ideal.main_arg1))
  exact (ref_eq hZ hW).trans (arr_eq m c hZ hW).symm

end Cert.UpRef

end
-- ==== Proof.Down.lean ====
module

public import proofs.«01_k».proof.Proof.Mat
public import proofs.«01_k».proof.Proof.Gen.Kernel3Ideal.Value

/-! The dense channel mixer's product back into the residual: what each grid point leaves and the whole result array. -/

@[expose] public section

set_option maxRecDepth 16384

noncomputable section

namespace Cert.Down

open Cert.Kernel3Ideal Cert.Kernel3Ideal.Gen Cert.Mat Idealize.ShloMosaic Idealize.ShloMosaic.TcCoe Idealize.SL.Sem
open Idealize.ShloMosaic.Pipeline (Dat)

/-- The gate's row of a block of modulation rows. -/
def gateRow (x : Vec Ideal S1x6x512 .f32) : Vec Ideal S1x1x512 .f32 := fun i => x (ValueIdx.ix3 (0 : Fin 1) (5 : Fin 6) (i 2))

section
variable (c : Dev nD) (i : grid0.Coords) (a2 : Memref sig .tc .vmem S512x5632 .bf16) (h2 : a2.IsWhole)
  (a3 : Memref sig .tc .vmem S1x5632x512 .f32) (h3 : a3.IsWhole) (a4 : Memref sig .tc .vmem S512x512 .f32) (h4 : a4.IsWhole)
  (a5 : Memref sig .tc .vmem S1x6x512 .f32) (h5 : a5.IsWhole) (a6 : Memref sig .tc .vmem S512x512 .f32) (h6 : a6.IsWhole)
  (a7 : Memref sig .tc .vmem S5632x512 .bf16) (h7 : a7.IsWhole)
  (x0 : Vec Ideal S512x5632 .bf16) (x1 : Vec Ideal S1x5632x512 .f32) (x2 : Vec Ideal S512x512 .f32) (x3 : Vec Ideal S1x6x512 .f32)
  (s0 : Vec Ideal S5632x512 .bf16)

/-- Reading the sixth row of the block of modulation rows. -/
theorem ld_gate (inb) : View.ld (e' := .f32) x3 (Rect.unit (s := S1x6x512) ![0, 5, 0] S1x1x512.size inb) = gateRow x3 := by
  funext y
  refine congrArg x3 (funext fun a => Fin.ext ?_)
  match a with
  | ⟨0, _⟩ => have h : (y 0).val < 1 := (y 0).isLt; show 0 + 1 * (y 0).val = 0; omega
  | ⟨1, _⟩ => have h : (y 1).val < 1 := (y 1).isLt; show 5 + 1 * (y 1).val = 5; omega
  | ⟨2, _⟩ => show 0 + 1 * (y 2).val = (y 2).val; omega

/-- At the first row block of a column block the result is computed from the weights just stored. -/
theorem out_A (hc : cond0_0 i) : out0_A_4 c i a2 h2 a3 h3 a4 h4 a5 h5 a6 h6 a7 h7 hc x0 x1 x2 x3 = k0_pay2 x0 (k0_pay1 x1) (gateRow x3) x2 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zero2]
  simp only [View.readCov_unit_zero (S := S5632x512) _ zero2, View.readAt_eq_ld, h2.read_unread, h3.read_unread, h4.read_unread, h5.read_unread,
    View.ld_unit_zero (S := S512x5632) zero2, View.ld_unit_zero (S := S512x512) zero2, View.ld_unit_zero (S := S1x5632x512) zero3]
  exact congrArg (fun g => k0_pay2 x0 (k0_pay1 x1) g x2) (ld_gate x3 _)

/-- At the other row blocks it is computed from the weights kept. -/
theorem out_B (hc : ¬cond0_0 i) : out0_B_4 c i a2 h2 a3 h3 a4 h4 a5 h5 a6 h6 a7 h7 hc x0 x1 x2 x3 s0 = k0_pay2 x0 s0 (gateRow x3) x2 := by
  unfold out0_B_4
  rw [View.read_writes_eq_canon _ _ _ (cover0_B_4 c i a2 h2 a3 h3 a4 h4 a5 h5 a6 h6 a7 h7 hc x0 x1 x2 x3 s0)]
  unfold kernelRun0_B
  dsimp only
  rw [View.canon_unit_zero zero2]
  simp only [View.readAt_eq_ld, h2.read_unread, h4.read_unread, h5.read_unread, h7.read_unread,
    View.ld_unit_zero (S := S512x5632) zero2, View.ld_unit_zero (S := S512x512) zero2, View.ld_unit_zero (S := S5632x512) zero2]
  exact congrArg (fun g => k0_pay2 x0 s0 g x2) (ld_gate x3 _)

/-- The stored weights. -/
theorem kept_A0 (hc : cond0_0 i) : sout0_A_0 c i a2 h2 a3 h3 a4 h4 a5 h5 a6 h6 a7 h7 hc x0 x1 x2 x3 = k0_pay1 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zero2]
  simp only [View.readAt_eq_ld, h3.read_unread, View.ld_unit_zero (S := S1x5632x512) zero3]

end

/-- The body's value over tables. -/
theorem pay_is {x0 : Vec Ideal S512x5632 .bf16} {s0 : Vec Ideal S5632x512 .bf16} {x2 : Vec Ideal S512x512 .f32} {x3 : Vec Ideal S1x6x512 .f32}
    {Z A X : ℕ → ℕ → EReal} {M : ℕ → ℕ → ℕ → EReal}
    (h0 : Is2 (a := 512) (b := 5632) x0 Z) (h1 : Is2 (a := 5632) (b := 512) s0 A) (h2 : Is2 (a := 512) (b := 512) x2 X)
    (h3 : Is3 (a := 1) (b := 6) (d := 512) x3 M) :
    Is2 (a := 512) (b := 512) (k0_pay2 x0 s0 (gateRow x3) x2) (fun p q => X p q + M 0 5 q * dot 5632 Z A p q) := by
  intro i
  have e1 := prod_is (φ₁ := .bf16) (φ₂ := .bf16) none h0 h1 i
  have hg : Is3 (a := 1) (b := 1) (d := 512) (gateRow x3) (fun _ _ d => M 0 5 d) := fun y => h3 _
  have e2 := row_is (n := 512) hg (by decide) (by decide) i
  exact congrArg₂ (· + ·) (h2 i) (congrArg₂ (· * ·) e2 e1)

/-- The stored weights over tables: a block without its leading axis. -/
theorem w1_is {x : Vec Ideal S1x5632x512 .f32} {X : ℕ → ℕ → ℕ → EReal} (h : Is3 (a := 1) (b := 5632) (d := 512) x X) :
    Is2 (a := 5632) (b := 512) (k0_pay1 x) (X 0) := by
  unfold k0_pay1
  dsimp only
  rw [shapeCast_self]
  exact drop_is h _

/-! ## The windows and the kept weights over the grid -/

theorem im0 : ∀ t : Fin cfg0.N, win0_0.index t 0 = t.val % 17 ∧ win0_0.index t 1 = 0 := by decide +kernel
theorem im1 : ∀ t : Fin cfg0.N, win0_1.index t 0 = 0 ∧ win0_1.index t 1 = 0 ∧ win0_1.index t 2 = t.val / 17 := by decide +kernel
theorem im2 : ∀ t : Fin cfg0.N, win0_2.index t 0 = t.val % 17 ∧ win0_2.index t 1 = t.val / 17 := by decide +kernel
theorem im3 : ∀ t : Fin cfg0.N, win0_3.index t 0 = t.val % 17 / 8 ∧ win0_3.index t 1 = 0 ∧ win0_3.index t 2 = t.val / 17 := by decide +kernel
theorem im4 : ∀ t : Fin cfg0.N, win0_4.index t 0 = t.val % 17 ∧ win0_4.index t 1 = t.val / 17 := by decide +kernel

section
variable (m : (ℓ : Loc nD τ sig) → Buf (Elt Ideal) ℓ) (c : Dev nD)
variable {Z X : ℕ → ℕ → EReal} {W M : ℕ → ℕ → ℕ → EReal}

theorem at0 (hZ : Is2 (a := 8704) (b := 5632) (m ((c : Thread nD τ).loc main_arg0)) Z) (t : Fin cfg0.N) :
    Is2 (a := 512) (b := 5632) (iblk m c 0 t) (fun r d => Z (512 * (t.val % 17) + r) d) := by
  intro i
  unfold iblk
  rw [View.read_apply]
  show V m c main_arg0 _ = _
  rw [V_main_arg0]
  refine (hZ _).trans ?_
  show Z (win0_0.index t 0 * 512 + 1 * (i 0).val) (win0_0.index t 1 * 5632 + 1 * (i 1).val) = _
  rw [(im0 t).1, (im0 t).2, one_mul, one_mul, mul_comm _ 512, zero_mul, zero_add]

theorem at1 (hW : Is3 (a := 2) (b := 5632) (d := 4096) (m ((c : Thread nD τ).loc main_arg1)) W) (t : Fin cfg0.N) :
    Is3 (a := 1) (b := 5632) (d := 512) (iblk m c 1 t) (fun p r d => W p r (512 * (t.val / 17) + d)) := by
  intro i
  unfold iblk
  rw [View.read_apply]
  show V m c main_arg1 _ = _
  rw [V_main_arg1]
  refine (hW _).trans ?_
  show W (win0_1.index t 0 * 1 + 1 * (i 0).val) (win0_1.index t 1 * 5632 + 1 * (i 1).val) (win0_1.index t 2 * 512 + 1 * (i 2).val) = _
  rw [(im1 t).1, (im1 t).2.1, (im1 t).2.2, one_mul, one_mul, one_mul, mul_comm _ 512, zero_mul, zero_mul, zero_add, zero_add]

theorem at2 (hX : Is2 (a := 8704) (b := 4096) (m ((c : Thread nD τ).loc main_arg2)) X) (t : Fin cfg0.N) :
    Is2 (a := 512) (b := 512) (iblk m c 2 t) (fun r d => X (512 * (t.val % 17) + r) (512 * (t.val / 17) + d)) := by
  intro i
  unfold iblk
  rw [View.read_apply]
  show V m c main_arg2 _ = _
  rw [V_main_arg2]
  refine (hX _).trans ?_
  show X (win0_2.index t 0 * 512 + 1 * (i 0).val) (win0_2.index t 1 * 512 + 1 * (i 1).val) = _
  rw [(im2 t).1, (im2 t).2, one_mul, one_mul, mul_comm _ 512, mul_comm _ 512]

theorem at3 (hM : Is3 (a := 3) (b := 6) (d := 4096) (m ((c : Thread nD τ).loc main_arg3)) M) (t : Fin cfg0.N) :
    Is3 (a := 1) (b := 6) (d := 512) (iblk m c 3 t) (fun p r d => M (t.val % 17 / 8 + p) r (512 * (t.val / 17) + d)) := by
  intro i
  unfold iblk
  rw [View.read_apply]
  show V m c main_arg3 _ = _
  rw [V_main_arg3]
  refine (hM _).trans ?_
  show M (win0_3.index t 0 * 1 + 1 * (i 0).val) (win0_3.index t 1 * 6 + 1 * (i 1).val) (win0_3.index t 2 * 512 + 1 * (i 2).val) = _
  rw [(im3 t).1, (im3 t).2.1, (im3 t).2.2, one_mul, one_mul, one_mul, mul_comm _ 512, zero_mul, mul_one, zero_add]

/-- The kept weights after any point. -/
theorem kept0 (hW : Is3 (a := 2) (b := 5632) (d := 4096) (m ((c : Thread nD τ).loc main_arg1)) W) (n : ℕ) (h : n < cfg0.N) :
    Is2 (a := 5632) (b := 512) (outsAt0 m c n h).2 (fun r d => W 0 r (512 * (n / 17) + d)) :=
  carried (P := 17) (by norm_num) (fun n h => (outsAt0 m c n h).2) (fun j s => Is2 (a := 5632) (b := 512) s (fun r d => W 0 r (512 * j + d)))
    (fun n h h0 => by
      rw [outsAt0_A m c ⟨n, h⟩ h0]
      dsimp only
      rw [kept_A0]
      exact w1_is (at1 m c hW ⟨n, h⟩))
    (fun n h h0 => by
      rw [outsAt0_B m c ⟨n, h⟩ h0]
      rfl) n h

/-- The result at row `R` and column `E`: the residual plus the row group's gate times the product. -/
def res (Z X : ℕ → ℕ → EReal) (W M : ℕ → ℕ → ℕ → EReal) (R E : ℕ) : EReal := X R E + M (R / 4096) 5 E * dot 5632 Z (W 0) R E

/-- What a point leaves is its block of the result. -/
theorem outs_res (hZ : Is2 (a := 8704) (b := 5632) (m ((c : Thread nD τ).loc main_arg0)) Z)
    (hW : Is3 (a := 2) (b := 5632) (d := 4096) (m ((c : Thread nD τ).loc main_arg1)) W)
    (hX : Is2 (a := 8704) (b := 4096) (m ((c : Thread nD τ).loc main_arg2)) X)
    (hM : Is3 (a := 3) (b := 6) (d := 4096) (m ((c : Thread nD τ).loc main_arg3)) M) (t : Fin cfg0.N) :
    Is2 (a := 512) (b := 512) (outsAt0 m c t.val t.isLt).1 (fun r d => X (512 * (t.val % 17) + r) (512 * (t.val / 17) + d)
      + M (t.val % 17 / 8) 5 (512 * (t.val / 17) + d) * dot 5632 Z (W 0) (512 * (t.val % 17) + r) (512 * (t.val / 17) + d)) := by
  have e : (outsAt0 m c t.val t.isLt).1 = k0_pay2 (iblk m c 0 t) (outsAt0 m c t.val t.isLt).2 (gateRow (iblk m c 3 t)) (iblk m c 2 t) := by
    by_cases h0 : t.val % 17 = 0
    · rw [outsAt0_A m c t h0]
      dsimp only
      rw [out_A, kept_A0]
    · rw [outsAt0_B m c t h0]
      dsimp only
      rw [out_B]
      rfl
  rw [e]
  exact pay_is (at0 m c hZ t) (kept0 m c hW t.val t.isLt) (at2 m c hX t) (at3 m c hM t)

/-- The result array. -/
def G (Z X : ℕ → ℕ → EReal) (W M : ℕ → ℕ → ℕ → EReal) : Vec Ideal S8704x4096 .f32 := fun i => res Z X W M (i 0).val (i 1).val

/-- The result array after the run. -/
theorem arr_eq (hZ : Is2 (a := 8704) (b := 5632) (m ((c : Thread nD τ).loc main_arg0)) Z)
    (hW : Is3 (a := 2) (b := 5632) (d := 4096) (m ((c : Thread nD τ).loc main_arg1)) W)
    (hX : Is2 (a := 8704) (b := 4096) (m ((c : Thread nD τ).loc main_arg2)) X)
    (hM : Is3 (a := 3) (b := 6) (d := 4096) (m ((c : Thread nD τ).loc main_arg3)) M) :
    (dats m 0 c).arrAt 4 cfg0.N = G Z X W M := by
  refine (dats m 0 c).arrAt_eq_of_cover 4 (G Z X W M) ?_ ?_
  · intro t _
    rw [Cert.Kernel3Ideal.Value.flushed4]
    funext y
    rw [View.read_apply]
    refine (outs_res m c hZ hW hX hM t y).trans ?_
    have hy : (y 0).val < 512 := (y 0).isLt
    show _ = res Z X W M (win0_4.index t 0 * 512 + 1 * (y 0).val) (win0_4.index t 1 * 512 + 1 * (y 1).val)
    rw [(im4 t).1, (im4 t).2, one_mul, one_mul, mul_comm _ 512, mul_comm _ 512]
    unfold res
    rw [show (512 * (t.val % 17) + (y 0).val) / 4096 = t.val % 17 / 8 by omega]
  · intro i
    have b0 : (i 0).val < 8704 := (i 0).isLt
    have b1 : (i 1).val < 4096 := (i 1).isLt
    exact (Cert.Kernel3Ideal.Value.covered_iff4 i).2 ⟨Nat.zero_le _, b0, Nat.zero_le _, b1⟩

end

end Cert.Down

end
-- ==== Proof.DownRef.lean ====
module

public import proofs.«01_k».proof.Proof.Down
public import proofs.«01_k».proof.Proof.Gen.Reference3Ideal.Read

/-! The reference of the product back into the residual, element by element, and its equality with the kernel's result array. -/

@[expose] public section

set_option maxRecDepth 16384

noncomputable section

namespace Cert.DownRef

open Cert.Reference3Ideal Cert.Reference3Ideal.Read Cert.Mat Cert.Down Idealize.ShloMosaic Idealize.SL.Sem

section
variable {x0 : (⟨S8704x5632, .bf16⟩ : BufTy).Contents (Elt Ideal)} {x1 : (⟨S2x5632x4096, .f32⟩ : BufTy).Contents (Elt Ideal)}
  {x2 : (⟨S8704x4096, .f32⟩ : BufTy).Contents (Elt Ideal)} {x3 : (⟨S3x6x4096, .f32⟩ : BufTy).Contents (Elt Ideal)}
  {Z X : ℕ → ℕ → EReal} {W M : ℕ → ℕ → ℕ → EReal}

/-- An element of the reference's product with the first layer's weights. -/
theorem prod_at (hZ : Is2 (a := 8704) (b := 5632) x0 Z) (hW : Is3 (a := 2) (b := 5632) (d := 4096) x1 W) :
    Is2 (a := 8704) (b := 4096) (val_main_v3 (F := Ideal) x0 x1) (dot 5632 Z (W 0)) := by
  intro i
  rw [val_main_v3_apply]
  unfold dot
  rw [Finset.sum_range]
  refine Finset.sum_congr rfl fun k _ => ?_
  rw [val_main_v0_apply, val_main_v2_apply, val_main_v1_apply]
  have b1 : (i 1).val < 4096 := (i 1).isLt
  have e0 : (k.val * 4096 + (i 1).val) / 4096 % 5632 = k.val := by have := k.isLt; omega
  have e1 : (k.val * 4096 + (i 1).val) % 4096 = (i 1).val := by omega
  refine congrArg₂ (· * ·) (hZ _) ((hW _).trans ?_)
  show W 0 ((k.val * 4096 + (i 1).val) / 4096 % 5632) ((k.val * 4096 + (i 1).val) % 4096) = _
  rw [e0, e1]

/-- An element of the gate. -/
theorem gate_at (hM : Is3 (a := 3) (b := 6) (d := 4096) x3 M) : Is2 (a := 3) (b := 4096) (val_main_v5 (F := Ideal) x3) (fun g d => M g 5 d) := by
  intro i
  rw [val_main_v5_apply, val_main_v4_apply]
  have b1 : (i 1).val < 4096 := (i 1).isLt
  refine (hM _).trans ?_
  show M (((i 0).val * 4096 + (i 1).val) / 4096) 5 (((i 0).val * 4096 + (i 1).val) % 4096) = _
  rw [show ((i 0).val * 4096 + (i 1).val) / 4096 = (i 0).val by omega, show ((i 0).val * 4096 + (i 1).val) % 4096 = (i 1).val by omega]

/-- An element of the latent rows. -/
theorem lat_at (hZ : Is2 (a := 8704) (b := 5632) x0 Z) (hW : Is3 (a := 2) (b := 5632) (d := 4096) x1 W) (hX : Is2 (a := 8704) (b := 4096) x2 X)
    (hM : Is3 (a := 3) (b := 6) (d := 4096) x3 M) : Is2 (a := 8192) (b := 4096) (val_main_v23 (F := Ideal) x0 x1 x2 x3) (res Z X W M) := by
  intro i
  have b0 : (i 0).val < 8192 := (i 0).isLt
  have b1 : (i 1).val < 4096 := (i 1).isLt
  have f0 : ((i 0).val * 4096 + (i 1).val) / 16777216 = (i 0).val / 4096 := by omega
  have f1 : ((i 0).val * 4096 + (i 1).val) / 4096 % 4096 = (i 0).val % 4096 := by omega
  have f2 : ((i 0).val * 4096 + (i 1).val) % 4096 = (i 1).val := by omega
  have e0 : ((((i 0).val * 4096 + (i 1).val) / 16777216 * 4096 + ((i 0).val * 4096 + (i 1).val) / 4096 % 4096) * 4096 + ((i 0).val * 4096 + (i 1).val) % 4096) / 4096 = (i 0).val := by
    rw [f0, f1, f2]; omega
  have e1 : ((((i 0).val * 4096 + (i 1).val) / 16777216 * 4096 + ((i 0).val * 4096 + (i 1).val) / 4096 % 4096) * 4096 + ((i 0).val * 4096 + (i 1).val) % 4096) % 4096 = (i 1).val := by
    rw [f0, f1, f2]; omega
  rw [val_main_v23_apply, val_main_v14_apply, val_main_v13_apply, val_main_v12_apply, val_main_v9_apply, val_main_v8_apply, val_main_v7_apply,
    val_main_v6_apply, val_main_v11_apply, val_main_v10_apply, prod_at hZ hW, gate_at hM, Ideal.addf_def, Ideal.mulf_def]
  refine congrArg₂ (· + ·) ((hX _).trans ?_) (congrArg₂ (· * ·) ?_ ?_)
  · exact congrArg₂ X e0 e1
  · exact congrArg₂ (fun g d => M g 5 d) f0 f2
  · exact congrArg₂ (dot 5632 Z (W 0)) e0 e1

/-- An element of the context rows. -/
theorem ctx_at (hZ : Is2 (a := 8704) (b := 5632) x0 Z) (hW : Is3 (a := 2) (b := 5632) (d := 4096) x1 W) (hX : Is2 (a := 8704) (b := 4096) x2 X)
    (hM : Is3 (a := 3) (b := 6) (d := 4096) x3 M) :
    Is2 (a := 512) (b := 4096) (val_main_v22 (F := Ideal) x0 x1 x2 x3) (fun r d => res Z X W M (8192 + r) d) := by
  intro i
  have b0 : (i 0).val < 512 := (i 0).isLt
  have b1 : (i 1).val < 4096 := (i 1).isLt
  rw [val_main_v22_apply, val_main_v21_apply, val_main_v20_apply, val_main_v19_apply, val_main_v18_apply, val_main_v17_apply, val_main_v16_apply,
    val_main_v15_apply, prod_at hZ hW, gate_at hM, Ideal.addf_def, Ideal.mulf_def]
  refine congrArg₂ (· + ·) (hX _) (congrArg₂ (· * ·) ?_ rfl)
  show M (2 + 0) 5 ((i 1).val % 4096) = M ((8192 + (i 0).val) / 4096) 5 (i 1).val
  rw [Nat.mod_eq_of_lt b1, show (8192 + (i 0).val) / 4096 = 2 + 0 by omega]

/-- The reference is the kernel's result array. -/
theorem ref_eq (hZ : Is2 (a := 8704) (b := 5632) x0 Z) (hW : Is3 (a := 2) (b := 5632) (d := 4096) x1 W) (hX : Is2 (a := 8704) (b := 4096) x2 X)
    (hM : Is3 (a := 3) (b := 6) (d := 4096) x3 M) : val_main_v24 (F := Ideal) x0 x1 x2 x3 = G Z X W M := by
  funext i
  have h0 : (i 0).val < 8704 := (i 0).isLt
  unfold val_main_v24
  by_cases hlt : (i 0).val < 8192
  · let j : S8192x4096.Idx := fun a => match a with
      | ⟨0, _⟩ => ⟨(i 0).val, hlt⟩
      | ⟨1, _⟩ => ⟨(i 1).val, (i 1).isLt⟩
    refine (concatenate_pair_apply_left (0 : Fin 2) (val_main_v23 (F := Ideal) x0 x1 x2 x3) (val_main_v22 (F := Ideal) x0 x1 x2 x3) _ i rfl j fun b => match b with
      | ⟨0, _⟩ => rfl
      | ⟨1, _⟩ => rfl).trans ?_
    exact lat_at hZ hW hX hM j
  · let j : S512x4096.Idx := fun a => match a with
      | ⟨0, _⟩ => ⟨(i 0).val - 8192, by show (i 0).val - 8192 < 512; omega⟩
      | ⟨1, _⟩ => ⟨(i 1).val, (i 1).isLt⟩
    refine (concatenate_pair_apply_right (0 : Fin 2) (val_main_v23 (F := Ideal) x0 x1 x2 x3) (val_main_v22 (F := Ideal) x0 x1 x2 x3) _ i rfl rfl j (fun b hb => match b, hb with
      | ⟨0, _⟩, hb => absurd rfl hb
      | ⟨1, _⟩, _ => rfl) (by show (i 0).val - 8192 + 8192 = (i 0).val; omega)).trans ?_
    refine (ctx_at hZ hW hX hM j).trans ?_
    show res Z X W M (8192 + ((i 0).val - 8192)) (i 1).val = res Z X W M (i 0).val (i 1).val
    rw [show 8192 + ((i 0).val - 8192) = (i 0).val by omega]

end

/-- The kernel's result array, from any memory, is the reference of the kernel's arguments. -/
theorem equal (m : (ℓ : Loc Cert.Kernel3Ideal.nD Cert.Kernel3Ideal.τ Cert.Kernel3Ideal.sig) → Buf (Elt Ideal) ℓ) (c : Dev Cert.Kernel3Ideal.nD) :
    val_main_v24 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))
      = (Cert.Kernel3Ideal.Gen.dats m 0 c).arrAt 4 Cert.Kernel3Ideal.cfg0.N := by
  obtain ⟨Z, hZ⟩ := is2 (a := 8704) (b := 5632) (m ((c.tc : Thread Cert.Kernel3Ideal.nD Cert.Kernel3Ideal.τ).loc Cert.Kernel3Ideal.main_arg0))
  obtain ⟨W, hW⟩ := is3 (a := 2) (b := 5632) (d := 4096) (m ((c.tc : Thread Cert.Kernel3Ideal.nD Cert.Kernel3Ideal.τ).loc Cert.Kernel3Ideal.main_arg1))
  obtain ⟨X, hX⟩ := is2 (a := 8704) (b := 4096) (m ((c.tc : Thread Cert.Kernel3Ideal.nD Cert.Kernel3Ideal.τ).loc Cert.Kernel3Ideal.main_arg2))
  obtain ⟨M, hM⟩ := is3 (a := 3) (b := 6) (d := 4096) (m ((c.tc : Thread Cert.Kernel3Ideal.nD Cert.Kernel3Ideal.τ).loc Cert.Kernel3Ideal.main_arg3))
  exact (ref_eq hZ hW hX hM).trans (arr_eq m c hZ hW hX hM).symm

end Cert.DownRef

end
-- ==== Proof.Val.lean ====
module

public import proofs.«01_k».proof.Proof.Mat
public import proofs.«01_k».proof.Proof.Gen.Kernel4Ideal.Value

/-! The differential attention's values: what each grid point leaves and the whole result array. -/

@[expose] public section

set_option maxRecDepth 16384

noncomputable section

namespace Cert.Val

open Cert.Kernel4Ideal Cert.Kernel4Ideal.Gen Cert.Mat Idealize.ShloMosaic Idealize.ShloMosaic.TcCoe Idealize.SL.Sem
open Idealize.ShloMosaic.Pipeline (Dat)

section
variable (c : Dev nD) (i : grid0.Coords) (a2 : Memref sig .tc .vmem S256x4096 .bf16) (h2 : a2.IsWhole)
  (a3 : Memref sig .tc .vmem S1x4096x1024 .f32) (h3 : a3.IsWhole) (a4 : Memref sig .tc .vmem S256x1024 .bf16) (h4 : a4.IsWhole)
  (a5 : Memref sig .tc .vmem S4096x1024 .bf16) (h5 : a5.IsWhole)
  (x0 : Vec Ideal S256x4096 .bf16) (x1 : Vec Ideal S1x4096x1024 .f32) (s0 : Vec Ideal S4096x1024 .bf16)

/-- At the first row block of a column block the result is computed from the weights just stored. -/
theorem out_A (hc : cond0_0 i) : out0_A_2 c i a2 h2 a3 h3 a4 h4 a5 h5 hc x0 x1 = k0_pay2 x0 (k0_pay1 x1) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero zero2]
  simp only [View.readCov_unit_zero (S := S4096x1024) _ zero2, View.readAt_eq_ld, h2.read_unread, h3.read_unread,
    View.ld_unit_zero (S := S256x4096) zero2, View.ld_unit_zero (S := S1x4096x1024) zero3]

/-- At the other row blocks it is computed from the weights kept. -/
theorem out_B (hc : ¬cond0_0 i) : out0_B_2 c i a2 h2 a3 h3 a4 h4 a5 h5 hc x0 x1 s0 = k0_pay2 x0 s0 := by
  unfold out0_B_2
  rw [View.read_writes_eq_canon _ _ _ (cover0_B_2 c i a2 h2 a3 h3 a4 h4 a5 h5 hc x0 x1 s0)]
  unfold kernelRun0_B
  dsimp only
  rw [View.canon_unit_zero zero2]
  simp only [View.readAt_eq_ld, h2.read_unread, h5.read_unread,
    View.ld_unit_zero (S := S256x4096) zero2, View.ld_unit_zero (S := S4096x1024) zero2]

/-- The stored weights. -/
theorem kept_A0 (hc : cond0_0 i) : sout0_A_0 c i a2 h2 a3 h3 a4 h4 a5 h5 hc x0 x1 = k0_pay1 x1 := by
  unfold sout0_A_0
  rw [View.read_writes_eq_canon _ _ _ (scover0_A_0 c i a2 h2 a3 h3 a4 h4 a5 h5 hc x0 x1)]
  unfold kernelRun0_A
  dsimp only
  sl_unfold_words
  rw [View.canon_unit_zero zero2]
  simp only [View.readAt_eq_ld, h3.read_unread, View.ld_unit_zero (S := S1x4096x1024) zero3]

end

/-- The body's value over tables. -/
theorem pay_is {x0 : Vec Ideal S256x4096 .bf16} {s0 : Vec Ideal S4096x1024 .bf16} {Z A : ℕ → ℕ → EReal}
    (h0 : Is2 (a := 256) (b := 4096) x0 Z) (h1 : Is2 (a := 4096) (b := 1024) s0 A) :
    Is2 (a := 256) (b := 1024) (k0_pay2 x0 s0) (dot 4096 Z A) := fun i => prod_is (φ₁ := .bf16) (φ₂ := .bf16) none h0 h1 i

/-- The stored weights over tables: a block without its leading axis. -/
theorem w1_is {x : Vec Ideal S1x4096x1024 .f32} {X : ℕ → ℕ → ℕ → EReal} (h : Is3 (a := 1) (b := 4096) (d := 1024) x X) :
    Is2 (a := 4096) (b := 1024) (k0_pay1 x) (X 0) := by
  unfold k0_pay1
  dsimp only
  rw [shapeCast_self]
  exact drop_is h _

/-! ## The windows and the kept weights over the grid -/

theorem im0 : ∀ t : Fin cfg0.N, win0_0.index t 0 = t.val % 34 ∧ win0_0.index t 1 = 0 := by decide +kernel
theorem im1 : ∀ t : Fin cfg0.N, win0_1.index t 0 = 0 ∧ win0_1.index t 1 = 0 ∧ win0_1.index t 2 = 8 + t.val / 34 := by decide +kernel
theorem im2 : ∀ t : Fin cfg0.N, win0_2.index t 0 = t.val % 34 ∧ win0_2.index t 1 = t.val / 34 := by decide +kernel

section
variable (m : (ℓ : Loc nD τ sig) → Buf (Elt Ideal) ℓ) (c : Dev nD)
variable {Z : ℕ → ℕ → EReal} {W : ℕ → ℕ → ℕ → EReal}

theorem at0 (hZ : Is2 (a := 8704) (b := 4096) (m ((c : Thread nD τ).loc main_arg0)) Z) (t : Fin cfg0.N) :
    Is2 (a := 256) (b := 4096) (iblk m c 0 t) (fun r d => Z (256 * (t.val % 34) + r) d) := by
  intro i
  unfold iblk
  rw [View.read_apply]
  show V m c main_arg0 _ = _
  rw [V_main_arg0]
  refine (hZ _).trans ?_
  show Z (win0_0.index t 0 * 256 + 1 * (i 0).val) (win0_0.index t 1 * 4096 + 1 * (i 1).val) = _
  rw [(im0 t).1, (im0 t).2, one_mul, one_mul, mul_comm _ 256, zero_mul, zero_add]

theorem at1 (hW : Is3 (a := 2) (b := 4096) (d := 12288) (m ((c : Thread nD τ).loc main_arg1)) W) (t : Fin cfg0.N) :
    Is3 (a := 1) (b := 4096) (d := 1024) (iblk m c 1 t) (fun p r d => W p r (8192 + (1024 * (t.val / 34) + d))) := by
  intro i
  unfold iblk
  rw [View.read_apply]
  show V m c main_arg1 _ = _
  rw [V_main_arg1]
  refine (hW _).trans ?_
  show W (win0_1.index t 0 * 1 + 1 * (i 0).val) (win0_1.index t 1 * 4096 + 1 * (i 1).val) (win0_1.index t 2 * 1024 + 1 * (i 2).val) = _
  rw [(im1 t).1, (im1 t).2.1, (im1 t).2.2, one_mul, one_mul, one_mul, mul_comm _ 1024, zero_mul, zero_mul, zero_add, zero_add, mul_add,
    show 1024 * 8 = 8192 from rfl, add_assoc]

/-- The kept weights after any point. -/
theorem kept0 (hW : Is3 (a := 2) (b := 4096) (d := 12288) (m ((c : Thread nD τ).loc main_arg1)) W) (n : ℕ) (h : n < cfg0.N) :
    Is2 (a := 4096) (b := 1024) (outsAt0 m c n h).2 (fun r d => W 0 r (8192 + (1024 * (n / 34) + d))) :=
  carried (P := 34) (by norm_num) (fun n h => (outsAt0 m c n h).2)
    (fun j s => Is2 (a := 4096) (b := 1024) s (fun r d => W 0 r (8192 + (1024 * j + d))))
    (fun n h h0 => by
      rw [outsAt0_A m c ⟨n, h⟩ h0]
      dsimp only
      rw [kept_A0]
      exact w1_is (at1 m c hW ⟨n, h⟩))
    (fun n h h0 => by
      rw [outsAt0_B m c ⟨n, h⟩ h0]
      rfl) n h

/-- The result at row `R` and column `E`. -/
def res (Z : ℕ → ℕ → EReal) (W : ℕ → ℕ → ℕ → EReal) (R E : ℕ) : EReal := dot 4096 Z (fun r d => W 0 r (8192 + d)) R E

/-- What a point leaves is its block of the result. -/
theorem outs_res (hZ : Is2 (a := 8704) (b := 4096) (m ((c : Thread nD τ).loc main_arg0)) Z)
    (hW : Is3 (a := 2) (b := 4096) (d := 12288) (m ((c : Thread nD τ).loc main_arg1)) W) (t : Fin cfg0.N) :
    Is2 (a := 256) (b := 1024) (outsAt0 m c t.val t.isLt).1 (fun r d => res Z W (256 * (t.val % 34) + r) (1024 * (t.val / 34) + d)) := by
  have e : (outsAt0 m c t.val t.isLt).1 = k0_pay2 (iblk m c 0 t) (outsAt0 m c t.val t.isLt).2 := by
    by_cases h0 : t.val % 34 = 0
    · rw [outsAt0_A m c t h0]
      dsimp only
      rw [out_A, kept_A0]
    · rw [outsAt0_B m c t h0]
      dsimp only
      rw [out_B]
      rfl
  rw [e]
  exact pay_is (at0 m c hZ t) (kept0 m c hW t.val t.isLt)

/-- The result array. -/
def G (Z : ℕ → ℕ → EReal) (W : ℕ → ℕ → ℕ → EReal) : Vec Ideal S8704x4096 .bf16 := fun i => res Z W (i 0).val (i 1).val

/-- The result array after the run. -/
theorem arr_eq (hZ : Is2 (a := 8704) (b := 4096) (m ((c : Thread nD τ).loc main_arg0)) Z)
    (hW : Is3 (a := 2) (b := 4096) (d := 12288) (m ((c : Thread nD τ).loc main_arg1)) W) :
    (dats m 0 c).arrAt 2 cfg0.N = G Z W := by
  refine (dats m 0 c).arrAt_eq_of_cover 2 (G Z W) ?_ ?_
  · intro t _
    rw [Cert.Kernel4Ideal.Value.flushed2]
    funext y
    rw [View.read_apply]
    refine (outs_res m c hZ hW t y).trans ?_
    show _ = res Z W (win0_2.index t 0 * 256 + 1 * (y 0).val) (win0_2.index t 1 * 1024 + 1 * (y 1).val)
    rw [(im2 t).1, (im2 t).2, one_mul, one_mul, mul_comm _ 256, mul_comm _ 1024]
  · intro i
    have b0 : (i 0).val < 8704 := (i 0).isLt
    have b1 : (i 1).val < 4096 := (i 1).isLt
    exact (Cert.Kernel4Ideal.Value.covered_iff2 i).2 ⟨Nat.zero_le _, b0, Nat.zero_le _, b1⟩

end

end Cert.Val

end
-- ==== Proof.ValRef.lean ====
module

public import proofs.«01_k».proof.Proof.Val
public import proofs.«01_k».proof.Proof.Gen.Reference4Ideal.Read

/-! The reference of the differential attention's values, element by element, and its equality with the kernel's result array. -/

@[expose] public section

set_option maxRecDepth 16384

noncomputable section

namespace Cert.ValRef

open Cert.Reference4Ideal Cert.Reference4Ideal.Read Cert.Mat Cert.Val Idealize.ShloMosaic Idealize.SL.Sem

/-- The reference is the kernel's result array. -/
theorem ref_eq {x0 : (⟨S8704x4096, .bf16⟩ : BufTy).Contents (Elt Ideal)} {x1 : (⟨S2x4096x12288, .f32⟩ : BufTy).Contents (Elt Ideal)}
    {Z : ℕ → ℕ → EReal} {W : ℕ → ℕ → ℕ → EReal} (hZ : Is2 (a := 8704) (b := 4096) x0 Z) (hW : Is3 (a := 2) (b := 4096) (d := 12288) x1 W) :
    val_main_v5 (F := Ideal) x0 x1 = G Z W := by
  funext i
  rw [val_main_v5_apply, val_main_v4_apply, Ideal.truncf_def]
  show _ = dot 4096 Z (fun r d => W 0 r (8192 + d)) (i 0).val (i 1).val
  unfold dot
  rw [Finset.sum_range]
  refine Finset.sum_congr rfl fun k _ => ?_
  rw [val_main_v0_apply, val_main_v3_apply, val_main_v2_apply, val_main_v1_apply]
  have b1 : (i 1).val < 4096 := (i 1).isLt
  have e0 : (k.val * 12288 + (8192 + (i 1).val)) / 12288 % 4096 = k.val := by have := k.isLt; omega
  have e1 : (k.val * 12288 + (8192 + (i 1).val)) % 12288 = 8192 + (i 1).val := by omega
  refine congrArg₂ (· * ·) (hZ _) ((hW _).trans ?_)
  show W 0 ((k.val * 12288 + (8192 + (i 1).val)) / 12288 % 4096) ((k.val * 12288 + (8192 + (i 1).val)) % 12288) = _
  rw [e0, e1]

/-- The kernel's result array, from any memory, is the reference of the kernel's arguments. -/
theorem equal (m : (ℓ : Loc Cert.Kernel4Ideal.nD Cert.Kernel4Ideal.τ Cert.Kernel4Ideal.sig) → Buf (Elt Ideal) ℓ) (c : Dev Cert.Kernel4Ideal.nD) :
    val_main_v5 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
      = (Cert.Kernel4Ideal.Gen.dats m 0 c).arrAt 2 Cert.Kernel4Ideal.cfg0.N := by
  obtain ⟨Z, hZ⟩ := is2 (a := 8704) (b := 4096) (m ((c.tc : Thread Cert.Kernel4Ideal.nD Cert.Kernel4Ideal.τ).loc Cert.Kernel4Ideal.main_arg0))
  obtain ⟨W, hW⟩ := is3 (a := 2) (b := 4096) (d := 12288) (m ((c.tc : Thread Cert.Kernel4Ideal.nD Cert.Kernel4Ideal.τ).loc Cert.Kernel4Ideal.main_arg1))
  exact (ref_eq hZ hW).trans (arr_eq m c hZ hW).symm

end Cert.ValRef

end
-- ==== Proof.Out.lean ====
module

public import proofs.«01_k».proof.Proof.Mat
public import proofs.«01_k».proof.Proof.Gen.Kernel5Ideal.Value

/-! A mixer's output projection back into the residual, its rows in two arrays: what each grid point leaves and the whole result array. -/

@[expose] public section

set_option maxRecDepth 16384

noncomputable section

namespace Cert.Out

open Cert.Kernel5Ideal Cert.Kernel5Ideal.Gen Cert.Mat Idealize.ShloMosaic Idealize.ShloMosaic.TcCoe Idealize.SL.Sem
open Idealize.ShloMosaic.Pipeline (Dat)

/-- The gate's row of a block of modulation rows. -/
def gateRow (x : Vec Ideal S1x6x1024 .f32) : Vec Ideal S1x1x1024 .f32 := fun i => x (ValueIdx.ix3 (0 : Fin 1) (2 : Fin 6) (i 2))

section
variable (c : Dev nD) (i : grid0.Coords) (a2 : Memref sig .tc .vmem S256x4096 .bf16) (h2 : a2.IsWhole)
  (a3 : Memref sig .tc .vmem S256x4096 .bf16) (h3 : a3.IsWhole) (a4 : Memref sig .tc .vmem S1x4096x1024 .f32) (h4 : a4.IsWhole)
  (a5 : Memref sig .tc .vmem S256x1024 .f32) (h5 : a5.IsWhole) (a6 : Memref sig .tc .vmem S1x6x1024 .f32) (h6 : a6.IsWhole)
  (a7 : Memref sig .tc .vmem S256x1024 .f32) (h7 : a7.IsWhole) (a8 : Memref sig .tc .vmem S4096x1024 .bf16) (h8 : a8.IsWhole)
  (x0 x1 : Vec Ideal S256x4096 .bf16) (x2 : Vec Ideal S1x4096x1024 .f32) (x3 : Vec Ideal S256x1024 .f32) (x4 : Vec Ideal S1x6x1024 .f32)
  (s0 : Vec Ideal S4096x1024 .bf16)

/-- Reading the third row of the block of modulation rows. -/
theorem ld_gate (inb) : View.ld (e' := .f32) x4 (Rect.unit (s := S1x6x1024) ![0, 2, 0] S1x1x1024.size inb) = gateRow x4 := by
  funext y
  refine congrArg x4 (funext fun a => Fin.ext ?_)
  match a with
  | ⟨0, _⟩ => have h : (y 0).val < 1 := (y 0).isLt; show 0 + 1 * (y 0).val = 0; omega
  | ⟨1, _⟩ => have h : (y 1).val < 1 := (y 1).isLt; show 2 + 1 * (y 1).val = 2; omega
  | ⟨2, _⟩ => show 0 + 1 * (y 2).val = (y 2).val; omega

/-- At the first row block of a column block the result is computed from the weights just stored. -/
theorem out_A (hc : cond0_0 i) (hd : cond0_1 i) (he : ¬cond0_2 i) :
    out0_A_5 c i a2 h2 a3 h3 a4 h4 a5 h5 a6 h6 a7 h7 a8 h8 hc hd he x0 x1 x2 x3 x4 = k0_pay2 x0 (k0_pay1 x2) (gateRow x4) x3 := by
  unfold out0_A_5
  rw [View.read_writes_eq_canon _ _ _ (cover0_A_5 c i a2 h2 a3 h3 a4 h4 a5 h5 a6 h6 a7 h7 a8 h8 hc hd he x0 x1 x2 x3 x4)]
  unfold kernelRun0_A
  dsimp only
  sl_unfold_words
  rw [View.canon_unit_zero zero2]
  simp only [View.readCov_unit_zero (S := S4096x1024) _ zero2, View.readAt_eq_ld, h2.read_unread, h4.read_unread, h5.read_unread, h6.read_unread,
    View.ld_unit_zero (S := S256x4096) zero2, View.ld_unit_zero (S := S256x1024) zero2, View.ld_unit_zero (S := S1x4096x1024) zero3]
  exact congrArg (fun g => k0_pay2 x0 (k0_pay1 x2) g x3) (ld_gate x4 _)

/-- At the other row blocks of the first array it is computed from the weights kept. -/
theorem out_B (hc : ¬cond0_0 i) (hd : cond0_1 i) (he : ¬cond0_2 i) :
    out0_B_5 c i a2 h2 a3 h3 a4 h4 a5 h5 a6 h6 a7 h7 a8 h8 hc hd he x0 x1 x2 x3 x4 s0 = k0_pay2 x0 s0 (gateRow x4) x3 := by
  unfold out0_B_5
  rw [View.read_writes_eq_canon _ _ _ (cover0_B_5 c i a2 h2 a3 h3 a4 h4 a5 h5 a6 h6 a7 h7 a8 h8 hc hd he x0 x1 x2 x3 x4 s0)]
  unfold kernelRun0_B
  dsimp only
  rw [View.canon_unit_zero zero2]
  simp only [View.readAt_eq_ld, h2.read_unread, h5.read_unread, h6.read_unread, h8.read_unread,
    View.ld_unit_zero (S := S256x4096) zero2, View.ld_unit_zero (S := S256x1024) zero2, View.ld_unit_zero (S := S4096x1024) zero2]
  exact congrArg (fun g => k0_pay2 x0 s0 g x3) (ld_gate x4 _)

/-- At the row blocks of the second array likewise. -/
theorem out_C (hc : ¬cond0_0 i) (hd : ¬cond0_1 i) (he : cond0_2 i) :
    out0_C_5 c i a2 h2 a3 h3 a4 h4 a5 h5 a6 h6 a7 h7 a8 h8 hc hd he x0 x1 x2 x3 x4 s0 = k0_pay2 x1 s0 (gateRow x4) x3 := by
  unfold out0_C_5
  rw [View.read_writes_eq_canon _ _ _ (cover0_C_5 c i a2 h2 a3 h3 a4 h4 a5 h5 a6 h6 a7 h7 a8 h8 hc hd he x0 x1 x2 x3 x4 s0)]
  unfold kernelRun0_C
  dsimp only
  rw [View.canon_unit_zero zero2]
  simp only [View.readAt_eq_ld, h3.read_unread, h5.read_unread, h6.read_unread, h8.read_unread,
    View.ld_unit_zero (S := S256x4096) zero2, View.ld_unit_zero (S := S256x1024) zero2, View.ld_unit_zero (S := S4096x1024) zero2]
  exact congrArg (fun g => k0_pay3 x1 s0 g x3) (ld_gate x4 _)

/-- The stored weights. -/
theorem kept_A0 (hc : cond0_0 i) (hd : cond0_1 i) (he : ¬cond0_2 i) : sout0_A_0 c i a2 h2 a3 h3 a4 h4 a5 h5 a6 h6 a7 h7 a8 h8 hc hd he x0 x1 x2 x3 x4 = k0_pay1 x2 := by
  unfold sout0_A_0
  rw [View.read_writes_eq_canon _ _ _ (scover0_A_0 c i a2 h2 a3 h3 a4 h4 a5 h5 a6 h6 a7 h7 a8 h8 hc hd he x0 x1 x2 x3 x4)]
  unfold kernelRun0_A
  dsimp only
  sl_unfold_words
  rw [View.canon_unit_zero zero2]
  simp only [View.readAt_eq_ld, h4.read_unread, View.ld_unit_zero (S := S1x4096x1024) zero3]

end

/-- The body's value over tables. -/
theorem pay_is {x0 : Vec Ideal S256x4096 .bf16} {s0 : Vec Ideal S4096x1024 .bf16} {x3 : Vec Ideal S256x1024 .f32} {x4 : Vec Ideal S1x6x1024 .f32}
    {Z A X : ℕ → ℕ → EReal} {M : ℕ → ℕ → ℕ → EReal}
    (h0 : Is2 (a := 256) (b := 4096) x0 Z) (h1 : Is2 (a := 4096) (b := 1024) s0 A) (h3 : Is2 (a := 256) (b := 1024) x3 X)
    (h4 : Is3 (a := 1) (b := 6) (d := 1024) x4 M) :
    Is2 (a := 256) (b := 1024) (k0_pay2 x0 s0 (gateRow x4) x3) (fun p q => X p q + M 0 2 q * dot 4096 Z A p q) := by
  intro i
  have e1 := prod_is (φ₁ := .bf16) (φ₂ := .bf16) none h0 h1 i
  have hg : Is3 (a := 1) (b := 1) (d := 1024) (gateRow x4) (fun _ _ d => M 0 2 d) := fun y => h4 _
  have e2 := row_is (n := 256) hg (by decide) (by decide) i
  exact congrArg₂ (· + ·) (h3 i) (congrArg₂ (· * ·) e2 e1)

/-- The stored weights over tables: a block without its leading axis. -/
theorem w1_is {x : Vec Ideal S1x4096x1024 .f32} {X : ℕ → ℕ → ℕ → EReal} (h : Is3 (a := 1) (b := 4096) (d := 1024) x X) :
    Is2 (a := 4096) (b := 1024) (k0_pay1 x) (X 0) := by
  unfold k0_pay1
  dsimp only
  rw [shapeCast_self]
  exact drop_is h _

/-! ## The windows and the kept weights over the grid -/

theorem im0 : ∀ t : Fin cfg0.N, t.val % 34 ≤ 31 → win0_0.index t 0 = t.val % 34 ∧ win0_0.index t 1 = 0 := by decide +kernel
theorem im1 : ∀ t : Fin cfg0.N, 32 ≤ t.val % 34 → win0_1.index t 0 = t.val % 34 - 32 ∧ win0_1.index t 1 = 0 := by decide +kernel
theorem im2 : ∀ t : Fin cfg0.N, win0_2.index t 0 = 0 ∧ win0_2.index t 1 = 0 ∧ win0_2.index t 2 = t.val / 34 := by decide +kernel
theorem im3 : ∀ t : Fin cfg0.N, win0_3.index t 0 = t.val % 34 ∧ win0_3.index t 1 = t.val / 34 := by decide +kernel
theorem im4 : ∀ t : Fin cfg0.N, win0_4.index t 0 = t.val % 34 / 16 ∧ win0_4.index t 1 = 0 ∧ win0_4.index t 2 = t.val / 34 := by decide +kernel
theorem im5 : ∀ t : Fin cfg0.N, win0_5.index t 0 = t.val % 34 ∧ win0_5.index t 1 = t.val / 34 := by decide +kernel

/-- The rows of the two arrays, one after the other. -/
def joined (Y C : ℕ → ℕ → EReal) (r d : ℕ) : EReal := if r < 8192 then Y r d else C (r - 8192) d

section
variable (m : (ℓ : Loc nD τ sig) → Buf (Elt Ideal) ℓ) (c : Dev nD)
variable {Y C X : ℕ → ℕ → EReal} {W M : ℕ → ℕ → ℕ → EReal}

theorem at0 (hY : Is2 (a := 8192) (b := 4096) (m ((c : Thread nD τ).loc main_arg0)) Y) (t : Fin cfg0.N) (ht : t.val % 34 ≤ 31) :
    Is2 (a := 256) (b := 4096) (iblk m c 0 t) (fun r d => joined Y C (256 * (t.val % 34) + r) d) := by
  intro i
  unfold iblk
  rw [View.read_apply]
  show V m c main_arg0 _ = _
  rw [V_main_arg0]
  refine (hY _).trans ?_
  have h : (i 0).val < 256 := (i 0).isLt
  show Y (win0_0.index t 0 * 256 + 1 * (i 0).val) (win0_0.index t 1 * 4096 + 1 * (i 1).val) = joined Y C _ _
  unfold joined
  rw [if_pos (by omega), (im0 t ht).1, (im0 t ht).2, one_mul, one_mul, mul_comm _ 256, zero_mul, zero_add]

theorem at1 (hC : Is2 (a := 512) (b := 4096) (m ((c : Thread nD τ).loc main_arg1)) C) (t : Fin cfg0.N) (ht : 32 ≤ t.val % 34) :
    Is2 (a := 256) (b := 4096) (iblk m c 1 t) (fun r d => joined Y C (256 * (t.val % 34) + r) d) := by
  intro i
  unfold iblk
  rw [View.read_apply]
  show V m c main_arg1 _ = _
  rw [V_main_arg1]
  refine (hC _).trans ?_
  show C (win0_1.index t 0 * 256 + 1 * (i 0).val) (win0_1.index t 1 * 4096 + 1 * (i 1).val) = joined Y C _ _
  unfold joined
  rw [if_neg (by omega), (im1 t ht).1, (im1 t ht).2, one_mul, one_mul, zero_mul, zero_add,
    show (t.val % 34 - 32) * 256 + (i 0).val = 256 * (t.val % 34) + (i 0).val - 8192 by omega]

theorem at2 (hW : Is3 (a := 1) (b := 4096) (d := 4096) (m ((c : Thread nD τ).loc main_arg2)) W) (t : Fin cfg0.N) :
    Is3 (a := 1) (b := 4096) (d := 1024) (iblk m c 2 t) (fun p r d => W p r (1024 * (t.val / 34) + d)) := by
  intro i
  unfold iblk
  rw [View.read_apply]
  show V m c main_arg2 _ = _
  rw [V_main_arg2]
  refine (hW _).trans ?_
  show W (win0_2.index t 0 * 1 + 1 * (i 0).val) (win0_2.index t 1 * 4096 + 1 * (i 1).val) (win0_2.index t 2 * 1024 + 1 * (i 2).val) = _
  rw [(im2 t).1, (im2 t).2.1, (im2 t).2.2, one_mul, one_mul, one_mul, mul_comm _ 1024, zero_mul, zero_mul, zero_add, zero_add]

theorem at3 (hX : Is2 (a := 8704) (b := 4096) (m ((c : Thread nD τ).loc main_arg3)) X) (t : Fin cfg0.N) :
    Is2 (a := 256) (b := 1024) (iblk m c 3 t) (fun r d => X (256 * (t.val % 34) + r) (1024 * (t.val / 34) + d)) := by
  intro i
  unfold iblk
  rw [View.read_apply]
  show V m c main_arg3 _ = _
  rw [V_main_arg3]
  refine (hX _).trans ?_
  show X (win0_3.index t 0 * 256 + 1 * (i 0).val) (win0_3.index t 1 * 1024 + 1 * (i 1).val) = _
  rw [(im3 t).1, (im3 t).2, one_mul, one_mul, mul_comm _ 256, mul_comm _ 1024]

theorem at4 (hM : Is3 (a := 3) (b := 6) (d := 4096) (m ((c : Thread nD τ).loc main_arg4)) M) (t : Fin cfg0.N) :
    Is3 (a := 1) (b := 6) (d := 1024) (iblk m c 4 t) (fun p r d => M (t.val % 34 / 16 + p) r (1024 * (t.val / 34) + d)) := by
  intro i
  unfold iblk
  rw [View.read_apply]
  show V m c main_arg4 _ = _
  rw [V_main_arg4]
  refine (hM _).trans ?_
  show M (win0_4.index t 0 * 1 + 1 * (i 0).val) (win0_4.index t 1 * 6 + 1 * (i 1).val) (win0_4.index t 2 * 1024 + 1 * (i 2).val) = _
  rw [(im4 t).1, (im4 t).2.1, (im4 t).2.2, one_mul, one_mul, one_mul, mul_comm _ 1024, zero_mul, mul_one, zero_add]

/-- The kept weights after any point. -/
theorem kept0 (hW : Is3 (a := 1) (b := 4096) (d := 4096) (m ((c : Thread nD τ).loc main_arg2)) W) (n : ℕ) (h : n < cfg0.N) :
    Is2 (a := 4096) (b := 1024) (outsAt0 m c n h).2 (fun r d => W 0 r (1024 * (n / 34) + d)) :=
  carried (P := 34) (by norm_num) (fun n h => (outsAt0 m c n h).2) (fun j s => Is2 (a := 4096) (b := 1024) s (fun r d => W 0 r (1024 * j + d)))
    (fun n h h0 => by
      rw [outsAt0_A m c ⟨n, h⟩ h0 (show n % 34 ≤ 31 by omega) (show ¬32 ≤ n % 34 by omega)]
      dsimp only
      rw [kept_A0]
      exact w1_is (at2 m c hW ⟨n, h⟩))
    (fun n h h0 => by
      by_cases h1 : n % 34 ≤ 31
      · rw [outsAt0_B m c ⟨n, h⟩ h0 h1 (show ¬32 ≤ n % 34 by omega)]
        rfl
      · rw [outsAt0_C m c ⟨n, h⟩ h0 h1 (show 32 ≤ n % 34 by omega)]
        rfl) n h

/-- The result at row `R` and column `E`: the residual plus the row group's gate times the product. -/
def res (Y C X : ℕ → ℕ → EReal) (W M : ℕ → ℕ → ℕ → EReal) (R E : ℕ) : EReal :=
  X R E + M (R / 4096) 2 E * dot 4096 (joined Y C) (W 0) R E

/-- What a point leaves is its block of the result. -/
theorem outs_res (hY : Is2 (a := 8192) (b := 4096) (m ((c : Thread nD τ).loc main_arg0)) Y)
    (hC : Is2 (a := 512) (b := 4096) (m ((c : Thread nD τ).loc main_arg1)) C)
    (hW : Is3 (a := 1) (b := 4096) (d := 4096) (m ((c : Thread nD τ).loc main_arg2)) W)
    (hX : Is2 (a := 8704) (b := 4096) (m ((c : Thread nD τ).loc main_arg3)) X)
    (hM : Is3 (a := 3) (b := 6) (d := 4096) (m ((c : Thread nD τ).loc main_arg4)) M) (t : Fin cfg0.N) :
    Is2 (a := 256) (b := 1024) (outsAt0 m c t.val t.isLt).1 (fun r d => X (256 * (t.val % 34) + r) (1024 * (t.val / 34) + d)
      + M (t.val % 34 / 16) 2 (1024 * (t.val / 34) + d) * dot 4096 (joined Y C) (W 0) (256 * (t.val % 34) + r) (1024 * (t.val / 34) + d)) := by
  by_cases h1 : t.val % 34 ≤ 31
  · have e : (outsAt0 m c t.val t.isLt).1 = k0_pay2 (iblk m c 0 t) (outsAt0 m c t.val t.isLt).2 (gateRow (iblk m c 4 t)) (iblk m c 3 t) := by
      by_cases h0 : t.val % 34 = 0
      · rw [outsAt0_A m c t h0 h1 (by omega)]
        dsimp only
        rw [out_A, kept_A0]
      · rw [outsAt0_B m c t h0 h1 (by omega)]
        dsimp only
        rw [out_B]
        rfl
    rw [e]
    exact pay_is (at0 m c hY t h1) (kept0 m c hW t.val t.isLt) (at3 m c hX t) (at4 m c hM t)
  · have e : (outsAt0 m c t.val t.isLt).1 = k0_pay2 (iblk m c 1 t) (outsAt0 m c t.val t.isLt).2 (gateRow (iblk m c 4 t)) (iblk m c 3 t) := by
      rw [outsAt0_C m c t (by omega) h1 (by omega)]
      dsimp only
      rw [out_C]
      rfl
    rw [e]
    exact pay_is (at1 m c hC t (by omega)) (kept0 m c hW t.val t.isLt) (at3 m c hX t) (at4 m c hM t)

/-- The result array. -/
def G (Y C X : ℕ → ℕ → EReal) (W M : ℕ → ℕ → ℕ → EReal) : Vec Ideal S8704x4096 .f32 := fun i => res Y C X W M (i 0).val (i 1).val

/-- The result array after the run. -/
theorem arr_eq (hY : Is2 (a := 8192) (b := 4096) (m ((c : Thread nD τ).loc main_arg0)) Y)
    (hC : Is2 (a := 512) (b := 4096) (m ((c : Thread nD τ).loc main_arg1)) C)
    (hW : Is3 (a := 1) (b := 4096) (d := 4096) (m ((c : Thread nD τ).loc main_arg2)) W)
    (hX : Is2 (a := 8704) (b := 4096) (m ((c : Thread nD τ).loc main_arg3)) X)
    (hM : Is3 (a := 3) (b := 6) (d := 4096) (m ((c : Thread nD τ).loc main_arg4)) M) :
    (dats m 0 c).arrAt 5 cfg0.N = G Y C X W M := by
  refine (dats m 0 c).arrAt_eq_of_cover 5 (G Y C X W M) ?_ ?_
  · intro t _
    rw [Cert.Kernel5Ideal.Value.flushed5]
    funext y
    rw [View.read_apply]
    refine (outs_res m c hY hC hW hX hM t y).trans ?_
    have hy : (y 0).val < 256 := (y 0).isLt
    show _ = res Y C X W M (win0_5.index t 0 * 256 + 1 * (y 0).val) (win0_5.index t 1 * 1024 + 1 * (y 1).val)
    rw [(im5 t).1, (im5 t).2, one_mul, one_mul, mul_comm _ 256, mul_comm _ 1024]
    unfold res
    rw [show (256 * (t.val % 34) + (y 0).val) / 4096 = t.val % 34 / 16 by omega]
  · intro i
    have b0 : (i 0).val < 8704 := (i 0).isLt
    have b1 : (i 1).val < 4096 := (i 1).isLt
    exact (Cert.Kernel5Ideal.Value.covered_iff5 i).2 ⟨Nat.zero_le _, b0, Nat.zero_le _, b1⟩

end

end Cert.Out

end
-- ==== Proof.OutRef.lean ====
module

public import proofs.«01_k».proof.Proof.Out
public import proofs.«01_k».proof.Proof.Gen.Reference5Ideal.Read

/-! The reference of the output projection, element by element, and its equality with the kernel's result array. -/

@[expose] public section

set_option maxRecDepth 16384

noncomputable section

namespace Cert.OutRef

open Cert.Reference5Ideal Cert.Reference5Ideal.Read Cert.Mat Cert.Out Idealize.ShloMosaic Idealize.SL.Sem

section
variable {x0 : (⟨S8192x4096, .bf16⟩ : BufTy).Contents (Elt Ideal)} {x1 : (⟨S512x4096, .bf16⟩ : BufTy).Contents (Elt Ideal)}
  {x2 : (⟨S1x4096x4096, .f32⟩ : BufTy).Contents (Elt Ideal)} {x3 : (⟨S8704x4096, .f32⟩ : BufTy).Contents (Elt Ideal)}
  {x4 : (⟨S3x6x4096, .f32⟩ : BufTy).Contents (Elt Ideal)} {Y C X : ℕ → ℕ → EReal} {W M : ℕ → ℕ → ℕ → EReal}

/-- An element of the product of the latent rows. -/
theorem lat_prod (hY : Is2 (a := 8192) (b := 4096) x0 Y) (hW : Is3 (a := 1) (b := 4096) (d := 4096) x2 W) :
    Is2 (a := 8192) (b := 4096) (val_main_v8 (F := Ideal) x0 x2) (dot 4096 Y (W 0)) := by
  intro i
  rw [val_main_v8_apply]
  unfold dot
  rw [Finset.sum_range]
  refine Finset.sum_congr rfl fun k _ => ?_
  rw [val_main_v6_apply, val_main_v7_apply]
  have b1 : (i 1).val < 4096 := (i 1).isLt
  have e0 : (k.val * 4096 + (i 1).val) / 4096 % 4096 = k.val := by have := k.isLt; omega
  have e1 : (k.val * 4096 + (i 1).val) % 4096 = (i 1).val := by omega
  refine congrArg₂ (· * ·) (hY _) ((hW _).trans ?_)
  show W 0 ((k.val * 4096 + (i 1).val) / 4096 % 4096) ((k.val * 4096 + (i 1).val) % 4096) = _
  rw [e0, e1]

/-- An element of the product of the context rows. -/
theorem ctx_prod (hC : Is2 (a := 512) (b := 4096) x1 C) (hW : Is3 (a := 1) (b := 4096) (d := 4096) x2 W) :
    Is2 (a := 512) (b := 4096) (val_main_v18 (F := Ideal) x1 x2) (dot 4096 C (W 0)) := by
  intro i
  rw [val_main_v18_apply]
  unfold dot
  rw [Finset.sum_range]
  refine Finset.sum_congr rfl fun k _ => ?_
  rw [val_main_v16_apply, val_main_v17_apply]
  have b1 : (i 1).val < 4096 := (i 1).isLt
  have e0 : (k.val * 4096 + (i 1).val) / 4096 % 4096 = k.val := by have := k.isLt; omega
  have e1 : (k.val * 4096 + (i 1).val) % 4096 = (i 1).val := by omega
  refine congrArg₂ (· * ·) (hC _) ((hW _).trans ?_)
  show W 0 ((k.val * 4096 + (i 1).val) / 4096 % 4096) ((k.val * 4096 + (i 1).val) % 4096) = _
  rw [e0, e1]

/-- A latent row of the joined rows is one of the first array. -/
theorem dot_lat {R : ℕ} (h : R < 8192) (E : ℕ) : dot 4096 Y (W 0) R E = dot 4096 (joined Y C) (W 0) R E := by
  unfold dot joined
  simp only [if_pos h]

/-- A context row of the joined rows is one of the second array. -/
theorem dot_ctx (R E : ℕ) : dot 4096 C (W 0) R E = dot 4096 (joined Y C) (W 0) (8192 + R) E := by
  unfold dot joined
  simp only [if_neg (show ¬8192 + R < 8192 by omega), show 8192 + R - 8192 = R by omega]

/-- An element of the gate. -/
theorem gate_at (hM : Is3 (a := 3) (b := 6) (d := 4096) x4 M) : Is2 (a := 3) (b := 4096) (val_main_v1 (F := Ideal) x4) (fun g d => M g 2 d) := by
  intro i
  rw [val_main_v1_apply, val_main_v0_apply]
  have b1 : (i 1).val < 4096 := (i 1).isLt
  refine (hM _).trans ?_
  show M (((i 0).val * 4096 + (i 1).val) / 4096) 2 (((i 0).val * 4096 + (i 1).val) % 4096) = _
  rw [show ((i 0).val * 4096 + (i 1).val) / 4096 = (i 0).val by omega, show ((i 0).val * 4096 + (i 1).val) % 4096 = (i 1).val by omega]

/-- An element of the latent rows. -/
theorem lat_at (hY : Is2 (a := 8192) (b := 4096) x0 Y) (hC : Is2 (a := 512) (b := 4096) x1 C) (hW : Is3 (a := 1) (b := 4096) (d := 4096) x2 W)
    (hX : Is2 (a := 8704) (b := 4096) x3 X) (hM : Is3 (a := 3) (b := 6) (d := 4096) x4 M) : Is2 (a := 8192) (b := 4096) (val_main_v23 (F := Ideal) x0 x2 x3 x4) (res Y C X W M) := by
  intro i
  have b0 : (i 0).val < 8192 := (i 0).isLt
  have b1 : (i 1).val < 4096 := (i 1).isLt
  have f0 : ((i 0).val * 4096 + (i 1).val) / 16777216 = (i 0).val / 4096 := by omega
  have f1 : ((i 0).val * 4096 + (i 1).val) / 4096 % 4096 = (i 0).val % 4096 := by omega
  have f2 : ((i 0).val * 4096 + (i 1).val) % 4096 = (i 1).val := by omega
  have e0 : ((((i 0).val * 4096 + (i 1).val) / 16777216 * 4096 + ((i 0).val * 4096 + (i 1).val) / 4096 % 4096) * 4096 + ((i 0).val * 4096 + (i 1).val) % 4096) / 4096 = (i 0).val := by
    rw [f0, f1, f2]; omega
  have e1 : ((((i 0).val * 4096 + (i 1).val) / 16777216 * 4096 + ((i 0).val * 4096 + (i 1).val) / 4096 % 4096) * 4096 + ((i 0).val * 4096 + (i 1).val) % 4096) % 4096 = (i 1).val := by
    rw [f0, f1, f2]; omega
  rw [val_main_v23_apply, val_main_v12_apply, val_main_v11_apply, val_main_v10_apply, val_main_v5_apply, val_main_v4_apply, val_main_v3_apply,
    val_main_v2_apply, val_main_v9_apply, lat_prod hY hW, gate_at hM, Ideal.addf_def, Ideal.mulf_def]
  refine congrArg₂ (· + ·) ((hX _).trans ?_) (congrArg₂ (· * ·) ?_ ?_)
  · exact congrArg₂ X e0 e1
  · exact congrArg₂ (fun g d => M g 2 d) f0 f2
  · exact (congrArg₂ (dot 4096 Y (W 0)) e0 e1).trans (dot_lat b0 _)

/-- An element of the context rows. -/
theorem ctx_at (hY : Is2 (a := 8192) (b := 4096) x0 Y) (hC : Is2 (a := 512) (b := 4096) x1 C) (hW : Is3 (a := 1) (b := 4096) (d := 4096) x2 W)
    (hX : Is2 (a := 8704) (b := 4096) x3 X) (hM : Is3 (a := 3) (b := 6) (d := 4096) x4 M) :
    Is2 (a := 512) (b := 4096) (val_main_v22 (F := Ideal) x1 x2 x3 x4) (fun r d => res Y C X W M (8192 + r) d) := by
  intro i
  have b0 : (i 0).val < 512 := (i 0).isLt
  have b1 : (i 1).val < 4096 := (i 1).isLt
  rw [val_main_v22_apply, val_main_v21_apply, val_main_v20_apply, val_main_v19_apply, val_main_v15_apply, val_main_v14_apply,
    val_main_v13_apply, ctx_prod hC hW, gate_at hM, Ideal.addf_def, Ideal.mulf_def]
  refine congrArg₂ (· + ·) (hX _) (congrArg₂ (· * ·) ?_ (dot_ctx _ _))
  show M (2 + 0) 2 ((i 1).val % 4096) = M ((8192 + (i 0).val) / 4096) 2 (i 1).val
  rw [Nat.mod_eq_of_lt b1, show (8192 + (i 0).val) / 4096 = 2 + 0 by omega]

/-- The reference is the kernel's result array. -/
theorem ref_eq (hY : Is2 (a := 8192) (b := 4096) x0 Y) (hC : Is2 (a := 512) (b := 4096) x1 C) (hW : Is3 (a := 1) (b := 4096) (d := 4096) x2 W)
    (hX : Is2 (a := 8704) (b := 4096) x3 X) (hM : Is3 (a := 3) (b := 6) (d := 4096) x4 M) :
    val_main_v24 (F := Ideal) x0 x1 x2 x3 x4 = G Y C X W M := by
  funext i
  have h0 : (i 0).val < 8704 := (i 0).isLt
  unfold val_main_v24
  by_cases hlt : (i 0).val < 8192
  · let j : S8192x4096.Idx := fun a => match a with
      | ⟨0, _⟩ => ⟨(i 0).val, hlt⟩
      | ⟨1, _⟩ => ⟨(i 1).val, (i 1).isLt⟩
    refine (concatenate_pair_apply_left (0 : Fin 2) (val_main_v23 (F := Ideal) x0 x2 x3 x4) (val_main_v22 (F := Ideal) x1 x2 x3 x4) _ i rfl j fun b => match b with
      | ⟨0, _⟩ => rfl
      | ⟨1, _⟩ => rfl).trans ?_
    exact lat_at hY hC hW hX hM j
  · let j : S512x4096.Idx := fun a => match a with
      | ⟨0, _⟩ => ⟨(i 0).val - 8192, by show (i 0).val - 8192 < 512; omega⟩
      | ⟨1, _⟩ => ⟨(i 1).val, (i 1).isLt⟩
    refine (concatenate_pair_apply_right (0 : Fin 2) (val_main_v23 (F := Ideal) x0 x2 x3 x4) (val_main_v22 (F := Ideal) x1 x2 x3 x4) _ i rfl rfl j (fun b hb => match b, hb with
      | ⟨0, _⟩, hb => absurd rfl hb
      | ⟨1, _⟩, _ => rfl) (by show (i 0).val - 8192 + 8192 = (i 0).val; omega)).trans ?_
    refine (ctx_at hY hC hW hX hM j).trans ?_
    show res Y C X W M (8192 + ((i 0).val - 8192)) (i 1).val = res Y C X W M (i 0).val (i 1).val
    rw [show 8192 + ((i 0).val - 8192) = (i 0).val by omega]

end

/-- The kernel's result array, from any memory, is the reference of the kernel's arguments. -/
theorem equal (m : (ℓ : Loc Cert.Kernel5Ideal.nD Cert.Kernel5Ideal.τ Cert.Kernel5Ideal.sig) → Buf (Elt Ideal) ℓ) (c : Dev Cert.Kernel5Ideal.nD) :
    val_main_v24 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))
      = (Cert.Kernel5Ideal.Gen.dats m 0 c).arrAt 5 Cert.Kernel5Ideal.cfg0.N := by
  obtain ⟨Y, hY⟩ := is2 (a := 8192) (b := 4096) (m ((c.tc : Thread Cert.Kernel5Ideal.nD Cert.Kernel5Ideal.τ).loc Cert.Kernel5Ideal.main_arg0))
  obtain ⟨C, hC⟩ := is2 (a := 512) (b := 4096) (m ((c.tc : Thread Cert.Kernel5Ideal.nD Cert.Kernel5Ideal.τ).loc Cert.Kernel5Ideal.main_arg1))
  obtain ⟨W, hW⟩ := is3 (a := 1) (b := 4096) (d := 4096) (m ((c.tc : Thread Cert.Kernel5Ideal.nD Cert.Kernel5Ideal.τ).loc Cert.Kernel5Ideal.main_arg2))
  obtain ⟨X, hX⟩ := is2 (a := 8704) (b := 4096) (m ((c.tc : Thread Cert.Kernel5Ideal.nD Cert.Kernel5Ideal.τ).loc Cert.Kernel5Ideal.main_arg3))
  obtain ⟨M, hM⟩ := is3 (a := 3) (b := 6) (d := 4096) (m ((c.tc : Thread Cert.Kernel5Ideal.nD Cert.Kernel5Ideal.τ).loc Cert.Kernel5Ideal.main_arg4))
  exact (ref_eq hY hC hW hX hM).trans (arr_eq m c hY hC hW hX hM).symm

end Cert.OutRef

end
-- ==== Proof.Rope.lean ====
module

public import proofs.«01_k».proof.Proof.Mat
public import Idealize.ShloMosaic.Lib.KernelVsHost

/-! The rotary embedding over tables: how the host lays the cosines and sines out for the kernel, and what the kernel makes of a strip of
128 columns with them. -/

@[expose] public section

set_option maxRecDepth 16384

noncomputable section

namespace Cert.Rope

open Cert.Mat Idealize.ShloMosaic

/-- An array of one element and no axis. -/
abbrev U : Shape := ⟨0, ![]⟩
/-- The shape of the tables of cosines and sines: time, group, frequency. -/
abbrev SC : Shape := ⟨3, ![4096, 2, 32]⟩
/-- A table with an axis for the half. -/
abbrev SH (h : ℕ) : Shape := ⟨4, ![4096, 2, h, 32]⟩
/-- A table laid out for a head, repeated for each of the batch. -/
abbrev SB (b : ℕ) : Shape := ⟨4, ![b, 4096, 1, 128]⟩

/-- Two tables as the first and the second half of each group of 64 columns. -/
def stack (hb : SC.BroadcastsInDim (SH 1) ![0, 1, 3]) (hc : Shape.Concatenates [SH 1, SH 1] (SH 2) 2)
    (hs : (SH 2).ShapeCasts ⟨2, ![4096, 128]⟩) (x y : FVec Ideal SC .f32) : FVec Ideal ⟨2, ![4096, 128]⟩ .f32 :=
  shapeCast ⟨2, ![4096, 128]⟩ (concatenate (SH 2) 2 [⟨SH 1, broadcastInDim (SH 1) ![0, 1, 3] hb x⟩, ⟨SH 1, broadcastInDim (SH 1) ![0, 1, 3] hb y⟩] hc) hs

/-- A table given the axis of the half. -/
theorem half_is {x : FVec Ideal SC .f32} {X : ℕ → ℕ → ℕ → EReal} (hx : Is3 (a := 4096) (b := 2) (d := 32) x X)
    (hb : SC.BroadcastsInDim (SH 1) ![0, 1, 3]) (j : (SH 1).Idx) :
    broadcastInDim (SH 1) ![0, 1, 3] hb x j = X (j 0).val (j 1).val (j 3).val :=
  (broadcastInDim_apply _ hb x j (ValueIdx.ix3 (j 0) (j 1) (j 3)) (fun a => match a with
    | ⟨0, _⟩ => (if_neg (by decide : ¬ (4096 : ℕ) = 1)).symm
    | ⟨1, _⟩ => (if_neg (by decide : ¬ (2 : ℕ) = 1)).symm
    | ⟨2, _⟩ => (if_neg (by decide : ¬ (32 : ℕ) = 1)).symm)).trans (hx _)

/-- Which table a column of the stacked layout shows. -/
theorem stack_is {x y : FVec Ideal SC .f32} {X Y : ℕ → ℕ → ℕ → EReal} (hx : Is3 (a := 4096) (b := 2) (d := 32) x X)
    (hy : Is3 (a := 4096) (b := 2) (d := 32) y Y) (hb : SC.BroadcastsInDim (SH 1) ![0, 1, 3])
    (hc : Shape.Concatenates [SH 1, SH 1] (SH 2) 2) (hs : (SH 2).ShapeCasts ⟨2, ![4096, 128]⟩) :
    Is2 (stack hb hc hs x y) (fun r d => if d % 64 < 32 then X r (d / 64) (d % 32) else Y r (d / 64) (d % 32)) := by
  intro i
  have b0 : (i 0).val < 4096 := (i 0).isLt
  have b1 : (i 1).val < 128 := (i 1).isLt
  unfold stack
  refine (shapeCast_apply _ hs i (fun a => match a with
    | ⟨0, _⟩ => ⟨(i 0).val, b0⟩
    | ⟨1, _⟩ => ⟨(i 1).val / 64, show (i 1).val / 64 < 2 by omega⟩
    | ⟨2, _⟩ => ⟨(i 1).val / 32 % 2, show (i 1).val / 32 % 2 < 2 by omega⟩
    | ⟨3, _⟩ => ⟨(i 1).val % 32, show (i 1).val % 32 < 32 by omega⟩) (by
    rw [Shape.rowMajor_val_four, Shape.rowMajor_val_two]
    show (((i 0).val * 2 + (i 1).val / 64) * 2 + (i 1).val / 32 % 2) * 32 + (i 1).val % 32 = (i 0).val * 128 + (i 1).val
    omega)).trans ?_
  show _ = if (i 1).val % 64 < 32 then X (i 0).val ((i 1).val / 64) ((i 1).val % 32) else Y (i 0).val ((i 1).val / 64) ((i 1).val % 32)
  by_cases h : (i 1).val % 64 < 32
  · rw [if_pos h]
    refine (concatenate_pair_apply_left 2 _ _ hc _ rfl (fun a => match a with
      | ⟨0, _⟩ => ⟨(i 0).val, b0⟩
      | ⟨1, _⟩ => ⟨(i 1).val / 64, show (i 1).val / 64 < 2 by omega⟩
      | ⟨2, _⟩ => ⟨0, Nat.one_pos⟩
      | ⟨3, _⟩ => ⟨(i 1).val % 32, show (i 1).val % 32 < 32 by omega⟩) (fun b => match b with
      | ⟨0, _⟩ => rfl
      | ⟨1, _⟩ => rfl
      | ⟨2, _⟩ => by show 0 = (i 1).val / 32 % 2; omega
      | ⟨3, _⟩ => rfl)).trans ?_
    exact half_is hx hb _
  · rw [if_neg h]
    refine (concatenate_pair_apply_right 2 _ _ hc _ rfl rfl (fun a => match a with
      | ⟨0, _⟩ => ⟨(i 0).val, b0⟩
      | ⟨1, _⟩ => ⟨(i 1).val / 64, show (i 1).val / 64 < 2 by omega⟩
      | ⟨2, _⟩ => ⟨0, Nat.one_pos⟩
      | ⟨3, _⟩ => ⟨(i 1).val % 32, show (i 1).val % 32 < 32 by omega⟩) (fun b hne => match b, hne with
      | ⟨0, _⟩, _ => rfl
      | ⟨1, _⟩, _ => rfl
      | ⟨2, _⟩, hne => absurd rfl hne
      | ⟨3, _⟩, _ => rfl) (by show 0 + 1 = (i 1).val / 32 % 2; omega)).trans ?_
    exact half_is hy hb _

/-- A table for one sequence, repeated for the batch, with rows of one value below. -/
def full (h1 : (⟨2, ![4096, 128]⟩ : Shape).ShapeCasts (SB 1)) (hb : (SB 1).BroadcastsInDim (SB 2) ![0, 1, 2, 3])
    (h2 : (SB 2).ShapeCasts ⟨2, ![8192, 128]⟩) (hu : U.BroadcastsInDim ⟨2, ![512, 128]⟩ ![])
    (hc : Shape.Concatenates [⟨2, ![8192, 128]⟩, ⟨2, ![512, 128]⟩] ⟨2, ![8704, 128]⟩ 0)
    (x : FVec Ideal ⟨2, ![4096, 128]⟩ .f32) (u : FVec Ideal U .f32) : FVec Ideal ⟨2, ![8704, 128]⟩ .f32 :=
  concatenate ⟨2, ![8704, 128]⟩ 0 [⟨⟨2, ![8192, 128]⟩, shapeCast ⟨2, ![8192, 128]⟩ (broadcastInDim (SB 2) ![0, 1, 2, 3] hb (shapeCast (SB 1) x h1)) h2⟩,
    ⟨⟨2, ![512, 128]⟩, broadcastInDim ⟨2, ![512, 128]⟩ ![] hu u⟩] hc

/-- The table repeated: row `r` is the table's row `r` modulo the sequence length; below it the one value. -/
theorem full_is {x : FVec Ideal ⟨2, ![4096, 128]⟩ .f32} {X : ℕ → ℕ → EReal} (hx : Is2 x X) {u : FVec Ideal U .f32} {v : EReal} (hv : ∀ i, u i = v)
    (h1 : (⟨2, ![4096, 128]⟩ : Shape).ShapeCasts (SB 1)) (hb : (SB 1).BroadcastsInDim (SB 2) ![0, 1, 2, 3])
    (h2 : (SB 2).ShapeCasts ⟨2, ![8192, 128]⟩) (hu : U.BroadcastsInDim ⟨2, ![512, 128]⟩ ![])
    (hc : Shape.Concatenates [⟨2, ![8192, 128]⟩, ⟨2, ![512, 128]⟩] ⟨2, ![8704, 128]⟩ 0) :
    Is2 (full h1 hb h2 hu hc x u) (fun r d => if r < 8192 then X (r % 4096) d else v) := by
  intro i
  have b0 : (i 0).val < 8704 := (i 0).isLt
  have b1 : (i 1).val < 128 := (i 1).isLt
  unfold full
  show _ = if (i 0).val < 8192 then X ((i 0).val % 4096) (i 1).val else v
  by_cases h : (i 0).val < 8192
  · rw [if_pos h]
    refine (concatenate_pair_apply_left 0 _ _ hc i rfl (ValueIdx.ix2 (⟨(i 0).val, h⟩ : Fin 8192) (⟨(i 1).val, b1⟩ : Fin 128)) (fun b => match b with
      | ⟨0, _⟩ => rfl
      | ⟨1, _⟩ => rfl)).trans ?_
    refine (shapeCast_apply _ h2 _ (fun a => match a with
      | ⟨0, _⟩ => ⟨(i 0).val / 4096, show (i 0).val / 4096 < 2 by omega⟩
      | ⟨1, _⟩ => ⟨(i 0).val % 4096, show (i 0).val % 4096 < 4096 by omega⟩
      | ⟨2, _⟩ => ⟨0, Nat.one_pos⟩
      | ⟨3, _⟩ => ⟨(i 1).val, b1⟩) (by
      rw [Shape.rowMajor_val_four, Shape.rowMajor_val_two]
      show (((i 0).val / 4096 * 4096 + (i 0).val % 4096) * 1 + 0) * 128 + (i 1).val = (i 0).val * 128 + (i 1).val
      omega)).trans ?_
    refine (broadcastInDim_apply _ hb _ _ (fun a => match a with
      | ⟨0, _⟩ => ⟨0, Nat.one_pos⟩
      | ⟨1, _⟩ => ⟨(i 0).val % 4096, show (i 0).val % 4096 < 4096 by omega⟩
      | ⟨2, _⟩ => ⟨0, Nat.one_pos⟩
      | ⟨3, _⟩ => ⟨(i 1).val, b1⟩) (fun a => match a with
      | ⟨0, _⟩ => (if_pos rfl).symm
      | ⟨1, _⟩ => (if_neg (by decide : ¬ (4096 : ℕ) = 1)).symm
      | ⟨2, _⟩ => (if_pos rfl).symm
      | ⟨3, _⟩ => (if_neg (by decide : ¬ (128 : ℕ) = 1)).symm)).trans ?_
    refine (shapeCast_apply x h1 _ (ValueIdx.ix2 (⟨(i 0).val % 4096, by omega⟩ : Fin 4096) (⟨(i 1).val, b1⟩ : Fin 128)) (by
      rw [Shape.rowMajor_val_four, Shape.rowMajor_val_two]
      show (i 0).val % 4096 * 128 + (i 1).val = ((0 * 4096 + (i 0).val % 4096) * 1 + 0) * 128 + (i 1).val
      omega)).trans ?_
    exact hx _
  · rw [if_neg h]
    refine (concatenate_pair_apply_right 0 _ _ hc i rfl rfl (ValueIdx.ix2 (⟨(i 0).val - 8192, by omega⟩ : Fin 512) (⟨(i 1).val, b1⟩ : Fin 128)) (fun b hne => match b, hne with
      | ⟨0, _⟩, hne => absurd rfl hne
      | ⟨1, _⟩, _ => rfl) (by show (i 0).val - 8192 + 8192 = (i 0).val; omega)).trans ?_
    exact (broadcastInDim_apply _ hu u _ (fun a => a.elim0) (fun a => a.elim0)).trans (hv _)

/-- The embedding at row `p` and column `e`: the product there, 32 columns on and 32 columns back within the strip of 128, each times its table. -/
def turn (A C S T : ℕ → ℕ → EReal) (p e : ℕ) : EReal :=
  A p e * C p (e % 128) + A p (e / 128 * 128 + (e % 128 + 32) % 128) * S p (e % 128) + A p (e / 128 * 128 + (e % 128 + 96) % 128) * T p (e % 128)

/-- The strip of 128 columns from column `o`, rotated with its tables. -/
def strip (o : ℕ) (hs : (⟨2, ![256, 1024]⟩ : Shape).Slices ![0, o] ⟨2, ![256, 128]⟩) (hr : (⟨2, ![256, 128]⟩ : Shape).Rotates 1 none)
    (P : FVec Ideal ⟨2, ![256, 1024]⟩ .f32) (c s t : FVec Ideal ⟨2, ![256, 128]⟩ .f32) : FVec Ideal ⟨2, ![256, 128]⟩ .f32 :=
  addf (addf (mulf (extractStridedSlice ⟨2, ![256, 128]⟩ ![0, o] P hs) c)
    (mulf (dynamicRotate 1 96#32 none (extractStridedSlice ⟨2, ![256, 128]⟩ ![0, o] P hs) hr) s))
    (mulf (dynamicRotate 1 32#32 none (extractStridedSlice ⟨2, ![256, 128]⟩ ![0, o] P hs) hr) t)

/-- A strip read at an index. -/
theorem cut_is {P : FVec Ideal ⟨2, ![256, 1024]⟩ .f32} {A : ℕ → ℕ → EReal} (hP : Is2 P A) {o : ℕ}
    (hs : (⟨2, ![256, 1024]⟩ : Shape).Slices ![0, o] ⟨2, ![256, 128]⟩) (ho : o + 128 ≤ 1024) :
    Is2 (extractStridedSlice ⟨2, ![256, 128]⟩ ![0, o] P hs) (fun p q => A p (o + q)) := by
  intro i
  have b1 : (i 1).val < 128 := (i 1).isLt
  exact (extractStridedSlice_apply ![0, o] P hs i (ValueIdx.ix2 (i 0) (⟨o + (i 1).val, by omega⟩ : Fin 1024)) (fun a => match a with
    | ⟨0, _⟩ => (Nat.zero_add _).symm
    | ⟨1, _⟩ => rfl)).trans (hP _)

/-- A rotation read at an index. -/
theorem roll_is {x : FVec Ideal ⟨2, ![256, 128]⟩ .f32} {X : ℕ → ℕ → EReal} (hx : Is2 x X) (hr : (⟨2, ![256, 128]⟩ : Shape).Rotates 1 none)
    (n : BitVec 32) (k : ℕ) (hn : n.toNat % 128 + k = 128) : Is2 (dynamicRotate 1 n none x hr) (fun p q => X p ((q + k) % 128)) := by
  intro i
  have b1 : (i 1).val < 128 := (i 1).isLt
  refine (dynamicRotate_apply 1 n x hr i (ValueIdx.ix2 (i 0) (⟨((i 1).val + k) % 128, Nat.mod_lt _ (by norm_num)⟩ : Fin 128)) (fun b => match b with
    | ⟨0, _⟩ => rfl
    | ⟨1, _⟩ => by
      show ((i 1).val + k) % 128 = ((i 1).val + 128 - n.toNat % 128) % 128
      exact congrArg (· % 128) (by omega))).trans (hx _)

/-- A rotated strip shows the embedding of its columns. -/
theorem strip_is {P : FVec Ideal ⟨2, ![256, 1024]⟩ .f32} {c s t : FVec Ideal ⟨2, ![256, 128]⟩ .f32} {A C S T : ℕ → ℕ → EReal}
    (hP : Is2 P A) (hC : Is2 c C) (hS : Is2 s S) (hT : Is2 t T) {o : ℕ}
    (hs : (⟨2, ![256, 1024]⟩ : Shape).Slices ![0, o] ⟨2, ![256, 128]⟩) (hr : (⟨2, ![256, 128]⟩ : Shape).Rotates 1 none)
    (ho : o + 128 ≤ 1024) (h8 : o % 128 = 0) : Is2 (strip o hs hr P c s t) (fun p q => turn A C S T p (o + q)) := by
  intro i
  have b1 : (i 1).val < 128 := (i 1).isLt
  have hx := cut_is hP hs ho
  show extractStridedSlice ⟨2, ![256, 128]⟩ ![0, o] P hs i * c i + dynamicRotate 1 96#32 none (extractStridedSlice ⟨2, ![256, 128]⟩ ![0, o] P hs) hr i * s i
    + dynamicRotate 1 32#32 none (extractStridedSlice ⟨2, ![256, 128]⟩ ![0, o] P hs) hr i * t i = turn A C S T (i 0).val (o + (i 1).val)
  rw [roll_is hx hr 96#32 32 rfl i, roll_is hx hr 32#32 96 rfl i, hx i, hC i, hS i, hT i]
  unfold turn
  rw [show (o + (i 1).val) % 128 = (i 1).val by omega, show (o + (i 1).val) / 128 * 128 = o by omega]

/-- Where a strip lies in the block of 1024 columns. -/
theorem strip_at {P : FVec Ideal ⟨2, ![256, 1024]⟩ .f32} {c s t : FVec Ideal ⟨2, ![256, 128]⟩ .f32} {A C S T : ℕ → ℕ → EReal}
    (hP : Is2 P A) (hC : Is2 c C) (hS : Is2 s S) (hT : Is2 t T) {o : ℕ}
    (hs : (⟨2, ![256, 1024]⟩ : Shape).Slices ![0, o] ⟨2, ![256, 128]⟩) (hr : (⟨2, ![256, 128]⟩ : Shape).Rotates 1 none)
    (ho : o + 128 ≤ 1024) (h8 : o % 128 = 0) (x : (⟨2, ![256, 128]⟩ : Shape).Idx) :
    strip o hs hr P c s t x = turn A C S T (0 + 1 * (x 0).val) (o + 1 * (x 1).val) := by
  rw [one_mul, one_mul, zero_add]
  exact strip_is hP hC hS hT hs hr ho h8 x

/-- The embedding of a block is the block of the embedding. -/
theorem turn_shift (A C S T : ℕ → ℕ → EReal) (r j p e : ℕ) :
    turn (fun p e => A (r + p) (1024 * j + e)) (fun p q => C (r + p) q) (fun p q => S (r + p) q) (fun p q => T (r + p) q) p e
      = turn A C S T (r + p) (1024 * j + e) := by
  unfold turn
  rw [show (1024 * j + e) % 128 = e % 128 by omega, show (1024 * j + e) / 128 * 128 = 1024 * j + e / 128 * 128 by omega,
    add_assoc (1024 * j), add_assoc (1024 * j)]

/-- The cosines by row and column of a head; ones below. -/
def cosT (C : ℕ → ℕ → ℕ → EReal) (r q : ℕ) : EReal := if r < 8192 then C (r % 4096) (q / 64) (q % 32) else 1
/-- The negated sines in the first half of each group, zero elsewhere. -/
def sinA (S : ℕ → ℕ → ℕ → EReal) (r q : ℕ) : EReal :=
  if r < 8192 then (if q % 64 < 32 then -S (r % 4096) (q / 64) (q % 32) else 0) else 0
/-- The sines in the second half of each group, zero elsewhere. -/
def sinB (S : ℕ → ℕ → ℕ → EReal) (r q : ℕ) : EReal :=
  if r < 8192 then (if q % 64 < 32 then 0 else S (r % 4096) (q / 64) (q % 32)) else 0

/-- The embedding at a row of the context is the product there. -/
theorem turn_ctx (A : ℕ → ℕ → EReal) (C S : ℕ → ℕ → ℕ → EReal) {r : ℕ} (h : ¬ r < 8192) (e : ℕ) : turn A (cosT C) (sinA S) (sinB S) r e = A r e := by
  unfold turn cosT sinA sinB
  rw [if_neg h, if_neg h, if_neg h, mul_one, mul_zero, mul_zero, add_zero, add_zero]

/-- The embedding in the first half of a group. -/
theorem turn_fst (A : ℕ → ℕ → EReal) (C S : ℕ → ℕ → ℕ → EReal) {r e : ℕ} (h : r < 8192) (h2 : e % 64 < 32) :
    turn A (cosT C) (sinA S) (sinB S) r e = A r e * C (r % 4096) (e % 128 / 64) (e % 32) - A r (e + 32) * S (r % 4096) (e % 128 / 64) (e % 32) := by
  have h3 : e % 128 % 64 < 32 := by omega
  unfold turn cosT sinA sinB
  rw [if_pos h, if_pos h, if_pos h, if_pos h3, if_pos h3, mul_zero, add_zero, show e % 128 % 32 = e % 32 by omega,
    show e / 128 * 128 + (e % 128 + 32) % 128 = e + 32 by omega, mul_neg, sub_eq_add_neg]

/-- The embedding in the second half of a group. -/
theorem turn_snd (A : ℕ → ℕ → EReal) (C S : ℕ → ℕ → ℕ → EReal) {r e : ℕ} (h : r < 8192) (h2 : ¬ e % 64 < 32) :
    turn A (cosT C) (sinA S) (sinB S) r e = A r e * C (r % 4096) (e % 128 / 64) (e % 32) + A r (e - 32) * S (r % 4096) (e % 128 / 64) (e % 32) := by
  have h3 : ¬ e % 128 % 64 < 32 := by omega
  unfold turn cosT sinA sinB
  rw [if_pos h, if_pos h, if_pos h, if_neg h3, if_neg h3, mul_zero, add_zero, show e % 128 % 32 = e % 32 by omega,
    show e / 128 * 128 + (e % 128 + 96) % 128 = e - 32 by omega]

end Cert.Rope

end
-- ==== Proof.Key.lean ====
module

public import proofs.«01_k».proof.Proof.Rope
public import proofs.«01_k».proof.Proof.Gen.Kernel6Ideal.Value

/-! The differential attention's keys with the rotary embedding: what each grid point leaves and the whole result array. -/

@[expose] public section

set_option maxRecDepth 16384

noncomputable section

namespace Cert.Key

open Cert.Kernel6Ideal Cert.Kernel6Ideal.Gen Cert.Mat Cert.Rope Idealize.ShloMosaic Idealize.ShloMosaic.TcCoe Idealize.SL.Sem
open Idealize.ShloMosaic.Pipeline (Dat)

/-- The body's product over tables. -/
theorem prod6_is {x0 : Vec Ideal S256x4096 .bf16} {s0 : Vec Ideal S4096x1024 .bf16} {Z A : ℕ → ℕ → EReal}
    (h0 : Is2 (a := 256) (b := 4096) x0 Z) (h1 : Is2 (a := 4096) (b := 1024) s0 A) :
    Is2 (a := 256) (b := 1024) (k0_pay2 x0 s0) (dot 4096 Z A) := fun i => prod_is (φ₁ := .bf16) (φ₂ := .bf16) none h0 h1 i

/-- The stored weights over tables: a block without its leading axis. -/
theorem w1_is {x : Vec Ideal S1x4096x1024 .f32} {X : ℕ → ℕ → ℕ → EReal} (h : Is3 (a := 1) (b := 4096) (d := 1024) x X) :
    Is2 (a := 4096) (b := 1024) (k0_pay1 x) (X 0) := by
  unfold k0_pay1
  dsimp only
  rw [shapeCast_self]
  exact drop_is h _

/-- A table's block as the body reads it. -/
theorem same_is {x : Vec Ideal S256x128 .f32} {X : ℕ → ℕ → EReal} (h : Is2 (a := 256) (b := 128) x X) :
    Is2 (a := 256) (b := 128) (shapeCast S256x128 x shapeCasts_S256x128_S256x128) X := by
  rw [shapeCast_self]
  exact h

/-- The eight strips the body stores, the last first. -/
def pieces (x0 : Vec Ideal S256x4096 .bf16) (s0 : Vec Ideal S4096x1024 .bf16) (x2 x3 x4 : Vec Ideal S256x128 .f32) :
    List (View.Piece (Elt Ideal) S256x1024 .bf16) :=
  [⟨Rect.unit ![0, 896] ![256, 128] inb_S256x1024_S256x128_0_896, k0_pay15 (k0_pay2 x0 s0) (k0_pay3 x2) (k0_pay4 x3) (k0_pay5 x4)⟩,
    ⟨Rect.unit ![0, 768] ![256, 128] inb_S256x1024_S256x128_0_768, k0_pay14 (k0_pay2 x0 s0) (k0_pay3 x2) (k0_pay4 x3) (k0_pay5 x4)⟩,
    ⟨Rect.unit ![0, 640] ![256, 128] inb_S256x1024_S256x128_0_640, k0_pay13 (k0_pay2 x0 s0) (k0_pay3 x2) (k0_pay4 x3) (k0_pay5 x4)⟩,
    ⟨Rect.unit ![0, 512] ![256, 128] inb_S256x1024_S256x128_0_512, k0_pay12 (k0_pay11 (k0_pay2 x0 s0) (k0_pay3 x2) (k0_pay4 x3) (k0_pay5 x4))⟩,
    ⟨Rect.unit ![0, 384] ![256, 128] inb_S256x1024_S256x128_0_384, k0_pay10 (k0_pay2 x0 s0) (k0_pay3 x2) (k0_pay4 x3) (k0_pay5 x4)⟩,
    ⟨Rect.unit ![0, 256] ![256, 128] inb_S256x1024_S256x128_0_256, k0_pay9 (k0_pay2 x0 s0) (k0_pay3 x2) (k0_pay4 x3) (k0_pay5 x4)⟩,
    ⟨Rect.unit ![0, 128] ![256, 128] inb_S256x1024_S256x128_0_128, k0_pay8 (k0_pay7 x0 s0 x2 x3 x4)⟩,
    ⟨Rect.unit ![0, 0] ![256, 128] inb_S256x1024_S256x128_0_0, k0_pay6 x0 s0 x2 x3 x4⟩]

/-- Each strip stored is the embedding at its columns. -/
theorem pieces_is {x0 : Vec Ideal S256x4096 .bf16} {s0 : Vec Ideal S4096x1024 .bf16} {x2 x3 x4 : Vec Ideal S256x128 .f32}
    {Z A C S T : ℕ → ℕ → EReal} (z0 : Is2 (a := 256) (b := 4096) x0 Z) (z1 : Is2 (a := 4096) (b := 1024) s0 A)
    (z2 : Is2 (a := 256) (b := 128) x2 C) (z3 : Is2 (a := 256) (b := 128) x3 S) (z4 : Is2 (a := 256) (b := 128) x4 T) :
    ∀ p ∈ pieces x0 s0 x2 x3 x4, ∀ x : p.1.shape.Idx, p.2 x = turn (dot 4096 Z A) C S T (p.1.emb x 0).val (p.1.emb x 1).val := by
  have at' (o : ℕ) (hs : S256x1024.Slices ![0, o] S256x128) (ho : o + 128 ≤ 1024) (h8 : o % 128 = 0) :=
    strip_at (prod6_is z0 z1) (same_is z2) (same_is z3) (same_is z4) hs rotates_S256x128_d1 ho h8
  intro p hp
  simp only [pieces, List.mem_cons, List.not_mem_nil, or_false] at hp
  rcases hp with rfl | rfl | rfl | rfl | rfl | rfl | rfl | rfl
  · exact at' 896 slices_S256x1024_o0_896_S256x128 (by norm_num) rfl
  · exact at' 768 slices_S256x1024_o0_768_S256x128 (by norm_num) rfl
  · exact at' 640 slices_S256x1024_o0_640_S256x128 (by norm_num) rfl
  · exact at' 512 slices_S256x1024_o0_512_S256x128 (by norm_num) rfl
  · exact at' 384 slices_S256x1024_o0_384_S256x128 (by norm_num) rfl
  · exact at' 256 slices_S256x1024_o0_256_S256x128 (by norm_num) rfl
  · exact at' 128 slices_S256x1024_o0_128_S256x128 (by norm_num) rfl
  · exact at' 0 slices_S256x1024_o0_0_S256x128 (by norm_num) rfl

section
variable {c : Dev nD} {i : grid0.Coords} {a2 : Memref sig .tc .vmem S256x4096 .bf16} {h2 : a2.IsWhole}
  {a3 : Memref sig .tc .vmem S1x4096x1024 .f32} {h3 : a3.IsWhole} {a4 : Memref sig .tc .vmem S256x128 .f32} {h4 : a4.IsWhole}
  {a5 : Memref sig .tc .vmem S256x128 .f32} {h5 : a5.IsWhole} {a6 : Memref sig .tc .vmem S256x128 .f32} {h6 : a6.IsWhole}
  {a7 : Memref sig .tc .vmem S256x1024 .bf16} {h7 : a7.IsWhole} {a8 : Memref sig .tc .vmem S4096x1024 .bf16} {h8 : a8.IsWhole}
  {x0 : Vec Ideal S256x4096 .bf16} {x1 : Vec Ideal S1x4096x1024 .f32} {x2 x3 x4 : Vec Ideal S256x128 .f32} {s0 : Vec Ideal S4096x1024 .bf16}
  {Z A C S T : ℕ → ℕ → EReal}

/-- At the other row blocks the embedding of the product with the weights kept. -/
theorem out_B {hc : ¬cond0_0 i} (z0 : Is2 (a := 256) (b := 4096) x0 Z) (z1 : Is2 (a := 4096) (b := 1024) s0 A)
    (z2 : Is2 (a := 256) (b := 128) x2 C) (z3 : Is2 (a := 256) (b := 128) x3 S) (z4 : Is2 (a := 256) (b := 128) x4 T) :
    Is2 (a := 256) (b := 1024) (out0_B_5 c i a2 h2 a3 h3 a4 h4 a5 h5 a6 h6 a7 h7 a8 h8 hc x0 x1 x2 x3 x4 s0) (turn (dot 4096 Z A) C S T) := by
  intro y
  unfold out0_B_5
  rw [View.read_writes_eq_canon _ _ _ (cover0_B_5 c i a2 h2 a3 h3 a4 h4 a5 h5 a6 h6 a7 h7 a8 h8 hc x0 x1 x2 x3 x4 s0)]
  refine View.canon_apply_of_pieces (fun y : S256x1024.Idx => turn (dot 4096 Z A) C S T (y 0).val (y 1).val) _ ?_ y
    (cover0_B_5 c i a2 h2 a3 h3 a4 h4 a5 h5 a6 h6 a7 h7 a8 h8 hc x0 x1 x2 x3 x4 s0 y)
  unfold kernelRun0_B
  dsimp only
  sl_unfold_words
  simp only [View.readAt_eq_ld, h2.read_unread, h4.read_unread, h5.read_unread, h6.read_unread, h8.read_unread,
    View.ld_unit_zero (S := S256x4096) zero2, View.ld_unit_zero (S := S4096x1024) zero2, View.ld_unit_zero (S := S256x128) zero2]
  exact pieces_is z0 z1 z2 z3 z4

/-- At the first row block of a column block the embedding of the product with the weights just stored. -/
theorem out_A {hc : cond0_0 i} (z0 : Is2 (a := 256) (b := 4096) x0 Z) (z1 : Is2 (a := 4096) (b := 1024) (k0_pay1 x1) A)
    (z2 : Is2 (a := 256) (b := 128) x2 C) (z3 : Is2 (a := 256) (b := 128) x3 S) (z4 : Is2 (a := 256) (b := 128) x4 T) :
    Is2 (a := 256) (b := 1024) (out0_A_5 c i a2 h2 a3 h3 a4 h4 a5 h5 a6 h6 a7 h7 a8 h8 hc x0 x1 x2 x3 x4) (turn (dot 4096 Z A) C S T) := by
  intro y
  unfold out0_A_5
  rw [View.read_writes_eq_canon _ _ _ (cover0_A_5 c i a2 h2 a3 h3 a4 h4 a5 h5 a6 h6 a7 h7 a8 h8 hc x0 x1 x2 x3 x4)]
  refine View.canon_apply_of_pieces (fun y : S256x1024.Idx => turn (dot 4096 Z A) C S T (y 0).val (y 1).val) _ ?_ y
    (cover0_A_5 c i a2 h2 a3 h3 a4 h4 a5 h5 a6 h6 a7 h7 a8 h8 hc x0 x1 x2 x3 x4 y)
  unfold kernelRun0_A
  dsimp only
  sl_unfold_words
  simp only [View.readCov_unit_zero (S := S4096x1024) _ zero2, View.readAt_eq_ld, h2.read_unread, h3.read_unread, h4.read_unread, h5.read_unread, h6.read_unread,
    View.ld_unit_zero (S := S256x4096) zero2, View.ld_unit_zero (S := S1x4096x1024) zero3, View.ld_unit_zero (S := S256x128) zero2]
  exact pieces_is z0 z1 z2 z3 z4

/-- The stored weights. -/
theorem kept_A0 (hc : cond0_0 i) : sout0_A_0 c i a2 h2 a3 h3 a4 h4 a5 h5 a6 h6 a7 h7 a8 h8 hc x0 x1 x2 x3 x4 = k0_pay1 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero zero2]
  simp only [View.readAt_eq_ld, h3.read_unread, View.ld_unit_zero (S := S1x4096x1024) zero3]

end

/-! ## The tables of the embedding, the windows and the kept weights over the grid -/

theorem im0 : ∀ t : Fin cfg0.N, win0_0.index t 0 = t.val % 34 ∧ win0_0.index t 1 = 0 := by decide +kernel
theorem im1 : ∀ t : Fin cfg0.N, win0_1.index t 0 = 0 ∧ win0_1.index t 1 = 0 ∧ win0_1.index t 2 = 4 + t.val / 34 := by decide +kernel
theorem im2 : ∀ t : Fin cfg0.N, win0_2.index t 0 = t.val % 34 ∧ win0_2.index t 1 = 0 := by decide +kernel
theorem im3 : ∀ t : Fin cfg0.N, win0_3.index t 0 = t.val % 34 ∧ win0_3.index t 1 = 0 := by decide +kernel
theorem im4 : ∀ t : Fin cfg0.N, win0_4.index t 0 = t.val % 34 ∧ win0_4.index t 1 = 0 := by decide +kernel
theorem im5 : ∀ t : Fin cfg0.N, win0_5.index t 0 = t.val % 34 ∧ win0_5.index t 1 = t.val / 34 := by decide +kernel

/-- The table made of two tables and of the value of the rows below. -/
def table (x y : FVec Ideal S4096x2x32 .f32) (u : FVec Ideal S_ .f32) : FVec Ideal S8704x128 .f32 :=
  full shapeCasts_S4096x128_S1x4096x1x128 bcast_S1x4096x1x128_S2x4096x1x128_0_1_2_3 shapeCasts_S2x4096x1x128_S8192x128 bcast_S_S512x128
    concatenates_S8192x128_S512x128_S8704x128_d0
    (stack bcast_S4096x2x32_S4096x2x1x32_0_1_3 concatenates_S4096x2x1x32_S4096x2x1x32_S4096x2x2x32_d2 shapeCasts_S4096x2x2x32_S4096x128 x y) u

/-- Zeros in the shape of the tables. -/
def zeros : FVec Ideal S4096x2x32 .f32 := broadcastInDim S4096x2x32 ![] bcast_S_S4096x2x32 (constant S_ .f32 0x00000000#32)

theorem zeros_is : Is3 (a := 4096) (b := 2) (d := 32) zeros (fun _ _ _ => 0) := fun j =>
  (broadcastInDim_apply _ bcast_S_S4096x2x32 _ j (fun a => a.elim0) (fun a => a.elim0)).trans Ideal.ofBits_zero_f32

/-- A joined table by row and column. -/
theorem table_is {x y : FVec Ideal S4096x2x32 .f32} {X Y : ℕ → ℕ → ℕ → EReal} (hx : Is3 (a := 4096) (b := 2) (d := 32) x X)
    (hy : Is3 (a := 4096) (b := 2) (d := 32) y Y) {u : FVec Ideal S_ .f32} {v : EReal} (hu : ∀ i, u i = v) :
    Is2 (a := 8704) (b := 128) (table x y u)
      (fun r q => if r < 8192 then (if q % 64 < 32 then X (r % 4096) (q / 64) (q % 32) else Y (r % 4096) (q / 64) (q % 32)) else v) :=
  full_is (stack_is hx hy _ _ _) hu _ _ _ _ _

/-- The cosines' table. -/
theorem cosT_is {x : FVec Ideal S4096x2x32 .f32} {C : ℕ → ℕ → ℕ → EReal} (hC : Is3 (a := 4096) (b := 2) (d := 32) x C) :
    Is2 (a := 8704) (b := 128) (table x x (constant S_ .f32 0x3F800000#32)) (cosT C) := by
  intro i
  refine (table_is hC hC (fun _ => Ideal.ofBits_one_f32) i).trans ?_
  unfold cosT
  dsimp only
  rw [ite_self]

/-- The first table of sines. -/
theorem sinA_is {x : FVec Ideal S4096x2x32 .f32} {S : ℕ → ℕ → ℕ → EReal} (hS : Is3 (a := 4096) (b := 2) (d := 32) x S) :
    Is2 (a := 8704) (b := 128) (table (Host.negf x) zeros (constant S_ .f32 0x00000000#32)) (sinA S) :=
  table_is (X := fun a b d => -S a b d) (fun i => congrArg Neg.neg (hS i)) zeros_is (fun _ => Ideal.ofBits_zero_f32)

/-- The second table of sines. -/
theorem sinB_is {x : FVec Ideal S4096x2x32 .f32} {S : ℕ → ℕ → ℕ → EReal} (hS : Is3 (a := 4096) (b := 2) (d := 32) x S) :
    Is2 (a := 8704) (b := 128) (table zeros x (constant S_ .f32 0x00000000#32)) (sinB S) :=
  table_is zeros_is hS (fun _ => Ideal.ofBits_zero_f32)

section
variable (m : (ℓ : Loc nD τ sig) → Buf (Elt Ideal) ℓ) (c : Dev nD)
variable {Z : ℕ → ℕ → EReal} {W C S : ℕ → ℕ → ℕ → EReal}

/-- The cosines' table as the kernel finds it. -/
theorem V_v18 : V m c main_v18 = table (m ((c : Thread nD τ).loc main_arg2)) (m ((c : Thread nD τ).loc main_arg2)) (constant S_ .f32 0x3F800000#32) := by
  show StableHlo.after hostOps0 _ (Proc.devRef .tc main_v18) = _
  after_results
  rfl

/-- The first table of sines as the kernel finds it. -/
theorem V_v23 : V m c main_v23 = table (Host.negf (m ((c : Thread nD τ).loc main_arg3) : FVec Ideal S4096x2x32 .f32)) zeros (constant S_ .f32 0x00000000#32) := by
  show StableHlo.after hostOps0 _ (Proc.devRef .tc main_v23) = _
  after_results
  rfl

/-- The second table of sines as the kernel finds it. -/
theorem V_v28 : V m c main_v28 = table zeros (m ((c : Thread nD τ).loc main_arg3)) (constant S_ .f32 0x00000000#32) := by
  show StableHlo.after hostOps0 _ (Proc.devRef .tc main_v28) = _
  after_results
  rfl

theorem at0 (hZ : Is2 (a := 8704) (b := 4096) (m ((c : Thread nD τ).loc main_arg0)) Z) (t : Fin cfg0.N) :
    Is2 (a := 256) (b := 4096) (iblk m c 0 t) (fun r d => Z (256 * (t.val % 34) + r) d) := by
  intro i
  unfold iblk
  rw [View.read_apply]
  show V m c main_arg0 _ = _
  rw [V_main_arg0]
  refine (hZ _).trans ?_
  show Z (win0_0.index t 0 * 256 + 1 * (i 0).val) (win0_0.index t 1 * 4096 + 1 * (i 1).val) = _
  rw [(im0 t).1, (im0 t).2, one_mul, one_mul, mul_comm _ 256, zero_mul, zero_add]

theorem at1 (hW : Is3 (a := 2) (b := 4096) (d := 12288) (m ((c : Thread nD τ).loc main_arg1)) W) (t : Fin cfg0.N) :
    Is3 (a := 1) (b := 4096) (d := 1024) (iblk m c 1 t) (fun p r d => W p r (4096 + (1024 * (t.val / 34) + d))) := by
  intro i
  unfold iblk
  rw [View.read_apply]
  show V m c main_arg1 _ = _
  rw [V_main_arg1]
  refine (hW _).trans ?_
  show W (win0_1.index t 0 * 1 + 1 * (i 0).val) (win0_1.index t 1 * 4096 + 1 * (i 1).val) (win0_1.index t 2 * 1024 + 1 * (i 2).val) = _
  rw [(im1 t).1, (im1 t).2.1, (im1 t).2.2, one_mul, one_mul, one_mul, mul_comm _ 1024, zero_mul, zero_mul, zero_add, zero_add, mul_add,
    show 1024 * 4 = 4096 from rfl, add_assoc]

theorem at2 (hC : Is3 (a := 4096) (b := 2) (d := 32) (m ((c : Thread nD τ).loc main_arg2)) C) (t : Fin cfg0.N) :
    Is2 (a := 256) (b := 128) (iblk m c 2 t) (fun p q => cosT C (256 * (t.val % 34) + p) q) := by
  intro i
  unfold iblk
  rw [View.read_apply]
  show V m c main_v18 _ = _
  rw [V_v18]
  refine (cosT_is hC _).trans ?_
  show cosT C (win0_2.index t 0 * 256 + 1 * (i 0).val) (win0_2.index t 1 * 128 + 1 * (i 1).val) = _
  rw [(im2 t).1, (im2 t).2, one_mul, one_mul, mul_comm _ 256, zero_mul, zero_add]

theorem at3 (hS : Is3 (a := 4096) (b := 2) (d := 32) (m ((c : Thread nD τ).loc main_arg3)) S) (t : Fin cfg0.N) :
    Is2 (a := 256) (b := 128) (iblk m c 3 t) (fun p q => sinA S (256 * (t.val % 34) + p) q) := by
  intro i
  unfold iblk
  rw [View.read_apply]
  show V m c main_v23 _ = _
  rw [V_v23]
  refine (sinA_is hS _).trans ?_
  show sinA S (win0_3.index t 0 * 256 + 1 * (i 0).val) (win0_3.index t 1 * 128 + 1 * (i 1).val) = _
  rw [(im3 t).1, (im3 t).2, one_mul, one_mul, mul_comm _ 256, zero_mul, zero_add]

theorem at4 (hS : Is3 (a := 4096) (b := 2) (d := 32) (m ((c : Thread nD τ).loc main_arg3)) S) (t : Fin cfg0.N) :
    Is2 (a := 256) (b := 128) (iblk m c 4 t) (fun p q => sinB S (256 * (t.val % 34) + p) q) := by
  intro i
  unfold iblk
  rw [View.read_apply]
  show V m c main_v28 _ = _
  rw [V_v28]
  refine (sinB_is hS _).trans ?_
  show sinB S (win0_4.index t 0 * 256 + 1 * (i 0).val) (win0_4.index t 1 * 128 + 1 * (i 1).val) = _
  rw [(im4 t).1, (im4 t).2, one_mul, one_mul, mul_comm _ 256, zero_mul, zero_add]

/-- The kept weights after any point. -/
theorem kept0 (hW : Is3 (a := 2) (b := 4096) (d := 12288) (m ((c : Thread nD τ).loc main_arg1)) W) (n : ℕ) (h : n < cfg0.N) :
    Is2 (a := 4096) (b := 1024) (outsAt0 m c n h).2 (fun r d => W 0 r (4096 + (1024 * (n / 34) + d))) :=
  carried (P := 34) (by norm_num) (fun n h => (outsAt0 m c n h).2)
    (fun j s => Is2 (a := 4096) (b := 1024) s (fun r d => W 0 r (4096 + (1024 * j + d))))
    (fun n h h0 => by
      rw [outsAt0_A m c ⟨n, h⟩ h0]
      dsimp only
      rw [kept_A0]
      exact w1_is (at1 m c hW ⟨n, h⟩))
    (fun n h h0 => by
      rw [outsAt0_B m c ⟨n, h⟩ h0]
      rfl) n h

/-- The result at row `R` and column `E`. -/
def res (Z : ℕ → ℕ → EReal) (W C S : ℕ → ℕ → ℕ → EReal) (R E : ℕ) : EReal :=
  turn (dot 4096 Z (fun r d => W 0 r (4096 + d))) (cosT C) (sinA S) (sinB S) R E

/-- What a point leaves is its block of the result. -/
theorem outs_res (hZ : Is2 (a := 8704) (b := 4096) (m ((c : Thread nD τ).loc main_arg0)) Z)
    (hW : Is3 (a := 2) (b := 4096) (d := 12288) (m ((c : Thread nD τ).loc main_arg1)) W)
    (hC : Is3 (a := 4096) (b := 2) (d := 32) (m ((c : Thread nD τ).loc main_arg2)) C)
    (hS : Is3 (a := 4096) (b := 2) (d := 32) (m ((c : Thread nD τ).loc main_arg3)) S) (t : Fin cfg0.N) :
    Is2 (a := 256) (b := 1024) (outsAt0 m c t.val t.isLt).1 (fun r d => res Z W C S (256 * (t.val % 34) + r) (1024 * (t.val / 34) + d)) := by
  have k := kept0 m c hW t.val t.isLt
  have e : Is2 (a := 256) (b := 1024) (outsAt0 m c t.val t.isLt).1
      (turn (dot 4096 (fun r d => Z (256 * (t.val % 34) + r) d) (fun r d => W 0 r (4096 + (1024 * (t.val / 34) + d))))
        (fun p q => cosT C (256 * (t.val % 34) + p) q) (fun p q => sinA S (256 * (t.val % 34) + p) q) (fun p q => sinB S (256 * (t.val % 34) + p) q)) := by
    by_cases h0 : t.val % 34 = 0
    · rw [outsAt0_A m c t h0] at k ⊢
      dsimp only at k ⊢
      rw [kept_A0] at k
      exact out_A (at0 m c hZ t) k (at2 m c hC t) (at3 m c hS t) (at4 m c hS t)
    · rw [outsAt0_B m c t h0] at k ⊢
      dsimp only at k ⊢
      exact out_B (at0 m c hZ t) k (at2 m c hC t) (at3 m c hS t) (at4 m c hS t)
  intro y
  exact (e y).trans (turn_shift (dot 4096 Z (fun r d => W 0 r (4096 + d))) (cosT C) (sinA S) (sinB S) (256 * (t.val % 34)) (t.val / 34) (y 0).val (y 1).val)

/-- The result array. -/
def G (Z : ℕ → ℕ → EReal) (W C S : ℕ → ℕ → ℕ → EReal) : Vec Ideal S8704x4096 .bf16 := fun i => res Z W C S (i 0).val (i 1).val

/-- The result array after the run. -/
theorem arr_eq (hZ : Is2 (a := 8704) (b := 4096) (m ((c : Thread nD τ).loc main_arg0)) Z)
    (hW : Is3 (a := 2) (b := 4096) (d := 12288) (m ((c : Thread nD τ).loc main_arg1)) W)
    (hC : Is3 (a := 4096) (b := 2) (d := 32) (m ((c : Thread nD τ).loc main_arg2)) C)
    (hS : Is3 (a := 4096) (b := 2) (d := 32) (m ((c : Thread nD τ).loc main_arg3)) S) :
    (dats m 0 c).arrAt 5 cfg0.N = G Z W C S := by
  refine (dats m 0 c).arrAt_eq_of_cover 5 (G Z W C S) ?_ ?_
  · intro t _
    rw [Cert.Kernel6Ideal.Value.flushed5]
    funext y
    rw [View.read_apply]
    refine (outs_res m c hZ hW hC hS t y).trans ?_
    show _ = res Z W C S (win0_5.index t 0 * 256 + 1 * (y 0).val) (win0_5.index t 1 * 1024 + 1 * (y 1).val)
    rw [(im5 t).1, (im5 t).2, one_mul, one_mul, mul_comm _ 256, mul_comm _ 1024]
  · intro i
    have b0 : (i 0).val < 8704 := (i 0).isLt
    have b1 : (i 1).val < 4096 := (i 1).isLt
    exact (Cert.Kernel6Ideal.Value.covered_iff5 i).2 ⟨Nat.zero_le _, b0, Nat.zero_le _, b1⟩

end

end Cert.Key

end
-- ==== Proof.KeyRef.lean ====
module

public import proofs.«01_k».proof.Proof.Key
public import proofs.«01_k».proof.Proof.Gen.Reference6Ideal.Read

/-! The reference of the keys with the rotary embedding, element by element, and its equality with the kernel's result array. -/

@[expose] public section

set_option maxRecDepth 16384

noncomputable section

namespace Cert.KeyRef

open Cert.Reference6Ideal Cert.Reference6Ideal.Gen Cert.Reference6Ideal.Read Cert.Mat Cert.Rope Cert.Key Idealize.ShloMosaic Idealize.SL.Sem

section
variable {x0 : (⟨S8704x4096, .bf16⟩ : BufTy).Contents (Elt Ideal)} {x1 : (⟨S2x4096x12288, .f32⟩ : BufTy).Contents (Elt Ideal)}
  {x2 x3 : (⟨S4096x2x32, .f32⟩ : BufTy).Contents (Elt Ideal)}
  {Z : ℕ → ℕ → EReal} {W C S : ℕ → ℕ → ℕ → EReal}

/-- The product. -/
theorem v4_is (hZ : Is2 (a := 8704) (b := 4096) x0 Z) (hW : Is3 (a := 2) (b := 4096) (d := 12288) x1 W) :
    Is2 (a := 8704) (b := 4096) (val_main_v4 (F := Ideal) x0 x1) (dot 4096 Z (fun r d => W 0 r (4096 + d))) := by
  intro i
  rw [val_main_v4_apply]
  unfold dot
  rw [Finset.sum_range]
  refine Finset.sum_congr rfl fun k _ => ?_
  rw [val_main_v0_apply, val_main_v3_apply, val_main_v2_apply, val_main_v1_apply]
  have b1 : (i 1).val < 4096 := (i 1).isLt
  have e0 : (k.val * 12288 + (4096 + (i 1).val)) / 12288 % 4096 = k.val := by have := k.isLt; omega
  have e1 : (k.val * 12288 + (4096 + (i 1).val)) % 12288 = 4096 + (i 1).val := by omega
  refine congrArg₂ (· * ·) (hZ _) ((hW _).trans ?_)
  show W 0 ((k.val * 12288 + (4096 + (i 1).val)) / 12288 % 4096) ((k.val * 12288 + (4096 + (i 1).val)) % 12288) = _
  rw [e0, e1]

variable {A : ℕ → ℕ → EReal}

/-- The product's entry for a row, head, group, half and frequency. -/
theorem v6_is (hA : Is2 (a := 8704) (b := 4096) (val_main_v4 (F := Ideal) x0 x1) A) (j : S8192x32x2x2x32.Idx) :
    val_main_v6 (F := Ideal) x0 x1 j = A (j 0).val ((((j 1).val * 2 + (j 2).val) * 2 + (j 3).val) * 32 + (j 4).val) := by
  rw [val_main_v6_apply, val_main_v5_apply]
  refine (hA _).trans ?_
  have h1 : (j 1).val < 32 := (j 1).isLt
  have h2 : (j 2).val < 2 := (j 2).isLt
  have h3 : (j 3).val < 2 := (j 3).isLt
  have h4 : (j 4).val < 32 := (j 4).isLt
  refine congrArg₂ A ?_ ?_
  · show (((((j 0).val * 32 + (j 1).val) * 2 + (j 2).val) * 2 + (j 3).val) * 32 + (j 4).val) / 4096 = (j 0).val
    omega
  · show (((((j 0).val * 32 + (j 1).val) * 2 + (j 2).val) * 2 + (j 3).val) * 32 + (j 4).val) % 4096 = _
    omega

/-- The first halves. -/
theorem v8_is (hA : Is2 (a := 8704) (b := 4096) (val_main_v4 (F := Ideal) x0 x1) A) (j : S8192x32x2x32.Idx) :
    val_main_v8 (F := Ideal) x0 x1 j = A (j 0).val (((j 1).val * 2 + (j 2).val) * 64 + (j 3).val) := by
  rw [val_main_v8_apply, val_main_v7_apply, v6_is hA]
  have h1 : (j 1).val < 32 := (j 1).isLt
  have h2 : (j 2).val < 2 := (j 2).isLt
  have h3 : (j 3).val < 32 := (j 3).isLt
  refine congrArg₂ A ?_ ?_
  · show ((((j 0).val * 32 + (j 1).val) * 2 + (j 2).val) * 32 + (j 3).val) / 2048 = (j 0).val
    omega
  · show ((((((j 0).val * 32 + (j 1).val) * 2 + (j 2).val) * 32 + (j 3).val) / 64 % 32 * 2
      + ((((j 0).val * 32 + (j 1).val) * 2 + (j 2).val) * 32 + (j 3).val) / 32 % 2) * 2 + 0) * 32
      + ((((j 0).val * 32 + (j 1).val) * 2 + (j 2).val) * 32 + (j 3).val) % 32 = _
    omega

/-- The second halves. -/
theorem v10_is (hA : Is2 (a := 8704) (b := 4096) (val_main_v4 (F := Ideal) x0 x1) A) (j : S8192x32x2x32.Idx) :
    val_main_v10 (F := Ideal) x0 x1 j = A (j 0).val (((j 1).val * 2 + (j 2).val) * 64 + 32 + (j 3).val) := by
  rw [val_main_v10_apply, val_main_v9_apply, v6_is hA]
  have h1 : (j 1).val < 32 := (j 1).isLt
  have h2 : (j 2).val < 2 := (j 2).isLt
  have h3 : (j 3).val < 32 := (j 3).isLt
  refine congrArg₂ A ?_ ?_
  · show ((((j 0).val * 32 + (j 1).val) * 2 + (j 2).val) * 32 + (j 3).val) / 2048 = (j 0).val
    omega
  · show ((((((j 0).val * 32 + (j 1).val) * 2 + (j 2).val) * 32 + (j 3).val) / 64 % 32 * 2
      + ((((j 0).val * 32 + (j 1).val) * 2 + (j 2).val) * 32 + (j 3).val) / 32 % 2) * 2 + (1 + 0)) * 32
      + ((((j 0).val * 32 + (j 1).val) * 2 + (j 2).val) * 32 + (j 3).val) % 32 = _
    omega

/-- The cosines, repeated for the batch. -/
theorem v12_is (hC : Is3 (a := 4096) (b := 2) (d := 32) x2 C) (j : S8192x1x2x32.Idx) :
    val_main_v12 (F := Ideal) x2 j = C ((j 0).val % 4096) (j 2).val (j 3).val := by
  rw [val_main_v12_apply, val_main_v11_apply]
  refine (hC _).trans ?_
  have h1 : (j 1).val < 1 := (j 1).isLt
  have h2 : (j 2).val < 2 := (j 2).isLt
  have h3 : (j 3).val < 32 := (j 3).isLt
  have e0 : ((((j 0).val * 1 + (j 1).val) * 2 + (j 2).val) * 32 + (j 3).val) / 64 % 4096 = (j 0).val % 4096 := by omega
  have e1 : ((((j 0).val * 1 + (j 1).val) * 2 + (j 2).val) * 32 + (j 3).val) / 32 % 2 = (j 2).val := by omega
  have e2 : ((((j 0).val * 1 + (j 1).val) * 2 + (j 2).val) * 32 + (j 3).val) % 32 = (j 3).val := by omega
  show C (((((j 0).val * 1 + (j 1).val) * 2 + (j 2).val) * 32 + (j 3).val) / 64 % 4096)
    (((((j 0).val * 1 + (j 1).val) * 2 + (j 2).val) * 32 + (j 3).val) / 32 % 2)
    (((((j 0).val * 1 + (j 1).val) * 2 + (j 2).val) * 32 + (j 3).val) % 32) = _
  rw [e0, e1, e2]

/-- The sines are laid out as the cosines are. -/
theorem v14_is (hS : Is3 (a := 4096) (b := 2) (d := 32) x3 S) (j : S8192x1x2x32.Idx) :
    val_main_v14 (F := Ideal) x3 j = S ((j 0).val % 4096) (j 2).val (j 3).val :=
  (show val_main_v14 (F := Ideal) x3 j = val_main_v12 (F := Ideal) x3 j from rfl).trans (v12_is hS j)

/-- The embedding at a row of the sequences. -/
theorem v28_is (hA : Is2 (a := 8704) (b := 4096) (val_main_v4 (F := Ideal) x0 x1) A) (hC : Is3 (a := 4096) (b := 2) (d := 32) x2 C)
    (hS : Is3 (a := 4096) (b := 2) (d := 32) x3 S) :
    Is2 (a := 8192) (b := 4096) (val_main_v28 (F := Ideal) x0 x1 x2 x3) (turn A (cosT C) (sinA S) (sinB S)) := by
  intro i
  have b0 : (i 0).val < 8192 := (i 0).isLt
  have b1 : (i 1).val < 4096 := (i 1).isLt
  have e0 : ((i 0).val * 4096 + (i 1).val) / 4096 = (i 0).val := by omega
  have e1 : ((i 0).val * 4096 + (i 1).val) / 128 % 32 = (i 1).val / 128 := by omega
  have e2 : ((i 0).val * 4096 + (i 1).val) / 64 % 2 = (i 1).val % 128 / 64 := by omega
  have e3 : ((i 0).val * 4096 + (i 1).val) / 32 % 2 = (i 1).val / 32 % 2 := by omega
  have e4 : ((i 0).val * 4096 + (i 1).val) % 32 = (i 1).val % 32 := by omega
  rw [val_main_v28_apply]
  unfold val_main_v27
  by_cases h : (i 1).val % 64 < 32
  · refine (concatenate_pair_apply_left 3 (val_main_v25 (F := Ideal) x0 x1 x2 x3) (val_main_v26 (F := Ideal) x0 x1 x2 x3)
      concatenates_S8192x32x2x1x32_S8192x32x2x1x32_S8192x32x2x2x32_d3 (idx_main_v28 i) rfl (fun a => match a with
      | ⟨0, _⟩ => ⟨(i 0).val, b0⟩
      | ⟨1, _⟩ => ⟨(i 1).val / 128, show (i 1).val / 128 < 32 by omega⟩
      | ⟨2, _⟩ => ⟨(i 1).val % 128 / 64, show (i 1).val % 128 / 64 < 2 by omega⟩
      | ⟨3, _⟩ => ⟨0, Nat.one_pos⟩
      | ⟨4, _⟩ => ⟨(i 1).val % 32, show (i 1).val % 32 < 32 by omega⟩) (fun b => match b with
      | ⟨0, _⟩ => e0.symm
      | ⟨1, _⟩ => e1.symm
      | ⟨2, _⟩ => e2.symm
      | ⟨3, _⟩ => by show 0 = ((i 0).val * 4096 + (i 1).val) / 32 % 2; omega
      | ⟨4, _⟩ => e4.symm)).trans ?_
    rw [val_main_v25_apply, val_main_v19_apply, val_main_v16_apply, val_main_v18_apply, val_main_v15_apply, val_main_v17_apply,
      v8_is hA, v10_is hA, v12_is hC, v14_is hS, turn_fst A C S b0 h]
    show A (i 0).val (((i 1).val / 128 * 2 + (i 1).val % 128 / 64) * 64 + (i 1).val % 32) * C ((i 0).val % 4096) ((i 1).val % 128 / 64) ((i 1).val % 32)
      - A (i 0).val (((i 1).val / 128 * 2 + (i 1).val % 128 / 64) * 64 + 32 + (i 1).val % 32) * S ((i 0).val % 4096) ((i 1).val % 128 / 64) ((i 1).val % 32) = _
    rw [show ((i 1).val / 128 * 2 + (i 1).val % 128 / 64) * 64 + (i 1).val % 32 = (i 1).val by omega,
      show ((i 1).val / 128 * 2 + (i 1).val % 128 / 64) * 64 + 32 + (i 1).val % 32 = (i 1).val + 32 by omega]
  · refine (concatenate_pair_apply_right 3 (val_main_v25 (F := Ideal) x0 x1 x2 x3) (val_main_v26 (F := Ideal) x0 x1 x2 x3)
      concatenates_S8192x32x2x1x32_S8192x32x2x1x32_S8192x32x2x2x32_d3 (idx_main_v28 i) rfl rfl (fun a => match a with
      | ⟨0, _⟩ => ⟨(i 0).val, b0⟩
      | ⟨1, _⟩ => ⟨(i 1).val / 128, show (i 1).val / 128 < 32 by omega⟩
      | ⟨2, _⟩ => ⟨(i 1).val % 128 / 64, show (i 1).val % 128 / 64 < 2 by omega⟩
      | ⟨3, _⟩ => ⟨0, Nat.one_pos⟩
      | ⟨4, _⟩ => ⟨(i 1).val % 32, show (i 1).val % 32 < 32 by omega⟩) (fun b hne => match b, hne with
      | ⟨0, _⟩, _ => e0.symm
      | ⟨1, _⟩, _ => e1.symm
      | ⟨2, _⟩, _ => e2.symm
      | ⟨3, _⟩, hne => absurd rfl hne
      | ⟨4, _⟩, _ => e4.symm) (by show 0 + 1 = ((i 0).val * 4096 + (i 1).val) / 32 % 2; omega)).trans ?_
    rw [val_main_v26_apply, val_main_v24_apply, val_main_v21_apply, val_main_v23_apply, val_main_v20_apply, val_main_v22_apply,
      v8_is hA, v10_is hA, v12_is hC, v14_is hS, turn_snd A C S b0 h]
    show A (i 0).val (((i 1).val / 128 * 2 + (i 1).val % 128 / 64) * 64 + 32 + (i 1).val % 32) * C ((i 0).val % 4096) ((i 1).val % 128 / 64) ((i 1).val % 32)
      + A (i 0).val (((i 1).val / 128 * 2 + (i 1).val % 128 / 64) * 64 + (i 1).val % 32) * S ((i 0).val % 4096) ((i 1).val % 128 / 64) ((i 1).val % 32) = _
    rw [show ((i 1).val / 128 * 2 + (i 1).val % 128 / 64) * 64 + 32 + (i 1).val % 32 = (i 1).val by omega,
      show ((i 1).val / 128 * 2 + (i 1).val % 128 / 64) * 64 + (i 1).val % 32 = (i 1).val - 32 by omega]

/-- The rotated rows and the rows of the context, one above the other. -/
theorem v30_is (hA : Is2 (a := 8704) (b := 4096) (val_main_v4 (F := Ideal) x0 x1) A) (hC : Is3 (a := 4096) (b := 2) (d := 32) x2 C)
    (hS : Is3 (a := 4096) (b := 2) (d := 32) x3 S) :
    Is2 (a := 8704) (b := 4096) (val_main_v30 (F := Ideal) x0 x1 x2 x3) (turn A (cosT C) (sinA S) (sinB S)) := by
  intro i
  have b0 : (i 0).val < 8704 := (i 0).isLt
  unfold val_main_v30
  by_cases h : (i 0).val < 8192
  · exact (concatenate_pair_apply_left 0 (val_main_v28 (F := Ideal) x0 x1 x2 x3) (val_main_v29 (F := Ideal) x0 x1)
      concatenates_S8192x4096_S512x4096_S8704x4096_d0 i rfl (ValueIdx.ix2 (⟨(i 0).val, h⟩ : Fin 8192) (i 1)) (fun b => match b with
      | ⟨0, _⟩ => rfl
      | ⟨1, _⟩ => rfl)).trans (v28_is hA hC hS _)
  · refine (concatenate_pair_apply_right 0 (val_main_v28 (F := Ideal) x0 x1 x2 x3) (val_main_v29 (F := Ideal) x0 x1)
      concatenates_S8192x4096_S512x4096_S8704x4096_d0 i rfl rfl (ValueIdx.ix2 (⟨(i 0).val - 8192, by omega⟩ : Fin 512) (i 1)) (fun b hne => match b, hne with
      | ⟨0, _⟩, hne => absurd rfl hne
      | ⟨1, _⟩, _ => rfl) (by show (i 0).val - 8192 + 8192 = (i 0).val; omega)).trans ?_
    rw [val_main_v29_apply, turn_ctx A C S h]
    refine (hA _).trans ?_
    show A (8192 + ((i 0).val - 8192)) (i 1).val = A (i 0).val (i 1).val
    rw [show 8192 + ((i 0).val - 8192) = (i 0).val by omega]

end

/-- The kernel's result array, from any memory, is the reference of the kernel's arguments. -/
theorem equal (m : (ℓ : Loc Cert.Kernel6Ideal.nD Cert.Kernel6Ideal.τ Cert.Kernel6Ideal.sig) → Buf (Elt Ideal) ℓ) (c : Dev Cert.Kernel6Ideal.nD) :
    val_main_v31 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1))
        (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))
      = (Cert.Kernel6Ideal.Gen.dats m 0 c).arrAt 5 Cert.Kernel6Ideal.cfg0.N := by
  obtain ⟨Z, hZ⟩ := is2 (a := 8704) (b := 4096) (m ((c.tc : Thread Cert.Kernel6Ideal.nD Cert.Kernel6Ideal.τ).loc Cert.Kernel6Ideal.main_arg0))
  obtain ⟨W, hW⟩ := is3 (a := 2) (b := 4096) (d := 12288) (m ((c.tc : Thread Cert.Kernel6Ideal.nD Cert.Kernel6Ideal.τ).loc Cert.Kernel6Ideal.main_arg1))
  obtain ⟨C, hC⟩ := is3 (a := 4096) (b := 2) (d := 32) (m ((c.tc : Thread Cert.Kernel6Ideal.nD Cert.Kernel6Ideal.τ).loc Cert.Kernel6Ideal.main_arg2))
  obtain ⟨S, hS⟩ := is3 (a := 4096) (b := 2) (d := 32) (m ((c.tc : Thread Cert.Kernel6Ideal.nD Cert.Kernel6Ideal.τ).loc Cert.Kernel6Ideal.main_arg3))
  refine Eq.trans (funext fun i => ?_) (arr_eq m c hZ hW hC hS).symm
  rw [val_main_v31_apply]
  exact v30_is (v4_is hZ hW) hC hS i

end Cert.KeyRef

end
-- ==== Proof.Query.lean ====
module

public import proofs.«01_k».proof.Proof.Key
public import proofs.«01_k».proof.Proof.Gen.Kernel7Ideal.Value

/-! The differential attention's queries with the rotary embedding: what each grid point leaves and the whole result array. -/

@[expose] public section

set_option maxRecDepth 16384

noncomputable section

namespace Cert.Query

open Cert.Kernel7Ideal Cert.Kernel7Ideal.Gen Cert.Mat Cert.Rope Idealize.ShloMosaic Idealize.ShloMosaic.TcCoe Idealize.SL.Sem
open Idealize.ShloMosaic.Pipeline (Dat)

/-- The block taken whole. -/
abbrev whole : Rect S256x1024 := Rect.unit ![0, 0] ![256, 1024] inb_S256x1024_S256x1024_0_0

/-- The eight strips the body stores, the last first. -/
def pieces (x0 : Vec Ideal S256x4096 .bf16) (s0 : Vec Ideal S4096x1024 .bf16) (x2 x3 x4 : Vec Ideal S256x128 .f32) :
    List (View.Piece (Elt Ideal) S256x1024 .f32) :=
  [⟨whole.within (Rect.unit (s := S256x1024) ![0, 896] ![256, 128] inb_S256x1024_S256x128_0_896) cc0_matmul_rope_skel._proof_1, k0_pay3 (k0_pay5 x0 s0) (k0_pay6 x2) (k0_pay7 x3) (k0_pay8 x4)⟩,
    ⟨whole.within (Rect.unit (s := S256x1024) ![0, 768] ![256, 128] inb_S256x1024_S256x128_0_768) cc0_matmul_rope_skel._proof_1, k0_pay2 (k0_pay5 x0 s0) (k0_pay6 x2) (k0_pay7 x3) (k0_pay8 x4)⟩,
    ⟨whole.within (Rect.unit (s := S256x1024) ![0, 640] ![256, 128] inb_S256x1024_S256x128_0_640) cc0_matmul_rope_skel._proof_1, k0_pay1 (k0_pay8 x4) (k0_pay15 (k0_pay5 x0 s0)) (k0_pay16 (k0_pay5 x0 s0) (k0_pay6 x2)) (k0_pay17 (k0_pay5 x0 s0) (k0_pay7 x3))⟩,
    ⟨whole.within (Rect.unit (s := S256x1024) ![0, 512] ![256, 128] inb_S256x1024_S256x128_0_512) cc0_matmul_rope_skel._proof_1, k0_pay13 (k0_pay5 x0 s0) (k0_pay6 x2) (k0_pay7 x3) (k0_pay8 x4)⟩,
    ⟨whole.within (Rect.unit (s := S256x1024) ![0, 384] ![256, 128] inb_S256x1024_S256x128_0_384) cc0_matmul_rope_skel._proof_1, k0_pay12 (k0_pay5 x0 s0) (k0_pay6 x2) (k0_pay7 x3) (k0_pay8 x4)⟩,
    ⟨whole.within (Rect.unit (s := S256x1024) ![0, 256] ![256, 128] inb_S256x1024_S256x128_0_256) cc0_matmul_rope_skel._proof_1, k0_pay11 (k0_pay5 x0 s0) (k0_pay6 x2) (k0_pay7 x3) (k0_pay8 x4)⟩,
    ⟨whole.within (Rect.unit (s := S256x1024) ![0, 128] ![256, 128] inb_S256x1024_S256x128_0_128) cc0_matmul_rope_skel._proof_1, k0_pay10 x0 s0 x2 x3 x4⟩,
    ⟨whole.within (Rect.unit (s := S256x1024) ![0, 0] ![256, 128] inb_S256x1024_S256x128_0_0) cc0_matmul_rope_skel._proof_1, k0_pay9 x0 s0 x2 x3 x4⟩]

/-- Each strip stored is the embedding at its columns. -/
theorem pieces_is {x0 : Vec Ideal S256x4096 .bf16} {s0 : Vec Ideal S4096x1024 .bf16} {x2 x3 x4 : Vec Ideal S256x128 .f32}
    {Z A C S T : ℕ → ℕ → EReal} (z0 : Is2 (a := 256) (b := 4096) x0 Z) (z1 : Is2 (a := 4096) (b := 1024) s0 A)
    (z2 : Is2 (a := 256) (b := 128) x2 C) (z3 : Is2 (a := 256) (b := 128) x3 S) (z4 : Is2 (a := 256) (b := 128) x4 T) :
    ∀ p ∈ pieces x0 s0 x2 x3 x4, ∀ x : p.1.shape.Idx, p.2 x = turn (dot 4096 Z A) C S T (p.1.emb x 0).val (p.1.emb x 1).val := by
  have at' (o : ℕ) (hs : S256x1024.Slices ![0, o] S256x128) (ho : o + 128 ≤ 1024) (h8 : o % 128 = 0) :=
    strip_at (Cert.Key.prod6_is z0 z1) (Cert.Key.same_is z2) (Cert.Key.same_is z3) (Cert.Key.same_is z4) hs rotates_S256x128_d1 ho h8
  intro p hp
  simp only [pieces, List.mem_cons, List.not_mem_nil, or_false] at hp
  rcases hp with rfl | rfl | rfl | rfl | rfl | rfl | rfl | rfl
  · exact at' 896 slices_S256x1024_o0_896_S256x128 (by norm_num) rfl
  · exact at' 768 slices_S256x1024_o0_768_S256x128 (by norm_num) rfl
  · exact at' 640 slices_S256x1024_o0_640_S256x128 (by norm_num) rfl
  · exact at' 512 slices_S256x1024_o0_512_S256x128 (by norm_num) rfl
  · exact at' 384 slices_S256x1024_o0_384_S256x128 (by norm_num) rfl
  · exact at' 256 slices_S256x1024_o0_256_S256x128 (by norm_num) rfl
  · exact at' 128 slices_S256x1024_o0_128_S256x128 (by norm_num) rfl
  · exact at' 0 slices_S256x1024_o0_0_S256x128 (by norm_num) rfl

section
variable {c : Dev nD} {i : grid0.Coords} {a2 : Memref sig .tc .vmem S256x4096 .bf16} {h2 : a2.IsWhole}
  {a3 : Memref sig .tc .vmem S1x4096x1024 .f32} {h3 : a3.IsWhole} {a4 : Memref sig .tc .vmem S256x128 .f32} {h4 : a4.IsWhole}
  {a5 : Memref sig .tc .vmem S256x128 .f32} {h5 : a5.IsWhole} {a6 : Memref sig .tc .vmem S256x128 .f32} {h6 : a6.IsWhole}
  {a7 : Memref sig .tc .vmem S256x1024 .f32} {h7 : a7.IsWhole} {a8 : Memref sig .tc .vmem S4096x1024 .bf16} {h8 : a8.IsWhole}
  {x0 : Vec Ideal S256x4096 .bf16} {x1 : Vec Ideal S1x4096x1024 .f32} {x2 x3 x4 : Vec Ideal S256x128 .f32} {s0 : Vec Ideal S4096x1024 .bf16}
  {Z A C S T : ℕ → ℕ → EReal}

/-- At the other row blocks the embedding of the product with the weights kept. -/
theorem out_B {hc : ¬cond0_0 i} (z0 : Is2 (a := 256) (b := 4096) x0 Z) (z1 : Is2 (a := 4096) (b := 1024) s0 A)
    (z2 : Is2 (a := 256) (b := 128) x2 C) (z3 : Is2 (a := 256) (b := 128) x3 S) (z4 : Is2 (a := 256) (b := 128) x4 T) :
    Is2 (a := 256) (b := 1024) (out0_B_5 c i a2 h2 a3 h3 a4 h4 a5 h5 a6 h6 a7 h7 a8 h8 hc x0 x1 x2 x3 x4 s0) (turn (dot 4096 Z A) C S T) := by
  intro y
  unfold out0_B_5
  rw [View.read_writes_eq_canon _ _ _ (cover0_B_5 c i a2 h2 a3 h3 a4 h4 a5 h5 a6 h6 a7 h7 a8 h8 hc x0 x1 x2 x3 x4 s0)]
  refine View.canon_apply_of_pieces (fun y : S256x1024.Idx => turn (dot 4096 Z A) C S T (y 0).val (y 1).val) _ ?_ y
    (cover0_B_5 c i a2 h2 a3 h3 a4 h4 a5 h5 a6 h6 a7 h7 a8 h8 hc x0 x1 x2 x3 x4 s0 y)
  unfold kernelRun0_B
  dsimp only
  sl_unfold_words
  simp only [View.readAt_eq_ld, h2.read_unread, h4.read_unread, h5.read_unread, h6.read_unread, h8.read_unread,
    View.ld_unit_zero (S := S256x4096) zero2, View.ld_unit_zero (S := S4096x1024) zero2, View.ld_unit_zero (S := S256x128) zero2]
  exact pieces_is z0 z1 z2 z3 z4

/-- At the first row block of a column block the embedding of the product with the weights just stored. -/
theorem out_A {hc : cond0_0 i} (z0 : Is2 (a := 256) (b := 4096) x0 Z) (z1 : Is2 (a := 4096) (b := 1024) (k0_pay4 x1) A)
    (z2 : Is2 (a := 256) (b := 128) x2 C) (z3 : Is2 (a := 256) (b := 128) x3 S) (z4 : Is2 (a := 256) (b := 128) x4 T) :
    Is2 (a := 256) (b := 1024) (out0_A_5 c i a2 h2 a3 h3 a4 h4 a5 h5 a6 h6 a7 h7 a8 h8 hc x0 x1 x2 x3 x4) (turn (dot 4096 Z A) C S T) := by
  intro y
  unfold out0_A_5
  rw [View.read_writes_eq_canon _ _ _ (cover0_A_5 c i a2 h2 a3 h3 a4 h4 a5 h5 a6 h6 a7 h7 a8 h8 hc x0 x1 x2 x3 x4)]
  refine View.canon_apply_of_pieces (fun y : S256x1024.Idx => turn (dot 4096 Z A) C S T (y 0).val (y 1).val) _ ?_ y
    (cover0_A_5 c i a2 h2 a3 h3 a4 h4 a5 h5 a6 h6 a7 h7 a8 h8 hc x0 x1 x2 x3 x4 y)
  unfold kernelRun0_A
  dsimp only
  sl_unfold_words
  simp only [View.readCov_unit_zero (S := S4096x1024) _ zero2, View.readAt_eq_ld, h2.read_unread, h3.read_unread, h4.read_unread, h5.read_unread, h6.read_unread,
    View.ld_unit_zero (S := S256x4096) zero2, View.ld_unit_zero (S := S1x4096x1024) zero3, View.ld_unit_zero (S := S256x128) zero2]
  exact pieces_is z0 z1 z2 z3 z4

/-- The stored weights. -/
theorem kept_A0 (hc : cond0_0 i) : sout0_A_0 c i a2 h2 a3 h3 a4 h4 a5 h5 a6 h6 a7 h7 a8 h8 hc x0 x1 x2 x3 x4 = k0_pay4 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero zero2]
  simp only [View.readAt_eq_ld, h3.read_unread, View.ld_unit_zero (S := S1x4096x1024) zero3]

end

/-! ## The tables of the embedding, the windows and the kept weights over the grid -/

theorem im0 : ∀ t : Fin cfg0.N, win0_0.index t 0 = t.val % 34 ∧ win0_0.index t 1 = 0 := by decide +kernel
theorem im1 : ∀ t : Fin cfg0.N, win0_1.index t 0 = 0 ∧ win0_1.index t 1 = 0 ∧ win0_1.index t 2 = t.val / 34 := by decide +kernel
theorem im2 : ∀ t : Fin cfg0.N, win0_2.index t 0 = t.val % 34 ∧ win0_2.index t 1 = 0 := by decide +kernel
theorem im3 : ∀ t : Fin cfg0.N, win0_3.index t 0 = t.val % 34 ∧ win0_3.index t 1 = 0 := by decide +kernel
theorem im4 : ∀ t : Fin cfg0.N, win0_4.index t 0 = t.val % 34 ∧ win0_4.index t 1 = 0 := by decide +kernel
theorem im5 : ∀ t : Fin cfg0.N, win0_5.index t 0 = t.val % 34 ∧ win0_5.index t 1 = t.val / 34 := by decide +kernel

section
variable (m : (ℓ : Loc nD τ sig) → Buf (Elt Ideal) ℓ) (c : Dev nD)
variable {Z : ℕ → ℕ → EReal} {W C S : ℕ → ℕ → ℕ → EReal}

/-- The cosines' table as the kernel finds it. -/
theorem V_v18 : V m c main_v18 = Cert.Key.table (m ((c : Thread nD τ).loc main_arg2)) (m ((c : Thread nD τ).loc main_arg2)) (constant S_ .f32 0x3F800000#32) := by
  show StableHlo.after hostOps0 _ (Proc.devRef .tc main_v18) = _
  after_results
  rfl

/-- The first table of sines as the kernel finds it. -/
theorem V_v23 : V m c main_v23 = Cert.Key.table (Host.negf (m ((c : Thread nD τ).loc main_arg3) : FVec Ideal S4096x2x32 .f32)) Cert.Key.zeros (constant S_ .f32 0x00000000#32) := by
  show StableHlo.after hostOps0 _ (Proc.devRef .tc main_v23) = _
  after_results
  rfl

/-- The second table of sines as the kernel finds it. -/
theorem V_v28 : V m c main_v28 = Cert.Key.table Cert.Key.zeros (m ((c : Thread nD τ).loc main_arg3)) (constant S_ .f32 0x00000000#32) := by
  show StableHlo.after hostOps0 _ (Proc.devRef .tc main_v28) = _
  after_results
  rfl

theorem at0 (hZ : Is2 (a := 8704) (b := 4096) (m ((c : Thread nD τ).loc main_arg0)) Z) (t : Fin cfg0.N) :
    Is2 (a := 256) (b := 4096) (iblk m c 0 t) (fun r d => Z (256 * (t.val % 34) + r) d) := by
  intro i
  unfold iblk
  rw [View.read_apply]
  show V m c main_arg0 _ = _
  rw [V_main_arg0]
  refine (hZ _).trans ?_
  show Z (win0_0.index t 0 * 256 + 1 * (i 0).val) (win0_0.index t 1 * 4096 + 1 * (i 1).val) = _
  rw [(im0 t).1, (im0 t).2, one_mul, one_mul, mul_comm _ 256, zero_mul, zero_add]

theorem at1 (hW : Is3 (a := 2) (b := 4096) (d := 12288) (m ((c : Thread nD τ).loc main_arg1)) W) (t : Fin cfg0.N) :
    Is3 (a := 1) (b := 4096) (d := 1024) (iblk m c 1 t) (fun p r d => W p r (1024 * (t.val / 34) + d)) := by
  intro i
  unfold iblk
  rw [View.read_apply]
  show V m c main_arg1 _ = _
  rw [V_main_arg1]
  refine (hW _).trans ?_
  show W (win0_1.index t 0 * 1 + 1 * (i 0).val) (win0_1.index t 1 * 4096 + 1 * (i 1).val) (win0_1.index t 2 * 1024 + 1 * (i 2).val) = _
  rw [(im1 t).1, (im1 t).2.1, (im1 t).2.2, one_mul, one_mul, one_mul, mul_comm _ 1024, zero_mul, zero_mul, zero_add, zero_add]

theorem at2 (hC : Is3 (a := 4096) (b := 2) (d := 32) (m ((c : Thread nD τ).loc main_arg2)) C) (t : Fin cfg0.N) :
    Is2 (a := 256) (b := 128) (iblk m c 2 t) (fun p q => cosT C (256 * (t.val % 34) + p) q) := by
  intro i
  unfold iblk
  rw [View.read_apply]
  show V m c main_v18 _ = _
  rw [V_v18]
  refine (Cert.Key.cosT_is hC _).trans ?_
  show cosT C (win0_2.index t 0 * 256 + 1 * (i 0).val) (win0_2.index t 1 * 128 + 1 * (i 1).val) = _
  rw [(im2 t).1, (im2 t).2, one_mul, one_mul, mul_comm _ 256, zero_mul, zero_add]

theorem at3 (hS : Is3 (a := 4096) (b := 2) (d := 32) (m ((c : Thread nD τ).loc main_arg3)) S) (t : Fin cfg0.N) :
    Is2 (a := 256) (b := 128) (iblk m c 3 t) (fun p q => sinA S (256 * (t.val % 34) + p) q) := by
  intro i
  unfold iblk
  rw [View.read_apply]
  show V m c main_v23 _ = _
  rw [V_v23]
  refine (Cert.Key.sinA_is hS _).trans ?_
  show sinA S (win0_3.index t 0 * 256 + 1 * (i 0).val) (win0_3.index t 1 * 128 + 1 * (i 1).val) = _
  rw [(im3 t).1, (im3 t).2, one_mul, one_mul, mul_comm _ 256, zero_mul, zero_add]

theorem at4 (hS : Is3 (a := 4096) (b := 2) (d := 32) (m ((c : Thread nD τ).loc main_arg3)) S) (t : Fin cfg0.N) :
    Is2 (a := 256) (b := 128) (iblk m c 4 t) (fun p q => sinB S (256 * (t.val % 34) + p) q) := by
  intro i
  unfold iblk
  rw [View.read_apply]
  show V m c main_v28 _ = _
  rw [V_v28]
  refine (Cert.Key.sinB_is hS _).trans ?_
  show sinB S (win0_4.index t 0 * 256 + 1 * (i 0).val) (win0_4.index t 1 * 128 + 1 * (i 1).val) = _
  rw [(im4 t).1, (im4 t).2, one_mul, one_mul, mul_comm _ 256, zero_mul, zero_add]

/-- The kept weights after any point. -/
theorem kept0 (hW : Is3 (a := 2) (b := 4096) (d := 12288) (m ((c : Thread nD τ).loc main_arg1)) W) (n : ℕ) (h : n < cfg0.N) :
    Is2 (a := 4096) (b := 1024) (outsAt0 m c n h).2 (fun r d => W 0 r (1024 * (n / 34) + d)) :=
  carried (P := 34) (by norm_num) (fun n h => (outsAt0 m c n h).2)
    (fun j s => Is2 (a := 4096) (b := 1024) s (fun r d => W 0 r (1024 * j + d)))
    (fun n h h0 => by
      rw [outsAt0_A m c ⟨n, h⟩ h0]
      dsimp only
      rw [kept_A0]
      exact Cert.Key.w1_is (at1 m c hW ⟨n, h⟩))
    (fun n h h0 => by
      rw [outsAt0_B m c ⟨n, h⟩ h0]
      rfl) n h

/-- The result at row `R` and column `E`. -/
def res (Z : ℕ → ℕ → EReal) (W C S : ℕ → ℕ → ℕ → EReal) (R E : ℕ) : EReal :=
  turn (dot 4096 Z (fun r d => W 0 r d)) (cosT C) (sinA S) (sinB S) R E

/-- What a point leaves is its block of the result. -/
theorem outs_res (hZ : Is2 (a := 8704) (b := 4096) (m ((c : Thread nD τ).loc main_arg0)) Z)
    (hW : Is3 (a := 2) (b := 4096) (d := 12288) (m ((c : Thread nD τ).loc main_arg1)) W)
    (hC : Is3 (a := 4096) (b := 2) (d := 32) (m ((c : Thread nD τ).loc main_arg2)) C)
    (hS : Is3 (a := 4096) (b := 2) (d := 32) (m ((c : Thread nD τ).loc main_arg3)) S) (t : Fin cfg0.N) :
    Is2 (a := 256) (b := 1024) (outsAt0 m c t.val t.isLt).1 (fun r d => res Z W C S (256 * (t.val % 34) + r) (1024 * (t.val / 34) + d)) := by
  have k := kept0 m c hW t.val t.isLt
  have e : Is2 (a := 256) (b := 1024) (outsAt0 m c t.val t.isLt).1
      (turn (dot 4096 (fun r d => Z (256 * (t.val % 34) + r) d) (fun r d => W 0 r (1024 * (t.val / 34) + d)))
        (fun p q => cosT C (256 * (t.val % 34) + p) q) (fun p q => sinA S (256 * (t.val % 34) + p) q) (fun p q => sinB S (256 * (t.val % 34) + p) q)) := by
    by_cases h0 : t.val % 34 = 0
    · rw [outsAt0_A m c t h0] at k ⊢
      dsimp only at k ⊢
      rw [kept_A0] at k
      exact out_A (at0 m c hZ t) k (at2 m c hC t) (at3 m c hS t) (at4 m c hS t)
    · rw [outsAt0_B m c t h0] at k ⊢
      dsimp only at k ⊢
      exact out_B (at0 m c hZ t) k (at2 m c hC t) (at3 m c hS t) (at4 m c hS t)
  intro y
  exact (e y).trans (turn_shift (dot 4096 Z (fun r d => W 0 r d)) (cosT C) (sinA S) (sinB S) (256 * (t.val % 34)) (t.val / 34) (y 0).val (y 1).val)

/-- The result array. -/
def G (Z : ℕ → ℕ → EReal) (W C S : ℕ → ℕ → ℕ → EReal) : Vec Ideal S8704x4096 .f32 := fun i => res Z W C S (i 0).val (i 1).val

/-- The result array after the run. -/
theorem arr_eq (hZ : Is2 (a := 8704) (b := 4096) (m ((c : Thread nD τ).loc main_arg0)) Z)
    (hW : Is3 (a := 2) (b := 4096) (d := 12288) (m ((c : Thread nD τ).loc main_arg1)) W)
    (hC : Is3 (a := 4096) (b := 2) (d := 32) (m ((c : Thread nD τ).loc main_arg2)) C)
    (hS : Is3 (a := 4096) (b := 2) (d := 32) (m ((c : Thread nD τ).loc main_arg3)) S) :
    (dats m 0 c).arrAt 5 cfg0.N = G Z W C S := by
  refine (dats m 0 c).arrAt_eq_of_cover 5 (G Z W C S) ?_ ?_
  · intro t _
    rw [Cert.Kernel7Ideal.Value.flushed5]
    funext y
    rw [View.read_apply]
    refine (outs_res m c hZ hW hC hS t y).trans ?_
    show _ = res Z W C S (win0_5.index t 0 * 256 + 1 * (y 0).val) (win0_5.index t 1 * 1024 + 1 * (y 1).val)
    rw [(im5 t).1, (im5 t).2, one_mul, one_mul, mul_comm _ 256, mul_comm _ 1024]
  · intro i
    have b0 : (i 0).val < 8704 := (i 0).isLt
    have b1 : (i 1).val < 4096 := (i 1).isLt
    exact (Cert.Kernel7Ideal.Value.covered_iff5 i).2 ⟨Nat.zero_le _, b0, Nat.zero_le _, b1⟩

end

end Cert.Query

end
-- ==== Proof.QueryRef.lean ====
module

public import proofs.«01_k».proof.Proof.Query
public import proofs.«01_k».proof.Proof.KeyRef
public import proofs.«01_k».proof.Proof.Gen.Reference7Ideal.Read

/-! The reference of the queries with the rotary embedding, read through that of the keys, and its equality with the kernel's result array. -/

@[expose] public section

set_option maxRecDepth 16384

noncomputable section

namespace Cert.QueryRef

open Cert.Reference7Ideal Cert.Reference7Ideal.Gen Cert.Reference7Ideal.Read Cert.Mat Cert.Rope Cert.Query Idealize.ShloMosaic Idealize.SL.Sem

section
variable {x0 : (⟨S8704x4096, .bf16⟩ : BufTy).Contents (Elt Ideal)} {x1 : (⟨S2x4096x12288, .f32⟩ : BufTy).Contents (Elt Ideal)}
  {x2 x3 : (⟨S4096x2x32, .f32⟩ : BufTy).Contents (Elt Ideal)}
  {Z : ℕ → ℕ → EReal} {W C S : ℕ → ℕ → ℕ → EReal}

/-- The product. -/
theorem v4_is (hZ : Is2 (a := 8704) (b := 4096) x0 Z) (hW : Is3 (a := 2) (b := 4096) (d := 12288) x1 W) :
    Is2 (a := 8704) (b := 4096) (val_main_v4 (F := Ideal) x0 x1) (dot 4096 Z (fun r d => W 0 r d)) := by
  intro i
  rw [val_main_v4_apply]
  unfold dot
  rw [Finset.sum_range]
  refine Finset.sum_congr rfl fun k _ => ?_
  rw [val_main_v0_apply, val_main_v3_apply, val_main_v2_apply, val_main_v1_apply]
  have b1 : (i 1).val < 4096 := (i 1).isLt
  have e0 : (k.val * 12288 + (i 1).val) / 12288 % 4096 = k.val := by have := k.isLt; omega
  have e1 : (k.val * 12288 + (i 1).val) % 12288 = (i 1).val := by omega
  refine congrArg₂ (· * ·) (hZ _) ((hW _).trans ?_)
  show W 0 ((k.val * 12288 + (i 1).val) / 12288 % 4096) ((k.val * 12288 + (i 1).val) % 12288) = _
  rw [e0, e1]

/-- The weights with their columns moved round by 4096, so that the query's columns stand where the key's do. -/
def moved (W : ℕ → ℕ → ℕ → EReal) : (⟨S2x4096x12288, .f32⟩ : BufTy).Contents (Elt Ideal) :=
  fun i => W (i 0).val (i 1).val (((i 2).val + 8192) % 12288)

/-- The query's product is the key's product with the moved weights. -/
theorem v4_key (hZ : Is2 (a := 8704) (b := 4096) x0 Z) (hW : Is3 (a := 2) (b := 4096) (d := 12288) x1 W) :
    val_main_v4 (F := Ideal) x0 x1 = Cert.Reference6Ideal.Read.val_main_v4 (F := Ideal) x0 (moved W) := by
  funext i
  have h : Is3 (a := 2) (b := 4096) (d := 12288) (moved W) (fun a b d => W a b ((d + 8192) % 12288)) := fun _ => rfl
  refine (v4_is hZ hW i).trans (Eq.trans ?_ (Cert.KeyRef.v4_is hZ h i).symm)
  have b1 : (i 1).val < 4096 := (i 1).isLt
  unfold dot
  dsimp only
  rw [show (4096 + (i 1).val + 8192) % 12288 = (i 1).val by omega]

/-- The query's reference is the key's, before its cast, with the moved weights. -/
theorem v30_key (hZ : Is2 (a := 8704) (b := 4096) x0 Z) (hW : Is3 (a := 2) (b := 4096) (d := 12288) x1 W) :
    val_main_v30 (F := Ideal) x0 x1 x2 x3 = Cert.Reference6Ideal.Read.val_main_v30 (F := Ideal) x0 (moved W) x2 x3 := by
  unfold val_main_v30 val_main_v29 val_main_v28 val_main_v27 val_main_v26 val_main_v25 val_main_v24 val_main_v23 val_main_v21 val_main_v19 val_main_v18
    val_main_v16 val_main_v10 val_main_v9 val_main_v8 val_main_v7 val_main_v6 val_main_v5
  rw [v4_key hZ hW]
  rfl

/-- The rotated rows and the rows of the context, one above the other. -/
theorem v30_is (hZ : Is2 (a := 8704) (b := 4096) x0 Z) (hW : Is3 (a := 2) (b := 4096) (d := 12288) x1 W)
    (hC : Is3 (a := 4096) (b := 2) (d := 32) x2 C) (hS : Is3 (a := 4096) (b := 2) (d := 32) x3 S) :
    Is2 (a := 8704) (b := 4096) (val_main_v30 (F := Ideal) x0 x1 x2 x3) (turn (dot 4096 Z (fun r d => W 0 r d)) (cosT C) (sinA S) (sinB S)) := by
  rw [v30_key hZ hW]
  refine Cert.KeyRef.v30_is ?_ hC hS
  rw [← v4_key hZ hW]
  exact v4_is hZ hW

end

/-- The kernel's result array, from any memory, is the reference of the kernel's arguments. -/
theorem equal (m : (ℓ : Loc Cert.Kernel7Ideal.nD Cert.Kernel7Ideal.τ Cert.Kernel7Ideal.sig) → Buf (Elt Ideal) ℓ) (c : Dev Cert.Kernel7Ideal.nD) :
    val_main_v30 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))
      = (Cert.Kernel7Ideal.Gen.dats m 0 c).arrAt 5 Cert.Kernel7Ideal.cfg0.N := by
  obtain ⟨Z, hZ⟩ := is2 (a := 8704) (b := 4096) (m ((c.tc : Thread Cert.Kernel7Ideal.nD Cert.Kernel7Ideal.τ).loc Cert.Kernel7Ideal.main_arg0))
  obtain ⟨W, hW⟩ := is3 (a := 2) (b := 4096) (d := 12288) (m ((c.tc : Thread Cert.Kernel7Ideal.nD Cert.Kernel7Ideal.τ).loc Cert.Kernel7Ideal.main_arg1))
  obtain ⟨C, hC⟩ := is3 (a := 4096) (b := 2) (d := 32) (m ((c.tc : Thread Cert.Kernel7Ideal.nD Cert.Kernel7Ideal.τ).loc Cert.Kernel7Ideal.main_arg2))
  obtain ⟨S, hS⟩ := is3 (a := 4096) (b := 2) (d := 32) (m ((c.tc : Thread Cert.Kernel7Ideal.nD Cert.Kernel7Ideal.τ).loc Cert.Kernel7Ideal.main_arg3))
  exact Eq.trans (funext fun i => v30_is hZ hW hC hS i) (arr_eq m c hZ hW hC hS).symm

end Cert.QueryRef

end
-- ==== Proof.LastQuery.lean ====
module

public import proofs.«01_k».proof.Proof.Query
public import proofs.«01_k».proof.Proof.Gen.Kernel8Ideal.Value

/-! The last layer's queries with the rotary embedding, on the sequences' rows alone: what each grid point leaves and the whole result array. -/

@[expose] public section

set_option maxRecDepth 16384

noncomputable section

namespace Cert.LastQuery

open Cert.Kernel8Ideal Cert.Kernel8Ideal.Gen Cert.Mat Cert.Rope Idealize.ShloMosaic Idealize.ShloMosaic.TcCoe Idealize.SL.Sem
open Idealize.ShloMosaic.Pipeline (Dat)

section
variable {c : Dev nD} {i : grid0.Coords} {a2 : Memref sig .tc .vmem S256x4096 .bf16} {h2 : a2.IsWhole}
  {a3 : Memref sig .tc .vmem S1x4096x1024 .f32} {h3 : a3.IsWhole} {a4 : Memref sig .tc .vmem S256x128 .f32} {h4 : a4.IsWhole}
  {a5 : Memref sig .tc .vmem S256x128 .f32} {h5 : a5.IsWhole} {a6 : Memref sig .tc .vmem S256x128 .f32} {h6 : a6.IsWhole}
  {a7 : Memref sig .tc .vmem S256x1024 .f32} {h7 : a7.IsWhole} {a8 : Memref sig .tc .vmem S4096x1024 .bf16} {h8 : a8.IsWhole}
  {x0 : Vec Ideal S256x4096 .bf16} {x1 : Vec Ideal S1x4096x1024 .f32} {x2 x3 x4 : Vec Ideal S256x128 .f32} {s0 : Vec Ideal S4096x1024 .bf16}
  {Z A C S T : ℕ → ℕ → EReal}

/-- At the other row blocks the embedding of the product with the weights kept. -/
theorem out_B {hc : ¬cond0_0 i} (z0 : Is2 (a := 256) (b := 4096) x0 Z) (z1 : Is2 (a := 4096) (b := 1024) s0 A)
    (z2 : Is2 (a := 256) (b := 128) x2 C) (z3 : Is2 (a := 256) (b := 128) x3 S) (z4 : Is2 (a := 256) (b := 128) x4 T) :
    Is2 (a := 256) (b := 1024) (out0_B_5 c i a2 h2 a3 h3 a4 h4 a5 h5 a6 h6 a7 h7 a8 h8 hc x0 x1 x2 x3 x4 s0) (turn (dot 4096 Z A) C S T) := by
  intro y
  unfold out0_B_5
  rw [View.read_writes_eq_canon _ _ _ (cover0_B_5 c i a2 h2 a3 h3 a4 h4 a5 h5 a6 h6 a7 h7 a8 h8 hc x0 x1 x2 x3 x4 s0)]
  refine View.canon_apply_of_pieces (fun y : S256x1024.Idx => turn (dot 4096 Z A) C S T (y 0).val (y 1).val) _ ?_ y
    (cover0_B_5 c i a2 h2 a3 h3 a4 h4 a5 h5 a6 h6 a7 h7 a8 h8 hc x0 x1 x2 x3 x4 s0 y)
  unfold kernelRun0_B
  dsimp only
  sl_unfold_words
  simp only [View.readAt_eq_ld, h2.read_unread, h4.read_unread, h5.read_unread, h6.read_unread, h8.read_unread,
    View.ld_unit_zero (S := S256x4096) zero2, View.ld_unit_zero (S := S4096x1024) zero2, View.ld_unit_zero (S := S256x128) zero2]
  exact Cert.Query.pieces_is z0 z1 z2 z3 z4

/-- At the first row block of a column block the embedding of the product with the weights just stored. -/
theorem out_A {hc : cond0_0 i} (z0 : Is2 (a := 256) (b := 4096) x0 Z) (z1 : Is2 (a := 4096) (b := 1024) (k0_pay4 x1) A)
    (z2 : Is2 (a := 256) (b := 128) x2 C) (z3 : Is2 (a := 256) (b := 128) x3 S) (z4 : Is2 (a := 256) (b := 128) x4 T) :
    Is2 (a := 256) (b := 1024) (out0_A_5 c i a2 h2 a3 h3 a4 h4 a5 h5 a6 h6 a7 h7 a8 h8 hc x0 x1 x2 x3 x4) (turn (dot 4096 Z A) C S T) := by
  intro y
  unfold out0_A_5
  rw [View.read_writes_eq_canon _ _ _ (cover0_A_5 c i a2 h2 a3 h3 a4 h4 a5 h5 a6 h6 a7 h7 a8 h8 hc x0 x1 x2 x3 x4)]
  refine View.canon_apply_of_pieces (fun y : S256x1024.Idx => turn (dot 4096 Z A) C S T (y 0).val (y 1).val) _ ?_ y
    (cover0_A_5 c i a2 h2 a3 h3 a4 h4 a5 h5 a6 h6 a7 h7 a8 h8 hc x0 x1 x2 x3 x4 y)
  unfold kernelRun0_A
  dsimp only
  sl_unfold_words
  simp only [View.readCov_unit_zero (S := S4096x1024) _ zero2, View.readAt_eq_ld, h2.read_unread, h3.read_unread, h4.read_unread, h5.read_unread, h6.read_unread,
    View.ld_unit_zero (S := S256x4096) zero2, View.ld_unit_zero (S := S1x4096x1024) zero3, View.ld_unit_zero (S := S256x128) zero2]
  exact Cert.Query.pieces_is z0 z1 z2 z3 z4

/-- The stored weights. -/
theorem kept_A0 (hc : cond0_0 i) : sout0_A_0 c i a2 h2 a3 h3 a4 h4 a5 h5 a6 h6 a7 h7 a8 h8 hc x0 x1 x2 x3 x4 = k0_pay4 x1 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero zero2]
  simp only [View.readAt_eq_ld, h3.read_unread, View.ld_unit_zero (S := S1x4096x1024) zero3]

end

/-! ## The tables of the embedding, the windows and the kept weights over the grid -/

theorem im0 : ∀ t : Fin cfg0.N, win0_0.index t 0 = t.val % 32 ∧ win0_0.index t 1 = 0 := by decide +kernel
theorem im1 : ∀ t : Fin cfg0.N, win0_1.index t 0 = 1 ∧ win0_1.index t 1 = 0 ∧ win0_1.index t 2 = t.val / 32 := by decide +kernel
theorem im2 : ∀ t : Fin cfg0.N, win0_2.index t 0 = t.val % 32 ∧ win0_2.index t 1 = 0 := by decide +kernel
theorem im3 : ∀ t : Fin cfg0.N, win0_3.index t 0 = t.val % 32 ∧ win0_3.index t 1 = 0 := by decide +kernel
theorem im4 : ∀ t : Fin cfg0.N, win0_4.index t 0 = t.val % 32 ∧ win0_4.index t 1 = 0 := by decide +kernel
theorem im5 : ∀ t : Fin cfg0.N, win0_5.index t 0 = t.val % 32 ∧ win0_5.index t 1 = t.val / 32 := by decide +kernel

section
variable (m : (ℓ : Loc nD τ sig) → Buf (Elt Ideal) ℓ) (c : Dev nD)
variable {Z : ℕ → ℕ → EReal} {W C S : ℕ → ℕ → ℕ → EReal}

/-- The cosines' table as the kernel finds it. -/
theorem V_v18 : V m c main_v18 = Cert.Key.table (m ((c : Thread nD τ).loc main_arg2)) (m ((c : Thread nD τ).loc main_arg2)) (constant S_ .f32 0x3F800000#32) := by
  show StableHlo.after hostOps0 _ (Proc.devRef .tc main_v18) = _
  after_results
  rfl

/-- The first table of sines as the kernel finds it. -/
theorem V_v23 : V m c main_v23 = Cert.Key.table (Host.negf (m ((c : Thread nD τ).loc main_arg3) : FVec Ideal S4096x2x32 .f32)) Cert.Key.zeros (constant S_ .f32 0x00000000#32) := by
  show StableHlo.after hostOps0 _ (Proc.devRef .tc main_v23) = _
  after_results
  rfl

/-- The second table of sines as the kernel finds it. -/
theorem V_v28 : V m c main_v28 = Cert.Key.table Cert.Key.zeros (m ((c : Thread nD τ).loc main_arg3)) (constant S_ .f32 0x00000000#32) := by
  show StableHlo.after hostOps0 _ (Proc.devRef .tc main_v28) = _
  after_results
  rfl

theorem at0 (hZ : Is2 (a := 8704) (b := 4096) (m ((c : Thread nD τ).loc main_arg0)) Z) (t : Fin cfg0.N) :
    Is2 (a := 256) (b := 4096) (iblk m c 0 t) (fun r d => Z (256 * (t.val % 32) + r) d) := by
  intro i
  unfold iblk
  rw [View.read_apply]
  show V m c main_arg0 _ = _
  rw [V_main_arg0]
  refine (hZ _).trans ?_
  show Z (win0_0.index t 0 * 256 + 1 * (i 0).val) (win0_0.index t 1 * 4096 + 1 * (i 1).val) = _
  rw [(im0 t).1, (im0 t).2, one_mul, one_mul, mul_comm _ 256, zero_mul, zero_add]

theorem at1 (hW : Is3 (a := 2) (b := 4096) (d := 12288) (m ((c : Thread nD τ).loc main_arg1)) W) (t : Fin cfg0.N) :
    Is3 (a := 1) (b := 4096) (d := 1024) (iblk m c 1 t) (fun p r d => W (1 + p) r (1024 * (t.val / 32) + d)) := by
  intro i
  unfold iblk
  rw [View.read_apply]
  show V m c main_arg1 _ = _
  rw [V_main_arg1]
  refine (hW _).trans ?_
  show W (win0_1.index t 0 * 1 + 1 * (i 0).val) (win0_1.index t 1 * 4096 + 1 * (i 1).val) (win0_1.index t 2 * 1024 + 1 * (i 2).val) = _
  rw [(im1 t).1, (im1 t).2.1, (im1 t).2.2, one_mul, one_mul, one_mul, one_mul, mul_comm _ 1024, zero_mul, zero_add]

theorem at2 (hC : Is3 (a := 4096) (b := 2) (d := 32) (m ((c : Thread nD τ).loc main_arg2)) C) (t : Fin cfg0.N) :
    Is2 (a := 256) (b := 128) (iblk m c 2 t) (fun p q => cosT C (256 * (t.val % 32) + p) q) := by
  intro i
  unfold iblk
  rw [View.read_apply]
  show V m c main_v18 _ = _
  rw [V_v18]
  refine (Cert.Key.cosT_is hC _).trans ?_
  show cosT C (win0_2.index t 0 * 256 + 1 * (i 0).val) (win0_2.index t 1 * 128 + 1 * (i 1).val) = _
  rw [(im2 t).1, (im2 t).2, one_mul, one_mul, mul_comm _ 256, zero_mul, zero_add]

theorem at3 (hS : Is3 (a := 4096) (b := 2) (d := 32) (m ((c : Thread nD τ).loc main_arg3)) S) (t : Fin cfg0.N) :
    Is2 (a := 256) (b := 128) (iblk m c 3 t) (fun p q => sinA S (256 * (t.val % 32) + p) q) := by
  intro i
  unfold iblk
  rw [View.read_apply]
  show V m c main_v23 _ = _
  rw [V_v23]
  refine (Cert.Key.sinA_is hS _).trans ?_
  show sinA S (win0_3.index t 0 * 256 + 1 * (i 0).val) (win0_3.index t 1 * 128 + 1 * (i 1).val) = _
  rw [(im3 t).1, (im3 t).2, one_mul, one_mul, mul_comm _ 256, zero_mul, zero_add]

theorem at4 (hS : Is3 (a := 4096) (b := 2) (d := 32) (m ((c : Thread nD τ).loc main_arg3)) S) (t : Fin cfg0.N) :
    Is2 (a := 256) (b := 128) (iblk m c 4 t) (fun p q => sinB S (256 * (t.val % 32) + p) q) := by
  intro i
  unfold iblk
  rw [View.read_apply]
  show V m c main_v28 _ = _
  rw [V_v28]
  refine (Cert.Key.sinB_is hS _).trans ?_
  show sinB S (win0_4.index t 0 * 256 + 1 * (i 0).val) (win0_4.index t 1 * 128 + 1 * (i 1).val) = _
  rw [(im4 t).1, (im4 t).2, one_mul, one_mul, mul_comm _ 256, zero_mul, zero_add]

/-- The kept weights after any point. -/
theorem kept0 (hW : Is3 (a := 2) (b := 4096) (d := 12288) (m ((c : Thread nD τ).loc main_arg1)) W) (n : ℕ) (h : n < cfg0.N) :
    Is2 (a := 4096) (b := 1024) (outsAt0 m c n h).2 (fun r d => W 1 r (1024 * (n / 32) + d)) :=
  carried (P := 32) (by norm_num) (fun n h => (outsAt0 m c n h).2)
    (fun j s => Is2 (a := 4096) (b := 1024) s (fun r d => W 1 r (1024 * j + d)))
    (fun n h h0 => by
      rw [outsAt0_A m c ⟨n, h⟩ h0]
      dsimp only
      rw [kept_A0]
      exact Cert.Key.w1_is (at1 m c hW ⟨n, h⟩))
    (fun n h h0 => by
      rw [outsAt0_B m c ⟨n, h⟩ h0]
      rfl) n h

/-- The result at row `R` and column `E`. -/
def res (Z : ℕ → ℕ → EReal) (W C S : ℕ → ℕ → ℕ → EReal) (R E : ℕ) : EReal :=
  turn (dot 4096 Z (fun r d => W 1 r d)) (cosT C) (sinA S) (sinB S) R E

/-- What a point leaves is its block of the result. -/
theorem outs_res (hZ : Is2 (a := 8704) (b := 4096) (m ((c : Thread nD τ).loc main_arg0)) Z)
    (hW : Is3 (a := 2) (b := 4096) (d := 12288) (m ((c : Thread nD τ).loc main_arg1)) W)
    (hC : Is3 (a := 4096) (b := 2) (d := 32) (m ((c : Thread nD τ).loc main_arg2)) C)
    (hS : Is3 (a := 4096) (b := 2) (d := 32) (m ((c : Thread nD τ).loc main_arg3)) S) (t : Fin cfg0.N) :
    Is2 (a := 256) (b := 1024) (outsAt0 m c t.val t.isLt).1 (fun r d => res Z W C S (256 * (t.val % 32) + r) (1024 * (t.val / 32) + d)) := by
  have k := kept0 m c hW t.val t.isLt
  have e : Is2 (a := 256) (b := 1024) (outsAt0 m c t.val t.isLt).1
      (turn (dot 4096 (fun r d => Z (256 * (t.val % 32) + r) d) (fun r d => W 1 r (1024 * (t.val / 32) + d)))
        (fun p q => cosT C (256 * (t.val % 32) + p) q) (fun p q => sinA S (256 * (t.val % 32) + p) q) (fun p q => sinB S (256 * (t.val % 32) + p) q)) := by
    by_cases h0 : t.val % 32 = 0
    · rw [outsAt0_A m c t h0] at k ⊢
      dsimp only at k ⊢
      rw [kept_A0] at k
      exact out_A (at0 m c hZ t) k (at2 m c hC t) (at3 m c hS t) (at4 m c hS t)
    · rw [outsAt0_B m c t h0] at k ⊢
      dsimp only at k ⊢
      exact out_B (at0 m c hZ t) k (at2 m c hC t) (at3 m c hS t) (at4 m c hS t)
  intro y
  exact (e y).trans (turn_shift (dot 4096 Z (fun r d => W 1 r d)) (cosT C) (sinA S) (sinB S) (256 * (t.val % 32)) (t.val / 32) (y 0).val (y 1).val)

/-- The result array. -/
def G (Z : ℕ → ℕ → EReal) (W C S : ℕ → ℕ → ℕ → EReal) : Vec Ideal S8192x4096 .f32 := fun i => res Z W C S (i 0).val (i 1).val

/-- The result array after the run. -/
theorem arr_eq (hZ : Is2 (a := 8704) (b := 4096) (m ((c : Thread nD τ).loc main_arg0)) Z)
    (hW : Is3 (a := 2) (b := 4096) (d := 12288) (m ((c : Thread nD τ).loc main_arg1)) W)
    (hC : Is3 (a := 4096) (b := 2) (d := 32) (m ((c : Thread nD τ).loc main_arg2)) C)
    (hS : Is3 (a := 4096) (b := 2) (d := 32) (m ((c : Thread nD τ).loc main_arg3)) S) :
    (dats m 0 c).arrAt 5 cfg0.N = G Z W C S := by
  refine (dats m 0 c).arrAt_eq_of_cover 5 (G Z W C S) ?_ ?_
  · intro t _
    rw [Cert.Kernel8Ideal.Value.flushed5]
    funext y
    rw [View.read_apply]
    refine (outs_res m c hZ hW hC hS t y).trans ?_
    show _ = res Z W C S (win0_5.index t 0 * 256 + 1 * (y 0).val) (win0_5.index t 1 * 1024 + 1 * (y 1).val)
    rw [(im5 t).1, (im5 t).2, one_mul, one_mul, mul_comm _ 256, mul_comm _ 1024]
  · intro i
    have b0 : (i 0).val < 8192 := (i 0).isLt
    have b1 : (i 1).val < 4096 := (i 1).isLt
    exact (Cert.Kernel8Ideal.Value.covered_iff5 i).2 ⟨Nat.zero_le _, b0, Nat.zero_le _, b1⟩

end

end Cert.LastQuery

end
-- ==== Proof.LastQueryRef.lean ====
module

public import proofs.«01_k».proof.Proof.LastQuery
public import proofs.«01_k».proof.Proof.KeyRef
public import proofs.«01_k».proof.Proof.Gen.Reference8Ideal.Read

/-! The reference of the last layer's queries with the rotary embedding, read through that of the keys, and its equality with the kernel's result array. -/

@[expose] public section

set_option maxRecDepth 16384

noncomputable section

namespace Cert.LastQueryRef

open Cert.Reference8Ideal Cert.Reference8Ideal.Gen Cert.Reference8Ideal.Read Cert.Mat Cert.Rope Cert.LastQuery Idealize.ShloMosaic Idealize.SL.Sem

section
variable {x0 : (⟨S8704x4096, .bf16⟩ : BufTy).Contents (Elt Ideal)} {x1 : (⟨S2x4096x12288, .f32⟩ : BufTy).Contents (Elt Ideal)}
  {x2 x3 : (⟨S4096x2x32, .f32⟩ : BufTy).Contents (Elt Ideal)}
  {Z : ℕ → ℕ → EReal} {W C S : ℕ → ℕ → ℕ → EReal}

/-- The product. -/
theorem v4_is (hZ : Is2 (a := 8704) (b := 4096) x0 Z) (hW : Is3 (a := 2) (b := 4096) (d := 12288) x1 W) :
    Is2 (a := 8704) (b := 4096) (val_main_v4 (F := Ideal) x0 x1) (dot 4096 Z (fun r d => W 1 r d)) := by
  intro i
  rw [val_main_v4_apply]
  unfold dot
  rw [Finset.sum_range]
  refine Finset.sum_congr rfl fun k _ => ?_
  rw [val_main_v0_apply, val_main_v3_apply, val_main_v2_apply, val_main_v1_apply]
  have b1 : (i 1).val < 4096 := (i 1).isLt
  have e0 : (k.val * 12288 + (i 1).val) / 12288 % 4096 = k.val := by have := k.isLt; omega
  have e1 : (k.val * 12288 + (i 1).val) % 12288 = (i 1).val := by omega
  refine congrArg₂ (· * ·) (hZ _) ((hW _).trans ?_)
  show W (1 + 0) ((k.val * 12288 + (i 1).val) / 12288 % 4096) ((k.val * 12288 + (i 1).val) % 12288) = _
  rw [e0, e1]

/-- The second layer's weights with their columns moved round by 4096, so that its query's columns stand where the first layer's keys do. -/
def moved (W : ℕ → ℕ → ℕ → EReal) : (⟨S2x4096x12288, .f32⟩ : BufTy).Contents (Elt Ideal) :=
  fun i => W (1 + (i 0).val) (i 1).val (((i 2).val + 8192) % 12288)

/-- The query's product is the key's product with the moved weights. -/
theorem v4_key (hZ : Is2 (a := 8704) (b := 4096) x0 Z) (hW : Is3 (a := 2) (b := 4096) (d := 12288) x1 W) :
    val_main_v4 (F := Ideal) x0 x1 = Cert.Reference6Ideal.Read.val_main_v4 (F := Ideal) x0 (moved W) := by
  funext i
  have h : Is3 (a := 2) (b := 4096) (d := 12288) (moved W) (fun a b d => W (1 + a) b ((d + 8192) % 12288)) := fun _ => rfl
  refine (v4_is hZ hW i).trans (Eq.trans ?_ (Cert.KeyRef.v4_is hZ h i).symm)
  have b1 : (i 1).val < 4096 := (i 1).isLt
  unfold dot
  dsimp only
  rw [show (4096 + (i 1).val + 8192) % 12288 = (i 1).val by omega]

/-- The query's reference is the rotated part of the key's, with the moved weights. -/
theorem v28_key (hZ : Is2 (a := 8704) (b := 4096) x0 Z) (hW : Is3 (a := 2) (b := 4096) (d := 12288) x1 W) :
    val_main_v28 (F := Ideal) x0 x1 x2 x3 = Cert.Reference6Ideal.Read.val_main_v28 (F := Ideal) x0 (moved W) x2 x3 := by
  unfold val_main_v28 val_main_v27 val_main_v26 val_main_v25 val_main_v24 val_main_v23 val_main_v21 val_main_v19 val_main_v18
    val_main_v16 val_main_v10 val_main_v9 val_main_v8 val_main_v7 val_main_v6 val_main_v5
  rw [v4_key hZ hW]
  rfl

/-- The rotated rows. -/
theorem v28_is (hZ : Is2 (a := 8704) (b := 4096) x0 Z) (hW : Is3 (a := 2) (b := 4096) (d := 12288) x1 W)
    (hC : Is3 (a := 4096) (b := 2) (d := 32) x2 C) (hS : Is3 (a := 4096) (b := 2) (d := 32) x3 S) :
    Is2 (a := 8192) (b := 4096) (val_main_v28 (F := Ideal) x0 x1 x2 x3) (turn (dot 4096 Z (fun r d => W 1 r d)) (cosT C) (sinA S) (sinB S)) := by
  rw [v28_key hZ hW]
  refine Cert.KeyRef.v28_is ?_ hC hS
  rw [← v4_key hZ hW]
  exact v4_is hZ hW

end

/-- The kernel's result array, from any memory, is the reference of the kernel's arguments. -/
theorem equal (m : (ℓ : Loc Cert.Kernel8Ideal.nD Cert.Kernel8Ideal.τ Cert.Kernel8Ideal.sig) → Buf (Elt Ideal) ℓ) (c : Dev Cert.Kernel8Ideal.nD) :
    val_main_v28 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1))
        (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))
      = (Cert.Kernel8Ideal.Gen.dats m 0 c).arrAt 5 Cert.Kernel8Ideal.cfg0.N := by
  obtain ⟨Z, hZ⟩ := is2 (a := 8704) (b := 4096) (m ((c.tc : Thread Cert.Kernel8Ideal.nD Cert.Kernel8Ideal.τ).loc Cert.Kernel8Ideal.main_arg0))
  obtain ⟨W, hW⟩ := is3 (a := 2) (b := 4096) (d := 12288) (m ((c.tc : Thread Cert.Kernel8Ideal.nD Cert.Kernel8Ideal.τ).loc Cert.Kernel8Ideal.main_arg1))
  obtain ⟨C, hC⟩ := is3 (a := 4096) (b := 2) (d := 32) (m ((c.tc : Thread Cert.Kernel8Ideal.nD Cert.Kernel8Ideal.τ).loc Cert.Kernel8Ideal.main_arg2))
  obtain ⟨S, hS⟩ := is3 (a := 4096) (b := 2) (d := 32) (m ((c.tc : Thread Cert.Kernel8Ideal.nD Cert.Kernel8Ideal.τ).loc Cert.Kernel8Ideal.main_arg3))
  exact Eq.trans (funext fun i => v28_is hZ hW hC hS i) (arr_eq m c hZ hW hC hS).symm

end Cert.LastQueryRef

end
-- ==== Proof.LastOut.lean ====
module

public import proofs.«01_k».proof.Proof.Out
public import proofs.«01_k».proof.Proof.Gen.Kernel9Ideal.Value

/-! The last layer's output projection back into the residual, on the sequences' rows alone: what each grid point leaves and the whole result array. -/

@[expose] public section

set_option maxRecDepth 16384

noncomputable section

namespace Cert.LastOut

open Cert.Kernel9Ideal Cert.Kernel9Ideal.Gen Cert.Mat Idealize.ShloMosaic Idealize.ShloMosaic.TcCoe Idealize.SL.Sem
open Idealize.ShloMosaic.Pipeline (Dat)

section
variable (c : Dev nD) (i : grid0.Coords) (a2 : Memref sig .tc .vmem S256x4096 .bf16) (h2 : a2.IsWhole)
  (a3 : Memref sig .tc .vmem S1x4096x1024 .f32) (h3 : a3.IsWhole) (a4 : Memref sig .tc .vmem S256x1024 .f32) (h4 : a4.IsWhole)
  (a5 : Memref sig .tc .vmem S1x6x1024 .f32) (h5 : a5.IsWhole) (a6 : Memref sig .tc .vmem S256x1024 .f32) (h6 : a6.IsWhole)
  (a7 : Memref sig .tc .vmem S4096x1024 .bf16) (h7 : a7.IsWhole)
  (x0 : Vec Ideal S256x4096 .bf16) (x1 : Vec Ideal S1x4096x1024 .f32) (x2 : Vec Ideal S256x1024 .f32) (x3 : Vec Ideal S1x6x1024 .f32)
  (s0 : Vec Ideal S4096x1024 .bf16)

/-- At the first row block of a column block the result is computed from the weights just stored. -/
theorem out_A (hc : cond0_0 i) : out0_A_4 c i a2 h2 a3 h3 a4 h4 a5 h5 a6 h6 a7 h7 hc x0 x1 x2 x3 = k0_pay2 x0 (k0_pay1 x1) (Cert.Out.gateRow x3) x2 := by
  unfold out0_A_4
  rw [View.read_writes_eq_canon _ _ _ (cover0_A_4 c i a2 h2 a3 h3 a4 h4 a5 h5 a6 h6 a7 h7 hc x0 x1 x2 x3)]
  unfold kernelRun0_A
  dsimp only
  sl_unfold_words
  rw [View.canon_unit_zero zero2]
  simp only [View.readCov_unit_zero (S := S4096x1024) _ zero2, View.readAt_eq_ld, h2.read_unread, h3.read_unread, h4.read_unread, h5.read_unread,
    View.ld_unit_zero (S := S256x4096) zero2, View.ld_unit_zero (S := S256x1024) zero2, View.ld_unit_zero (S := S1x4096x1024) zero3]
  exact congrArg (fun g => k0_pay2 x0 (k0_pay1 x1) g x2) (Cert.Out.ld_gate x3 _)

/-- At the other row blocks it is computed from the weights kept. -/
theorem out_B (hc : ¬cond0_0 i) : out0_B_4 c i a2 h2 a3 h3 a4 h4 a5 h5 a6 h6 a7 h7 hc x0 x1 x2 x3 s0 = k0_pay2 x0 s0 (Cert.Out.gateRow x3) x2 := by
  unfold out0_B_4
  rw [View.read_writes_eq_canon _ _ _ (cover0_B_4 c i a2 h2 a3 h3 a4 h4 a5 h5 a6 h6 a7 h7 hc x0 x1 x2 x3 s0)]
  unfold kernelRun0_B
  dsimp only
  rw [View.canon_unit_zero zero2]
  simp only [View.readAt_eq_ld, h2.read_unread, h4.read_unread, h5.read_unread, h7.read_unread,
    View.ld_unit_zero (S := S256x4096) zero2, View.ld_unit_zero (S := S256x1024) zero2, View.ld_unit_zero (S := S4096x1024) zero2]
  exact congrArg (fun g => k0_pay2 x0 s0 g x2) (Cert.Out.ld_gate x3 _)

/-- The stored weights. -/
theorem kept_A0 (hc : cond0_0 i) : sout0_A_0 c i a2 h2 a3 h3 a4 h4 a5 h5 a6 h6 a7 h7 hc x0 x1 x2 x3 = k0_pay1 x1 := by
  unfold sout0_A_0
  rw [View.read_writes_eq_canon _ _ _ (scover0_A_0 c i a2 h2 a3 h3 a4 h4 a5 h5 a6 h6 a7 h7 hc x0 x1 x2 x3)]
  unfold kernelRun0_A
  dsimp only
  sl_unfold_words
  rw [View.canon_unit_zero zero2]
  simp only [View.readAt_eq_ld, h3.read_unread, View.ld_unit_zero (S := S1x4096x1024) zero3]

end

/-! ## The windows and the kept weights over the grid -/

theorem im0 : ∀ t : Fin cfg0.N, win0_0.index t 0 = t.val % 32 ∧ win0_0.index t 1 = 0 := by decide +kernel
theorem im1 : ∀ t : Fin cfg0.N, win0_1.index t 0 = 1 ∧ win0_1.index t 1 = 0 ∧ win0_1.index t 2 = t.val / 32 := by decide +kernel
theorem im2 : ∀ t : Fin cfg0.N, win0_2.index t 0 = t.val % 32 ∧ win0_2.index t 1 = t.val / 32 := by decide +kernel
theorem im3 : ∀ t : Fin cfg0.N, win0_3.index t 0 = t.val % 32 / 16 ∧ win0_3.index t 1 = 0 ∧ win0_3.index t 2 = t.val / 32 := by decide +kernel
theorem im4 : ∀ t : Fin cfg0.N, win0_4.index t 0 = t.val % 32 ∧ win0_4.index t 1 = t.val / 32 := by decide +kernel

section
variable (m : (ℓ : Loc nD τ sig) → Buf (Elt Ideal) ℓ) (c : Dev nD)
variable {Z X : ℕ → ℕ → EReal} {W M : ℕ → ℕ → ℕ → EReal}

theorem at0 (hZ : Is2 (a := 8192) (b := 4096) (m ((c : Thread nD τ).loc main_arg0)) Z) (t : Fin cfg0.N) :
    Is2 (a := 256) (b := 4096) (iblk m c 0 t) (fun r d => Z (256 * (t.val % 32) + r) d) := by
  intro i
  unfold iblk
  rw [View.read_apply]
  show V m c main_arg0 _ = _
  rw [V_main_arg0]
  refine (hZ _).trans ?_
  show Z (win0_0.index t 0 * 256 + 1 * (i 0).val) (win0_0.index t 1 * 4096 + 1 * (i 1).val) = _
  rw [(im0 t).1, (im0 t).2, one_mul, one_mul, mul_comm _ 256, zero_mul, zero_add]

theorem at1 (hW : Is3 (a := 2) (b := 4096) (d := 4096) (m ((c : Thread nD τ).loc main_arg1)) W) (t : Fin cfg0.N) :
    Is3 (a := 1) (b := 4096) (d := 1024) (iblk m c 1 t) (fun p r d => W (1 + p) r (1024 * (t.val / 32) + d)) := by
  intro i
  unfold iblk
  rw [View.read_apply]
  show V m c main_arg1 _ = _
  rw [V_main_arg1]
  refine (hW _).trans ?_
  show W (win0_1.index t 0 * 1 + 1 * (i 0).val) (win0_1.index t 1 * 4096 + 1 * (i 1).val) (win0_1.index t 2 * 1024 + 1 * (i 2).val) = _
  rw [(im1 t).1, (im1 t).2.1, (im1 t).2.2, one_mul, one_mul, one_mul, one_mul, mul_comm _ 1024, zero_mul, zero_add]

theorem at2 (hX : Is2 (a := 8704) (b := 4096) (m ((c : Thread nD τ).loc main_arg2)) X) (t : Fin cfg0.N) :
    Is2 (a := 256) (b := 1024) (iblk m c 2 t) (fun r d => X (256 * (t.val % 32) + r) (1024 * (t.val / 32) + d)) := by
  intro i
  unfold iblk
  rw [View.read_apply]
  show V m c main_arg2 _ = _
  rw [V_main_arg2]
  refine (hX _).trans ?_
  show X (win0_2.index t 0 * 256 + 1 * (i 0).val) (win0_2.index t 1 * 1024 + 1 * (i 1).val) = _
  rw [(im2 t).1, (im2 t).2, one_mul, one_mul, mul_comm _ 256, mul_comm _ 1024]

theorem at3 (hM : Is3 (a := 3) (b := 6) (d := 4096) (m ((c : Thread nD τ).loc main_arg3)) M) (t : Fin cfg0.N) :
    Is3 (a := 1) (b := 6) (d := 1024) (iblk m c 3 t) (fun p r d => M (t.val % 32 / 16 + p) r (1024 * (t.val / 32) + d)) := by
  intro i
  unfold iblk
  rw [View.read_apply]
  show V m c main_arg3 _ = _
  rw [V_main_arg3]
  refine (hM _).trans ?_
  show M (win0_3.index t 0 * 1 + 1 * (i 0).val) (win0_3.index t 1 * 6 + 1 * (i 1).val) (win0_3.index t 2 * 1024 + 1 * (i 2).val) = _
  rw [(im3 t).1, (im3 t).2.1, (im3 t).2.2, one_mul, one_mul, one_mul, mul_comm _ 1024, zero_mul, mul_one, zero_add]

/-- The kept weights after any point. -/
theorem kept0 (hW : Is3 (a := 2) (b := 4096) (d := 4096) (m ((c : Thread nD τ).loc main_arg1)) W) (n : ℕ) (h : n < cfg0.N) :
    Is2 (a := 4096) (b := 1024) (outsAt0 m c n h).2 (fun r d => W 1 r (1024 * (n / 32) + d)) :=
  carried (P := 32) (by norm_num) (fun n h => (outsAt0 m c n h).2) (fun j s => Is2 (a := 4096) (b := 1024) s (fun r d => W 1 r (1024 * j + d)))
    (fun n h h0 => by
      rw [outsAt0_A m c ⟨n, h⟩ h0]
      dsimp only
      rw [kept_A0]
      exact Cert.Out.w1_is (at1 m c hW ⟨n, h⟩))
    (fun n h h0 => by
      rw [outsAt0_B m c ⟨n, h⟩ h0]
      rfl) n h

/-- The result at row `R` and column `E`: the residual plus the row group's gate times the product. -/
def res (Z X : ℕ → ℕ → EReal) (W M : ℕ → ℕ → ℕ → EReal) (R E : ℕ) : EReal := X R E + M (R / 4096) 2 E * dot 4096 Z (W 1) R E

/-- What a point leaves is its block of the result. -/
theorem outs_res (hZ : Is2 (a := 8192) (b := 4096) (m ((c : Thread nD τ).loc main_arg0)) Z)
    (hW : Is3 (a := 2) (b := 4096) (d := 4096) (m ((c : Thread nD τ).loc main_arg1)) W)
    (hX : Is2 (a := 8704) (b := 4096) (m ((c : Thread nD τ).loc main_arg2)) X)
    (hM : Is3 (a := 3) (b := 6) (d := 4096) (m ((c : Thread nD τ).loc main_arg3)) M) (t : Fin cfg0.N) :
    Is2 (a := 256) (b := 1024) (outsAt0 m c t.val t.isLt).1 (fun r d => X (256 * (t.val % 32) + r) (1024 * (t.val / 32) + d)
      + M (t.val % 32 / 16) 2 (1024 * (t.val / 32) + d) * dot 4096 Z (W 1) (256 * (t.val % 32) + r) (1024 * (t.val / 32) + d)) := by
  have e : (outsAt0 m c t.val t.isLt).1 = k0_pay2 (iblk m c 0 t) (outsAt0 m c t.val t.isLt).2 (Cert.Out.gateRow (iblk m c 3 t)) (iblk m c 2 t) := by
    by_cases h0 : t.val % 32 = 0
    · rw [outsAt0_A m c t h0]
      dsimp only
      rw [out_A, kept_A0]
    · rw [outsAt0_B m c t h0]
      dsimp only
      rw [out_B]
      rfl
  rw [e]
  exact Cert.Out.pay_is (at0 m c hZ t) (kept0 m c hW t.val t.isLt) (at2 m c hX t) (at3 m c hM t)

/-- The result array. -/
def G (Z X : ℕ → ℕ → EReal) (W M : ℕ → ℕ → ℕ → EReal) : Vec Ideal S8192x4096 .f32 := fun i => res Z X W M (i 0).val (i 1).val

/-- The result array after the run. -/
theorem arr_eq (hZ : Is2 (a := 8192) (b := 4096) (m ((c : Thread nD τ).loc main_arg0)) Z)
    (hW : Is3 (a := 2) (b := 4096) (d := 4096) (m ((c : Thread nD τ).loc main_arg1)) W)
    (hX : Is2 (a := 8704) (b := 4096) (m ((c : Thread nD τ).loc main_arg2)) X)
    (hM : Is3 (a := 3) (b := 6) (d := 4096) (m ((c : Thread nD τ).loc main_arg3)) M) :
    (dats m 0 c).arrAt 4 cfg0.N = G Z X W M := by
  refine (dats m 0 c).arrAt_eq_of_cover 4 (G Z X W M) ?_ ?_
  · intro t _
    rw [Cert.Kernel9Ideal.Value.flushed4]
    funext y
    rw [View.read_apply]
    refine (outs_res m c hZ hW hX hM t y).trans ?_
    have hy : (y 0).val < 256 := (y 0).isLt
    show _ = res Z X W M (win0_4.index t 0 * 256 + 1 * (y 0).val) (win0_4.index t 1 * 1024 + 1 * (y 1).val)
    rw [(im4 t).1, (im4 t).2, one_mul, one_mul, mul_comm _ 256, mul_comm _ 1024]
    unfold res
    rw [show (256 * (t.val % 32) + (y 0).val) / 4096 = t.val % 32 / 16 by omega]
  · intro i
    have b0 : (i 0).val < 8192 := (i 0).isLt
    have b1 : (i 1).val < 4096 := (i 1).isLt
    exact (Cert.Kernel9Ideal.Value.covered_iff4 i).2 ⟨Nat.zero_le _, b0, Nat.zero_le _, b1⟩

end

end Cert.LastOut

end
-- ==== Proof.LastOutRef.lean ====
module

public import proofs.«01_k».proof.Proof.LastOut
public import proofs.«01_k».proof.Proof.OutRef
public import proofs.«01_k».proof.Proof.Gen.Reference9Ideal.Read

/-! The reference of the last layer's output projection, read through that of the other layers', and its equality with the kernel's result array. -/

@[expose] public section

set_option maxRecDepth 16384

noncomputable section

namespace Cert.LastOutRef

open Cert.Reference9Ideal Cert.Reference9Ideal.Gen Cert.Reference9Ideal.Read Cert.Mat Cert.LastOut Idealize.ShloMosaic Idealize.SL.Sem

section
variable {x0 : (⟨S8192x4096, .bf16⟩ : BufTy).Contents (Elt Ideal)} {x1 : (⟨S2x4096x4096, .f32⟩ : BufTy).Contents (Elt Ideal)}
  {x2 : (⟨S8704x4096, .f32⟩ : BufTy).Contents (Elt Ideal)} {x3 : (⟨S3x6x4096, .f32⟩ : BufTy).Contents (Elt Ideal)}
  {Y X : ℕ → ℕ → EReal} {W M : ℕ → ℕ → ℕ → EReal}

/-- The product with the second layer's weights. -/
theorem prod_at (hY : Is2 (a := 8192) (b := 4096) x0 Y) (hW : Is3 (a := 2) (b := 4096) (d := 4096) x1 W) :
    Is2 (a := 8192) (b := 4096) (val_main_v9 (F := Ideal) x0 x1) (dot 4096 Y (W 1)) := by
  intro i
  rw [val_main_v9_apply]
  unfold dot
  rw [Finset.sum_range]
  refine Finset.sum_congr rfl fun k _ => ?_
  rw [val_main_v6_apply, val_main_v8_apply, val_main_v7_apply]
  have b1 : (i 1).val < 4096 := (i 1).isLt
  have e0 : (k.val * 4096 + (i 1).val) / 4096 % 4096 = k.val := by have := k.isLt; omega
  have e1 : (k.val * 4096 + (i 1).val) % 4096 = (i 1).val := by omega
  refine congrArg₂ (· * ·) (hY _) ((hW _).trans ?_)
  show W (1 + 0) ((k.val * 4096 + (i 1).val) / 4096 % 4096) ((k.val * 4096 + (i 1).val) % 4096) = _
  rw [e0, e1]

/-- The second layer's weights as a stack of one. -/
def alone (W : ℕ → ℕ → ℕ → EReal) : (⟨S1x4096x4096, .f32⟩ : BufTy).Contents (Elt Ideal) := fun i => W (1 + (i 0).val) (i 1).val (i 2).val

/-- The product is that of the other layers with these weights. -/
theorem prod_out (hY : Is2 (a := 8192) (b := 4096) x0 Y) (hW : Is3 (a := 2) (b := 4096) (d := 4096) x1 W) :
    val_main_v9 (F := Ideal) x0 x1 = Cert.Reference5Ideal.Read.val_main_v8 (F := Ideal) x0 (alone W) := by
  funext i
  have h : Is3 (a := 1) (b := 4096) (d := 4096) (alone W) (fun a b d => W (1 + a) b d) := fun _ => rfl
  exact (prod_at hY hW i).trans (Cert.OutRef.lat_prod hY h i).symm

/-- The reference is the latent part of the other layers' with these weights. -/
theorem v14_out (hY : Is2 (a := 8192) (b := 4096) x0 Y) (hW : Is3 (a := 2) (b := 4096) (d := 4096) x1 W) :
    val_main_v14 (F := Ideal) x0 x1 x2 x3 = Cert.Reference5Ideal.Read.val_main_v23 (F := Ideal) x0 (alone W) x2 x3 := by
  unfold val_main_v14 val_main_v13 val_main_v12 val_main_v10
  rw [prod_out hY hW]
  rfl

/-- The reference is the kernel's result array. -/
theorem ref_eq (hY : Is2 (a := 8192) (b := 4096) x0 Y) (hW : Is3 (a := 2) (b := 4096) (d := 4096) x1 W) (hX : Is2 (a := 8704) (b := 4096) x2 X)
    (hM : Is3 (a := 3) (b := 6) (d := 4096) x3 M) : val_main_v14 (F := Ideal) x0 x1 x2 x3 = G Y X W M := by
  have h : Is3 (a := 1) (b := 4096) (d := 4096) (alone W) (fun a b d => W (1 + a) b d) := fun _ => rfl
  have hC : Is2 (a := 512) (b := 4096) (fun _ => 0 : (⟨Cert.Reference5Ideal.S512x4096, .bf16⟩ : BufTy).Contents (Elt Ideal)) (fun _ _ => 0) := fun _ => rfl
  funext i
  have b0 : (i 0).val < 8192 := (i 0).isLt
  rw [v14_out hY hW]
  refine (Cert.OutRef.lat_at hY hC h hX hM i).trans ?_
  exact congrArg (fun p => X (i 0).val (i 1).val + M ((i 0).val / 4096) 2 (i 1).val * p)
    (Cert.OutRef.dot_lat (W := fun a b d => W (1 + a) b d) b0 (i 1).val).symm

end

/-- The kernel's result array, from any memory, is the reference of the kernel's arguments. -/
theorem equal (m : (ℓ : Loc Cert.Kernel9Ideal.nD Cert.Kernel9Ideal.τ Cert.Kernel9Ideal.sig) → Buf (Elt Ideal) ℓ) (c : Dev Cert.Kernel9Ideal.nD) :
    val_main_v14 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))
      = (Cert.Kernel9Ideal.Gen.dats m 0 c).arrAt 4 Cert.Kernel9Ideal.cfg0.N := by
  obtain ⟨Y, hY⟩ := is2 (a := 8192) (b := 4096) (m ((c.tc : Thread Cert.Kernel9Ideal.nD Cert.Kernel9Ideal.τ).loc Cert.Kernel9Ideal.main_arg0))
  obtain ⟨W, hW⟩ := is3 (a := 2) (b := 4096) (d := 4096) (m ((c.tc : Thread Cert.Kernel9Ideal.nD Cert.Kernel9Ideal.τ).loc Cert.Kernel9Ideal.main_arg1))
  obtain ⟨X, hX⟩ := is2 (a := 8704) (b := 4096) (m ((c.tc : Thread Cert.Kernel9Ideal.nD Cert.Kernel9Ideal.τ).loc Cert.Kernel9Ideal.main_arg2))
  obtain ⟨M, hM⟩ := is3 (a := 3) (b := 6) (d := 4096) (m ((c.tc : Thread Cert.Kernel9Ideal.nD Cert.Kernel9Ideal.τ).loc Cert.Kernel9Ideal.main_arg3))
  exact (ref_eq hY hW hX hM).trans (arr_eq m c hY hW hX hM).symm

end Cert.LastOutRef

end
-- ==== Proof.LastAttn.lean ====
module

public import proofs.«01_k».proof.Proof.Block
public import proofs.«01_k».proof.Proof.Gen.Kernel10Ideal.Value

/-! The last layer's attention: the same four chains with the layer's own two numbers, and what one grid point leaves. -/

@[expose] public section

set_option maxRecDepth 16384

noncomputable section

namespace Cert.LastAttn

open Cert.Kernel10Ideal Cert.Kernel10Ideal.Gen Cert.Chain Idealize.ShloMosaic Idealize.ShloMosaic.TcCoe Idealize.SL.Sem
open Cert.Bridge (q_at kv_at chain)
open Cert.Norm (lam nrm NRM w02 sum_fin dlam)
open Cert.Block (blk half_at two_pieces)
open Cert.Kernel10Ideal.Gen.kernelRun0_A

/-- The last layer's number added to the mixing constant. -/
def ca : ℝ := 9329109 / 2 ^ 24
theorem wa : Ideal.ofBits .f32 0x3F0E59D5#32 = ((ca : ℝ) : EReal) := by
  unfold ca
  simp [Ideal.ofBits, Ideal.ieee, -EReal.coe_mul]; norm_num

/-- The last layer's number scaling the result. -/
def cc : ℝ := 14896215 / 2 ^ 25
theorem wc : Ideal.ofBits .f32 0x3EE34C57#32 = ((cc : ℝ) : EReal) := by
  unfold cc
  simp [Ideal.ofBits, Ideal.ieee, -EReal.coe_mul]; norm_num

/-- The mixing constant of the last layer. -/
theorem pay2_at {x : FVec Ideal S4x128 .f32} {L : ℕ → ℕ → ℝ} (hx : Tb x L) (i : S1x1.Idx) : k0_pay2 (F := Ideal) x i = ((lam ca L : ℝ) : EReal) := by
  idx_vars i
  have hx' : ∀ (a : Fin 4) (b : Fin 128), x (ix2 a b) = ((L a.val b.val : ℝ) : EReal) := fun a b => hx _
  pointwise [k0_pay2]
  simp only [hx', ← EReal.coe_mul, sum_fin 128 fun d => L (0 : Fin 4).val d * L (1 : Fin 4).val d,
    sum_fin 128 fun d => L (2 : Fin 4).val d * L (3 : Fin 4).val d, Ideal.exp_coe, wa, ← EReal.coe_sub, ← EReal.coe_add]
  rfl

section
variable {c : Dev nD} {arg3 : Memref sig .tc .vmem S512x256 .f32} {harg3 : arg3.IsWhole} {arg4 : Memref sig .tc .vmem S4096x256 .bf16} {harg4 : arg4.IsWhole}
  {arg5 : Memref sig .tc .vmem S256x256 .bf16} {harg5 : arg5.IsWhole} {arg6 : Memref sig .tc .vmem S4096x256 .bf16} {harg6 : arg6.IsWhole}
  {arg7 : Memref sig .tc .vmem S256x256 .bf16} {harg7 : arg7.IsWhole}
  {sc : Memref sig .tc .vmem S256x4352 .f32}
  {x0 : Vec Ideal S512x256 .f32} {x1 : Vec Ideal S4096x256 .bf16} {x2 : Vec Ideal S256x256 .bf16} {x3 : Vec Ideal S4096x256 .bf16} {x4 : Vec Ideal S256x256 .bf16}
  {X0 X1 X2 X3 X4 : ℕ → ℕ → ℝ}

set_option maxHeartbeats 4000000 in

/-- The first chain. -/
theorem v631_at (hx0 : Tb x0 X0) (hx1 : Tb x1 X1) (hx2 : Tb x2 X2) (hx3 : Tb x3 X3) (hx4 : Tb x4 X4) :
    Tb (a := 256) (b := 256) (sl.v631 (F := Ideal) c arg3 harg3 arg4 harg4 arg5 harg5 arg6 harg6 arg7 harg7 sc x0 x1 x2 x3 x4) (chain X0 X1 X2 X3 X4 0 0) :=
  CO_at (N := 256) (by decide) sc.view (q_at (hq := harg3) hx0 (by decide)) (kv_at (N := 128) (hu := harg4) (hw := harg5) hx1 hx2 (C := 0) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide))

/-- The second chain. -/
theorem v775_at (hx0 : Tb x0 X0) (hx1 : Tb x1 X1) (hx2 : Tb x2 X2) (hx3 : Tb x3 X3) (hx4 : Tb x4 X4) :
    Tb (a := 256) (b := 256) (sl.v775 (F := Ideal) c arg3 harg3 arg4 harg4 arg5 harg5 arg6 harg6 arg7 harg7 sc x0 x1 x2 x3 x4) (chain X0 X1 X2 X3 X4 0 128) :=
  CO_at (N := 256) (by decide) sc.view (q_at (hq := harg3) hx0 (by decide)) (kv_at (N := 128) (hu := harg4) (hw := harg5) hx1 hx2 (C := 128) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide))

/-- The third chain. -/
theorem v919_at (hx0 : Tb x0 X0) (hx1 : Tb x1 X1) (hx2 : Tb x2 X2) (hx3 : Tb x3 X3) (hx4 : Tb x4 X4) :
    Tb (a := 256) (b := 256) (sl.v919 (F := Ideal) c arg3 harg3 arg4 harg4 arg5 harg5 arg6 harg6 arg7 harg7 sc x0 x1 x2 x3 x4) (chain X0 X1 X2 X3 X4 256 0) :=
  CO_at (N := 256) (by decide) sc.view (q_at (hq := harg3) hx0 (by decide)) (kv_at (N := 128) (hu := harg4) (hw := harg5) hx1 hx2 (C := 0) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide))

/-- The fourth chain. -/
theorem v1063_at (hx0 : Tb x0 X0) (hx1 : Tb x1 X1) (hx2 : Tb x2 X2) (hx3 : Tb x3 X3) (hx4 : Tb x4 X4) :
    Tb (a := 256) (b := 256) (sl.v1063 (F := Ideal) c arg3 harg3 arg4 harg4 arg5 harg5 arg6 harg6 arg7 harg7 sc x0 x1 x2 x3 x4) (chain X0 X1 X2 X3 X4 256 128) :=
  CO_at (N := 256) (by decide) sc.view (q_at (hq := harg3) hx0 (by decide)) (kv_at (N := 128) (hu := harg4) (hw := harg5) hx1 hx2 (C := 128) (by decide) (by decide) (by decide) (by decide) (by decide) (by decide) (by decide) (by decide) (by decide))
    (kv_at (N := 256) (hu := harg6) (hw := harg7) hx3 hx4 (C := 0) (by decide) (by decide) (by decide) (by decide) (by decide) (by decide) (by decide) (by decide) (by decide))

end

section
variable {X0 X1 X2 X3 X4 L G : ℕ → ℕ → ℝ}
variable (m : (ℓ : Loc nD τ sig) → Buf (Elt Ideal) ℓ) (c : Dev nD) (t : Fin cfg0.N)

/-- What a grid point leaves. -/
theorem outs_at (h0 : Tb (a := 512) (b := 256) (iblk m c 0 t) X0) (h1 : Tb (a := 4096) (b := 256) (X0_1 m c t) X1) (h2 : Tb (a := 256) (b := 256) (iblk m c 2 t) X2)
    (h3 : Tb (a := 4096) (b := 256) (X0_3 m c t) X3) (h4 : Tb (a := 256) (b := 256) (iblk m c 4 t) X4) (h5 : Tb (a := 4) (b := 128) (iblk m c 5 t) L)
    (h6 : Tb (a := 1) (b := 256) (iblk m c 6 t) G) (i : S512x256.Idx) :
    outsAt0 m c t i = ((blk cc (lam ca L) X0 X1 X2 X3 X4 G (i 0).val (i 1).val : ℝ) : EReal) := by
  unfold outsAt0 out0_A_7 kernelRun0_A
  dsimp only
  refine (View.read_writes_junk_apply_eq_canon _ _ _).trans ?_
  have hl : ∀ j, k0_pay2 (F := Ideal) (View.readAt (Elt Ideal) (ms0_5 t).view (Rect.unit (s := S4x128) ![0, 0] S4x128.size inb_S4x128_S4x128_0_0).toLoadRect ((hs0_5 t).unread (iblk m c 5 t))) j = ((lam ca L : ℝ) : EReal) := by
    intro j
    refine pay2_at (fun k => ?_) j
    refine (load32_at (hs0_5 t) h5 inb_S4x128_S4x128_0_0 k).trans ?_
    rw [zero_add, zero_add]
  have hg : Tb (View.readAt (Elt Ideal) (ms0_6 t).view (Rect.unit (s := S1x256) ![0, 0] S1x256.size inb_S1x256_S1x256_0_0).toLoadRect ((hs0_6 t).unread (iblk m c 6 t))) G := by
    intro k
    refine (load32_at (hs0_6 t) h6 inb_S1x256_S1x256_0_0 k).trans ?_
    rw [zero_add, zero_add]
  refine two_pieces (fun i => ((blk cc (lam ca L) X0 X1 X2 X3 X4 G (i 0).val (i 1).val : ℝ) : EReal)) _ _ _ _ ?_ ?_ i
  · intro x
    have k0 := fun x => v919_at (c := c) (harg3 := hs0_0 t) (harg4 := hs0_1 t) (harg5 := hs0_2 t) (harg6 := hs0_3 t) (harg7 := hs0_4 t) (sc := scM0_2) h0 h1 h2 h3 h4 x
    have k1 := fun x => v1063_at (c := c) (harg3 := hs0_0 t) (harg4 := hs0_1 t) (harg5 := hs0_2 t) (harg6 := hs0_3 t) (harg7 := hs0_4 t) (sc := scM0_3) h0 h1 h2 h3 h4 x
    have hh := half_at 256 wc hl k0 k1 hg x
    refine Eq.trans ?_ (hh.trans ?_)
    · rfl
    · show _ = ((blk cc (lam ca L) X0 X1 X2 X3 X4 G (256 + 1 * (x 0).val) (0 + 1 * (x 1).val) : ℝ) : EReal)
      simp only [zero_add, one_mul]
  · intro x
    have k0 := fun x => v631_at (c := c) (harg3 := hs0_0 t) (harg4 := hs0_1 t) (harg5 := hs0_2 t) (harg6 := hs0_3 t) (harg7 := hs0_4 t) (sc := scM0_0) h0 h1 h2 h3 h4 x
    have k1 := fun x => v775_at (c := c) (harg3 := hs0_0 t) (harg4 := hs0_1 t) (harg5 := hs0_2 t) (harg6 := hs0_3 t) (harg7 := hs0_4 t) (sc := scM0_1) h0 h1 h2 h3 h4 x
    have hh := half_at 0 wc hl k0 k1 hg x
    refine Eq.trans ?_ (hh.trans ?_)
    · rfl
    · show _ = ((blk cc (lam ca L) X0 X1 X2 X3 X4 G (0 + 1 * (x 0).val) (0 + 1 * (x 1).val) : ℝ) : EReal)
      simp only [zero_add, one_mul]

end

end Cert.LastAttn
-- ==== Proof.LastAttnWindows.lean ====
module

public import proofs.«01_k».proof.Proof.LastAttn
public import proofs.«01_k».proof.Proof.Windows

/-! The last layer's attention: what each input window holds, from argument arrays of which the queries have the latent rows only, and the result. -/

@[expose] public section

set_option maxRecDepth 16384

noncomputable section

namespace Cert.LastAttnWindows

open Cert.Kernel10Ideal Cert.Kernel10Ideal.Gen Cert.Chain Cert.LastAttn Idealize.ShloMosaic Idealize.ShloMosaic.TcCoe Idealize.SL.Sem
open Idealize.ShloMosaic.Pipeline (Dat)
open Cert.Windows (kr hatt res jn_kr G)
open Cert.Block (blk att)

/-! ## The index maps over the grid -/

/-- Which block of its array each window shows at a grid point. -/
theorem im0 : ∀ t : Fin cfg0.N, win0_0.index t 0 = t.val / 128 * 8 + t.val % 8 ∧ win0_0.index t 1 = t.val / 8 % 16 := by decide +kernel
theorem im1 : ∀ t : Fin cfg0.N, win0_1.index t 0 = t.val / 128 ∧ win0_1.index t 1 = t.val / 8 % 16 := by decide +kernel
theorem im2 : ∀ t : Fin cfg0.N, win0_2.index t 0 = 32 + t.val / 128 ∧ win0_2.index t 1 = t.val / 8 % 16 := by decide +kernel
theorem im3 : ∀ t : Fin cfg0.N, win0_3.index t 0 = t.val / 128 ∧ win0_3.index t 1 = t.val / 8 % 16 := by decide +kernel
theorem im4 : ∀ t : Fin cfg0.N, win0_4.index t 0 = 32 + t.val / 128 ∧ win0_4.index t 1 = t.val / 8 % 16 := by decide +kernel
theorem im5 : ∀ t : Fin cfg0.N, win0_5.index t 0 = 0 ∧ win0_5.index t 1 = 0 := by decide +kernel
theorem im6 : ∀ t : Fin cfg0.N, win0_6.index t 0 = 0 ∧ win0_6.index t 1 = 0 := by decide +kernel
theorem im7 : ∀ t : Fin cfg0.N, win0_7.index t 0 = t.val / 128 * 8 + t.val % 8 ∧ win0_7.index t 1 = t.val / 8 % 16 := by decide +kernel

section
variable (m : (ℓ : Loc nD τ sig) → Buf (Elt Ideal) ℓ) (c : Dev nD) (t : Fin cfg0.N)
variable {Q K V' L : ℕ → ℕ → ℝ} {g : ℕ → ℝ}

theorem at0 (hQ : Tb (a := 8192) (b := 4096) (m ((c : Thread nD τ).loc main_arg0)) Q) :
    Tb (a := 512) (b := 256) (iblk m c 0 t) (fun r d => Q (512 * (t.val / 128 * 8 + t.val % 8) + r) (256 * (t.val / 8 % 16) + d)) := by
  intro i
  unfold iblk
  rw [View.read_apply]
  show V m c main_arg0 _ = _
  rw [V_main_arg0]
  refine (hQ _).trans ?_
  show ((Q (win0_0.index t 0 * 512 + 1 * (i 0).val) (win0_0.index t 1 * 256 + 1 * (i 1).val) : ℝ) : EReal) = _
  rw [(im0 t).1, (im0 t).2, one_mul, one_mul, mul_comm _ 512, mul_comm _ 256]

theorem at1 (hK : Tb (a := 8704) (b := 4096) (m ((c : Thread nD τ).loc main_arg1)) K) :
    Tb (a := 4096) (b := 256) (X0_1 m c t) (fun r d => K (4096 * (t.val / 128) + r) (256 * (t.val / 8 % 16) + d)) := by
  intro i
  unfold X0_1 Pipeline.Window.fill
  rw [dif_pos (moved0_1 t i)]
  unfold iblk
  rw [View.read_apply]
  show V m c main_arg1 _ = _
  rw [V_main_arg1]
  refine (hK _).trans ?_
  show ((K (win0_1.index t 0 * 4096 + 1 * (i 0).val) (win0_1.index t 1 * 256 + 1 * (i 1).val) : ℝ) : EReal) = _
  rw [(im1 t).1, (im1 t).2, one_mul, one_mul, mul_comm _ 4096, mul_comm _ 256]

theorem at2 (hK : Tb (a := 8704) (b := 4096) (m ((c : Thread nD τ).loc main_arg1)) K) :
    Tb (a := 256) (b := 256) (iblk m c 2 t) (fun r d => K (8192 + 256 * (t.val / 128) + r) (256 * (t.val / 8 % 16) + d)) := by
  intro i
  unfold iblk
  rw [View.read_apply]
  show V m c main_arg1 _ = _
  rw [V_main_arg1]
  refine (hK _).trans ?_
  show ((K (win0_2.index t 0 * 256 + 1 * (i 0).val) (win0_2.index t 1 * 256 + 1 * (i 1).val) : ℝ) : EReal) = _
  rw [(im2 t).1, (im2 t).2, one_mul, one_mul, mul_comm _ 256, mul_comm _ 256, mul_add, show 256 * 32 = 8192 from rfl]

theorem at3 (hV : Tb (a := 8704) (b := 4096) (m ((c : Thread nD τ).loc main_arg2)) V') :
    Tb (a := 4096) (b := 256) (X0_3 m c t) (fun r d => V' (4096 * (t.val / 128) + r) (256 * (t.val / 8 % 16) + d)) := by
  intro i
  unfold X0_3 Pipeline.Window.fill
  rw [dif_pos (moved0_3 t i)]
  unfold iblk
  rw [View.read_apply]
  show V m c main_arg2 _ = _
  rw [V_main_arg2]
  refine (hV _).trans ?_
  show ((V' (win0_3.index t 0 * 4096 + 1 * (i 0).val) (win0_3.index t 1 * 256 + 1 * (i 1).val) : ℝ) : EReal) = _
  rw [(im3 t).1, (im3 t).2, one_mul, one_mul, mul_comm _ 4096, mul_comm _ 256]

theorem at4 (hV : Tb (a := 8704) (b := 4096) (m ((c : Thread nD τ).loc main_arg2)) V') :
    Tb (a := 256) (b := 256) (iblk m c 4 t) (fun r d => V' (8192 + 256 * (t.val / 128) + r) (256 * (t.val / 8 % 16) + d)) := by
  intro i
  unfold iblk
  rw [View.read_apply]
  show V m c main_arg2 _ = _
  rw [V_main_arg2]
  refine (hV _).trans ?_
  show ((V' (win0_4.index t 0 * 256 + 1 * (i 0).val) (win0_4.index t 1 * 256 + 1 * (i 1).val) : ℝ) : EReal) = _
  rw [(im4 t).1, (im4 t).2, one_mul, one_mul, mul_comm _ 256, mul_comm _ 256, mul_add, show 256 * 32 = 8192 from rfl]

theorem at5 (hL : Tb (a := 4) (b := 128) (m ((c : Thread nD τ).loc main_arg3)) L) : Tb (a := 4) (b := 128) (iblk m c 5 t) L := by
  intro i
  unfold iblk
  rw [View.read_apply]
  show V m c main_arg3 _ = _
  rw [V_main_arg3]
  refine (hL _).trans ?_
  show ((L (win0_5.index t 0 * 4 + 1 * (i 0).val) (win0_5.index t 1 * 128 + 1 * (i 1).val) : ℝ) : EReal) = _
  rw [(im5 t).1, (im5 t).2, one_mul, one_mul, zero_mul, zero_mul, zero_add, zero_add]

/-- The gains as the kernel's host reshapes them. -/
theorem V_v0 : V m c main_v0 = (shapeCast S1x256 (m ((c : Thread nD τ).loc main_arg4) : Vec Ideal S256 .f32) shapeCasts_S256_S1x256 : Vec Ideal S1x256 .f32) := by
  show StableHlo.after hostOps0 _ (Proc.devRef .tc main_v0) = _
  after_results
  rfl

theorem at6 (hg : ∀ i : S256.Idx, (m ((c : Thread nD τ).loc main_arg4) : Vec Ideal S256 .f32) i = ((g (i 0).val : ℝ) : EReal)) :
    Tb (a := 1) (b := 256) (iblk m c 6 t) (fun _ => g) := by
  intro i
  unfold iblk
  rw [View.read_apply]
  show V m c main_v0 _ = _
  rw [V_v0]
  obtain ⟨j, hj0, hj⟩ : ∃ j : S1x256.Idx, j = ((cfg0.win 6).blk t).view.emb i ∧ (j 1).val = (i 1).val := by
    refine ⟨_, rfl, ?_⟩
    show win0_6.index t 1 * 256 + 1 * (i 1).val = _
    rw [(im6 t).2, one_mul, zero_mul, zero_add]
  refine (congrArg (shapeCast S1x256 (m ((c : Thread nD τ).loc main_arg4) : Vec Ideal S256 .f32) shapeCasts_S256_S1x256) hj0.symm).trans ?_
  rw [← hj]
  idx_vars j
  pointwise
  exact hg _

/-- What a point leaves is its block of the result. -/
theorem outs_res (hQ : Tb (a := 8192) (b := 4096) (m ((c : Thread nD τ).loc main_arg0)) Q)
    (hK : Tb (a := 8704) (b := 4096) (m ((c : Thread nD τ).loc main_arg1)) K) (hV : Tb (a := 8704) (b := 4096) (m ((c : Thread nD τ).loc main_arg2)) V')
    (hL : Tb (a := 4) (b := 128) (m ((c : Thread nD τ).loc main_arg3)) L)
    (hg : ∀ i : S256.Idx, (m ((c : Thread nD τ).loc main_arg4) : Vec Ideal S256 .f32) i = ((g (i 0).val : ℝ) : EReal)) (i : S512x256.Idx) :
    outsAt0 m c t i = ((res cc ca Q K V' L g (512 * (t.val / 128 * 8 + t.val % 8) + (i 0).val) (256 * (t.val / 8 % 16) + (i 1).val) : ℝ) : EReal) := by
  rw [outs_at m c t (at0 m c t hQ) (at1 m c t hK) (at2 m c t hK) (at3 m c t hV) (at4 m c t hV) (at5 m c t hL) (at6 m c t hg) i]
  have ht : t.val < 256 := t.isLt
  have b0 : (i 0).val < 512 := (i 0).isLt
  have b1 : (i 1).val < 256 := (i 1).isLt
  have e1 : (512 * (t.val / 128 * 8 + t.val % 8) + (i 0).val) / 4096 = t.val / 128 := by omega
  have e2 : (256 * (t.val / 8 % 16) + (i 1).val) / 256 = t.val / 8 % 16 := by omega
  have e3 : (256 * (t.val / 8 % 16) + (i 1).val) % 256 = (i 1).val := by omega
  unfold res blk
  rw [e1, e2, e3]
  unfold att hatt
  rw [jn_kr, jn_kr]
  rfl

/-- The result array after the run. -/
theorem arr_eq (hQ : Tb (a := 8192) (b := 4096) (m ((c : Thread nD τ).loc main_arg0)) Q)
    (hK : Tb (a := 8704) (b := 4096) (m ((c : Thread nD τ).loc main_arg1)) K) (hV : Tb (a := 8704) (b := 4096) (m ((c : Thread nD τ).loc main_arg2)) V')
    (hL : Tb (a := 4) (b := 128) (m ((c : Thread nD τ).loc main_arg3)) L)
    (hg : ∀ i : S256.Idx, (m ((c : Thread nD τ).loc main_arg4) : Vec Ideal S256 .f32) i = ((g (i 0).val : ℝ) : EReal)) :
    (dats m 0 c).arrAt 7 cfg0.N = G cc ca Q K V' L g := by
  refine (dats m 0 c).arrAt_eq_of_cover 7 (G cc ca Q K V' L g) ?_ ?_
  · intro t _
    rw [Cert.Kernel10Ideal.Value.flushed7]
    funext y
    rw [View.read_apply]
    refine (outs_res m c t hQ hK hV hL hg y).trans ?_
    show _ = ((res cc ca Q K V' L g (win0_7.index t 0 * 512 + 1 * (y 0).val) (win0_7.index t 1 * 256 + 1 * (y 1).val) : ℝ) : EReal)
    rw [(im7 t).1, (im7 t).2, one_mul, one_mul, mul_comm _ 512, mul_comm _ 256]
  · intro i
    have b0 : (i 0).val < 8192 := (i 0).isLt
    have b1 : (i 1).val < 4096 := (i 1).isLt
    have hN : cfg0.N = 256 := N_0
    let t : Fin cfg0.N := ⟨(i 0).val / 4096 * 128 + (i 1).val / 256 * 8 + (i 0).val / 512 % 8, by rw [hN]; omega⟩
    have ht : t.val = (i 0).val / 4096 * 128 + (i 1).val / 256 * 8 + (i 0).val / 512 % 8 := rfl
    refine ⟨t, flush0_7 t, ?_⟩
    let y : S512x256.Idx := ValueIdx.ix2 ⟨(i 0).val % 512, Nat.mod_lt _ (by norm_num)⟩ ⟨(i 1).val % 256, Nat.mod_lt _ (by norm_num)⟩
    have hy : ((cfg0.win 7).blk t).view.emb y = i := by
      funext a
      apply Fin.ext
      match a with
      | ⟨0, _⟩ =>
        show win0_7.index t 0 * 512 + 1 * ((i 0).val % 512) = (i 0).val
        rw [(im7 t).1, ht]; omega
      | ⟨1, _⟩ =>
        show win0_7.index t 1 * 256 + 1 * ((i 1).val % 256) = (i 1).val
        rw [(im7 t).2, ht]; omega
    rw [← hy]
    exact View.emb_mem_set _ _

end

end Cert.LastAttnWindows
-- ==== Proof.LastAttnRef.lean ====
module

public import proofs.«01_k».proof.Proof.LastAttnWindows
public import proofs.«01_k».proof.Proof.Equal
public import proofs.«01_k».proof.Proof.Finite
public import proofs.«01_k».proof.Proof.Gen.Reference10Ideal
public import proofs.«01_k».proof.Proof.Gen.Reference10Ideal.Read
public import proofs.«01_k».proof.Proof.Gen.Pre_finite10

/-! The last layer's attention reference read at an index: its weights are the first layer's, its two numbers its own. -/

@[expose] public section

set_option maxRecDepth 16384

noncomputable section

namespace Cert.LastAttnRef

open Cert.Reference10Ideal Cert.Reference10Ideal.Gen Cert.Reference10Ideal.Read Idealize.ShloMosaic Idealize.ShloMosaic.TcCoe Idealize.SL.Sem
open Cert.Norm (dlam lam nrm eps w256 weps rsqrt_pos mean_sq_pos sum_fin)
open Cert.LastAttn (ca cc wa wc)
open Cert.Windows (kr)
open Cert.Ref (wgt mix w0)

variable {x0 : (⟨S8192x4096, .f32⟩ : BufTy).Contents (Elt Ideal)} {x1 x2 : (⟨S8704x4096, .bf16⟩ : BufTy).Contents (Elt Ideal)}
  {x3 : (⟨S4x128, .f32⟩ : BufTy).Contents (Elt Ideal)} {x4 : (⟨S256, .f32⟩ : BufTy).Contents (Elt Ideal)}
  {Q K V L : ℕ → ℕ → ℝ} {g : ℕ → ℝ}

/-- The queries' table laid over all 8704 rows. -/
def ext (Q : ℕ → ℕ → ℝ) : (⟨S8704x4096, .f32⟩ : BufTy).Contents (Elt Ideal) := fun i : S8704x4096.Idx => ((Q (i 0).val (i 1).val : ℝ) : EReal)

/-- Its latent rows are the queries. -/
theorem ext_lat (hQ : ∀ i : S8192x4096.Idx, x0 i = ((Q (i 0).val (i 1).val : ℝ) : EReal)) : Cert.ReferenceIdeal.Read.val_main_v18 (F := Ideal) (ext Q) = x0 := by
  funext i
  rw [Cert.ReferenceIdeal.Read.val_main_v18_apply]
  exact (hQ i).symm

/-- The first half's weights are those of the first layer's reference. -/
theorem v48_is (x : (⟨S8704x4096, .f32⟩ : BufTy).Contents (Elt Ideal)) (x1 : (⟨S8704x4096, .bf16⟩ : BufTy).Contents (Elt Ideal)) :
    val_main_v48 (F := Ideal) (Cert.ReferenceIdeal.Read.val_main_v18 (F := Ideal) x) x1 = Cert.ReferenceIdeal.Read.val_main_v49 (F := Ideal) x x1 := rfl

/-- The second half's too. -/
theorem v50_is (x : (⟨S8704x4096, .f32⟩ : BufTy).Contents (Elt Ideal)) (x1 : (⟨S8704x4096, .bf16⟩ : BufTy).Contents (Elt Ideal)) :
    val_main_v50 (F := Ideal) (Cert.ReferenceIdeal.Read.val_main_v18 (F := Ideal) x) x1 = Cert.ReferenceIdeal.Read.val_main_v51 (F := Ideal) x x1 := rfl

/-- The mixing constant. -/
theorem v17_at (hL : ∀ i : S4x128.Idx, x3 i = ((L (i 0).val (i 1).val : ℝ) : EReal)) (i : S_.Idx) :
    val_main_v17 (F := Ideal) x3 i = ((lam ca L : ℝ) : EReal) := by
  have h : val_main_v16 (F := Ideal) x3 i = ((dlam L : ℝ) : EReal) := Cert.Ref.v16_at hL i
  rw [val_main_v17_apply, h, Ideal.addf_def, show val_main_cst_1 (F := Ideal) i = ((ca : ℝ) : EReal) from wa, ← EReal.coe_add]
  rfl

/-- The values by batch, row, head and column. -/
theorem v34_at (hV : ∀ i : S8704x4096.Idx, x2 i = ((V (i 0).val (i 1).val : ℝ) : EReal)) (i : S2x4352x16x256.Idx) :
    val_main_v34 (F := Ideal) x2 i = ((V (kr (i 0).val (i 1).val) (256 * (i 2).val + (i 3).val) : ℝ) : EReal) := Cert.Ref.v35_at hV i

/-- The difference of the two halves' weights. -/
theorem v53_at (hQ : ∀ i : S8192x4096.Idx, x0 i = ((Q (i 0).val (i 1).val : ℝ) : EReal))
    (hK : ∀ i : S8704x4096.Idx, x1 i = ((K (i 0).val (i 1).val : ℝ) : EReal))
    (hL : ∀ i : S4x128.Idx, x3 i = ((L (i 0).val (i 1).val : ℝ) : EReal)) (i : S2x16x4096x4352.Idx) :
    val_main_v53 (F := Ideal) x0 x1 x3 i = ((wgt Q K (i 0).val (i 1).val 0 (i 2).val (i 3).val
      - lam ca L * wgt Q K (i 0).val (i 1).val 1 (i 2).val (i 3).val : ℝ) : EReal) := by
  have a : val_main_v48 (F := Ideal) x0 x1 i = ((wgt Q K (i 0).val (i 1).val 0 (i 2).val (i 3).val : ℝ) : EReal) := by
    rw [← ext_lat hQ, v48_is]
    exact Cert.Ref.v49_at (fun _ => rfl) hK i
  have b : val_main_v50 (F := Ideal) x0 x1 i = ((wgt Q K (i 0).val (i 1).val 1 (i 2).val (i 3).val : ℝ) : EReal) := by
    rw [← ext_lat hQ, v50_is]
    exact Cert.Ref.v51_at (fun _ => rfl) hK i
  rw [val_main_v53_apply, val_main_v52_apply, val_main_v51_apply, v17_at hL, a, b]
  show _ - _ * _ = _
  rw [← EReal.coe_mul, ← EReal.coe_sub]

/-- The attention's output before the normalisation. -/
theorem v55_at (hQ : ∀ i : S8192x4096.Idx, x0 i = ((Q (i 0).val (i 1).val : ℝ) : EReal))
    (hK : ∀ i : S8704x4096.Idx, x1 i = ((K (i 0).val (i 1).val : ℝ) : EReal))
    (hV : ∀ i : S8704x4096.Idx, x2 i = ((V (i 0).val (i 1).val : ℝ) : EReal))
    (hL : ∀ i : S4x128.Idx, x3 i = ((L (i 0).val (i 1).val : ℝ) : EReal)) (i : S2x4096x16x256.Idx) :
    val_main_v55 (F := Ideal) x0 x1 x2 x3 i = ((mix ca Q K V L (i 0).val (i 2).val (i 1).val (i 3).val : ℝ) : EReal) := by
  rw [val_main_v55_apply, val_main_v54_apply]
  unfold mix
  rw [← sum_fin 4352 fun s => V (kr (i 0).val s) (256 * (i 2).val + (i 3).val)
    * (wgt Q K (i 0).val (i 2).val 0 (i 1).val s - lam ca L * wgt Q K (i 0).val (i 2).val 1 (i 1).val s)]
  refine Finset.sum_congr rfl fun k _ => ?_
  rw [v34_at hV, v53_at hQ hK hL, ← EReal.coe_mul]

/-- The whole result. -/
theorem v72_at (hQ : ∀ i : S8192x4096.Idx, x0 i = ((Q (i 0).val (i 1).val : ℝ) : EReal))
    (hK : ∀ i : S8704x4096.Idx, x1 i = ((K (i 0).val (i 1).val : ℝ) : EReal))
    (hV : ∀ i : S8704x4096.Idx, x2 i = ((V (i 0).val (i 1).val : ℝ) : EReal))
    (hL : ∀ i : S4x128.Idx, x3 i = ((L (i 0).val (i 1).val : ℝ) : EReal))
    (hg : ∀ i : S256.Idx, x4 i = ((g (i 0).val : ℝ) : EReal)) (i : S8192x4096.Idx) :
    val_main_v72 (F := Ideal) x0 x1 x2 x3 x4 i
      = ((nrm cc (fun e => mix ca Q K V L ((i 0).val / 4096) ((i 1).val / 256) ((i 0).val % 4096) e) g ((i 1).val % 256) : ℝ) : EReal) := by
  have a57 : ∀ j : S2x4096x16.Idx, val_main_v57 (F := Ideal) x0 x1 x2 x3 j
      = ((∑ x ∈ Finset.range 256, mix ca Q K V L (j 0).val (j 2).val (j 1).val x * mix ca Q K V L (j 0).val (j 2).val (j 1).val x : ℝ) : EReal) := fun j => by
    rw [val_main_v57_apply, ← sum_fin 256 fun x => mix ca Q K V L (j 0).val (j 2).val (j 1).val x * mix ca Q K V L (j 0).val (j 2).val (j 1).val x]
    have e : (val_main_cst_6 (F := Ideal)) (Shape.Idx.first h_S_) = (0 : EReal) := w0
    rw [e, zero_add]
    refine Finset.sum_congr rfl fun k _ => ?_
    rw [val_main_v56_apply, v55_at hQ hK hV hL, EReal.coe_mul]
    rfl
  have a70 : ∀ j : S2x4096x16x256.Idx, val_main_v70 (F := Ideal) x0 x1 x2 x3 x4 j
      = ((nrm cc (fun e => mix ca Q K V L (j 0).val (j 2).val (j 1).val e) g (j 3).val : ℝ) : EReal) := fun j => by
    rw [val_main_v70_apply, val_main_v68_apply, val_main_v69_apply, val_main_cst_9_apply, val_main_v67_apply, val_main_v66_apply, hg,
      val_main_v65_apply, v55_at hQ hK hV hL, val_main_v64_apply, val_main_v63_apply, val_main_v62_apply, val_main_v61_apply, val_main_cst_8_apply,
      val_main_v60_apply, val_main_v58_apply, a57, val_main_v59_apply, val_main_cst_7_apply]
    show _ * Ideal.rsqrt (Ideal.div _ (Ideal.ofBits .f32 0x43800000#32) + Ideal.ofBits .f32 0x358637BD#32) * _ * Ideal.ofBits .f32 0x3EE34C57#32 = _
    rw [w256, weps, wc, Ideal.div_coe (by norm_num), ← EReal.coe_mul, ← EReal.coe_add]
    refine Eq.trans (congrArg (fun z => _ * z * _ * _) (rsqrt_pos (mean_sq_pos fun e => mix ca Q K V L (j 0).val (j 2).val (j 1).val e))) ?_
    rw [← EReal.coe_mul, ← EReal.coe_mul, ← EReal.coe_mul]
    rfl
  have h0 : (i 0).val < 8192 := (i 0).isLt
  have h1 : (i 1).val < 4096 := (i 1).isLt
  have e0 : ((i 0).val * 4096 + (i 1).val) / 16777216 = (i 0).val / 4096 := by omega
  have e1 : ((i 0).val * 4096 + (i 1).val) / 4096 % 4096 = (i 0).val % 4096 := by omega
  have e2 : ((i 0).val * 4096 + (i 1).val) / 256 % 16 = (i 1).val / 256 := by omega
  have e3 : ((i 0).val * 4096 + (i 1).val) % 256 = (i 1).val % 256 := by omega
  rw [val_main_v72_apply]
  show val_main_v71 (F := Ideal) x0 x1 x2 x3 x4 i = _
  rw [val_main_v71_apply, a70]
  show ((nrm cc (fun e => mix ca Q K V L (((i 0).val * 4096 + (i 1).val) / 16777216) (((i 0).val * 4096 + (i 1).val) / 256 % 16)
    (((i 0).val * 4096 + (i 1).val) / 4096 % 4096) e) g (((i 0).val * 4096 + (i 1).val) % 256) : ℝ) : EReal) = _
  rw [e0, e1, e2, e3]

/-- Every element of every argument is real. -/
theorem reals {x0 : FVec Ideal S8192x4096 .f32} {x1 x2 : FVec Ideal S8704x4096 .bf16} {x3 : FVec Ideal S4x128 .f32} {x4 : FVec Ideal S256 .f32}
    (h : Cert.Pre_finite10.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have h := congrFun h (Shape.Idx.first Cert.Pre_finite10.Gen.h_S_)
  dsimp only [Cert.Pre_finite10.fn, Cert.Pre_finite10.fn_part1] at h
  obtain ⟨h, h4⟩ := IntOp.andi_eq_one.mp h
  obtain ⟨h, h3⟩ := IntOp.andi_eq_one.mp h
  obtain ⟨h, h2⟩ := IntOp.andi_eq_one.mp h
  obtain ⟨h0, h1⟩ := IntOp.andi_eq_one.mp h
  exact ⟨fun i => Cert.Finite.real_of_lt (Host.reduce_andi_all _ _ _ _ _ h0 i), fun i => Cert.Finite.real_of_lt (Host.reduce_andi_all _ _ _ _ _ h1 i),
    fun i => Cert.Finite.real_of_lt (Host.reduce_andi_all _ _ _ _ _ h2 i), fun i => Cert.Finite.real_of_lt (Host.reduce_andi_all _ _ _ _ _ h3 i),
    fun i => Cert.Finite.real_of_lt (Host.reduce_andi_all _ _ _ _ _ h4 i)⟩

end Cert.LastAttnRef
-- ==== Proof.Gqa.lean ====
module

public import proofs.«01_k».proof.Proof.Bridge
public import proofs.«01_k».proof.Proof.Gen.Kernel11Ideal.Value

/-! Grouped-query attention: the same softmax chain once for each of four heads over one key head's columns, and what one grid point leaves. -/

@[expose] public section

set_option maxRecDepth 16384

noncomputable section

namespace Cert.Gqa

open Cert.Kernel11Ideal Cert.Kernel11Ideal.Gen Cert.Chain Idealize.ShloMosaic Idealize.ShloMosaic.TcCoe Idealize.SL.Sem
open Cert.Bridge (q_at kv_at qs)

/-- One head's output: the queries at column `C`, against all the keys, weighting all the values. -/
def head (X0 X1 X2 X3 X4 : ℕ → ℕ → ℝ) (C r e : ℕ) : ℝ :=
  mean (scr (fun r d => X0 r (C + d) * qs) (jn X1 X2)) (jn X3 X4) r e

/-- One element of the block: each head's 128 columns are its own output. -/
def blk (X0 X1 X2 X3 X4 : ℕ → ℕ → ℝ) (r e : ℕ) : ℝ := head X0 X1 X2 X3 X4 (128 * (e / 128)) r (e % 128)

/-- A head's chain, its queries at column `C`, is its 128 columns of the block. -/
theorem head_at (g : ℕ) {C : ℕ} (hC : C = 128 * g) {sg : RefSig} {kd : Kind} {sp : Space} (v : View sg kd sp (T 256 4352) .f32)
    {q : FVec Ideal (T 256 128) .bf16} {k0 k1 k2 k3 k4 k5 k6 k7 v0 v1 v2 v3 v4 v5 v6 v7 : FVec Ideal (T 512 128) .bf16} {k8 v8 : FVec Ideal (T 256 128) .bf16}
    {X0 X1 X2 X3 X4 : ℕ → ℕ → ℝ} (hq : At q (fun r d => X0 (0 + r) (C + d) * qs) 0) (hk : Vals k0 k1 k2 k3 k4 k5 k6 k7 k8 (fun j d => jn X1 X2 j (0 + d)))
    (hv : Vals v0 v1 v2 v3 v4 v5 v6 v7 v8 (fun j d => jn X3 X4 j (0 + d))) (i : (T 256 128).Idx) :
    CO (N := 128) (by decide) v q k0 k1 k2 k3 k4 k5 k6 k7 k8 v0 v1 v2 v3 v4 v5 v6 v7 v8 i
      = ((blk X0 X1 X2 X3 X4 (0 + 1 * (i 0).val) (C + 1 * (i 1).val) : ℝ) : EReal) := by
  have hi : (i 1).val < 128 := (i 1).isLt
  rw [CO_at _ v hq hk hv i]
  unfold blk head
  rw [show (C + 1 * (i 1).val) / 128 = g by omega, show (C + 1 * (i 1).val) % 128 = (i 1).val by omega, hC]
  simp only [zero_add, one_mul]

/-- The block of four pieces over the reals. -/
theorem four_pieces (G : S256x512.Idx → EReal) (p0 p1 p2 p3 : FVec Ideal S256x128 .bf16) (i0) (i1) (i2) (i3)
    (h0 : ∀ x : S256x128.Idx, p0 x = G ((Rect.unit (s := S256x512) ![0, 0] ![256, 128] i0).emb x))
    (h1 : ∀ x : S256x128.Idx, p1 x = G ((Rect.unit (s := S256x512) ![0, 128] ![256, 128] i1).emb x))
    (h2 : ∀ x : S256x128.Idx, p2 x = G ((Rect.unit (s := S256x512) ![0, 256] ![256, 128] i2).emb x))
    (h3 : ∀ x : S256x128.Idx, p3 x = G ((Rect.unit (s := S256x512) ![0, 384] ![256, 128] i3).emb x)) (i : S256x512.Idx) :
    View.canon (Val := Elt Ideal) (e := .bf16) [⟨Rect.unit (s := S256x512) ![0, 384] ![256, 128] i3, p3⟩, ⟨Rect.unit (s := S256x512) ![0, 256] ![256, 128] i2, p2⟩,
      ⟨Rect.unit (s := S256x512) ![0, 128] ![256, 128] i1, p1⟩, ⟨Rect.unit (s := S256x512) ![0, 0] ![256, 128] i0, p0⟩] i = G i := by
  have b0 : (i 0).val < 256 := (i 0).isLt
  have b1 : (i 1).val < 512 := (i 1).isLt
  have mem : ∀ (o : ℕ) (io), o ≤ (i 1).val → (i 1).val < o + 128 → i ∈ (Rect.unit (s := S256x512) ![0, o] ![256, 128] io).set := fun o io ho ho' => by
    refine Rect.mem_set_unit.mpr fun a => ?_
    fin_cases a
    · exact ⟨Nat.zero_le _, by simpa using b0⟩
    · exact ⟨by simpa using ho, by simpa using ho'⟩
  refine View.canon_apply_of_pieces (Val := Elt Ideal) (e := .bf16) G _ ?_ i ?_
  · intro p hp
    simp only [List.mem_cons, List.not_mem_nil, or_false] at hp
    rcases hp with rfl | rfl | rfl | rfl
    · exact h3
    · exact h2
    · exact h1
    · exact h0
  · by_cases c3 : 384 ≤ (i 1).val
    · exact ⟨_, List.mem_cons_self .., mem 384 i3 c3 (by omega)⟩
    by_cases c2 : 256 ≤ (i 1).val
    · exact ⟨_, List.mem_cons_of_mem _ (List.mem_cons_self ..), mem 256 i2 c2 (by omega)⟩
    by_cases c1 : 128 ≤ (i 1).val
    · exact ⟨_, List.mem_cons_of_mem _ (List.mem_cons_of_mem _ (List.mem_cons_self ..)), mem 128 i1 c1 (by omega)⟩
    · exact ⟨_, List.mem_cons_of_mem _ (List.mem_cons_of_mem _ (List.mem_cons_of_mem _ (List.mem_cons_self ..))), mem 0 i0 (Nat.zero_le _) (by omega)⟩

section
variable {X0 X1 X2 X3 X4 : ℕ → ℕ → ℝ}
variable (m : (ℓ : Loc nD τ sig) → Buf (Elt Ideal) ℓ) (c : Dev nD) (t : Fin cfg0.N)

set_option maxHeartbeats 4000000 in
/-- What a grid point leaves. -/
theorem outs_at (h0 : Tb (a := 256) (b := 512) (iblk m c 0 t) X0) (h1 : Tb (a := 4096) (b := 128) (X0_1 m c t) X1) (h2 : Tb (a := 256) (b := 128) (iblk m c 2 t) X2)
    (h3 : Tb (a := 4096) (b := 128) (X0_3 m c t) X3) (h4 : Tb (a := 256) (b := 128) (iblk m c 4 t) X4) (i : S256x512.Idx) :
    outsAt0 m c t i = ((blk X0 X1 X2 X3 X4 (i 0).val (i 1).val : ℝ) : EReal) := by
  unfold outsAt0 out0_A_5 kernelRun0_A
  dsimp only
  refine (View.read_writes_junk_apply_eq_canon _ _ _).trans ?_
  have hk := kv_at (N := 128) (hu := hs0_1 t) (hw := hs0_2 t) h1 h2 (C := 0) (by decide) (by decide) (by decide) (by decide) (by decide) (by decide) (by decide) (by decide) (by decide)
  have hv := kv_at (N := 128) (hu := hs0_3 t) (hw := hs0_4 t) h3 h4 (C := 0) (by decide) (by decide) (by decide) (by decide) (by decide) (by decide) (by decide) (by decide) (by decide)
  refine four_pieces (fun i => ((blk X0 X1 X2 X3 X4 (i 0).val (i 1).val : ℝ) : EReal)) _ _ _ _ _ _ _ _ ?_ ?_ ?_ ?_ i
  · exact fun x => head_at 0 (C := 0) rfl scM0_0.view (q_at (hq := hs0_0 t) h0 (by decide)) hk hv x
  · exact fun x => head_at 1 (C := 128) rfl scM0_1.view (q_at (hq := hs0_0 t) h0 (by decide)) hk hv x
  · exact fun x => head_at 2 (C := 256) rfl scM0_2.view (q_at (hq := hs0_0 t) h0 (by decide)) hk hv x
  · exact fun x => head_at 3 (C := 384) rfl scM0_3.view (q_at (hq := hs0_0 t) h0 (by decide)) hk hv x

end

end Cert.Gqa
-- ==== Proof.GqaWindows.lean ====
module

public import proofs.«01_k».proof.Proof.Gqa
public import proofs.«01_k».proof.Proof.Windows

/-! Grouped-query attention: what each input window holds at a grid point, from the argument arrays, and the whole result array. -/

@[expose] public section

set_option maxRecDepth 16384

noncomputable section

namespace Cert.GqaWindows

open Cert.Kernel11Ideal Cert.Kernel11Ideal.Gen Cert.Chain Cert.Gqa Idealize.ShloMosaic Idealize.ShloMosaic.TcCoe Idealize.SL.Sem
open Idealize.ShloMosaic.Pipeline (Dat)
open Cert.Bridge (qs)
open Cert.Windows (kr jn_kr)

/-- The head at column `C` of key head `h`'s group, for the query row `R`. -/
def gatt (Q K V : ℕ → ℕ → ℝ) (b h C R e : ℕ) : ℝ :=
  mean (scr (fun r d => Q r (512 * h + (C + d)) * qs) (fun j d => K (kr b j) (128 * h + d))) (fun j e => V (kr b j) (128 * h + e)) R e

/-- The result at row `R` and column `E`. -/
def res (Q K V : ℕ → ℕ → ℝ) (R E : ℕ) : ℝ := gatt Q K V (R / 4096) (E / 512) (128 * (E % 512 / 128)) R (E % 128)

/-! ## The index maps over the grid -/

/-- Which block of its array each window shows at a grid point. -/
theorem im0 : ∀ t : Fin cfg0.N, win0_0.index t 0 = t.val / 128 * 16 + t.val % 16 ∧ win0_0.index t 1 = t.val / 16 % 8 := by decide +kernel
theorem im1 : ∀ t : Fin cfg0.N, win0_1.index t 0 = t.val / 128 ∧ win0_1.index t 1 = t.val / 16 % 8 := by decide +kernel
theorem im2 : ∀ t : Fin cfg0.N, win0_2.index t 0 = 32 + t.val / 128 ∧ win0_2.index t 1 = t.val / 16 % 8 := by decide +kernel
theorem im3 : ∀ t : Fin cfg0.N, win0_3.index t 0 = t.val / 128 ∧ win0_3.index t 1 = t.val / 16 % 8 := by decide +kernel
theorem im4 : ∀ t : Fin cfg0.N, win0_4.index t 0 = 32 + t.val / 128 ∧ win0_4.index t 1 = t.val / 16 % 8 := by decide +kernel
theorem im5 : ∀ t : Fin cfg0.N, win0_5.index t 0 = t.val / 128 * 16 + t.val % 16 ∧ win0_5.index t 1 = t.val / 16 % 8 := by decide +kernel

section
variable (m : (ℓ : Loc nD τ sig) → Buf (Elt Ideal) ℓ) (c : Dev nD) (t : Fin cfg0.N)
variable {Q K V' : ℕ → ℕ → ℝ}

theorem at0 (hQ : Tb (a := 8704) (b := 4096) (m ((c : Thread nD τ).loc main_arg0)) Q) :
    Tb (a := 256) (b := 512) (iblk m c 0 t) (fun r d => Q (256 * (t.val / 128 * 16 + t.val % 16) + r) (512 * (t.val / 16 % 8) + d)) := by
  intro i
  unfold iblk
  rw [View.read_apply]
  show V m c main_arg0 _ = _
  rw [V_main_arg0]
  refine (hQ _).trans ?_
  show ((Q (win0_0.index t 0 * 256 + 1 * (i 0).val) (win0_0.index t 1 * 512 + 1 * (i 1).val) : ℝ) : EReal) = _
  rw [(im0 t).1, (im0 t).2, one_mul, one_mul, mul_comm _ 256, mul_comm _ 512]

theorem at1 (hK : Tb (a := 8704) (b := 1024) (m ((c : Thread nD τ).loc main_arg1)) K) :
    Tb (a := 4096) (b := 128) (X0_1 m c t) (fun r d => K (4096 * (t.val / 128) + r) (128 * (t.val / 16 % 8) + d)) := by
  intro i
  unfold X0_1 Pipeline.Window.fill
  rw [dif_pos (moved0_1 t i)]
  unfold iblk
  rw [View.read_apply]
  show V m c main_arg1 _ = _
  rw [V_main_arg1]
  refine (hK _).trans ?_
  show ((K (win0_1.index t 0 * 4096 + 1 * (i 0).val) (win0_1.index t 1 * 128 + 1 * (i 1).val) : ℝ) : EReal) = _
  rw [(im1 t).1, (im1 t).2, one_mul, one_mul, mul_comm _ 4096, mul_comm _ 128]

theorem at2 (hK : Tb (a := 8704) (b := 1024) (m ((c : Thread nD τ).loc main_arg1)) K) :
    Tb (a := 256) (b := 128) (iblk m c 2 t) (fun r d => K (8192 + 256 * (t.val / 128) + r) (128 * (t.val / 16 % 8) + d)) := by
  intro i
  unfold iblk
  rw [View.read_apply]
  show V m c main_arg1 _ = _
  rw [V_main_arg1]
  refine (hK _).trans ?_
  show ((K (win0_2.index t 0 * 256 + 1 * (i 0).val) (win0_2.index t 1 * 128 + 1 * (i 1).val) : ℝ) : EReal) = _
  rw [(im2 t).1, (im2 t).2, one_mul, one_mul, mul_comm _ 256, mul_comm _ 128, mul_add, show 256 * 32 = 8192 from rfl]

theorem at3 (hV : Tb (a := 8704) (b := 1024) (m ((c : Thread nD τ).loc main_arg2)) V') :
    Tb (a := 4096) (b := 128) (X0_3 m c t) (fun r d => V' (4096 * (t.val / 128) + r) (128 * (t.val / 16 % 8) + d)) := by
  intro i
  unfold X0_3 Pipeline.Window.fill
  rw [dif_pos (moved0_3 t i)]
  unfold iblk
  rw [View.read_apply]
  show V m c main_arg2 _ = _
  rw [V_main_arg2]
  refine (hV _).trans ?_
  show ((V' (win0_3.index t 0 * 4096 + 1 * (i 0).val) (win0_3.index t 1 * 128 + 1 * (i 1).val) : ℝ) : EReal) = _
  rw [(im3 t).1, (im3 t).2, one_mul, one_mul, mul_comm _ 4096, mul_comm _ 128]

theorem at4 (hV : Tb (a := 8704) (b := 1024) (m ((c : Thread nD τ).loc main_arg2)) V') :
    Tb (a := 256) (b := 128) (iblk m c 4 t) (fun r d => V' (8192 + 256 * (t.val / 128) + r) (128 * (t.val / 16 % 8) + d)) := by
  intro i
  unfold iblk
  rw [View.read_apply]
  show V m c main_arg2 _ = _
  rw [V_main_arg2]
  refine (hV _).trans ?_
  show ((V' (win0_4.index t 0 * 256 + 1 * (i 0).val) (win0_4.index t 1 * 128 + 1 * (i 1).val) : ℝ) : EReal) = _
  rw [(im4 t).1, (im4 t).2, one_mul, one_mul, mul_comm _ 256, mul_comm _ 128, mul_add, show 256 * 32 = 8192 from rfl]

/-- What a point leaves is its block of the result. -/
theorem outs_res (hQ : Tb (a := 8704) (b := 4096) (m ((c : Thread nD τ).loc main_arg0)) Q)
    (hK : Tb (a := 8704) (b := 1024) (m ((c : Thread nD τ).loc main_arg1)) K) (hV : Tb (a := 8704) (b := 1024) (m ((c : Thread nD τ).loc main_arg2)) V') (i : S256x512.Idx) :
    outsAt0 m c t i = ((res Q K V' (256 * (t.val / 128 * 16 + t.val % 16) + (i 0).val) (512 * (t.val / 16 % 8) + (i 1).val) : ℝ) : EReal) := by
  rw [outs_at m c t (at0 m c t hQ) (at1 m c t hK) (at2 m c t hK) (at3 m c t hV) (at4 m c t hV) i]
  have ht : t.val < 256 := t.isLt
  have b0 : (i 0).val < 256 := (i 0).isLt
  have b1 : (i 1).val < 512 := (i 1).isLt
  have e1 : (256 * (t.val / 128 * 16 + t.val % 16) + (i 0).val) / 4096 = t.val / 128 := by omega
  have e2 : (512 * (t.val / 16 % 8) + (i 1).val) / 512 = t.val / 16 % 8 := by omega
  have e3 : (512 * (t.val / 16 % 8) + (i 1).val) % 512 = (i 1).val := by omega
  have e4 : (512 * (t.val / 16 % 8) + (i 1).val) % 128 = (i 1).val % 128 := by omega
  unfold res blk
  rw [e1, e2, e3, e4]
  unfold head gatt
  rw [jn_kr, jn_kr]
  rfl

/-- The result array. -/
def G (Q K V : ℕ → ℕ → ℝ) : Vec Ideal S8192x4096 .bf16 := fun i => ((res Q K V (i 0).val (i 1).val : ℝ) : EReal)

/-- The result array after the run. -/
theorem arr_eq (hQ : Tb (a := 8704) (b := 4096) (m ((c : Thread nD τ).loc main_arg0)) Q)
    (hK : Tb (a := 8704) (b := 1024) (m ((c : Thread nD τ).loc main_arg1)) K) (hV : Tb (a := 8704) (b := 1024) (m ((c : Thread nD τ).loc main_arg2)) V') :
    (dats m 0 c).arrAt 5 cfg0.N = G Q K V' := by
  refine (dats m 0 c).arrAt_eq_of_cover 5 (G Q K V') ?_ ?_
  · intro t _
    rw [Cert.Kernel11Ideal.Value.flushed5]
    funext y
    rw [View.read_apply]
    refine (outs_res m c t hQ hK hV y).trans ?_
    show _ = ((res Q K V' (win0_5.index t 0 * 256 + 1 * (y 0).val) (win0_5.index t 1 * 512 + 1 * (y 1).val) : ℝ) : EReal)
    rw [(im5 t).1, (im5 t).2, one_mul, one_mul, mul_comm _ 256, mul_comm _ 512]
  · intro i
    have b0 : (i 0).val < 8192 := (i 0).isLt
    have b1 : (i 1).val < 4096 := (i 1).isLt
    have hN : cfg0.N = 256 := N_0
    let t : Fin cfg0.N := ⟨(i 0).val / 4096 * 128 + (i 1).val / 512 * 16 + (i 0).val / 256 % 16, by rw [hN]; omega⟩
    have ht : t.val = (i 0).val / 4096 * 128 + (i 1).val / 512 * 16 + (i 0).val / 256 % 16 := rfl
    refine ⟨t, flush0_5 t, ?_⟩
    let y : S256x512.Idx := ValueIdx.ix2 ⟨(i 0).val % 256, Nat.mod_lt _ (by norm_num)⟩ ⟨(i 1).val % 512, Nat.mod_lt _ (by norm_num)⟩
    have hy : ((cfg0.win 5).blk t).view.emb y = i := by
      funext a
      apply Fin.ext
      match a with
      | ⟨0, _⟩ =>
        show win0_5.index t 0 * 256 + 1 * ((i 0).val % 256) = (i 0).val
        rw [(im5 t).1, ht]; omega
      | ⟨1, _⟩ =>
        show win0_5.index t 1 * 512 + 1 * ((i 1).val % 512) = (i 1).val
        rw [(im5 t).2, ht]; omega
    rw [← hy]
    exact View.emb_mem_set _ _

end

end Cert.GqaWindows
-- ==== Proof.GqaRef.lean ====
module

public import proofs.«01_k».proof.Proof.GqaWindows
public import proofs.«01_k».proof.Proof.Equal
public import proofs.«01_k».proof.Proof.Finite
public import proofs.«01_k».proof.Proof.Gen.Reference11Ideal
public import proofs.«01_k».proof.Proof.Gen.Reference11Ideal.Read
public import proofs.«01_k».proof.Proof.Gen.Pre_finite11

/-! The grouped-query reference read at an index, from tables of the arguments, and that it is what the kernel leaves. -/

@[expose] public section

set_option maxRecDepth 16384

noncomputable section

namespace Cert.GqaRef

open Cert.Reference11Ideal Cert.Reference11Ideal.Gen Cert.Reference11Ideal.Read Idealize.ShloMosaic Idealize.ShloMosaic.TcCoe Idealize.SL.Sem
open Cert.Chain (fold_max_real mean scr)
open Cert.Bridge (qs)
open Cert.Norm (sum_fin)
open Cert.Windows (kr)
open Cert.Ref (tab w0 w128 soft_shift)
open Cert.Equal (log_qs)
open Cert.GqaWindows (gatt res)

/-- A score of query head `g` of key head `h`'s group: the query divided by the square root of 128. -/
def sco (Q K : ℕ → ℕ → ℝ) (b h g r s : ℕ) : ℝ :=
  ∑ d ∈ Finset.range 128, K (kr b s) (128 * h + d) * (Q (4096 * b + r) (512 * h + (128 * g + d)) * (1 / Real.sqrt 128))

/-- A softmax weight. -/
def wgt (Q K : ℕ → ℕ → ℝ) (b h g r s : ℕ) : ℝ :=
  Real.exp (sco Q K b h g r s) / ∑ j ∈ Finset.range 4352, Real.exp (sco Q K b h g r j)

/-- The values weighted by the softmax. -/
def mix (Q K V : ℕ → ℕ → ℝ) (b h g r e : ℕ) : ℝ := ∑ s ∈ Finset.range 4352, V (kr b s) (128 * h + e) * wgt Q K b h g r s

variable {x0 : (⟨S8704x4096, .f32⟩ : BufTy).Contents (Elt Ideal)} {x1 x2 : (⟨S8704x1024, .bf16⟩ : BufTy).Contents (Elt Ideal)}
  {Q K V : ℕ → ℕ → ℝ}

/-- The queries by batch, row, key head, query head and column. -/
theorem v4_at (hQ : ∀ i : S8704x4096.Idx, x0 i = ((Q (i 0).val (i 1).val : ℝ) : EReal)) (i : S2x4096x8x4x128.Idx) :
    val_main_v4 (F := Ideal) x0 i = ((Q (4096 * (i 0).val + (i 1).val) (512 * (i 2).val + (128 * (i 3).val + (i 4).val)) : ℝ) : EReal) := by
  have h0 : (i 0).val < 2 := (i 0).isLt
  have h1 : (i 1).val < 4096 := (i 1).isLt
  have h2 : (i 2).val < 8 := (i 2).isLt
  have h3 : (i 3).val < 4 := (i 3).isLt
  have h4 : (i 4).val < 128 := (i 4).isLt
  rw [val_main_v4_apply, val_main_v3_apply, val_main_v2_apply, hQ]
  refine tab Q ?_ ?_
  · show (((((((i 0).val * 4096 + (i 1).val) * 8 + (i 2).val) * 4 + (i 3).val) * 128 + (i 4).val) / 16777216 * 4096 + (((((i 0).val * 4096 + (i 1).val) * 8 + (i 2).val) * 4 + (i 3).val) * 128 + (i 4).val) / 4096 % 4096) * 4096
      + (((((i 0).val * 4096 + (i 1).val) * 8 + (i 2).val) * 4 + (i 3).val) * 128 + (i 4).val) % 4096) / 4096 = _
    omega
  · show (((((((i 0).val * 4096 + (i 1).val) * 8 + (i 2).val) * 4 + (i 3).val) * 128 + (i 4).val) / 16777216 * 4096 + (((((i 0).val * 4096 + (i 1).val) * 8 + (i 2).val) * 4 + (i 3).val) * 128 + (i 4).val) / 4096 % 4096) * 4096
      + (((((i 0).val * 4096 + (i 1).val) * 8 + (i 2).val) * 4 + (i 3).val) * 128 + (i 4).val) % 4096) % 4096 = _
    omega

/-- The keys, latent rows then context rows. -/
theorem v12_at (hK : ∀ i : S8704x1024.Idx, x1 i = ((K (i 0).val (i 1).val : ℝ) : EReal)) (i : S2x4352x1024.Idx) :
    val_main_v12 (F := Ideal) x1 i = ((K (kr (i 0).val (i 1).val) (i 2).val : ℝ) : EReal) := by
  have h0 : (i 0).val < 2 := (i 0).isLt
  have h1 : (i 1).val < 4352 := (i 1).isLt
  have h2 : (i 2).val < 1024 := (i 2).isLt
  unfold val_main_v12 kr
  by_cases hlt : (i 1).val < 4096
  · rw [if_pos hlt]
    let j : S2x4096x1024.Idx := fun a => match a with
      | ⟨0, _⟩ => ⟨(i 0).val, h0⟩
      | ⟨1, _⟩ => ⟨(i 1).val, hlt⟩
      | ⟨2, _⟩ => ⟨(i 2).val, h2⟩
    refine (concatenate_pair_apply_left (1 : Fin 3) (val_main_v9 (F := Ideal) x1) (val_main_v11 (F := Ideal) x1) _ i rfl j fun b => match b with
      | ⟨0, _⟩ => rfl
      | ⟨1, _⟩ => rfl
      | ⟨2, _⟩ => rfl).trans ?_
    rw [val_main_v9_apply, val_main_v8_apply, val_main_v0_apply]
    refine (hK _).trans (tab K ?_ ?_)
    · show (((i 0).val * 4096 + (i 1).val) * 1024 + (i 2).val) / 1024 = _
      omega
    · show (((i 0).val * 4096 + (i 1).val) * 1024 + (i 2).val) % 1024 = _
      omega
  · rw [if_neg hlt]
    let j : S2x256x1024.Idx := fun a => match a with
      | ⟨0, _⟩ => ⟨(i 0).val, h0⟩
      | ⟨1, _⟩ => ⟨(i 1).val - 4096, by show (i 1).val - 4096 < 256; omega⟩
      | ⟨2, _⟩ => ⟨(i 2).val, h2⟩
    refine (concatenate_pair_apply_right (1 : Fin 3) (val_main_v9 (F := Ideal) x1) (val_main_v11 (F := Ideal) x1) _ i rfl rfl j (fun b hb => match b, hb with
      | ⟨0, _⟩, _ => rfl
      | ⟨1, _⟩, hb => absurd rfl hb
      | ⟨2, _⟩, _ => rfl) (by show (i 1).val - 4096 + 4096 = (i 1).val; omega)).trans ?_
    rw [val_main_v11_apply, val_main_v10_apply, val_main_v0_apply]
    refine (hK _).trans (tab K ?_ ?_)
    · show 8192 + (((i 0).val * 256 + ((i 1).val - 4096)) * 1024 + (i 2).val) / 1024 = _
      omega
    · show (((i 0).val * 256 + ((i 1).val - 4096)) * 1024 + (i 2).val) % 1024 = _
      omega

/-- The keys by batch, row, head and column. -/
theorem v13_at (hK : ∀ i : S8704x1024.Idx, x1 i = ((K (i 0).val (i 1).val : ℝ) : EReal)) (i : S2x4352x8x128.Idx) :
    val_main_v13 (F := Ideal) x1 i = ((K (kr (i 0).val (i 1).val) (128 * (i 2).val + (i 3).val) : ℝ) : EReal) := by
  have h0 : (i 0).val < 2 := (i 0).isLt
  have h1 : (i 1).val < 4352 := (i 1).isLt
  have h2 : (i 2).val < 8 := (i 2).isLt
  have h3 : (i 3).val < 128 := (i 3).isLt
  rw [val_main_v13_apply, v12_at hK]
  refine tab K ?_ ?_
  · show kr (((((i 0).val * 4352 + (i 1).val) * 8 + (i 2).val) * 128 + (i 3).val) / 4456448)
      (((((i 0).val * 4352 + (i 1).val) * 8 + (i 2).val) * 128 + (i 3).val) / 1024 % 4352) = _
    congr 1 <;> omega
  · show ((((i 0).val * 4352 + (i 1).val) * 8 + (i 2).val) * 128 + (i 3).val) % 1024 = _
    omega

/-- The values by batch, row, head and column, laid out as the keys. -/
theorem v19_at (hV : ∀ i : S8704x1024.Idx, x2 i = ((V (i 0).val (i 1).val : ℝ) : EReal)) (i : S2x4352x8x128.Idx) :
    val_main_v19 (F := Ideal) x2 i = ((V (kr (i 0).val (i 1).val) (128 * (i 2).val + (i 3).val) : ℝ) : EReal) := v13_at hV i

/-- The scores. -/
theorem v21_at (hQ : ∀ i : S8704x4096.Idx, x0 i = ((Q (i 0).val (i 1).val : ℝ) : EReal))
    (hK : ∀ i : S8704x1024.Idx, x1 i = ((K (i 0).val (i 1).val : ℝ) : EReal)) (i : S2x8x4x4096x4352.Idx) :
    val_main_v21 (F := Ideal) x0 x1 i = ((sco Q K (i 0).val (i 1).val (i 2).val (i 3).val (i 4).val : ℝ) : EReal) := by
  rw [val_main_v21_apply, val_main_v20_apply]
  unfold sco
  rw [← sum_fin 128 fun d => K (kr (i 0).val (i 4).val) (128 * (i 1).val + d)
    * (Q (4096 * (i 0).val + (i 3).val) (512 * (i 1).val + (128 * (i 2).val + d)) * (1 / Real.sqrt 128))]
  refine Finset.sum_congr rfl fun k _ => ?_
  rw [val_main_v7_apply, v4_at hQ, v13_at hK, val_main_v6_apply, val_main_v5_apply, val_main_cst_apply, EReal.coe_mul]
  refine congrArg₂ _ rfl ?_
  show Ideal.div _ (Ideal.sqrt (Ideal.ofBits .f32 0x43000000#32)) = _
  rw [w128, Ideal.sqrt_coe, if_neg (by norm_num), Ideal.div_coe (by positivity), ← EReal.coe_mul]

/-- The maximum over the keys of real scores, from minus infinity on, is a real number. -/
theorem max_real (y : FVec Ideal S2x8x4x4096x4352 .f32) (hr : ∀ j, ∃ r : ℝ, y j = (r : EReal)) (c : FVec Ideal S_ .f32)
    (hc : c (Shape.Idx.first h_S_) = (⊥ : EReal)) (i : S2x8x4x4096.Idx) :
    ∃ M : ℝ, Host.reduce (FloatOps.maximumf (F := Ideal) (φ := .f32)) y c reducesTo_S2x8x4x4096x4352_S2x8x4x4096_d4 h_S_ i = (M : EReal) := by
  have hR : Shape.Reduces S2x8x4x4096x4352 [4] S2x8x4x4096 := by decide
  have hf := Host.reduce_eq_fold_single (s := S2x8x4x4096x4352) (t := S2x8x4x4096) (a := 4) (FloatOps.maximumf (F := Ideal) (φ := .f32)) y c
    reducesTo_S2x8x4x4096x4352_S2x8x4x4096_d4 hR h_S_ i
  obtain ⟨M, hM⟩ := fold_max_real (Finset.univ : Finset (Fin (S2x8x4x4096x4352.size 4))) (y ∘ hR.lift i) (fun k _ => hr _) ⟨⟨0, by decide⟩, Finset.mem_univ _⟩
  refine ⟨M, ?_⟩
  rw [hc] at hf
  exact hf.trans hM

/-- The row maximum is a real number. -/
theorem v24_real (hQ : ∀ i : S8704x4096.Idx, x0 i = ((Q (i 0).val (i 1).val : ℝ) : EReal))
    (hK : ∀ i : S8704x1024.Idx, x1 i = ((K (i 0).val (i 1).val : ℝ) : EReal)) (i : S2x8x4x4096.Idx) :
    ∃ M : ℝ, val_main_v24 (F := Ideal) x0 x1 i = (M : EReal) := by
  have hb : Ideal.ofBits .f32 0xFF800000#32 = (⊥ : EReal) := by simp [Ideal.ofBits, Ideal.ieee, -EReal.coe_mul]
  obtain ⟨M, hM⟩ := max_real (val_main_v21 (F := Ideal) x0 x1) (fun j => ⟨_, v21_at hQ hK j⟩) (val_main_cst_0 (F := Ideal)) hb i
  refine ⟨M, ?_⟩
  have e : val_main_v22 (F := Ideal) x0 x1 i = (M : EReal) := hM
  rw [val_main_v24_apply, e, val_main_v23_apply, val_main_cst_1_apply]
  show max (Ideal.ofBits .f32 0xFF800000#32) (M : EReal) = _
  rw [hb]
  exact bot_sup_eq _

/-- The softmax weights. -/
theorem v32_at (hQ : ∀ i : S8704x4096.Idx, x0 i = ((Q (i 0).val (i 1).val : ℝ) : EReal))
    (hK : ∀ i : S8704x1024.Idx, x1 i = ((K (i 0).val (i 1).val : ℝ) : EReal)) (i : S2x8x4x4096x4352.Idx) :
    val_main_v32 (F := Ideal) x0 x1 i = ((wgt Q K (i 0).val (i 1).val (i 2).val (i 3).val (i 4).val : ℝ) : EReal) := by
  obtain ⟨M, hM⟩ := v24_real hQ hK (idx_main_v25 (idx_main_v26 i))
  have a28 : ∀ j : S2x8x4x4096x4352.Idx, idx_main_v25 (idx_main_v26 j) = idx_main_v25 (idx_main_v26 i) → val_main_v28 (F := Ideal) x0 x1 j
      = ((Real.exp (sco Q K (j 0).val (j 1).val (j 2).val (j 3).val (j 4).val - M) : ℝ) : EReal) := fun j hj => by
    rw [val_main_v28_apply, val_main_v27_apply, val_main_v26_apply, val_main_v25_apply, hj, hM, v21_at hQ hK]
    rw [Ideal.subf_def, Ideal.hostUnary_exp_def, ← EReal.coe_sub, Ideal.exp_coe]
  have a29 : val_main_v29 (F := Ideal) x0 x1 (idx_main_v30 (idx_main_v31 i))
      = ((∑ j ∈ Finset.range 4352, Real.exp (sco Q K (i 0).val (i 1).val (i 2).val (i 3).val j - M) : ℝ) : EReal) := by
    rw [val_main_v29_apply, ← sum_fin 4352 fun j => Real.exp (sco Q K (i 0).val (i 1).val (i 2).val (i 3).val j - M)]
    have e : (val_main_cst_2 (F := Ideal)) (Shape.Idx.first h_S_) = (0 : EReal) := w0
    rw [e, zero_add]
    exact Finset.sum_congr rfl fun k _ => a28 _ rfl
  rw [val_main_v32_apply, a28 i rfl, val_main_v31_apply, val_main_v30_apply, a29]
  have hpos : (∑ j ∈ Finset.range 4352, Real.exp (sco Q K (i 0).val (i 1).val (i 2).val (i 3).val j - M)) ≠ 0 :=
    (Cert.Chain.sum_pos_of _ fun j => Real.exp_pos _).ne'
  show Ideal.div _ _ = _
  rw [Ideal.div_coe hpos, ← EReal.coe_mul]
  exact congrArg (fun x : ℝ => (x : EReal)) (soft_shift (fun j => sco Q K (i 0).val (i 1).val (i 2).val (i 3).val j) M (i 4).val)

/-- The values weighted by the softmax. -/
theorem v34_at (hQ : ∀ i : S8704x4096.Idx, x0 i = ((Q (i 0).val (i 1).val : ℝ) : EReal))
    (hK : ∀ i : S8704x1024.Idx, x1 i = ((K (i 0).val (i 1).val : ℝ) : EReal))
    (hV : ∀ i : S8704x1024.Idx, x2 i = ((V (i 0).val (i 1).val : ℝ) : EReal)) (i : S2x4096x8x4x128.Idx) :
    val_main_v34 (F := Ideal) x0 x1 x2 i = ((mix Q K V (i 0).val (i 2).val (i 3).val (i 1).val (i 4).val : ℝ) : EReal) := by
  rw [val_main_v34_apply, val_main_v33_apply]
  unfold mix
  rw [← sum_fin 4352 fun s => V (kr (i 0).val s) (128 * (i 2).val + (i 4).val) * wgt Q K (i 0).val (i 2).val (i 3).val (i 1).val s]
  refine Finset.sum_congr rfl fun k _ => ?_
  rw [v19_at hV, v32_at hQ hK, ← EReal.coe_mul]

/-- The whole result. -/
theorem v36_at (hQ : ∀ i : S8704x4096.Idx, x0 i = ((Q (i 0).val (i 1).val : ℝ) : EReal))
    (hK : ∀ i : S8704x1024.Idx, x1 i = ((K (i 0).val (i 1).val : ℝ) : EReal))
    (hV : ∀ i : S8704x1024.Idx, x2 i = ((V (i 0).val (i 1).val : ℝ) : EReal)) (i : S8192x4096.Idx) :
    val_main_v36 (F := Ideal) x0 x1 x2 i
      = ((mix Q K V ((i 0).val / 4096) ((i 1).val / 512) ((i 1).val % 512 / 128) ((i 0).val % 4096) ((i 1).val % 128) : ℝ) : EReal) := by
  have h0 : (i 0).val < 8192 := (i 0).isLt
  have h1 : (i 1).val < 4096 := (i 1).isLt
  have e0 : ((i 0).val * 4096 + (i 1).val) / 16777216 = (i 0).val / 4096 := by omega
  have e1 : ((i 0).val * 4096 + (i 1).val) / 4096 % 4096 = (i 0).val % 4096 := by omega
  have e2 : ((i 0).val * 4096 + (i 1).val) / 512 % 8 = (i 1).val / 512 := by omega
  have e3 : ((i 0).val * 4096 + (i 1).val) / 128 % 4 = (i 1).val % 512 / 128 := by omega
  have e4 : ((i 0).val * 4096 + (i 1).val) % 128 = (i 1).val % 128 := by omega
  rw [val_main_v36_apply]
  show val_main_v35 (F := Ideal) x0 x1 x2 i = _
  rw [val_main_v35_apply, v34_at hQ hK hV]
  show ((mix Q K V (((i 0).val * 4096 + (i 1).val) / 16777216) (((i 0).val * 4096 + (i 1).val) / 512 % 8) (((i 0).val * 4096 + (i 1).val) / 128 % 4)
    (((i 0).val * 4096 + (i 1).val) / 4096 % 4096) (((i 0).val * 4096 + (i 1).val) % 128) : ℝ) : EReal) = _
  rw [e0, e1, e2, e3, e4]

/-- The scores in the two scalings. -/
theorem log_scr (Q K : ℕ → ℕ → ℝ) (b h g r s : ℕ) :
    Real.log 2 * scr (fun r d => Q r (512 * h + (128 * g + d)) * qs) (fun j d => K (kr b j) (128 * h + d)) (4096 * b + r) s = sco Q K b h g r s := by
  unfold scr sco
  rw [Finset.mul_sum]
  refine Finset.sum_congr rfl fun d _ => ?_
  show Real.log 2 * (Q (4096 * b + r) (512 * h + (128 * g + d)) * qs * K (kr b s) (128 * h + d)) = _
  rw [← log_qs]
  ring

/-- The two results agree. -/
theorem res_eq (Q K V : ℕ → ℕ → ℝ) (R E : ℕ) : res Q K V R E = mix Q K V (R / 4096) (E / 512) (E % 512 / 128) (R % 4096) (E % 128) := by
  have hR : R = 4096 * (R / 4096) + R % 4096 := (Nat.div_add_mod R 4096).symm
  have hs := fun s => log_scr Q K (R / 4096) (E / 512) (E % 512 / 128) (R % 4096) s
  rw [← hR] at hs
  unfold res gatt mean mix
  simp only [hs]
  rw [Finset.sum_div]
  refine Finset.sum_congr rfl fun s _ => ?_
  unfold wgt
  ring

/-- Every element of every argument is real. -/
theorem reals {x0 : FVec Ideal S8704x4096 .f32} {x1 x2 : FVec Ideal S8704x1024 .bf16}
    (h : Cert.Pre_finite11.fn (F := Ideal) x0 x1 x2 = fun _ => 1#1) :
    (∀ i, ∃ r : ℝ, x0 i = (r : EReal)) ∧ (∀ i, ∃ r : ℝ, x1 i = (r : EReal)) ∧ ∀ i, ∃ r : ℝ, x2 i = (r : EReal) := by
  have h := congrFun h (Shape.Idx.first Cert.Pre_finite11.Gen.h_S_)
  dsimp only [Cert.Pre_finite11.fn] at h
  obtain ⟨h, h2⟩ := IntOp.andi_eq_one.mp h
  obtain ⟨h0, h1⟩ := IntOp.andi_eq_one.mp h
  exact ⟨fun i => Cert.Finite.real_of_lt (Host.reduce_andi_all _ _ _ _ _ h0 i), fun i => Cert.Finite.real_of_lt (Host.reduce_andi_all _ _ _ _ _ h1 i),
    fun i => Cert.Finite.real_of_lt (Host.reduce_andi_all _ _ _ _ _ h2 i)⟩

end Cert.GqaRef
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Pre_finite10
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Pre_finite11
public import proofs.«01_k».proof.Proof.Equal
public import proofs.«01_k».proof.Proof.Finite
public import Idealize.ShloMosaic.Lib.Quiescent
public import Idealize.ShloMosaic.Adequacy
public import Idealize.ShloMosaic.Init
public import proofs.«01_k».proof.Proof.UpRef
public import proofs.«01_k».proof.Proof.DownRef
public import proofs.«01_k».proof.Proof.ValRef
public import proofs.«01_k».proof.Proof.OutRef
public import proofs.«01_k».proof.Proof.KeyRef
public import proofs.«01_k».proof.Proof.QueryRef
public import proofs.«01_k».proof.Proof.LastQueryRef
public import proofs.«01_k».proof.Proof.LastOutRef
public import proofs.«01_k».proof.Proof.LastAttnRef
public import proofs.«01_k».proof.Proof.GqaRef

@[expose] public section

noncomputable section

namespace Cert.Proof

open Idealize.ShloMosaic Idealize.SL.Sem

/-- The kernel's frame. -/
theorem frame_p : Cert.quiescent_Kernel := fun m ρ _ => Cert.Kernel.Gen.frame m ρ

/-- The idealized kernel's frame. -/
theorem frame_pi : Cert.quiescent_KernelIdeal := fun m ρ _ => Cert.KernelIdeal.Gen.frame m ρ

/-- The idealized kernel's frame, from finite arguments. -/
theorem frame_pi_finite : Cert.quiescent_KernelIdeal_pre_finite := fun m ρ _ => Cert.KernelIdeal.Gen.frame m ρ

/-- The reference's frame. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The reference's frame, from finite arguments. -/
theorem frame_ri_finite : Cert.quiescent_ReferenceIdeal_pre_finite := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The idealized kernel differs from the kernel in the named constant only. -/
theorem preserves : Cert.preserves_Kernel_KernelIdeal :=
  IdealRules.named_const.statement Cert.KernelIdeal.κ "qs" .f32 0x3E0293EE#32 (((Real.sqrt 128)⁻¹ * (Real.log 2)⁻¹ : ℝ) : EReal) rfl

/-- On finite arguments the kernel's result is the reference's. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨r0, r1, r2, r3, r4⟩ := Cert.Finite.reals (hpre c)
  obtain ⟨Q, hQ⟩ := Cert.Finite.table2 r0
  obtain ⟨K, hK⟩ := Cert.Finite.table2 r1
  obtain ⟨V, hV⟩ := Cert.Finite.table2 r2
  obtain ⟨L, hL⟩ := Cert.Finite.table2 r3
  obtain ⟨g, hg⟩ := Cert.Finite.table1 r4
  obtain ⟨a0, a1, a2, a3, a4⟩ := hagree c
  rw [Cert.ReferenceIdeal.Read.val_main_v73_eq, a0, a1, a2, a3, a4]
  refine Eq.trans ?_ (Cert.Windows.arr_eq m c hQ hK hV hL hg).symm
  funext i
  refine (Cert.Ref.v73_at hQ hK hV hL hg i).trans ?_
  exact congrArg (fun x : ℝ => (x : EReal)) (Cert.Equal.res_eq _ _ Q K V L g (i 0).val (i 1).val).symm

/-- The kernel of the gated product leaves its semaphores at rest and its arguments as they were. -/
theorem frame_p2 : Cert.quiescent_Kernel2 := fun m ρ _ => Cert.Kernel2.Gen.frame m ρ

/-- The same over the extended reals. -/
theorem frame_pi2 : Cert.quiescent_Kernel2Ideal := fun m ρ _ => Cert.Kernel2Ideal.Gen.frame m ρ

/-- The reference's frame. -/
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

/-- Nothing was rewritten between the kernel and its ideal form. -/
theorem preserves2 : Cert.preserves_Kernel2_Kernel2Ideal := trivial

/-- The kernel's gated product is the reference's. -/
theorem algebraic2 : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨(h c).1.trans ?_, (h c).2⟩)
    (Cert.Reference2Ideal.Value.run (F := Ideal) m' ρ')
  obtain ⟨a0, a1⟩ := hagree c
  rw [Cert.Reference2Ideal.Read.val_main_v8_eq, a0, a1]
  exact Cert.UpRef.equal m c

/-- The kernel of the product back into the residual leaves its semaphores at rest and its arguments as they were. -/
theorem frame_p3 : Cert.quiescent_Kernel3 := fun m ρ _ => Cert.Kernel3.Gen.frame m ρ

/-- The same over the extended reals. -/
theorem frame_pi3 : Cert.quiescent_Kernel3Ideal := fun m ρ _ => Cert.Kernel3Ideal.Gen.frame m ρ

/-- The reference's frame. -/
theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- Nothing was rewritten between the kernel and its ideal form. -/
theorem preserves3 : Cert.preserves_Kernel3_Kernel3Ideal := trivial

/-- The kernel's new residual is the reference's. -/
theorem algebraic3 : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨(h c).1.trans ?_, (h c).2⟩)
    (Cert.Reference3Ideal.Value.run (F := Ideal) m' ρ')
  obtain ⟨a0, a1, a2, a3⟩ := hagree c
  rw [Cert.Reference3Ideal.Read.val_main_v24_eq, a0, a1, a2, a3]
  exact Cert.DownRef.equal m c

/-- The kernel of the values' projection leaves its semaphores at rest and its arguments as they were. -/
theorem frame_p4 : Cert.quiescent_Kernel4 := fun m ρ _ => Cert.Kernel4.Gen.frame m ρ

/-- The same over the extended reals. -/
theorem frame_pi4 : Cert.quiescent_Kernel4Ideal := fun m ρ _ => Cert.Kernel4Ideal.Gen.frame m ρ

/-- The reference's frame. -/
theorem frame_ri4 : Cert.quiescent_Reference4Ideal := fun m ρ _ =>
  (θ_run Cert.Reference4Ideal.defs _ _).mono (fun r h => ⟨fun c => (h c).2, Idealize.ShloMosaic.sem_eq_zero_of_no_sems (by decide) r.2⟩)
    (Cert.Reference4Ideal.Value.run (F := Ideal) m ρ)

/-- Nothing was rewritten between the kernel and its ideal form. -/
theorem preserves4 : Cert.preserves_Kernel4_Kernel4Ideal := trivial

/-- The kernel's values are the reference's. -/
theorem algebraic4 : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨(h c).1.trans ?_, (h c).2⟩)
    (Cert.Reference4Ideal.Value.run (F := Ideal) m' ρ')
  obtain ⟨a0, a1⟩ := hagree c
  rw [Cert.Reference4Ideal.Read.val_main_v5_eq, a0, a1]
  exact Cert.ValRef.equal m c

/-- The kernel of the output projection leaves its semaphores at rest and its arguments as they were. -/
theorem frame_p5 : Cert.quiescent_Kernel5 := fun m ρ _ => Cert.Kernel5.Gen.frame m ρ

/-- The same over the extended reals. -/
theorem frame_pi5 : Cert.quiescent_Kernel5Ideal := fun m ρ _ => Cert.Kernel5Ideal.Gen.frame m ρ

/-- The reference's frame. -/
theorem frame_ri5 : Cert.quiescent_Reference5Ideal := fun m ρ _ =>
  (θ_run Cert.Reference5Ideal.defs _ _).mono (fun r h => ⟨fun c => (h c).2, Idealize.ShloMosaic.sem_eq_zero_of_no_sems (by decide) r.2⟩)
    (Cert.Reference5Ideal.Value.run (F := Ideal) m ρ)

/-- Nothing was rewritten between the kernel and its ideal form. -/
theorem preserves5 : Cert.preserves_Kernel5_Kernel5Ideal := trivial

/-- The kernel's new residual is the reference's. -/
theorem algebraic5 : Cert.algebraic_Kernel5Ideal_Reference5Ideal := by
  intro m ρ m' ρ' _ hagree
  refine ⟨_, Cert.Kernel5Ideal.Value.run_blocks (F := Ideal) m ρ, ?_⟩
  refine (θ_run Cert.Reference5Ideal.defs _ _).mono (fun _ h c => ⟨(h c).1.trans ?_, (h c).2⟩)
    (Cert.Reference5Ideal.Value.run (F := Ideal) m' ρ')
  obtain ⟨a0, a1, a2, a3, a4⟩ := hagree c
  rw [Cert.Reference5Ideal.Read.val_main_v24_eq, a0, a1, a2, a3, a4]
  exact Cert.OutRef.equal m c

/-- The kernel of the keys' projection leaves its semaphores at rest and its arguments as they were. -/
theorem frame_p6 : Cert.quiescent_Kernel6 := fun m ρ _ => Cert.Kernel6.Gen.frame m ρ

/-- The same over the extended reals. -/
theorem frame_pi6 : Cert.quiescent_Kernel6Ideal := fun m ρ _ => Cert.Kernel6Ideal.Gen.frame m ρ

/-- The reference's frame. -/
theorem frame_ri6 : Cert.quiescent_Reference6Ideal := fun m ρ _ =>
  (θ_run Cert.Reference6Ideal.defs _ _).mono (fun r h => ⟨fun c => (h c).2, Idealize.ShloMosaic.sem_eq_zero_of_no_sems (by decide) r.2⟩)
    (Cert.Reference6Ideal.Value.run (F := Ideal) m ρ)

/-- Nothing was rewritten between the kernel and its ideal form. -/
theorem preserves6 : Cert.preserves_Kernel6_Kernel6Ideal := trivial

/-- The kernel's keys are the reference's. -/
theorem algebraic6 : Cert.algebraic_Kernel6Ideal_Reference6Ideal := by
  intro m ρ m' ρ' _ hagree
  refine ⟨_, Cert.Kernel6Ideal.Value.run_blocks (F := Ideal) m ρ, ?_⟩
  refine (θ_run Cert.Reference6Ideal.defs _ _).mono (fun _ h c => ⟨(h c).1.trans ?_, (h c).2⟩)
    (Cert.Reference6Ideal.Value.run (F := Ideal) m' ρ')
  obtain ⟨a0, a1, a2, a3⟩ := hagree c
  rw [Cert.Reference6Ideal.Read.val_main_v31_eq, a0, a1, a2, a3]
  exact Cert.KeyRef.equal m c

/-- The kernel of the queries' projection leaves its semaphores at rest and its arguments as they were. -/
theorem frame_p7 : Cert.quiescent_Kernel7 := fun m ρ _ => Cert.Kernel7.Gen.frame m ρ

/-- The same over the extended reals. -/
theorem frame_pi7 : Cert.quiescent_Kernel7Ideal := fun m ρ _ => Cert.Kernel7Ideal.Gen.frame m ρ

/-- The reference's frame. -/
theorem frame_ri7 : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

/-- Nothing was rewritten between the kernel and its ideal form. -/
theorem preserves7 : Cert.preserves_Kernel7_Kernel7Ideal := trivial

/-- The kernel's queries are the reference's. -/
theorem algebraic7 : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨(h c).1.trans ?_, (h c).2⟩)
    (Cert.Reference7Ideal.Value.run (F := Ideal) m' ρ')
  obtain ⟨a0, a1, a2, a3⟩ := hagree c
  rw [Cert.Reference7Ideal.Read.val_main_v30_eq, a0, a1, a2, a3]
  exact Cert.QueryRef.equal m c

/-- The kernel of the last layer's queries' projection leaves its semaphores at rest and its arguments as they were. -/
theorem frame_p8 : Cert.quiescent_Kernel8 := fun m ρ _ => Cert.Kernel8.Gen.frame m ρ

/-- The same over the extended reals. -/
theorem frame_pi8 : Cert.quiescent_Kernel8Ideal := fun m ρ _ => Cert.Kernel8Ideal.Gen.frame m ρ

/-- The reference's frame. -/
theorem frame_ri8 : Cert.quiescent_Reference8Ideal := fun m ρ _ =>
  (θ_run Cert.Reference8Ideal.defs _ _).mono (fun r h => ⟨fun c => (h c).2, Idealize.ShloMosaic.sem_eq_zero_of_no_sems (by decide) r.2⟩)
    (Cert.Reference8Ideal.Value.run (F := Ideal) m ρ)

/-- Nothing was rewritten between the kernel and its ideal form. -/
theorem preserves8 : Cert.preserves_Kernel8_Kernel8Ideal := trivial

/-- The kernel's queries in the last layer are the reference's. -/
theorem algebraic8 : Cert.algebraic_Kernel8Ideal_Reference8Ideal := by
  intro m ρ m' ρ' _ hagree
  refine ⟨_, Cert.Kernel8Ideal.Value.run_blocks (F := Ideal) m ρ, ?_⟩
  refine (θ_run Cert.Reference8Ideal.defs _ _).mono (fun _ h c => ⟨(h c).1.trans ?_, (h c).2⟩)
    (Cert.Reference8Ideal.Value.run (F := Ideal) m' ρ')
  obtain ⟨a0, a1, a2, a3⟩ := hagree c
  rw [Cert.Reference8Ideal.Read.val_main_v28_eq, a0, a1, a2, a3]
  exact Cert.LastQueryRef.equal m c

/-- The kernel of the last layer's output projection leaves its semaphores at rest and its arguments as they were. -/
theorem frame_p9 : Cert.quiescent_Kernel9 := fun m ρ _ => Cert.Kernel9.Gen.frame m ρ

/-- The same over the extended reals. -/
theorem frame_pi9 : Cert.quiescent_Kernel9Ideal := fun m ρ _ => Cert.Kernel9Ideal.Gen.frame m ρ

/-- The reference's frame. -/
theorem frame_ri9 : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

/-- Nothing was rewritten between the kernel and its ideal form. -/
theorem preserves9 : Cert.preserves_Kernel9_Kernel9Ideal := trivial

/-- The kernel's new residual in the last layer is the reference's. -/
theorem algebraic9 : Cert.algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨(h c).1.trans ?_, (h c).2⟩)
    (Cert.Reference9Ideal.Value.run (F := Ideal) m' ρ')
  obtain ⟨a0, a1, a2, a3⟩ := hagree c
  rw [Cert.Reference9Ideal.Read.val_main_v14_eq, a0, a1, a2, a3]
  exact Cert.LastOutRef.equal m c

/-- The kernel of the last layer's attention leaves its semaphores at rest and its arguments as they were. -/
theorem frame_p10 : Cert.quiescent_Kernel10 := fun m ρ _ => Cert.Kernel10.Gen.frame m ρ

/-- The same over the extended reals. -/
theorem frame_pi10 : Cert.quiescent_Kernel10Ideal := fun m ρ _ => Cert.Kernel10Ideal.Gen.frame m ρ

/-- The same from finite arguments. -/
theorem frame_pi10_finite : Cert.quiescent_Kernel10Ideal_pre_finite10 := fun m ρ _ => Cert.Kernel10Ideal.Gen.frame m ρ

/-- The reference's frame. -/
theorem frame_ri10 : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

/-- The reference's frame, from finite arguments. -/
theorem frame_ri10_finite : Cert.quiescent_Reference10Ideal_pre_finite10 := fun m ρ _ => frame_ri10 m ρ trivial

/-- The idealized kernel differs from the kernel in the named constant only. -/
theorem preserves10 : Cert.preserves_Kernel10_Kernel10Ideal :=
  IdealRules.named_const.statement Cert.Kernel10Ideal.κ "qs" .f32 0x3E0293EE#32 (((Real.sqrt 128)⁻¹ * (Real.log 2)⁻¹ : ℝ) : EReal) rfl

/-- On finite arguments the last layer's attention is the reference's. -/
theorem algebraic10 : Cert.algebraic_Kernel10Ideal_Reference10Ideal_pre_finite10 := by
  intro m ρ m' ρ' hpre hagree
  refine ⟨_, Cert.Kernel10Ideal.Value.run_blocks (F := Ideal) m ρ, ?_⟩
  refine (θ_run Cert.Reference10Ideal.defs _ _).mono (fun _ h c => ⟨(h c).1.trans ?_, (h c).2⟩)
    (Cert.Reference10Ideal.Value.run (F := Ideal) m' ρ')
  obtain ⟨r0, r1, r2, r3, r4⟩ := Cert.LastAttnRef.reals (hpre c)
  obtain ⟨Q, hQ⟩ := Cert.Finite.table2 r0
  obtain ⟨K, hK⟩ := Cert.Finite.table2 r1
  obtain ⟨V, hV⟩ := Cert.Finite.table2 r2
  obtain ⟨L, hL⟩ := Cert.Finite.table2 r3
  obtain ⟨g, hg⟩ := Cert.Finite.table1 r4
  obtain ⟨a0, a1, a2, a3, a4⟩ := hagree c
  rw [Cert.Reference10Ideal.Read.val_main_v72_eq, a0, a1, a2, a3, a4]
  refine Eq.trans ?_ (Cert.LastAttnWindows.arr_eq m c hQ hK hV hL hg).symm
  funext i
  refine (Cert.LastAttnRef.v72_at hQ hK hV hL hg i).trans ?_
  exact congrArg (fun x : ℝ => (x : EReal)) (Cert.Equal.res_eq _ _ Q K V L g (i 0).val (i 1).val).symm

/-- The kernel of the grouped-query attention leaves its semaphores at rest and its arguments as they were. -/
theorem frame_p11 : Cert.quiescent_Kernel11 := fun m ρ _ => Cert.Kernel11.Gen.frame m ρ

/-- The same over the extended reals. -/
theorem frame_pi11 : Cert.quiescent_Kernel11Ideal := fun m ρ _ => Cert.Kernel11Ideal.Gen.frame m ρ

/-- The same from finite arguments. -/
theorem frame_pi11_finite : Cert.quiescent_Kernel11Ideal_pre_finite11 := fun m ρ _ => Cert.Kernel11Ideal.Gen.frame m ρ

/-- The reference's frame. -/
theorem frame_ri11 : Cert.quiescent_Reference11Ideal := fun m ρ _ =>
  (θ_run Cert.Reference11Ideal.defs _ _).mono (fun r h => ⟨fun c => (h c).2, Idealize.ShloMosaic.sem_eq_zero_of_no_sems (by decide) r.2⟩)
    (Cert.Reference11Ideal.Value.run (F := Ideal) m ρ)

/-- The reference's frame, from finite arguments. -/
theorem frame_ri11_finite : Cert.quiescent_Reference11Ideal_pre_finite11 := fun m ρ _ => frame_ri11 m ρ trivial

/-- The idealized kernel differs from the kernel in the named constant only. -/
theorem preserves11 : Cert.preserves_Kernel11_Kernel11Ideal :=
  IdealRules.named_const.statement Cert.Kernel11Ideal.κ "qs" .f32 0x3E0293EE#32 (((Real.sqrt 128)⁻¹ * (Real.log 2)⁻¹ : ℝ) : EReal) rfl

/-- On finite arguments the grouped-query attention is the reference's. -/
theorem algebraic11 : Cert.algebraic_Kernel11Ideal_Reference11Ideal_pre_finite11 := by
  intro m ρ m' ρ' hpre hagree
  refine ⟨_, Cert.Kernel11Ideal.Value.run_blocks (F := Ideal) m ρ, ?_⟩
  refine (θ_run Cert.Reference11Ideal.defs _ _).mono (fun _ h c => ⟨(h c).1.trans ?_, (h c).2⟩)
    (Cert.Reference11Ideal.Value.run (F := Ideal) m' ρ')
  obtain ⟨r0, r1, r2⟩ := Cert.GqaRef.reals (hpre c)
  obtain ⟨Q, hQ⟩ := Cert.Finite.table2 r0
  obtain ⟨K, hK⟩ := Cert.Finite.table2 r1
  obtain ⟨V, hV⟩ := Cert.Finite.table2 r2
  obtain ⟨a0, a1, a2⟩ := hagree c
  rw [Cert.Reference11Ideal.Read.val_main_v36_eq, a0, a1, a2]
  refine Eq.trans ?_ (Cert.GqaWindows.arr_eq m c hQ hK hV).symm
  funext i
  refine (Cert.GqaRef.v36_at hQ hK hV i).trans ?_
  exact congrArg (fun x : ℝ => (x : EReal)) (Cert.GqaRef.res_eq Q K V (i 0).val (i 1).val).symm

/-- Everything claimed. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Kernel5.Gen.facts, Cert.Kernel5Ideal.Gen.facts,
    Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts, Cert.Pre_finite.Gen.facts, Cert.Pre_finite10.Gen.facts, Cert.Pre_finite11.Gen.facts,
    frame_p, frame_pi, frame_pi_finite, frame_ri, frame_ri_finite, frame_p2, frame_pi2, frame_ri2, frame_p3, frame_pi3, frame_ri3, frame_p4, frame_pi4, frame_ri4,
    frame_p5, frame_pi5, frame_ri5, frame_p6, frame_pi6, frame_ri6, frame_p7, frame_pi7, frame_ri7, frame_p8, frame_pi8, frame_ri8,
    frame_p9, frame_pi9, frame_ri9, frame_p10, frame_pi10, frame_pi10_finite, frame_ri10, frame_ri10_finite,
    frame_p11, frame_pi11, frame_pi11_finite, frame_ri11, frame_ri11_finite,
    preserves, algebraic, preserves2, algebraic2, preserves3, algebraic3, preserves4, algebraic4, preserves5, algebraic5, preserves6, algebraic6, preserves7, algebraic7,
    preserves8, algebraic8, preserves9, algebraic9, preserves10, algebraic10, preserves11, algebraic11⟩

end Cert.Proof

end
